-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.2.2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.2.2.2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.2.2.2.2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.2.2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.2.2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.2.2.2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.2.2.2.2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.2.2.2.2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_DwSq (m : (ℓ : Loc Cert.DwSq.nD Cert.DwSq.τ Cert.DwSq.sig) → Buf (Elt Bits) ℓ) : Prop :=
  True

def Pre_DwSqIdeal (m : (ℓ : Loc Cert.DwSqIdeal.nD Cert.DwSqIdeal.τ Cert.DwSqIdeal.sig) → Buf (Elt Ideal) ℓ) : Prop :=
  True

def Pre_DwSqRefIdeal (m : (ℓ : Loc Cert.DwSqRefIdeal.nD Cert.DwSqRefIdeal.τ Cert.DwSqRefIdeal.sig) → Buf (Elt Ideal) ℓ) : Prop :=
  True

def Pre_DwGates (m : (ℓ : Loc Cert.DwGates.nD Cert.DwGates.τ Cert.DwGates.sig) → Buf (Elt Bits) ℓ) : Prop :=
  True

def Pre_DwGatesIdeal (m : (ℓ : Loc Cert.DwGatesIdeal.nD Cert.DwGatesIdeal.τ Cert.DwGatesIdeal.sig) → Buf (Elt Ideal) ℓ) : Prop :=
  True

def Pre_DwGatesRefIdeal (m : (ℓ : Loc Cert.DwGatesRefIdeal.nD Cert.DwGatesRefIdeal.τ Cert.DwGatesRefIdeal.sig) → Buf (Elt Ideal) ℓ) : Prop :=
  True

def Pre_DwGla (m : (ℓ : Loc Cert.DwGla.nD Cert.DwGla.τ Cert.DwGla.sig) → Buf (Elt Bits) ℓ) : Prop :=
  True

def Pre_DwGlaIdeal (m : (ℓ : Loc Cert.DwGlaIdeal.nD Cert.DwGlaIdeal.τ Cert.DwGlaIdeal.sig) → Buf (Elt Ideal) ℓ) : Prop :=
  True

def Pre_DwGlaRefIdeal (m : (ℓ : Loc Cert.DwGlaRefIdeal.nD Cert.DwGlaRefIdeal.τ Cert.DwGlaRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_DwSq [hDwSq : Cert.DwSq.Facts] : Prop :=
  ∀ (m : (ℓ : Loc Cert.DwSq.nD Cert.DwSq.τ Cert.DwSq.sig) → Buf (Elt Bits) ℓ) (g : Dev Cert.DwSq.nD → PrngReg), Pre_DwSq m →
    θ_run (Cert.DwSq.defs (F := Bits)) (onTc (τ := Cert.DwSq.τ) (Cert.DwSq.main (F := Bits))) ⟨m, fun _ => 0, g⟩ (fun r => (∀ c : Dev Cert.DwSq.nD,
      r.2.mem ((c.tc : Thread Cert.DwSq.nD Cert.DwSq.τ).loc Cert.DwSq.main_arg0) = m ((c.tc : Thread Cert.DwSq.nD Cert.DwSq.τ).loc Cert.DwSq.main_arg0)
      ∧ r.2.mem ((c.tc : Thread Cert.DwSq.nD Cert.DwSq.τ).loc Cert.DwSq.main_arg1) = m ((c.tc : Thread Cert.DwSq.nD Cert.DwSq.τ).loc Cert.DwSq.main_arg1))
      ∧ r.2.sem = fun _ => 0)

def quiescent_DwSqIdeal [hDwSqIdeal : Cert.DwSqIdeal.Facts] : Prop :=
  ∀ (m : (ℓ : Loc Cert.DwSqIdeal.nD Cert.DwSqIdeal.τ Cert.DwSqIdeal.sig) → Buf (Elt Ideal) ℓ) (g : Dev Cert.DwSqIdeal.nD → PrngReg), Pre_DwSqIdeal m →
    θ_run (Cert.DwSqIdeal.defs (F := Ideal)) (onTc (τ := Cert.DwSqIdeal.τ) (Cert.DwSqIdeal.main (F := Ideal))) ⟨m, fun _ => 0, g⟩ (fun r => (∀ c : Dev Cert.DwSqIdeal.nD,
      r.2.mem ((c.tc : Thread Cert.DwSqIdeal.nD Cert.DwSqIdeal.τ).loc Cert.DwSqIdeal.main_arg0) = m ((c.tc : Thread Cert.DwSqIdeal.nD Cert.DwSqIdeal.τ).loc Cert.DwSqIdeal.main_arg0)
      ∧ r.2.mem ((c.tc : Thread Cert.DwSqIdeal.nD Cert.DwSqIdeal.τ).loc Cert.DwSqIdeal.main_arg1) = m ((c.tc : Thread Cert.DwSqIdeal.nD Cert.DwSqIdeal.τ).loc Cert.DwSqIdeal.main_arg1))
      ∧ r.2.sem = fun _ => 0)

def quiescent_DwSqRefIdeal [hDwSqRefIdeal : Cert.DwSqRefIdeal.Facts] : Prop :=
  ∀ (m : (ℓ : Loc Cert.DwSqRefIdeal.nD Cert.DwSqRefIdeal.τ Cert.DwSqRefIdeal.sig) → Buf (Elt Ideal) ℓ) (g : Dev Cert.DwSqRefIdeal.nD → PrngReg), Pre_DwSqRefIdeal m →
    θ_run (Cert.DwSqRefIdeal.defs (F := Ideal)) (onTc (τ := Cert.DwSqRefIdeal.τ) (Cert.DwSqRefIdeal.main (F := Ideal))) ⟨m, fun _ => 0, g⟩ (fun r => (∀ c : Dev Cert.DwSqRefIdeal.nD,
      r.2.mem ((c.tc : Thread Cert.DwSqRefIdeal.nD Cert.DwSqRefIdeal.τ).loc Cert.DwSqRefIdeal.main_arg0) = m ((c.tc : Thread Cert.DwSqRefIdeal.nD Cert.DwSqRefIdeal.τ).loc Cert.DwSqRefIdeal.main_arg0)
      ∧ r.2.mem ((c.tc : Thread Cert.DwSqRefIdeal.nD Cert.DwSqRefIdeal.τ).loc Cert.DwSqRefIdeal.main_arg1) = m ((c.tc : Thread Cert.DwSqRefIdeal.nD Cert.DwSqRefIdeal.τ).loc Cert.DwSqRefIdeal.main_arg1))
      ∧ r.2.sem = fun _ => 0)

def quiescent_DwGates [hDwGates : Cert.DwGates.Facts] : Prop :=
  ∀ (m : (ℓ : Loc Cert.DwGates.nD Cert.DwGates.τ Cert.DwGates.sig) → Buf (Elt Bits) ℓ) (g : Dev Cert.DwGates.nD → PrngReg), Pre_DwGates m →
    θ_run (Cert.DwGates.defs (F := Bits)) (onTc (τ := Cert.DwGates.τ) (Cert.DwGates.main (F := Bits))) ⟨m, fun _ => 0, g⟩ (fun r => (∀ c : Dev Cert.DwGates.nD,
      r.2.mem ((c.tc : Thread Cert.DwGates.nD Cert.DwGates.τ).loc Cert.DwGates.main_arg0) = m ((c.tc : Thread Cert.DwGates.nD Cert.DwGates.τ).loc Cert.DwGates.main_arg0)
      ∧ r.2.mem ((c.tc : Thread Cert.DwGates.nD Cert.DwGates.τ).loc Cert.DwGates.main_arg1) = m ((c.tc : Thread Cert.DwGates.nD Cert.DwGates.τ).loc Cert.DwGates.main_arg1))
      ∧ r.2.sem = fun _ => 0)

def quiescent_DwGatesIdeal [hDwGatesIdeal : Cert.DwGatesIdeal.Facts] : Prop :=
  ∀ (m : (ℓ : Loc Cert.DwGatesIdeal.nD Cert.DwGatesIdeal.τ Cert.DwGatesIdeal.sig) → Buf (Elt Ideal) ℓ) (g : Dev Cert.DwGatesIdeal.nD → PrngReg), Pre_DwGatesIdeal m →
    θ_run (Cert.DwGatesIdeal.defs (F := Ideal)) (onTc (τ := Cert.DwGatesIdeal.τ) (Cert.DwGatesIdeal.main (F := Ideal))) ⟨m, fun _ => 0, g⟩ (fun r => (∀ c : Dev Cert.DwGatesIdeal.nD,
      r.2.mem ((c.tc : Thread Cert.DwGatesIdeal.nD Cert.DwGatesIdeal.τ).loc Cert.DwGatesIdeal.main_arg0) = m ((c.tc : Thread Cert.DwGatesIdeal.nD Cert.DwGatesIdeal.τ).loc Cert.DwGatesIdeal.main_arg0)
      ∧ r.2.mem ((c.tc : Thread Cert.DwGatesIdeal.nD Cert.DwGatesIdeal.τ).loc Cert.DwGatesIdeal.main_arg1) = m ((c.tc : Thread Cert.DwGatesIdeal.nD Cert.DwGatesIdeal.τ).loc Cert.DwGatesIdeal.main_arg1))
      ∧ r.2.sem = fun _ => 0)

def quiescent_DwGatesRefIdeal [hDwGatesRefIdeal : Cert.DwGatesRefIdeal.Facts] : Prop :=
  ∀ (m : (ℓ : Loc Cert.DwGatesRefIdeal.nD Cert.DwGatesRefIdeal.τ Cert.DwGatesRefIdeal.sig) → Buf (Elt Ideal) ℓ) (g : Dev Cert.DwGatesRefIdeal.nD → PrngReg), Pre_DwGatesRefIdeal m →
    θ_run (Cert.DwGatesRefIdeal.defs (F := Ideal)) (onTc (τ := Cert.DwGatesRefIdeal.τ) (Cert.DwGatesRefIdeal.main (F := Ideal))) ⟨m, fun _ => 0, g⟩ (fun r => (∀ c : Dev Cert.DwGatesRefIdeal.nD,
      r.2.mem ((c.tc : Thread Cert.DwGatesRefIdeal.nD Cert.DwGatesRefIdeal.τ).loc Cert.DwGatesRefIdeal.main_arg0) = m ((c.tc : Thread Cert.DwGatesRefIdeal.nD Cert.DwGatesRefIdeal.τ).loc Cert.DwGatesRefIdeal.main_arg0)
      ∧ r.2.mem ((c.tc : Thread Cert.DwGatesRefIdeal.nD Cert.DwGatesRefIdeal.τ).loc Cert.DwGatesRefIdeal.main_arg1) = m ((c.tc : Thread Cert.DwGatesRefIdeal.nD Cert.DwGatesRefIdeal.τ).loc Cert.DwGatesRefIdeal.main_arg1))
      ∧ r.2.sem = fun _ => 0)

def quiescent_DwGla [hDwGla : Cert.DwGla.Facts] : Prop :=
  ∀ (m : (ℓ : Loc Cert.DwGla.nD Cert.DwGla.τ Cert.DwGla.sig) → Buf (Elt Bits) ℓ) (g : Dev Cert.DwGla.nD → PrngReg), Pre_DwGla m →
    θ_run (Cert.DwGla.defs (F := Bits)) (onTc (τ := Cert.DwGla.τ) (Cert.DwGla.main (F := Bits))) ⟨m, fun _ => 0, g⟩ (fun r => (∀ c : Dev Cert.DwGla.nD,
      r.2.mem ((c.tc : Thread Cert.DwGla.nD Cert.DwGla.τ).loc Cert.DwGla.main_arg0) = m ((c.tc : Thread Cert.DwGla.nD Cert.DwGla.τ).loc Cert.DwGla.main_arg0)
      ∧ r.2.mem ((c.tc : Thread Cert.DwGla.nD Cert.DwGla.τ).loc Cert.DwGla.main_arg1) = m ((c.tc : Thread Cert.DwGla.nD Cert.DwGla.τ).loc Cert.DwGla.main_arg1))
      ∧ r.2.sem = fun _ => 0)

def quiescent_DwGlaIdeal [hDwGlaIdeal : Cert.DwGlaIdeal.Facts] : Prop :=
  ∀ (m : (ℓ : Loc Cert.DwGlaIdeal.nD Cert.DwGlaIdeal.τ Cert.DwGlaIdeal.sig) → Buf (Elt Ideal) ℓ) (g : Dev Cert.DwGlaIdeal.nD → PrngReg), Pre_DwGlaIdeal m →
    θ_run (Cert.DwGlaIdeal.defs (F := Ideal)) (onTc (τ := Cert.DwGlaIdeal.τ) (Cert.DwGlaIdeal.main (F := Ideal))) ⟨m, fun _ => 0, g⟩ (fun r => (∀ c : Dev Cert.DwGlaIdeal.nD,
      r.2.mem ((c.tc : Thread Cert.DwGlaIdeal.nD Cert.DwGlaIdeal.τ).loc Cert.DwGlaIdeal.main_arg0) = m ((c.tc : Thread Cert.DwGlaIdeal.nD Cert.DwGlaIdeal.τ).loc Cert.DwGlaIdeal.main_arg0)
      ∧ r.2.mem ((c.tc : Thread Cert.DwGlaIdeal.nD Cert.DwGlaIdeal.τ).loc Cert.DwGlaIdeal.main_arg1) = m ((c.tc : Thread Cert.DwGlaIdeal.nD Cert.DwGlaIdeal.τ).loc Cert.DwGlaIdeal.main_arg1))
      ∧ r.2.sem = fun _ => 0)

def quiescent_DwGlaRefIdeal [hDwGlaRefIdeal : Cert.DwGlaRefIdeal.Facts] : Prop :=
  ∀ (m : (ℓ : Loc Cert.DwGlaRefIdeal.nD Cert.DwGlaRefIdeal.τ Cert.DwGlaRefIdeal.sig) → Buf (Elt Ideal) ℓ) (g : Dev Cert.DwGlaRefIdeal.nD → PrngReg), Pre_DwGlaRefIdeal m →
    θ_run (Cert.DwGlaRefIdeal.defs (F := Ideal)) (onTc (τ := Cert.DwGlaRefIdeal.τ) (Cert.DwGlaRefIdeal.main (F := Ideal))) ⟨m, fun _ => 0, g⟩ (fun r => (∀ c : Dev Cert.DwGlaRefIdeal.nD,
      r.2.mem ((c.tc : Thread Cert.DwGlaRefIdeal.nD Cert.DwGlaRefIdeal.τ).loc Cert.DwGlaRefIdeal.main_arg0) = m ((c.tc : Thread Cert.DwGlaRefIdeal.nD Cert.DwGlaRefIdeal.τ).loc Cert.DwGlaRefIdeal.main_arg0)
      ∧ r.2.mem ((c.tc : Thread Cert.DwGlaRefIdeal.nD Cert.DwGlaRefIdeal.τ).loc Cert.DwGlaRefIdeal.main_arg1) = m ((c.tc : Thread Cert.DwGlaRefIdeal.nD Cert.DwGlaRefIdeal.τ).loc Cert.DwGlaRefIdeal.main_arg1))
      ∧ r.2.sem = fun _ => 0)

def preserves_Attn_AttnIdeal : Prop :=
  IdealRules.named_const.Statement Cert.AttnIdeal.κ "cl" .f32 0x3DD53B95#32 (((Real.sqrt 192)⁻¹ * (Real.log 2)⁻¹ : ℝ) : EReal)
  ∧ IdealRules.named_const.Statement Cert.AttnIdeal.κ "c" .f32 0x3D93CD3A#32 (((Real.sqrt 192)⁻¹ : ℝ) : EReal)

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v58)) (v1 : (c : Dev Cert.AttnIdeal.nD) → Buf (Elt Ideal) ((c.tc : Thread Cert.AttnIdeal.nD Cert.AttnIdeal.τ).loc Cert.AttnIdeal.main_v63)) (v2 : (c : Dev Cert.AttnIdeal.nD) → Buf (Elt Ideal) ((c.tc : Thread Cert.AttnIdeal.nD Cert.AttnIdeal.τ).loc Cert.AttnIdeal.main_v67)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v58) = v0 c
          ∧ r.2.mem ((c.tc : Thread Cert.AttnIdeal.nD Cert.AttnIdeal.τ).loc Cert.AttnIdeal.main_v63) = v1 c
          ∧ r.2.mem ((c.tc : Thread Cert.AttnIdeal.nD Cert.AttnIdeal.τ).loc Cert.AttnIdeal.main_v67) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v63) = v0 c
          ∧ r.2.mem ((c.tc : Thread Cert.AttnRefIdeal.nD Cert.AttnRefIdeal.τ).loc Cert.AttnRefIdeal.main_v61) = v1 c
          ∧ r.2.mem ((c.tc : Thread Cert.AttnRefIdeal.nD Cert.AttnRefIdeal.τ).loc Cert.AttnRefIdeal.main_v44) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v16)) (v1 : (c : Dev Cert.InProjIdeal.nD) → Buf (Elt Ideal) ((c.tc : Thread Cert.InProjIdeal.nD Cert.InProjIdeal.τ).loc Cert.InProjIdeal.main_v17)) (v2 : (c : Dev Cert.InProjIdeal.nD) → Buf (Elt Ideal) ((c.tc : Thread Cert.InProjIdeal.nD Cert.InProjIdeal.τ).loc Cert.InProjIdeal.main_v18)) (v3 : (c : Dev Cert.InProjIdeal.nD) → Buf (Elt Ideal) ((c.tc : Thread Cert.InProjIdeal.nD Cert.InProjIdeal.τ).loc Cert.InProjIdeal.main_v19)) (v4 : (c : Dev Cert.InProjIdeal.nD) → Buf (Elt Ideal) ((c.tc : Thread Cert.InProjIdeal.nD Cert.InProjIdeal.τ).loc Cert.InProjIdeal.main_v20)) (v5 : (c : Dev Cert.InProjIdeal.nD) → Buf (Elt Ideal) ((c.tc : Thread Cert.InProjIdeal.nD Cert.InProjIdeal.τ).loc Cert.InProjIdeal.main_v21)) (v6 : (c : Dev Cert.InProjIdeal.nD) → Buf (Elt Ideal) ((c.tc : Thread Cert.InProjIdeal.nD Cert.InProjIdeal.τ).loc Cert.InProjIdeal.main_v22)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v16) = v0 c
          ∧ r.2.mem ((c.tc : Thread Cert.InProjIdeal.nD Cert.InProjIdeal.τ).loc Cert.InProjIdeal.main_v17) = v1 c
          ∧ r.2.mem ((c.tc : Thread Cert.InProjIdeal.nD Cert.InProjIdeal.τ).loc Cert.InProjIdeal.main_v18) = v2 c
          ∧ r.2.mem ((c.tc : Thread Cert.InProjIdeal.nD Cert.InProjIdeal.τ).loc Cert.InProjIdeal.main_v19) = v3 c
          ∧ r.2.mem ((c.tc : Thread Cert.InProjIdeal.nD Cert.InProjIdeal.τ).loc Cert.InProjIdeal.main_v20) = v4 c
          ∧ r.2.mem ((c.tc : Thread Cert.InProjIdeal.nD Cert.InProjIdeal.τ).loc Cert.InProjIdeal.main_v21) = v5 c
          ∧ r.2.mem ((c.tc : Thread Cert.InProjIdeal.nD Cert.InProjIdeal.τ).loc Cert.InProjIdeal.main_v22) = v6 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v3) = v0 c
          ∧ r.2.mem ((c.tc : Thread Cert.InProjRefIdeal.nD Cert.InProjRefIdeal.τ).loc Cert.InProjRefIdeal.main_v5) = v1 c
          ∧ r.2.mem ((c.tc : Thread Cert.InProjRefIdeal.nD Cert.InProjRefIdeal.τ).loc Cert.InProjRefIdeal.main_v9) = v2 c
          ∧ r.2.mem ((c.tc : Thread Cert.InProjRefIdeal.nD Cert.InProjRefIdeal.τ).loc Cert.InProjRefIdeal.main_v10) = v3 c
          ∧ r.2.mem ((c.tc : Thread Cert.InProjRefIdeal.nD Cert.InProjRefIdeal.τ).loc Cert.InProjRefIdeal.main_v11) = v4 c
          ∧ r.2.mem ((c.tc : Thread Cert.InProjRefIdeal.nD Cert.InProjRefIdeal.τ).loc Cert.InProjRefIdeal.main_v1) = v5 c
          ∧ r.2.mem ((c.tc : Thread Cert.InProjRefIdeal.nD Cert.InProjRefIdeal.τ).loc Cert.InProjRefIdeal.main_v2) = v6 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_DwSq_DwSqIdeal : Prop :=
  True

def algebraic_DwSqIdeal_DwSqRefIdeal [hDwSqIdeal : Cert.DwSqIdeal.Facts] [hDwSqRefIdeal : Cert.DwSqRefIdeal.Facts] : Prop :=
  ∀ (m : (ℓ : Loc Cert.DwSqIdeal.nD Cert.DwSqIdeal.τ Cert.DwSqIdeal.sig) → Buf (Elt Ideal) ℓ) (g : Dev Cert.DwSqIdeal.nD → PrngReg)
    (m' : (ℓ : Loc Cert.DwSqRefIdeal.nD Cert.DwSqRefIdeal.τ Cert.DwSqRefIdeal.sig) → Buf (Elt Ideal) ℓ) (g' : Dev Cert.DwSqRefIdeal.nD → PrngReg), Pre_DwSqIdeal m →
    (∀ c : Dev Cert.DwSqIdeal.nD,
      m' ((c.tc : Thread Cert.DwSqRefIdeal.nD Cert.DwSqRefIdeal.τ).loc Cert.DwSqRefIdeal.main_arg0) = m ((c.tc : Thread Cert.DwSqIdeal.nD Cert.DwSqIdeal.τ).loc Cert.DwSqIdeal.main_arg0)
      ∧ m' ((c.tc : Thread Cert.DwSqRefIdeal.nD Cert.DwSqRefIdeal.τ).loc Cert.DwSqRefIdeal.main_arg1) = m ((c.tc : Thread Cert.DwSqIdeal.nD Cert.DwSqIdeal.τ).loc Cert.DwSqIdeal.main_arg1)) →
    ∃ (v0 : (c : Dev Cert.DwSqIdeal.nD) → Buf (Elt Ideal) ((c.tc : Thread Cert.DwSqIdeal.nD Cert.DwSqIdeal.τ).loc Cert.DwSqIdeal.main_v7)),
      θ_run (Cert.DwSqIdeal.defs (F := Ideal)) (onTc (τ := Cert.DwSqIdeal.τ) (Cert.DwSqIdeal.main (F := Ideal))) ⟨m, fun _ => 0, g⟩ (fun r => ∀ c : Dev Cert.DwSqIdeal.nD,
          r.2.mem ((c.tc : Thread Cert.DwSqIdeal.nD Cert.DwSqIdeal.τ).loc Cert.DwSqIdeal.main_v7) = v0 c
          ∧ r.2.mem ((c.tc : Thread Cert.DwSqIdeal.nD Cert.DwSqIdeal.τ).loc Cert.DwSqIdeal.main_arg0) = m ((c.tc : Thread Cert.DwSqIdeal.nD Cert.DwSqIdeal.τ).loc Cert.DwSqIdeal.main_arg0)
          ∧ r.2.mem ((c.tc : Thread Cert.DwSqIdeal.nD Cert.DwSqIdeal.τ).loc Cert.DwSqIdeal.main_arg1) = m ((c.tc : Thread Cert.DwSqIdeal.nD Cert.DwSqIdeal.τ).loc Cert.DwSqIdeal.main_arg1))
      ∧ θ_run (Cert.DwSqRefIdeal.defs (F := Ideal)) (onTc (τ := Cert.DwSqRefIdeal.τ) (Cert.DwSqRefIdeal.main (F := Ideal))) ⟨m', fun _ => 0, g'⟩ (fun r => ∀ c : Dev Cert.DwSqRefIdeal.nD,
          r.2.mem ((c.tc : Thread Cert.DwSqRefIdeal.nD Cert.DwSqRefIdeal.τ).loc Cert.DwSqRefIdeal.main_v3) = v0 c
          ∧ r.2.mem ((c.tc : Thread Cert.DwSqRefIdeal.nD Cert.DwSqRefIdeal.τ).loc Cert.DwSqRefIdeal.main_arg0) = m' ((c.tc : Thread Cert.DwSqRefIdeal.nD Cert.DwSqRefIdeal.τ).loc Cert.DwSqRefIdeal.main_arg0)
          ∧ r.2.mem ((c.tc : Thread Cert.DwSqRefIdeal.nD Cert.DwSqRefIdeal.τ).loc Cert.DwSqRefIdeal.main_arg1) = m' ((c.tc : Thread Cert.DwSqRefIdeal.nD Cert.DwSqRefIdeal.τ).loc Cert.DwSqRefIdeal.main_arg1))

def preserves_DwGates_DwGatesIdeal : Prop :=
  True

def algebraic_DwGatesIdeal_DwGatesRefIdeal [hDwGatesIdeal : Cert.DwGatesIdeal.Facts] [hDwGatesRefIdeal : Cert.DwGatesRefIdeal.Facts] : Prop :=
  ∀ (m : (ℓ : Loc Cert.DwGatesIdeal.nD Cert.DwGatesIdeal.τ Cert.DwGatesIdeal.sig) → Buf (Elt Ideal) ℓ) (g : Dev Cert.DwGatesIdeal.nD → PrngReg)
    (m' : (ℓ : Loc Cert.DwGatesRefIdeal.nD Cert.DwGatesRefIdeal.τ Cert.DwGatesRefIdeal.sig) → Buf (Elt Ideal) ℓ) (g' : Dev Cert.DwGatesRefIdeal.nD → PrngReg), Pre_DwGatesIdeal m →
    (∀ c : Dev Cert.DwGatesIdeal.nD,
      m' ((c.tc : Thread Cert.DwGatesRefIdeal.nD Cert.DwGatesRefIdeal.τ).loc Cert.DwGatesRefIdeal.main_arg0) = m ((c.tc : Thread Cert.DwGatesIdeal.nD Cert.DwGatesIdeal.τ).loc Cert.DwGatesIdeal.main_arg0)
      ∧ m' ((c.tc : Thread Cert.DwGatesRefIdeal.nD Cert.DwGatesRefIdeal.τ).loc Cert.DwGatesRefIdeal.main_arg1) = m ((c.tc : Thread Cert.DwGatesIdeal.nD Cert.DwGatesIdeal.τ).loc Cert.DwGatesIdeal.main_arg1)) →
    ∃ (v0 : (c : Dev Cert.DwGatesIdeal.nD) → Buf (Elt Ideal) ((c.tc : Thread Cert.DwGatesIdeal.nD Cert.DwGatesIdeal.τ).loc Cert.DwGatesIdeal.main_v7)),
      θ_run (Cert.DwGatesIdeal.defs (F := Ideal)) (onTc (τ := Cert.DwGatesIdeal.τ) (Cert.DwGatesIdeal.main (F := Ideal))) ⟨m, fun _ => 0, g⟩ (fun r => ∀ c : Dev Cert.DwGatesIdeal.nD,
          r.2.mem ((c.tc : Thread Cert.DwGatesIdeal.nD Cert.DwGatesIdeal.τ).loc Cert.DwGatesIdeal.main_v7) = v0 c
          ∧ r.2.mem ((c.tc : Thread Cert.DwGatesIdeal.nD Cert.DwGatesIdeal.τ).loc Cert.DwGatesIdeal.main_arg0) = m ((c.tc : Thread Cert.DwGatesIdeal.nD Cert.DwGatesIdeal.τ).loc Cert.DwGatesIdeal.main_arg0)
          ∧ r.2.mem ((c.tc : Thread Cert.DwGatesIdeal.nD Cert.DwGatesIdeal.τ).loc Cert.DwGatesIdeal.main_arg1) = m ((c.tc : Thread Cert.DwGatesIdeal.nD Cert.DwGatesIdeal.τ).loc Cert.DwGatesIdeal.main_arg1))
      ∧ θ_run (Cert.DwGatesRefIdeal.defs (F := Ideal)) (onTc (τ := Cert.DwGatesRefIdeal.τ) (Cert.DwGatesRefIdeal.main (F := Ideal))) ⟨m', fun _ => 0, g'⟩ (fun r => ∀ c : Dev Cert.DwGatesRefIdeal.nD,
          r.2.mem ((c.tc : Thread Cert.DwGatesRefIdeal.nD Cert.DwGatesRefIdeal.τ).loc Cert.DwGatesRefIdeal.main_v3) = v0 c
          ∧ r.2.mem ((c.tc : Thread Cert.DwGatesRefIdeal.nD Cert.DwGatesRefIdeal.τ).loc Cert.DwGatesRefIdeal.main_arg0) = m' ((c.tc : Thread Cert.DwGatesRefIdeal.nD Cert.DwGatesRefIdeal.τ).loc Cert.DwGatesRefIdeal.main_arg0)
          ∧ r.2.mem ((c.tc : Thread Cert.DwGatesRefIdeal.nD Cert.DwGatesRefIdeal.τ).loc Cert.DwGatesRefIdeal.main_arg1) = m' ((c.tc : Thread Cert.DwGatesRefIdeal.nD Cert.DwGatesRefIdeal.τ).loc Cert.DwGatesRefIdeal.main_arg1))

def preserves_DwGla_DwGlaIdeal : Prop :=
  True

def algebraic_DwGlaIdeal_DwGlaRefIdeal [hDwGlaIdeal : Cert.DwGlaIdeal.Facts] [hDwGlaRefIdeal : Cert.DwGlaRefIdeal.Facts] : Prop :=
  ∀ (m : (ℓ : Loc Cert.DwGlaIdeal.nD Cert.DwGlaIdeal.τ Cert.DwGlaIdeal.sig) → Buf (Elt Ideal) ℓ) (g : Dev Cert.DwGlaIdeal.nD → PrngReg)
    (m' : (ℓ : Loc Cert.DwGlaRefIdeal.nD Cert.DwGlaRefIdeal.τ Cert.DwGlaRefIdeal.sig) → Buf (Elt Ideal) ℓ) (g' : Dev Cert.DwGlaRefIdeal.nD → PrngReg), Pre_DwGlaIdeal m →
    (∀ c : Dev Cert.DwGlaIdeal.nD,
      m' ((c.tc : Thread Cert.DwGlaRefIdeal.nD Cert.DwGlaRefIdeal.τ).loc Cert.DwGlaRefIdeal.main_arg0) = m ((c.tc : Thread Cert.DwGlaIdeal.nD Cert.DwGlaIdeal.τ).loc Cert.DwGlaIdeal.main_arg0)
      ∧ m' ((c.tc : Thread Cert.DwGlaRefIdeal.nD Cert.DwGlaRefIdeal.τ).loc Cert.DwGlaRefIdeal.main_arg1) = m ((c.tc : Thread Cert.DwGlaIdeal.nD Cert.DwGlaIdeal.τ).loc Cert.DwGlaIdeal.main_arg1)) →
    ∃ (v0 : (c : Dev Cert.DwGlaIdeal.nD) → Buf (Elt Ideal) ((c.tc : Thread Cert.DwGlaIdeal.nD Cert.DwGlaIdeal.τ).loc Cert.DwGlaIdeal.main_v9)),
      θ_run (Cert.DwGlaIdeal.defs (F := Ideal)) (onTc (τ := Cert.DwGlaIdeal.τ) (Cert.DwGlaIdeal.main (F := Ideal))) ⟨m, fun _ => 0, g⟩ (fun r => ∀ c : Dev Cert.DwGlaIdeal.nD,
          r.2.mem ((c.tc : Thread Cert.DwGlaIdeal.nD Cert.DwGlaIdeal.τ).loc Cert.DwGlaIdeal.main_v9) = v0 c
          ∧ r.2.mem ((c.tc : Thread Cert.DwGlaIdeal.nD Cert.DwGlaIdeal.τ).loc Cert.DwGlaIdeal.main_arg0) = m ((c.tc : Thread Cert.DwGlaIdeal.nD Cert.DwGlaIdeal.τ).loc Cert.DwGlaIdeal.main_arg0)
          ∧ r.2.mem ((c.tc : Thread Cert.DwGlaIdeal.nD Cert.DwGlaIdeal.τ).loc Cert.DwGlaIdeal.main_arg1) = m ((c.tc : Thread Cert.DwGlaIdeal.nD Cert.DwGlaIdeal.τ).loc Cert.DwGlaIdeal.main_arg1))
      ∧ θ_run (Cert.DwGlaRefIdeal.defs (F := Ideal)) (onTc (τ := Cert.DwGlaRefIdeal.τ) (Cert.DwGlaRefIdeal.main (F := Ideal))) ⟨m', fun _ => 0, g'⟩ (fun r => ∀ c : Dev Cert.DwGlaRefIdeal.nD,
          r.2.mem ((c.tc : Thread Cert.DwGlaRefIdeal.nD Cert.DwGlaRefIdeal.τ).loc Cert.DwGlaRefIdeal.main_v3) = v0 c
          ∧ r.2.mem ((c.tc : Thread Cert.DwGlaRefIdeal.nD Cert.DwGlaRefIdeal.τ).loc Cert.DwGlaRefIdeal.main_arg0) = m' ((c.tc : Thread Cert.DwGlaRefIdeal.nD Cert.DwGlaRefIdeal.τ).loc Cert.DwGlaRefIdeal.main_arg0)
          ∧ r.2.mem ((c.tc : Thread Cert.DwGlaRefIdeal.nD Cert.DwGlaRefIdeal.τ).loc Cert.DwGlaRefIdeal.main_arg1) = m' ((c.tc : Thread Cert.DwGlaRefIdeal.nD Cert.DwGlaRefIdeal.τ).loc Cert.DwGlaRefIdeal.main_arg1))

def Claim : Prop :=
  ∃ (hAttn : Cert.Attn.Facts) (hAttnIdeal : Cert.AttnIdeal.Facts) (hAttnRefIdeal : Cert.AttnRefIdeal.Facts) (hInProj : Cert.InProj.Facts) (hInProjIdeal : Cert.InProjIdeal.Facts) (hInProjRefIdeal : Cert.InProjRefIdeal.Facts) (hDwSq : Cert.DwSq.Facts) (hDwSqIdeal : Cert.DwSqIdeal.Facts) (hDwSqRefIdeal : Cert.DwSqRefIdeal.Facts) (hDwGates : Cert.DwGates.Facts) (hDwGatesIdeal : Cert.DwGatesIdeal.Facts) (hDwGatesRefIdeal : Cert.DwGatesRefIdeal.Facts) (hDwGla : Cert.DwGla.Facts) (hDwGlaIdeal : Cert.DwGlaIdeal.Facts) (hDwGlaRefIdeal : Cert.DwGlaRefIdeal.Facts) (hPre_finite : Cert.Pre_finite.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_InProj (hInProj := hInProj)
    ∧ quiescent_InProjIdeal (hInProjIdeal := hInProjIdeal)
    ∧ quiescent_InProjRefIdeal (hInProjRefIdeal := hInProjRefIdeal)
    ∧ quiescent_DwSq (hDwSq := hDwSq)
    ∧ quiescent_DwSqIdeal (hDwSqIdeal := hDwSqIdeal)
    ∧ quiescent_DwSqRefIdeal (hDwSqRefIdeal := hDwSqRefIdeal)
    ∧ quiescent_DwGates (hDwGates := hDwGates)
    ∧ quiescent_DwGatesIdeal (hDwGatesIdeal := hDwGatesIdeal)
    ∧ quiescent_DwGatesRefIdeal (hDwGatesRefIdeal := hDwGatesRefIdeal)
    ∧ quiescent_DwGla (hDwGla := hDwGla)
    ∧ quiescent_DwGlaIdeal (hDwGlaIdeal := hDwGlaIdeal)
    ∧ quiescent_DwGlaRefIdeal (hDwGlaRefIdeal := hDwGlaRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_InProj_InProjIdeal
    ∧ algebraic_InProjIdeal_InProjRefIdeal (hInProjIdeal := hInProjIdeal) (hInProjRefIdeal := hInProjRefIdeal)
    ∧ preserves_DwSq_DwSqIdeal
    ∧ algebraic_DwSqIdeal_DwSqRefIdeal (hDwSqIdeal := hDwSqIdeal) (hDwSqRefIdeal := hDwSqRefIdeal)
    ∧ preserves_DwGates_DwGatesIdeal
    ∧ algebraic_DwGatesIdeal_DwGatesRefIdeal (hDwGatesIdeal := hDwGatesIdeal) (hDwGatesRefIdeal := hDwGatesRefIdeal)
    ∧ preserves_DwGla_DwGlaIdeal
    ∧ algebraic_DwGlaIdeal_DwGlaRefIdeal (hDwGlaIdeal := hDwGlaIdeal) (hDwGlaRefIdeal := hDwGlaRefIdeal)
-- ==== Pre_finite.lean ====
abbrev S4x2064x8x192 : Shape := ⟨4, ![4, 2064, 8, 192]⟩
abbrev S4x2064x8x128 : Shape := ⟨4, ![4, 2064, 8, 128]⟩
abbrev S_ : Shape := ⟨0, ![]⟩

class Facts : Prop where
  bcast_S_S4x2064x8x192 : S_.BroadcastsInDim S4x2064x8x192 (![] : Fin 0 → Fin S4x2064x8x192.rank)
  bcast_S_S4x2064x8x128 : S_.BroadcastsInDim S4x2064x8x128 (![] : Fin 0 → Fin S4x2064x8x128.rank)

variable [Facts]

def fn {F : FTy → Type} [FloatOps F] (main_arg0 : FVec F S4x2064x8x192 .f32) (main_arg1 : FVec F S4x2064x8x192 .f32) (main_arg2 : FVec F S4x2064x8x128 .f32) (main_arg3 : FVec F S4x2064x8x128 .f32) : IVec S4x2064x8x192 1 × IVec S4x2064x8x192 1 × IVec S4x2064x8x128 1 × IVec S4x2064x8x128 1 × IVec S4x2064x8x192 1 × IVec S4x2064x8x192 1 × IVec S4x2064x8x128 1 × IVec S4x2064x8x128 1 :=
  let main_cst : FVec F S_ .f32 := constant S_ .f32 0xFF800000#32
  let main_v0 : FVec F S4x2064x8x192 .f32 := broadcastInDim S4x2064x8x192 ![] bcast_S_S4x2064x8x192 main_cst
  let main_v1 : IVec S4x2064x8x192 1 := cmpf .ogt main_arg0 main_v0
  let main_cst_0 : FVec F S_ .f32 := constant S_ .f32 0xFF800000#32
  let main_v2 : FVec F S4x2064x8x192 .f32 := broadcastInDim S4x2064x8x192 ![] bcast_S_S4x2064x8x192 main_cst_0
  let main_v3 : IVec S4x2064x8x192 1 := cmpf .ogt main_arg1 main_v2
  let main_cst_1 : FVec F S_ .f32 := constant S_ .f32 0xFF800000#32
  let main_v4 : FVec F S4x2064x8x128 .f32 := broadcastInDim S4x2064x8x128 ![] bcast_S_S4x2064x8x128 main_cst_1
  let main_v5 : IVec S4x2064x8x128 1 := cmpf .ogt main_arg2 main_v4
  let main_cst_2 : FVec F S_ .f32 := constant S_ .f32 0xFF800000#32
  let main_v6 : FVec F S4x2064x8x128 .f32 := broadcastInDim S4x2064x8x128 ![] bcast_S_S4x2064x8x128 main_cst_2
  let main_v7 : IVec S4x2064x8x128 1 := cmpf .ogt main_arg3 main_v6
  let main_cst_3 : FVec F S_ .f32 := constant S_ .f32 0x7F800000#32
  let main_v8 : FVec F S4x2064x8x192 .f32 := broadcastInDim S4x2064x8x192 ![] bcast_S_S4x2064x8x192 main_cst_3
  let main_v9 : IVec S4x2064x8x192 1 := cmpf .olt main_arg0 main_v8
  let main_cst_4 : FVec F S_ .f32 := constant S_ .f32 0x7F800000#32
  let main_v10 : FVec F S4x2064x8x192 .f32 := broadcastInDim S4x2064x8x192 ![] bcast_S_S4x2064x8x192 main_cst_4
  let main_v11 : IVec S4x2064x8x192 1 := cmpf .olt main_arg1 main_v10
  let main_cst_5 : FVec F S_ .f32 := constant S_ .f32 0x7F800000#32
  let main_v12 : FVec F S4x2064x8x128 .f32 := broadcastInDim S4x2064x8x128 ![] bcast_S_S4x2064x8x128 main_cst_5
  let main_v13 : IVec S4x2064x8x128 1 := cmpf .olt main_arg2 main_v12
  let main_cst_6 : FVec F S_ .f32 := constant S_ .f32 0x7F800000#32
  let main_v14 : FVec F S4x2064x8x128 .f32 := broadcastInDim S4x2064x8x128 ![] bcast_S_S4x2064x8x128 main_cst_6
  let main_v15 : IVec S4x2064x8x128 1 := cmpf .olt main_arg3 main_v14
  (main_v1, main_v3, main_v5, main_v7, main_v9, main_v11, main_v13, main_v15)
-- ==== Attn.lean ====
abbrev S4x2064x8x192 : Shape := ⟨4, ![4, 2064, 8, 192]⟩
abbrev S4x2064x8x128 : Shape := ⟨4, ![4, 2064, 8, 128]⟩
abbrev S4x8x2064x2064 : Shape := ⟨4, ![4, 8, 2064, 2064]⟩
abbrev S_ : Shape := ⟨0, ![]⟩
abbrev S2064 : Shape := ⟨1, ![2064]⟩
abbrev S1x2064 : Shape := ⟨2, ![1, 2064]⟩
abbrev S2064x1 : Shape := ⟨2, ![2064, 1]⟩
abbrev S2064x2064 : Shape := ⟨2, ![2064, 2064]⟩
abbrev S4x8x2064 : Shape := ⟨3, ![4, 8, 2064]⟩
abbrev S4x8x2064x1 : Shape := ⟨4, ![4, 8, 2064, 1]⟩
abbrev S4x8x128x2064 : Shape := ⟨4, ![4, 8, 128, 2064]⟩
abbrev S4x2064x8 : Shape := ⟨3, ![4, 2064, 8]⟩
abbrev S4x2064x8x256 : Shape := ⟨4, ![4, 2064, 8, 256]⟩
abbrev S4x2064x2048 : Shape := ⟨3, ![4, 2064, 2048]⟩
abbrev S4x2304x2048 : Shape := ⟨3, ![4, 2304, 2048]⟩
abbrev S9216x2048 : Shape := ⟨2, ![9216, 2048]⟩
abbrev S4x2064x1024 : Shape := ⟨3, ![4, 2064, 1024]⟩
abbrev S4x2304x1024 : Shape := ⟨3, ![4, 2304, 1024]⟩
abbrev S9216x1024 : Shape := ⟨2, ![9216, 1024]⟩
abbrev S4x8x2304 : Shape := ⟨3, ![4, 8, 2304]⟩
abbrev S4x8x9x256 : Shape := ⟨4, ![4, 8, 9, 256]⟩
abbrev S2304x2048 : Shape := ⟨2, ![2304, 2048]⟩
abbrev S256x2048 : Shape := ⟨2, ![256, 2048]⟩
abbrev S256x1024 : Shape := ⟨2, ![256, 1024]⟩
abbrev S2304x1024 : Shape := ⟨2, ![2304, 1024]⟩
abbrev S1x8x9x256 : Shape := ⟨4, ![1, 8, 9, 256]⟩
abbrev S256x256 : Shape := ⟨2, ![256, 256]⟩
abbrev S256x128 : Shape := ⟨2, ![256, 128]⟩
abbrev S1x1x1x256 : Shape := ⟨4, ![1, 1, 1, 256]⟩
abbrev S1x256 : Shape := ⟨2, ![1, 256]⟩

abbrev nBuf : Space → Nat
  | .hbm => 99
  | .vmem => 18
  | .smem => 0
  | _ => 0

abbrev bufTy : (tb : Table) → Fin (tcTables nBuf tb) → BufTy
  | .hbm, ⟨0, _⟩ => ⟨S4x2064x8x192, .f32⟩
  | .hbm, ⟨1, _⟩ => ⟨S4x2064x8x192, .f32⟩
  | .hbm, ⟨2, _⟩ => ⟨S4x2064x8x128, .f32⟩
  | .hbm, ⟨3, _⟩ => ⟨S4x2064x8x128, .f32⟩
  | .hbm, ⟨4, _⟩ => ⟨S4x8x2064x2064, .f32⟩
  | .hbm, ⟨5, _⟩ => ⟨S_, .f32⟩
  | .hbm, ⟨6, _⟩ => ⟨S_, .f32⟩
  | .hbm, ⟨7, _⟩ => ⟨S4x8x2064x2064, .f32⟩
  | .hbm, ⟨8, _⟩ => ⟨S4x8x2064x2064, .f32⟩
  | .hbm, ⟨9, _⟩ => ⟨S2064, .i32⟩
  | .hbm, ⟨10, _⟩ => ⟨S1x2064, .i32⟩
  | .hbm, ⟨11, _⟩ => ⟨S2064x1, .i32⟩
  | .hbm, ⟨12, _⟩ => ⟨S2064x2064, .i32⟩
  | .hbm, ⟨13, _⟩ => ⟨S2064x2064, .i32⟩
  | .hbm, ⟨14, _⟩ => ⟨S2064x2064, .i1⟩
  | .hbm, ⟨15, _⟩ => ⟨S_, .f32⟩
  | .hbm, ⟨16, _⟩ => ⟨S_, .f32⟩
  | .hbm, ⟨17, _⟩ => ⟨S4x8x2064x2064, .i1⟩
  | .hbm, ⟨18, _⟩ => ⟨S4x8x2064x2064, .f32⟩
  | .hbm, ⟨19, _⟩ => ⟨S4x8x2064x2064, .f32⟩
  | .hbm, ⟨20, _⟩ => ⟨S_, .f32⟩
  | .hbm, ⟨21, _⟩ => ⟨S4x8x2064, .f32⟩
  | .hbm, ⟨22, _⟩ => ⟨S4x8x2064x1, .f32⟩
  | .hbm, ⟨23, _⟩ => ⟨S4x8x2064x2064, .f32⟩
  | .hbm, ⟨24, _⟩ => ⟨S4x8x2064x2064, .f32⟩
  | .hbm, ⟨25, _⟩ => ⟨S4x8x2064x2064, .f32⟩
  | .hbm, ⟨26, _⟩ => ⟨S_, .f32⟩
  | .hbm, ⟨27, _⟩ => ⟨S4x8x2064, .f32⟩
  | .hbm, ⟨28, _⟩ => ⟨S4x8x2064x1, .f32⟩
  | .hbm, ⟨29, _⟩ => ⟨S4x8x2064x2064, .f32⟩
  | .hbm, ⟨30, _⟩ => ⟨S4x8x2064x2064, .f32⟩
  | .hbm, ⟨31, _⟩ => ⟨S4x8x128x2064, .f32⟩
  | .hbm, ⟨32, _⟩ => ⟨S4x2064x8x128, .f32⟩
  | .hbm, ⟨33, _⟩ => ⟨S4x8x2064x1, .f32⟩
  | .hbm, ⟨34, _⟩ => ⟨S4x8x2064x1, .f32⟩
  | .hbm, ⟨35, _⟩ => ⟨S4x8x2064, .f32⟩
  | .hbm, ⟨36, _⟩ => ⟨S_, .f32⟩
  | .hbm, ⟨37, _⟩ => ⟨S_, .f32⟩
  | .hbm, ⟨38, _⟩ => ⟨S4x8x2064, .f32⟩
  | .hbm, ⟨39, _⟩ => ⟨S4x8x2064, .f32⟩
  | .hbm, ⟨40, _⟩ => ⟨S4x2064x8x128, .f32⟩
  | .hbm, ⟨41, _⟩ => ⟨S_, .f32⟩
  | .hbm, ⟨42, _⟩ => ⟨S4x2064x8, .f32⟩
  | .hbm, ⟨43, _⟩ => ⟨S4x8x2064, .f32⟩
  | .hbm, ⟨44, _⟩ => ⟨S_, .i32⟩
  | .hbm, ⟨45, _⟩ => ⟨S_, .f32⟩
  | .hbm, ⟨46, _⟩ => ⟨S4x2064x8x256, .f32⟩
  | .hbm, ⟨47, _⟩ => ⟨S4x2064x2048, .f32⟩
  | .hbm, ⟨48, _⟩ => ⟨S_, .i32⟩
  | .hbm, ⟨49, _⟩ => ⟨S_, .f32⟩
  | .hbm, ⟨50, _⟩ => ⟨S4x2304x2048, .f32⟩
  | .hbm, ⟨51, _⟩ => ⟨S9216x2048, .f32⟩
  | .hbm, ⟨52, _⟩ => ⟨S9216x2048, .bf16⟩
  | .hbm, ⟨53, _⟩ => ⟨S_, .i32⟩
  | .hbm, ⟨54, _⟩ => ⟨S_, .f32⟩
  | .hbm, ⟨55, _⟩ => ⟨S4x2064x8x256, .f32⟩
  | .hbm, ⟨56, _⟩ => ⟨S4x2064x2048, .f32⟩
  | .hbm, ⟨57, _⟩ => ⟨S_, .i32⟩
  | .hbm, ⟨58, _⟩ => ⟨S_, .f32⟩
  | .hbm, ⟨59, _⟩ => ⟨S4x2304x2048, .f32⟩
  | .hbm, ⟨60, _⟩ => ⟨S9216x2048, .f32⟩
  | .hbm, ⟨61, _⟩ => ⟨S9216x2048, .bf16⟩
  | .hbm, ⟨62, _⟩ => ⟨S4x2064x1024, .f32⟩
  | .hbm, ⟨63, _⟩ => ⟨S_, .i32⟩
  | .hbm, ⟨64, _⟩ => ⟨S_, .f32⟩
  | .hbm, ⟨65, _⟩ => ⟨S4x2304x1024, .f32⟩
  | .hbm, ⟨66, _⟩ => ⟨S9216x1024, .f32⟩
  | .hbm, ⟨67, _⟩ => ⟨S9216x1024, .bf16⟩
  | .hbm, ⟨68, _⟩ => ⟨S4x2064x1024, .f32⟩
  | .hbm, ⟨69, _⟩ => ⟨S_, .i32⟩
  | .hbm, ⟨70, _⟩ => ⟨S_, .f32⟩
  | .hbm, ⟨71, _⟩ => ⟨S4x2304x1024, .f32⟩
  | .hbm, ⟨72, _⟩ => ⟨S9216x1024, .f32⟩
  | .hbm, ⟨73, _⟩ => ⟨S9216x1024, .bf16⟩
  | .hbm, ⟨74, _⟩ => ⟨S_, .i32⟩
  | .hbm, ⟨75, _⟩ => ⟨S_, .f32⟩
  | .hbm, ⟨76, _⟩ => ⟨S4x8x2304, .f32⟩
  | .hbm, ⟨77, _⟩ => ⟨S4x8x9x256, .f32⟩
  | .hbm, ⟨78, _⟩ => ⟨S_, .i32⟩
  | .hbm, ⟨79, _⟩ => ⟨S_, .f32⟩
  | .hbm, ⟨80, _⟩ => ⟨S4x8x2304, .f32⟩
  | .hbm, ⟨81, _⟩ => ⟨S4x8x9x256, .f32⟩
  | .hbm, ⟨82, _⟩ => ⟨S9216x2048, .bf16⟩
  | .hbm, ⟨83, _⟩ => ⟨S9216x2048, .bf16⟩
  | .hbm, ⟨84, _⟩ => ⟨S9216x1024, .bf16⟩
  | .hbm, ⟨85, _⟩ => ⟨S4x2304x2048, .bf16⟩
  | .hbm, ⟨86, _⟩ => ⟨S4x2064x2048, .bf16⟩
  | .hbm, ⟨87, _⟩ => ⟨S4x2064x8x256, .bf16⟩
  | .hbm, ⟨88, _⟩ => ⟨S4x2064x8x256, .f32⟩
  | .hbm, ⟨89, _⟩ => ⟨S4x2064x8x192, .f32⟩
  | .hbm, ⟨90, _⟩ => ⟨S4x2304x2048, .bf16⟩
  | .hbm, ⟨91, _⟩ => ⟨S4x2064x2048, .bf16⟩
  | .hbm, ⟨92, _⟩ => ⟨S4x2064x8x256, .bf16⟩
  | .hbm, ⟨93, _⟩ => ⟨S4x2064x8x256, .f32⟩
  | .hbm, ⟨94, _⟩ => ⟨S4x2064x8x192, .f32⟩
  | .hbm, ⟨95, _⟩ => ⟨S4x2304x1024, .bf16⟩
  | .hbm, ⟨96, _⟩ => ⟨S4x2064x1024, .bf16⟩
  | .hbm, ⟨97, _⟩ => ⟨S4x2064x8x128, .bf16⟩
  | .hbm, ⟨98, _⟩ => ⟨S4x2064x8x128, .f32⟩
  | .local _ .vmem, ⟨0, _⟩ => ⟨S2304x2048, .bf16⟩
  | .local _ .vmem, ⟨1, _⟩ => ⟨S256x2048, .bf16⟩
  | .local _ .vmem, ⟨2, _⟩ => ⟨S256x2048, .bf16⟩
  | .local _ .vmem, ⟨3, _⟩ => ⟨S256x1024, .bf16⟩
  | .local _ .vmem, ⟨4, _⟩ => ⟨S256x1024, .bf16⟩
  | .local _ .vmem, ⟨5, _⟩ => ⟨S2304x1024, .bf16⟩
  | .local _ .vmem, ⟨6, _⟩ => ⟨S1x8x9x256, .f32⟩
  | .local _ .vmem, ⟨7, _⟩ => ⟨S1x8x9x256, .f32⟩
  | .local _ .vmem, ⟨8, _⟩ => ⟨S1x8x9x256, .f32⟩
  | .local _ .vmem, ⟨9, _⟩ => ⟨S1x8x9x256, .f32⟩
  | .local _ .vmem, ⟨10, _⟩ => ⟨S2304x2048, .bf16⟩
  | .local _ .vmem, ⟨11, _⟩ => ⟨S256x2048, .bf16⟩
  | .local _ .vmem, ⟨12, _⟩ => ⟨S256x2048, .bf16⟩
  | .local _ .vmem, ⟨13, _⟩ => ⟨S256x1024, .bf16⟩
  | .local _ .vmem, ⟨14, _⟩ => ⟨S256x1024, .bf16⟩
  | .local _ .vmem, ⟨15, _⟩ => ⟨S2304x2048, .f32⟩
  | .local _ .vmem, ⟨16, _⟩ => ⟨S256x2048, .f32⟩
  | .local _ .vmem, ⟨17, _⟩ => ⟨S256x1024, .f32⟩
  | _, _ => ⟨S4x2064x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_c : Ref sig .tc := ⟨.hbm, 44, rfl⟩
abbrev main_call1_v0 : Ref sig .tc := ⟨.hbm, 45, rfl⟩
abbrev main_v31 : Ref sig .tc := ⟨.hbm, 46, rfl⟩
abbrev main_v32 : Ref sig .tc := ⟨.hbm, 47, rfl⟩
abbrev main_c_5 : Ref sig .tc := ⟨.hbm, 48, rfl⟩
abbrev main_call2_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_6 : Ref sig .tc := ⟨.hbm, 53, rfl⟩
abbrev main_call3_v0 : Ref sig .tc := ⟨.hbm, 54, rfl⟩
abbrev main_v36 : Ref sig .tc := ⟨.hbm, 55, rfl⟩
abbrev main_v37 : Ref sig .tc := ⟨.hbm, 56, rfl⟩
abbrev main_c_7 : Ref sig .tc := ⟨.hbm, 57, rfl⟩
abbrev main_call4_v0 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_8 : Ref sig .tc := ⟨.hbm, 63, rfl⟩
abbrev main_call5_v0 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_9 : Ref sig .tc := ⟨.hbm, 69, rfl⟩
abbrev main_call6_v0 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_10 : Ref sig .tc := ⟨.hbm, 74, rfl⟩
abbrev main_call7_v0 : Ref sig .tc := ⟨.hbm, 75, rfl⟩
abbrev main_v49 : Ref sig .tc := ⟨.hbm, 76, rfl⟩
abbrev main_v50 : Ref sig .tc := ⟨.hbm, 77, rfl⟩
abbrev main_c_11 : Ref sig .tc := ⟨.hbm, 78, rfl⟩
abbrev main_call8_v0 : Ref sig .tc := ⟨.hbm, 79, rfl⟩
abbrev main_v51 : Ref sig .tc := ⟨.hbm, 80, rfl⟩
abbrev main_v52 : Ref sig .tc := ⟨.hbm, 81, rfl⟩
abbrev main_v53_0 : Ref sig .tc := ⟨.hbm, 82, rfl⟩
abbrev main_v53_1 : Ref sig .tc := ⟨.hbm, 83, rfl⟩
abbrev main_v53_2 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![4, 1, 9], ![false, false, false]⟩

def k0_cond1 (i : grid0.Coords) : BitVec 1 :=
  let arg2 : BitVec 32 := BitVec.ofNat 32 (i 2).val
  let c0_i32 : BitVec 32 := 0#32
  let v13 : BitVec 1 := Scalar.cmpi .eq arg2 c0_i32
  let v14 : BitVec 32 := Scalar.extui v13
  let c0_i32_4 : BitVec 32 := 0#32
  let v15 : BitVec 1 := Scalar.cmpi .ne v14 c0_i32_4
  v15

def k0_mult1 (i : grid0.Coords) : BitVec 32 :=
  let arg2 : BitVec 32 := BitVec.ofNat 32 (i 2).val
  let c256_i32_16 : BitVec 32 := 256#32
  let v28 : BitVec 32 := Scalar.muli arg2 c256_i32_16
  v28
def k0_off1 (i : grid0.Coords) : Fin 2 → Nat :=
  let arg2 : BitVec 32 := BitVec.ofNat 32 (i 2).val
  let c256_i32_16 : BitVec 32 := 256#32
  let v28 : BitVec 32 := Scalar.muli arg2 c256_i32_16
  let v29 : BitVec 32 := v28
  let v40 : Index := Scalar.indexCast v29
  let c0_19 : Index := 0#32
  ![v40.toNat, 0]
def k0_off2 (i : grid0.Coords) : Fin 2 → Nat :=
  let arg2 : BitVec 32 := BitVec.ofNat 32 (i 2).val
  let c256_i32_16 : BitVec 32 := 256#32
  let v28 : BitVec 32 := Scalar.muli arg2 c256_i32_16
  let v29 : BitVec 32 := v28
  let v43 : Index := Scalar.indexCast v29
  let c0_20 : Index := 0#32
  ![v43.toNat, 0]
def k0_off3 (i : grid0.Coords) : Fin 4 → Nat :=
  let c0_23 : Index := 0#32
  let c0_24 : Index := 0#32
  let arg2 : BitVec 32 := BitVec.ofNat 32 (i 2).val
  let v48 : Index := Scalar.indexCast arg2
  let c0_25 : Index := 0#32
  ![0, 0, v48.toNat, 0]
def k0_off4 (i : grid0.Coords) : Fin 2 → Nat :=
  let arg2 : BitVec 32 := BitVec.ofNat 32 (i 2).val
  let c256_i32_16 : BitVec 32 := 256#32
  let v28 : BitVec 32 := Scalar.muli arg2 c256_i32_16
  let v29 : BitVec 32 := v28
  let v89 : Index := Scalar.indexCast v29
  let c256 : Index := 256#32
  ![v89.toNat, 256]
def k0_off5 (i : grid0.Coords) : Fin 2 → Nat :=
  let arg2 : BitVec 32 := BitVec.ofNat 32 (i 2).val
  let c256_i32_16 : BitVec 32 := 256#32
  let v28 : BitVec 32 := Scalar.muli arg2 c256_i32_16
  let v29 : BitVec 32 := v28
  let v92 : Index := Scalar.indexCast v29
  let c128 : Index := 128#32
  ![v92.toNat, 128]
def k0_off6 (i : grid0.Coords) : Fin 4 → Nat :=
  let c0_50 : Index := 0#32
  let c1 : Index := 1#32
  let arg2 : BitVec 32 := BitVec.ofNat 32 (i 2).val
  let v97 : Index := Scalar.indexCast arg2
  let c0_51 : Index := 0#32
  ![0, 1, v97.toNat, 0]
def k0_off7 (i : grid0.Coords) : Fin 2 → Nat :=
  let arg2 : BitVec 32 := BitVec.ofNat 32 (i 2).val
  let c256_i32_16 : BitVec 32 := 256#32
  let v28 : BitVec 32 := Scalar.muli arg2 c256_i32_16
  let v29 : BitVec 32 := v28
  let v138 : Index := Scalar.indexCast v29
  let c512 : Index := 512#32
  ![v138.toNat, 512]
def k0_off8 (i : grid0.Coords) : Fin 2 → Nat :=
  let arg2 : BitVec 32 := BitVec.ofNat 32 (i 2).val
  let c256_i32_16 : BitVec 32 := 256#32
  let v28 : BitVec 32 := Scalar.muli arg2 c256_i32_16
  let v29 : BitVec 32 := v28
  let v141 : Index := Scalar.indexCast v29
  let c256_74 : Index := 256#32
  ![v141.toNat, 256]
def k0_off9 (i : grid0.Coords) : Fin 4 → Nat :=
  let c0_77 : Index := 0#32
  let c2 : Index := 2#32
  let arg2 : BitVec 32 := BitVec.ofNat 32 (i 2).val
  let v146 : Index := Scalar.indexCast arg2
  let c0_78 : Index := 0#32
  ![0, 2, v146.toNat, 0]
def k0_off10 (i : grid0.Coords) : Fin 2 → Nat :=
  let arg2 : BitVec 32 := BitVec.ofNat 32 (i 2).val
  let c256_i32_16 : BitVec 32 := 256#32
  let v28 : BitVec 32 := Scalar.muli arg2 c256_i32_16
  let v29 : BitVec 32 := v28
  let v187 : Index := Scalar.indexCast v29
  let c768 : Index := 768#32
  ![v187.toNat, 768]
def k0_off11 (i : grid0.Coords) : Fin 2 → Nat :=
  let arg2 : BitVec 32 := BitVec.ofNat 32 (i 2).val
  let c256_i32_16 : BitVec 32 := 256#32
  let v28 : BitVec 32 := Scalar.muli arg2 c256_i32_16
  let v29 : BitVec 32 := v28
  let v190 : Index := Scalar.indexCast v29
  let c384 : Index := 384#32
  ![v190.toNat, 384]
def k0_off12 (i : grid0.Coords) : Fin 4 → Nat :=
  let c0_103 : Index := 0#32
  let c3 : Index := 3#32
  let arg2 : BitVec 32 := BitVec.ofNat 32 (i 2).val
  let v195 : Index := Scalar.indexCast arg2
  let c0_104 : Index := 0#32
  ![0, 3, v195.toNat, 0]
def k0_off13 (i : grid0.Coords) : Fin 2 → Nat :=
  let arg2 : BitVec 32 := BitVec.ofNat 32 (i 2).val
  let c256_i32_16 : BitVec 32 := 256#32
  let v28 : BitVec 32 := Scalar.muli arg2 c256_i32_16
  let v29 : BitVec 32 := v28
  let v236 : Index := Scalar.indexCast v29
  let c1024 : Index := 1024#32
  ![v236.toNat, 1024]
def k0_off14 (i : grid0.Coords) : Fin 2 → Nat :=
  let arg2 : BitVec 32 := BitVec.ofNat 32 (i 2).val
  let c256_i32_16 : BitVec 32 := 256#32
  let v28 : BitVec 32 := Scalar.muli arg2 c256_i32_16
  let v29 : BitVec 32 := v28
  let v239 : Index := Scalar.indexCast v29
  let c512_127 : Index := 512#32
  ![v239.toNat, 512]
def k0_off15 (i : grid0.Coords) : Fin 4 → Nat :=
  let c0_130 : Index := 0#32
  let c4 : Index := 4#32
  let arg2 : BitVec 32 := BitVec.ofNat 32 (i 2).val
  let v244 : Index := Scalar.indexCast arg2
  let c0_131 : Index := 0#32
  ![0, 4, v244.toNat, 0]
def k0_off16 (i : grid0.Coords) : Fin 2 → Nat :=
  let arg2 : BitVec 32 := BitVec.ofNat 32 (i 2).val
  let c256_i32_16 : BitVec 32 := 256#32
  let v28 : BitVec 32 := Scalar.muli arg2 c256_i32_16
  let v29 : BitVec 32 := v28
  let v285 : Index := Scalar.indexCast v29
  let c1280 : Index := 1280#32
  ![v285.toNat, 1280]
def k0_off17 (i : grid0.Coords) : Fin 2 → Nat :=
  let arg2 : BitVec 32 := BitVec.ofNat 32 (i 2).val
  let c256_i32_16 : BitVec 32 := 256#32
  let v28 : BitVec 32 := Scalar.muli arg2 c256_i32_16
  let v29 : BitVec 32 := v28
  let v288 : Index := Scalar.indexCast v29
  let c640 : Index := 640#32
  ![v288.toNat, 640]
def k0_off18 (i : grid0.Coords) : Fin 4 → Nat :=
  let c0_156 : Index := 0#32
  let c5 : Index := 5#32
  let arg2 : BitVec 32 := BitVec.ofNat 32 (i 2).val
  let v293 : Index := Scalar.indexCast arg2
  let c0_157 : Index := 0#32
  ![0, 5, v293.toNat, 0]
def k0_off19 (i : grid0.Coords) : Fin 2 → Nat :=
  let arg2 : BitVec 32 := BitVec.ofNat 32 (i 2).val
  let c256_i32_16 : BitVec 32 := 256#32
  let v28 : BitVec 32 := Scalar.muli arg2 c256_i32_16
  let v29 : BitVec 32 := v28
  let v334 : Index := Scalar.indexCast v29
  let c1536 : Index := 1536#32
  ![v334.toNat, 1536]
def k0_off20 (i : grid0.Coords) : Fin 2 → Nat :=
  let arg2 : BitVec 32 := BitVec.ofNat 32 (i 2).val
  let c256_i32_16 : BitVec 32 := 256#32
  let v28 : BitVec 32 := Scalar.muli arg2 c256_i32_16
  let v29 : BitVec 32 := v28
  let v337 : Index := Scalar.indexCast v29
  let c768_180 : Index := 768#32
  ![v337.toNat, 768]
def k0_off21 (i : grid0.Coords) : Fin 4 → Nat :=
  let c0_183 : Index := 0#32
  let c6 : Index := 6#32
  let arg2 : BitVec 32 := BitVec.ofNat 32 (i 2).val
  let v342 : Index := Scalar.indexCast arg2
  let c0_184 : Index := 0#32
  ![0, 6, v342.toNat, 0]
def k0_off22 (i : grid0.Coords) : Fin 2 → Nat :=
  let arg2 : BitVec 32 := BitVec.ofNat 32 (i 2).val
  let c256_i32_16 : BitVec 32 := 256#32
  let v28 : BitVec 32 := Scalar.muli arg2 c256_i32_16
  let v29 : BitVec 32 := v28
  let v383 : Index := Scalar.indexCast v29
  let c1792 : Index := 1792#32
  ![v383.toNat, 1792]
def k0_off23 (i : grid0.Coords) : Fin 2 → Nat :=
  let arg2 : BitVec 32 := BitVec.ofNat 32 (i 2).val
  let c256_i32_16 : BitVec 32 := 256#32
  let v28 : BitVec 32 := Scalar.muli arg2 c256_i32_16
  let v29 : BitVec 32 := v28
  let v386 : Index := Scalar.indexCast v29
  let c896 : Index := 896#32
  ![v386.toNat, 896]
def k0_off24 (i : grid0.Coords) : Fin 4 → Nat :=
  let c0_209 : Index := 0#32
  let c7 : Index := 7#32
  let arg2 : BitVec 32 := BitVec.ofNat 32 (i 2).val
  let v391 : Index := Scalar.indexCast arg2
  let c0_210 : Index := 0#32
  ![0, 7, v391.toNat, 0]
@[reducible] def k0_t1_loop (i : grid0.Coords) : Scf.Loop 32 :=
  let arg2 : BitVec 32 := BitVec.ofNat 32 (i 2).val
  let c1_i32 : BitVec 32 := 1#32
  let v432 : BitVec 32 := Scalar.addi arg2 c1_i32
  let c9_i32 : BitVec 32 := 9#32
  let v433 : BitVec 32 := Scalar.subi c9_i32 v432
  let c1_i32_234 : BitVec 32 := 1#32
  let v435 : BitVec 32 := Scalar.divsi v433 c1_i32_234
  let v436 : BitVec 32 := Scalar.muli v435 c1_i32_234
  let v437 : BitVec 32 := Scalar.addi v432 v436
  let c1_i32_235 : BitVec 32 := 1#32
  ⟨v432, v437, c1_i32_235⟩
def k0_mult2 (i : grid0.Coords) (k0_t1 : Fin (k0_t1_loop i).trips) : BitVec 32 :=
  let arg2 : BitVec 32 := BitVec.ofNat 32 (i 2).val
  let c1_i32 : BitVec 32 := 1#32
  let v432 : BitVec 32 := Scalar.addi arg2 c1_i32
  let c1_i32_235 : BitVec 32 := 1#32
  let arg15 : BitVec 32 := Scf.iv v432 c1_i32_235 k0_t1
  let c256_i32_237 : BitVec 32 := 256#32
  let v438 : BitVec 32 := Scalar.muli arg15 c256_i32_237
  v438
def k0_off25 (i : grid0.Coords) (k0_t1 : Fin (k0_t1_loop i).trips) : Fin 2 → Nat :=
  let arg2 : BitVec 32 := BitVec.ofNat 32 (i 2).val
  let c1_i32 : BitVec 32 := 1#32
  let v432 : BitVec 32 := Scalar.addi arg2 c1_i32
  let c1_i32_235 : BitVec 32 := 1#32
  let arg15 : BitVec 32 := Scf.iv v432 c1_i32_235 k0_t1
  let c256_i32_237 : BitVec 32 := 256#32
  let v438 : BitVec 32 := Scalar.muli arg15 c256_i32_237
  let v439 : BitVec 32 := v438
  let v450 : Index := Scalar.indexCast v439
  let c0_241 : Index := 0#32
  ![v450.toNat, 0]
def k0_off26 (i : grid0.Coords) (k0_t1 : Fin (k0_t1_loop i).trips) : Fin 2 → Nat :=
  let arg2 : BitVec 32 := BitVec.ofNat 32 (i 2).val
  let c1_i32 : BitVec 32 := 1#32
  let v432 : BitVec 32 := Scalar.addi arg2 c1_i32
  let c1_i32_235 : BitVec 32 := 1#32
  let arg15 : BitVec 32 := Scf.iv v432 c1_i32_235 k0_t1
  let c256_i32_237 : BitVec 32 := 256#32
  let v438 : BitVec 32 := Scalar.muli arg15 c256_i32_237
  let v439 : BitVec 32 := v438
  let v453 : Index := Scalar.indexCast v439
  let c0_242 : Index := 0#32
  ![v453.toNat, 0]
def k0_off27 (i : grid0.Coords) (k0_t1 : Fin (k0_t1_loop i).trips) : Fin 4 → Nat :=
  let c0_245 : Index := 0#32
  let c0_246 : Index := 0#32
  let arg2 : BitVec 32 := BitVec.ofNat 32 (i 2).val
  let c1_i32 : BitVec 32 := 1#32
  let v432 : BitVec 32 := Scalar.addi arg2 c1_i32
  let c1_i32_235 : BitVec 32 := 1#32
  let arg15 : BitVec 32 := Scf.iv v432 c1_i32_235 k0_t1
  let v458 : Index := Scalar.indexCast arg15
  let c0_247 : Index := 0#32
  ![0, 0, v458.toNat, 0]
def k0_off28 (i : grid0.Coords) (k0_t1 : Fin (k0_t1_loop i).trips) : Fin 2 → Nat :=
  let arg2 : BitVec 32 := BitVec.ofNat 32 (i 2).val
  let c1_i32 : BitVec 32 := 1#32
  let v432 : BitVec 32 := Scalar.addi arg2 c1_i32
  let c1_i32_235 : BitVec 32 := 1#32
  let arg15 : BitVec 32 := Scf.iv v432 c1_i32_235 k0_t1
  let c256_i32_237 : BitVec 32 := 256#32
  let v438 : BitVec 32 := Scalar.muli arg15 c256_i32_237
  let v439 : BitVec 32 := v438
  let v499 : Index := Scalar.indexCast v439
  let c256_270 : Index := 256#32
  ![v499.toNat, 256]
def k0_off29 (i : grid0.Coords) (k0_t1 : Fin (k0_t1_loop i).trips) : Fin 2 → Nat :=
  let arg2 : BitVec 32 := BitVec.ofNat 32 (i 2).val
  let c1_i32 : BitVec 32 := 1#32
  let v432 : BitVec 32 := Scalar.addi arg2 c1_i32
  let c1_i32_235 : BitVec 32 := 1#32
  let arg15 : BitVec 32 := Scf.iv v432 c1_i32_235 k0_t1
  let c256_i32_237 : BitVec 32 := 256#32
  let v438 : BitVec 32 := Scalar.muli arg15 c256_i32_237
  let v439 : BitVec 32 := v438
  let v502 : Index := Scalar.indexCast v439
  let c128_271 : Index := 128#32
  ![v502.toNat, 128]
def k0_off30 (i : grid0.Coords) (k0_t1 : Fin (k0_t1_loop i).trips) : Fin 4 → Nat :=
  let c0_274 : Index := 0#32
  let c1_275 : Index := 1#32
  let arg2 : BitVec 32 := BitVec.ofNat 32 (i 2).val
  let c1_i32 : BitVec 32 := 1#32
  let v432 : BitVec 32 := Scalar.addi arg2 c1_i32
  let c1_i32_235 : BitVec 32 := 1#32
  let arg15 : BitVec 32 := Scf.iv v432 c1_i32_235 k0_t1
  let v507 : Index := Scalar.indexCast arg15
  let c0_276 : Index := 0#32
  ![0, 1, v507.toNat, 0]
def k0_off31 (i : grid0.Coords) (k0_t1 : Fin (k0_t1_loop i).trips) : Fin 2 → Nat :=
  let arg2 : BitVec 32 := BitVec.ofNat 32 (i 2).val
  let c1_i32 : BitVec 32 := 1#32
  let v432 : BitVec 32 := Scalar.addi arg2 c1_i32
  let c1_i32_235 : BitVec 32 := 1#32
  let arg15 : BitVec 32 := Scf.iv v432 c1_i32_235 k0_t1
  let c256_i32_237 : BitVec 32 := 256#32
  let v438 : BitVec 32 := Scalar.muli arg15 c256_i32_237
  let v439 : BitVec 32 := v438
  let v548 : Index := Scalar.indexCast v439
  let c512_299 : Index := 512#32
  ![v548.toNat, 512]
def k0_off32 (i : grid0.Coords) (k0_t1 : Fin (k0_t1_loop i).trips) : Fin 2 → Nat :=
  let arg2 : BitVec 32 := BitVec.ofNat 32 (i 2).val
  let c1_i32 : BitVec 32 := 1#32
  let v432 : BitVec 32 := Scalar.addi arg2 c1_i32
  let c1_i32_235 : BitVec 32 := 1#32
  let arg15 : BitVec 32 := Scf.iv v432 c1_i32_235 k0_t1
  let c256_i32_237 : BitVec 32 := 256#32
  let v438 : BitVec 32 := Scalar.muli arg15 c256_i32_237
  let v439 : BitVec 32 := v438
  let v551 : Index := Scalar.indexCast v439
  let c256_300 : Index := 256#32
  ![v551.toNat, 256]
def k0_off33 (i : grid0.Coords) (k0_t1 : Fin (k0_t1_loop i).trips) : Fin 4 → Nat :=
  let c0_303 : Index := 0#32
  let c2_304 : Index := 2#32
  let arg2 : BitVec 32 := BitVec.ofNat 32 (i 2).val
  let c1_i32 : BitVec 32 := 1#32
  let v432 : BitVec 32 := Scalar.addi arg2 c1_i32
  let c1_i32_235 : BitVec 32 := 1#32
  let arg15 : BitVec 32 := Scf.iv v432 c1_i32_235 k0_t1
  let v556 : Index := Scalar.indexCast arg15
  let c0_305 : Index := 0#32
  ![0, 2, v556.toNat, 0]
def k0_off34 (i : grid0.Coords) (k0_t1 : Fin (k0_t1_loop i).trips) : Fin 2 → Nat :=
  let arg2 : BitVec 32 := BitVec.ofNat 32 (i 2).val
  let c1_i32 : BitVec 32 := 1#32
  let v432 : BitVec 32 := Scalar.addi arg2 c1_i32
  let c1_i32_235 : BitVec 32 := 1#32
  let arg15 : BitVec 32 := Scf.iv v432 c1_i32_235 k0_t1
  let c256_i32_237 : BitVec 32 := 256#32
  let v438 : BitVec 32 := Scalar.muli arg15 c256_i32_237
  let v439 : BitVec 32 := v438
  let v597 : Index := Scalar.indexCast v439
  let c768_328 : Index := 768#32
  ![v597.toNat, 768]
def k0_off35 (i : grid0.Coords) (k0_t1 : Fin (k0_t1_loop i).trips) : Fin 2 → Nat :=
  let arg2 : BitVec 32 := BitVec.ofNat 32 (i 2).val
  let c1_i32 : BitVec 32 := 1#32
  let v432 : BitVec 32 := Scalar.addi arg2 c1_i32
  let c1_i32_235 : BitVec 32 := 1#32
  let arg15 : BitVec 32 := Scf.iv v432 c1_i32_235 k0_t1
  let c256_i32_237 : BitVec 32 := 256#32
  let v438 : BitVec 32 := Scalar.muli arg15 c256_i32_237
  let v439 : BitVec 32 := v438
  let v600 : Index := Scalar.indexCast v439
  let c384_329 : Index := 384#32
  ![v600.toNat, 384]
def k0_off36 (i : grid0.Coords) (k0_t1 : Fin (k0_t1_loop i).trips) : Fin 4 → Nat :=
  let c0_332 : Index := 0#32
  let c3_333 : Index := 3#32
  let arg2 : BitVec 32 := BitVec.ofNat 32 (i 2).val
  let c1_i32 : BitVec 32 := 1#32
  let v432 : BitVec 32 := Scalar.addi arg2 c1_i32
  let c1_i32_235 : BitVec 32 := 1#32
  let arg15 : BitVec 32 := Scf.iv v432 c1_i32_235 k0_t1
  let v605 : Index := Scalar.indexCast arg15
  let c0_334 : Index := 0#32
  ![0, 3, v605.toNat, 0]
def k0_off37 (i : grid0.Coords) (k0_t1 : Fin (k0_t1_loop i).trips) : Fin 2 → Nat :=
  let arg2 : BitVec 32 := BitVec.ofNat 32 (i 2).val
  let c1_i32 : BitVec 32 := 1#32
  let v432 : BitVec 32 := Scalar.addi arg2 c1_i32
  let c1_i32_235 : BitVec 32 := 1#32
  let arg15 : BitVec 32 := Scf.iv v432 c1_i32_235 k0_t1
  let c256_i32_237 : BitVec 32 := 256#32
  let v438 : BitVec 32 := Scalar.muli arg15 c256_i32_237
  let v439 : BitVec 32 := v438
  let v646 : Index := Scalar.indexCast v439
  let c1024_357 : Index := 1024#32
  ![v646.toNat, 1024]
def k0_off38 (i : grid0.Coords) (k0_t1 : Fin (k0_t1_loop i).trips) : Fin 2 → Nat :=
  let arg2 : BitVec 32 := BitVec.ofNat 32 (i 2).val
  let c1_i32 : BitVec 32 := 1#32
  let v432 : BitVec 32 := Scalar.addi arg2 c1_i32
  let c1_i32_235 : BitVec 32 := 1#32
  let arg15 : BitVec 32 := Scf.iv v432 c1_i32_235 k0_t1
  let c256_i32_237 : BitVec 32 := 256#32
  let v438 : BitVec 32 := Scalar.muli arg15 c256_i32_237
  let v439 : BitVec 32 := v438
  let v649 : Index := Scalar.indexCast v439
  let c512_358 : Index := 512#32
  ![v649.toNat, 512]
def k0_off39 (i : grid0.Coords) (k0_t1 : Fin (k0_t1_loop i).trips) : Fin 4 → Nat :=
  let c0_361 : Index := 0#32
  let c4_362 : Index := 4#32
  let arg2 : BitVec 32 := BitVec.ofNat 32 (i 2).val
  let c1_i32 : BitVec 32 := 1#32
  let v432 : BitVec 32 := Scalar.addi arg2 c1_i32
  let c1_i32_235 : BitVec 32 := 1#32
  let arg15 : BitVec 32 := Scf.iv v432 c1_i32_235 k0_t1
  let v654 : Index := Scalar.indexCast arg15
  let c0_363 : Index := 0#32
  ![0, 4, v654.toNat, 0]
def k0_off40 (i : grid0.Coords) (k0_t1 : Fin (k0_t1_loop i).trips) : Fin 2 → Nat :=
  let arg2 : BitVec 32 := BitVec.ofNat 32 (i 2).val
  let c1_i32 : BitVec 32 := 1#32
  let v432 : BitVec 32 := Scalar.addi arg2 c1_i32
  let c1_i32_235 : BitVec 32 := 1#32
  let arg15 : BitVec 32 := Scf.iv v432 c1_i32_235 k0_t1
  let c256_i32_237 : BitVec 32 := 256#32
  let v438 : BitVec 32 := Scalar.muli arg15 c256_i32_237
  let v439 : BitVec 32 := v438
  let v695 : Index := Scalar.indexCast v439
  let c1280_386 : Index := 1280#32
  ![v695.toNat, 1280]
def k0_off41 (i : grid0.Coords) (k0_t1 : Fin (k0_t1_loop i).trips) : Fin 2 → Nat :=
  let arg2 : BitVec 32 := BitVec.ofNat 32 (i 2).val
  let c1_i32 : BitVec 32 := 1#32
  let v432 : BitVec 32 := Scalar.addi arg2 c1_i32
  let c1_i32_235 : BitVec 32 := 1#32
  let arg15 : BitVec 32 := Scf.iv v432 c1_i32_235 k0_t1
  let c256_i32_237 : BitVec 32 := 256#32
  let v438 : BitVec 32 := Scalar.muli arg15 c256_i32_237
  let v439 : BitVec 32 := v438
  let v698 : Index := Scalar.indexCast v439
  let c640_387 : Index := 640#32
  ![v698.toNat, 640]
def k0_off42 (i : grid0.Coords) (k0_t1 : Fin (k0_t1_loop i).trips) : Fin 4 → Nat :=
  let c0_390 : Index := 0#32
  let c5_391 : Index := 5#32
  let arg2 : BitVec 32 := BitVec.ofNat 32 (i 2).val
  let c1_i32 : BitVec 32 := 1#32
  let v432 : BitVec 32 := Scalar.addi arg2 c1_i32
  let c1_i32_235 : BitVec 32 := 1#32
  let arg15 : BitVec 32 := Scf.iv v432 c1_i32_235 k0_t1
  let v703 : Index := Scalar.indexCast arg15
  let c0_392 : Index := 0#32
  ![0, 5, v703.toNat, 0]
def k0_off43 (i : grid0.Coords) (k0_t1 : Fin (k0_t1_loop i).trips) : Fin 2 → Nat :=
  let arg2 : BitVec 32 := BitVec.ofNat 32 (i 2).val
  let c1_i32 : BitVec 32 := 1#32
  let v432 : BitVec 32 := Scalar.addi arg2 c1_i32
  let c1_i32_235 : BitVec 32 := 1#32
  let arg15 : BitVec 32 := Scf.iv v432 c1_i32_235 k0_t1
  let c256_i32_237 : BitVec 32 := 256#32
  let v438 : BitVec 32 := Scalar.muli arg15 c256_i32_237
  let v439 : BitVec 32 := v438
  let v744 : Index := Scalar.indexCast v439
  let c1536_415 : Index := 1536#32
  ![v744.toNat, 1536]
def k0_off44 (i : grid0.Coords) (k0_t1 : Fin (k0_t1_loop i).trips) : Fin 2 → Nat :=
  let arg2 : BitVec 32 := BitVec.ofNat 32 (i 2).val
  let c1_i32 : BitVec 32 := 1#32
  let v432 : BitVec 32 := Scalar.addi arg2 c1_i32
  let c1_i32_235 : BitVec 32 := 1#32
  let arg15 : BitVec 32 := Scf.iv v432 c1_i32_235 k0_t1
  let c256_i32_237 : BitVec 32 := 256#32
  let v438 : BitVec 32 := Scalar.muli arg15 c256_i32_237
  let v439 : BitVec 32 := v438
  let v747 : Index := Scalar.indexCast v439
  let c768_416 : Index := 768#32
  ![v747.toNat, 768]
def k0_off45 (i : grid0.Coords) (k0_t1 : Fin (k0_t1_loop i).trips) : Fin 4 → Nat :=
  let c0_419 : Index := 0#32
  let c6_420 : Index := 6#32
  let arg2 : BitVec 32 := BitVec.ofNat 32 (i 2).val
  let c1_i32 : BitVec 32 := 1#32
  let v432 : BitVec 32 := Scalar.addi arg2 c1_i32
  let c1_i32_235 : BitVec 32 := 1#32
  let arg15 : BitVec 32 := Scf.iv v432 c1_i32_235 k0_t1
  let v752 : Index := Scalar.indexCast arg15
  let c0_421 : Index := 0#32
  ![0, 6, v752.toNat, 0]
def k0_off46 (i : grid0.Coords) (k0_t1 : Fin (k0_t1_loop i).trips) : Fin 2 → Nat :=
  let arg2 : BitVec 32 := BitVec.ofNat 32 (i 2).val
  let c1_i32 : BitVec 32 := 1#32
  let v432 : BitVec 32 := Scalar.addi arg2 c1_i32
  let c1_i32_235 : BitVec 32 := 1#32
  let arg15 : BitVec 32 := Scf.iv v432 c1_i32_235 k0_t1
  let c256_i32_237 : BitVec 32 := 256#32
  let v438 : BitVec 32 := Scalar.muli arg15 c256_i32_237
  let v439 : BitVec 32 := v438
  let v793 : Index := Scalar.indexCast v439
  let c1792_444 : Index := 1792#32
  ![v793.toNat, 1792]
def k0_off47 (i : grid0.Coords) (k0_t1 : Fin (k0_t1_loop i).trips) : Fin 2 → Nat :=
  let arg2 : BitVec 32 := BitVec.ofNat 32 (i 2).val
  let c1_i32 : BitVec 32 := 1#32
  let v432 : BitVec 32 := Scalar.addi arg2 c1_i32
  let c1_i32_235 : BitVec 32 := 1#32
  let arg15 : BitVec 32 := Scf.iv v432 c1_i32_235 k0_t1
  let c256_i32_237 : BitVec 32 := 256#32
  let v438 : BitVec 32 := Scalar.muli arg15 c256_i32_237
  let v439 : BitVec 32 := v438
  let v796 : Index := Scalar.indexCast v439
  let c896_445 : Index := 896#32
  ![v796.toNat, 896]
def k0_off48 (i : grid0.Coords) (k0_t1 : Fin (k0_t1_loop i).trips) : Fin 4 → Nat :=
  let c0_448 : Index := 0#32
  let c7_449 : Index := 7#32
  let arg2 : BitVec 32 := BitVec.ofNat 32 (i 2).val
  let c1_i32 : BitVec 32 := 1#32
  let v432 : BitVec 32 := Scalar.addi arg2 c1_i32
  let c1_i32_235 : BitVec 32 := 1#32
  let arg15 : BitVec 32 := Scf.iv v432 c1_i32_235 k0_t1
  let v801 : Index := Scalar.indexCast arg15
  let c0_450 : Index := 0#32
  ![0, 7, v801.toNat, 0]
@[reducible] def k0_t2_loop (i : grid0.Coords) : Scf.Loop 32 :=
  let arg2 : BitVec 32 := BitVec.ofNat 32 (i 2).val
  let c1_i32 : BitVec 32 := 1#32
  let v432 : BitVec 32 := Scalar.addi arg2 c1_i32
  let c9_i32 : BitVec 32 := 9#32
  let v433 : BitVec 32 := Scalar.subi c9_i32 v432
  let c1_i32_234 : BitVec 32 := 1#32
  let v435 : BitVec 32 := Scalar.divsi v433 c1_i32_234
  let v436 : BitVec 32 := Scalar.muli v435 c1_i32_234
  let v437 : BitVec 32 := Scalar.addi v432 v436
  let v434 : BitVec 32 := Scalar.addi v432 v433
  let c1_i32_236 : BitVec 32 := 1#32
  ⟨v437, v434, c1_i32_236⟩
def k0_mult3 (i : grid0.Coords) (k0_t2 : Fin (k0_t2_loop i).trips) : BitVec 32 :=
  let arg2 : BitVec 32 := BitVec.ofNat 32 (i 2).val
  let c1_i32 : BitVec 32 := 1#32
  let v432 : BitVec 32 := Scalar.addi arg2 c1_i32
  let c9_i32 : BitVec 32 := 9#32
  let v433 : BitVec 32 := Scalar.subi c9_i32 v432
  let c1_i32_234 : BitVec 32 := 1#32
  let v435 : BitVec 32 := Scalar.divsi v433 c1_i32_234
  let v436 : BitVec 32 := Scalar.muli v435 c1_i32_234
  let v437 : BitVec 32 := Scalar.addi v432 v436
  let c1_i32_236 : BitVec 32 := 1#32
  let arg15 : BitVec 32 := Scf.iv v437 c1_i32_236 k0_t2
  let c256_i32_237 : BitVec 32 := 256#32
  let v438 : BitVec 32 := Scalar.muli arg15 c256_i32_237
  v438
def k0_off49 (i : grid0.Coords) (k0_t2 : Fin (k0_t2_loop i).trips) : Fin 2 → Nat :=
  let arg2 : BitVec 32 := BitVec.ofNat 32 (i 2).val
  let c1_i32 : BitVec 32 := 1#32
  let v432 : BitVec 32 := Scalar.addi arg2 c1_i32
  let c9_i32 : BitVec 32 := 9#32
  let v433 : BitVec 32 := Scalar.subi c9_i32 v432
  let c1_i32_234 : BitVec 32 := 1#32
  let v435 : BitVec 32 := Scalar.divsi v433 c1_i32_234
  let v436 : BitVec 32 := Scalar.muli v435 c1_i32_234
  let v437 : BitVec 32 := Scalar.addi v432 v436
  let c1_i32_236 : BitVec 32 := 1#32
  let arg15 : BitVec 32 := Scf.iv v437 c1_i32_236 k0_t2
  let c256_i32_237 : BitVec 32 := 256#32
  let v438 : BitVec 32 := Scalar.muli arg15 c256_i32_237
  let v439 : BitVec 32 := v438
  let v450 : Index := Scalar.indexCast v439
  let c0_241 : Index := 0#32
  ![v450.toNat, 0]
def k0_off50 (i : grid0.Coords) (k0_t2 : Fin (k0_t2_loop i).trips) : Fin 2 → Nat :=
  let arg2 : BitVec 32 := BitVec.ofNat 32 (i 2).val
  let c1_i32 : BitVec 32 := 1#32
  let v432 : BitVec 32 := Scalar.addi arg2 c1_i32
  let c9_i32 : BitVec 32 := 9#32
  let v433 : BitVec 32 := Scalar.subi c9_i32 v432
  let c1_i32_234 : BitVec 32 := 1#32
  let v435 : BitVec 32 := Scalar.divsi v433 c1_i32_234
  let v436 : BitVec 32 := Scalar.muli v435 c1_i32_234
  let v437 : BitVec 32 := Scalar.addi v432 v436
  let c1_i32_236 : BitVec 32 := 1#32
  let arg15 : BitVec 32 := Scf.iv v437 c1_i32_236 k0_t2
  let c256_i32_237 : BitVec 32 := 256#32
  let v438 : BitVec 32 := Scalar.muli arg15 c256_i32_237
  let v439 : BitVec 32 := v438
  let v453 : Index := Scalar.indexCast v439
  let c0_242 : Index := 0#32
  ![v453.toNat, 0]
def k0_off51 (i : grid0.Coords) (k0_t2 : Fin (k0_t2_loop i).trips) : Fin 4 → Nat :=
  let c0_245 : Index := 0#32
  let c0_246 : Index := 0#32
  let arg2 : BitVec 32 := BitVec.ofNat 32 (i 2).val
  let c1_i32 : BitVec 32 := 1#32
  let v432 : BitVec 32 := Scalar.addi arg2 c1_i32
  let c9_i32 : BitVec 32 := 9#32
  let v433 : BitVec 32 := Scalar.subi c9_i32 v432
  let c1_i32_234 : BitVec 32 := 1#32
  let v435 : BitVec 32 := Scalar.divsi v433 c1_i32_234
  let v436 : BitVec 32 := Scalar.muli v435 c1_i32_234
  let v437 : BitVec 32 := Scalar.addi v432 v436
  let c1_i32_236 : BitVec 32 := 1#32
  let arg15 : BitVec 32 := Scf.iv v437 c1_i32_236 k0_t2
  let v458 : Index := Scalar.indexCast arg15
  let c0_247 : Index := 0#32
  ![0, 0, v458.toNat, 0]
def k0_off52 (i : grid0.Coords) (k0_t2 : Fin (k0_t2_loop i).trips) : Fin 2 → Nat :=
  let arg2 : BitVec 32 := BitVec.ofNat 32 (i 2).val
  let c1_i32 : BitVec 32 := 1#32
  let v432 : BitVec 32 := Scalar.addi arg2 c1_i32
  let c9_i32 : BitVec 32 := 9#32
  let v433 : BitVec 32 := Scalar.subi c9_i32 v432
  let c1_i32_234 : BitVec 32 := 1#32
  let v435 : BitVec 32 := Scalar.divsi v433 c1_i32_234
  let v436 : BitVec 32 := Scalar.muli v435 c1_i32_234
  let v437 : BitVec 32 := Scalar.addi v432 v436
  let c1_i32_236 : BitVec 32 := 1#32
  let arg15 : BitVec 32 := Scf.iv v437 c1_i32_236 k0_t2
  let c256_i32_237 : BitVec 32 := 256#32
  let v438 : BitVec 32 := Scalar.muli arg15 c256_i32_237
  let v439 : BitVec 32 := v438
  let v499 : Index := Scalar.indexCast v439
  let c256_270 : Index := 256#32
  ![v499.toNat, 256]
def k0_off53 (i : grid0.Coords) (k0_t2 : Fin (k0_t2_loop i).trips) : Fin 2 → Nat :=
  let arg2 : BitVec 32 := BitVec.ofNat 32 (i 2).val
  let c1_i32 : BitVec 32 := 1#32
  let v432 : BitVec 32 := Scalar.addi arg2 c1_i32
  let c9_i32 : BitVec 32 := 9#32
  let v433 : BitVec 32 := Scalar.subi c9_i32 v432
  let c1_i32_234 : BitVec 32 := 1#32
  let v435 : BitVec 32 := Scalar.divsi v433 c1_i32_234
  let v436 : BitVec 32 := Scalar.muli v435 c1_i32_234
  let v437 : BitVec 32 := Scalar.addi v432 v436
  let c1_i32_236 : BitVec 32 := 1#32
  let arg15 : BitVec 32 := Scf.iv v437 c1_i32_236 k0_t2
  let c256_i32_237 : BitVec 32 := 256#32
  let v438 : BitVec 32 := Scalar.muli arg15 c256_i32_237
  let v439 : BitVec 32 := v438
  let v502 : Index := Scalar.indexCast v439
  let c128_271 : Index := 128#32
  ![v502.toNat, 128]
def k0_off54 (i : grid0.Coords) (k0_t2 : Fin (k0_t2_loop i).trips) : Fin 4 → Nat :=
  let c0_274 : Index := 0#32
  let c1_275 : Index := 1#32
  let arg2 : BitVec 32 := BitVec.ofNat 32 (i 2).val
  let c1_i32 : BitVec 32 := 1#32
  let v432 : BitVec 32 := Scalar.addi arg2 c1_i32
  let c9_i32 : BitVec 32 := 9#32
  let v433 : BitVec 32 := Scalar.subi c9_i32 v432
  let c1_i32_234 : BitVec 32 := 1#32
  let v435 : BitVec 32 := Scalar.divsi v433 c1_i32_234
  let v436 : BitVec 32 := Scalar.muli v435 c1_i32_234
  let v437 : BitVec 32 := Scalar.addi v432 v436
  let c1_i32_236 : BitVec 32 := 1#32
  let arg15 : BitVec 32 := Scf.iv v437 c1_i32_236 k0_t2
  let v507 : Index := Scalar.indexCast arg15
  let c0_276 : Index := 0#32
  ![0, 1, v507.toNat, 0]
def k0_off55 (i : grid0.Coords) (k0_t2 : Fin (k0_t2_loop i).trips) : Fin 2 → Nat :=
  let arg2 : BitVec 32 := BitVec.ofNat 32 (i 2).val
  let c1_i32 : BitVec 32 := 1#32
  let v432 : BitVec 32 := Scalar.addi arg2 c1_i32
  let c9_i32 : BitVec 32 := 9#32
  let v433 : BitVec 32 := Scalar.subi c9_i32 v432
  let c1_i32_234 : BitVec 32 := 1#32
  let v435 : BitVec 32 := Scalar.divsi v433 c1_i32_234
  let v436 : BitVec 32 := Scalar.muli v435 c1_i32_234
  let v437 : BitVec 32 := Scalar.addi v432 v436
  let c1_i32_236 : BitVec 32 := 1#32
  let arg15 : BitVec 32 := Scf.iv v437 c1_i32_236 k0_t2
  let c256_i32_237 : BitVec 32 := 256#32
  let v438 : BitVec 32 := Scalar.muli arg15 c256_i32_237
  let v439 : BitVec 32 := v438
  let v548 : Index := Scalar.indexCast v439
  let c512_299 : Index := 512#32
  ![v548.toNat, 512]
def k0_off56 (i : grid0.Coords) (k0_t2 : Fin (k0_t2_loop i).trips) : Fin 2 → Nat :=
  let arg2 : BitVec 32 := BitVec.ofNat 32 (i 2).val
  let c1_i32 : BitVec 32 := 1#32
  let v432 : BitVec 32 := Scalar.addi arg2 c1_i32
  let c9_i32 : BitVec 32 := 9#32
  let v433 : BitVec 32 := Scalar.subi c9_i32 v432
  let c1_i32_234 : BitVec 32 := 1#32
  let v435 : BitVec 32 := Scalar.divsi v433 c1_i32_234
  let v436 : BitVec 32 := Scalar.muli v435 c1_i32_234
  let v437 : BitVec 32 := Scalar.addi v432 v436
  let c1_i32_236 : BitVec 32 := 1#32
  let arg15 : BitVec 32 := Scf.iv v437 c1_i32_236 k0_t2
  let c256_i32_237 : BitVec 32 := 256#32
  let v438 : BitVec 32 := Scalar.muli arg15 c256_i32_237
  let v439 : BitVec 32 := v438
  let v551 : Index := Scalar.indexCast v439
  let c256_300 : Index := 256#32
  ![v551.toNat, 256]
def k0_off57 (i : grid0.Coords) (k0_t2 : Fin (k0_t2_loop i).trips) : Fin 4 → Nat :=
  let c0_303 : Index := 0#32
  let c2_304 : Index := 2#32
  let arg2 : BitVec 32 := BitVec.ofNat 32 (i 2).val
  let c1_i32 : BitVec 32 := 1#32
  let v432 : BitVec 32 := Scalar.addi arg2 c1_i32
  let c9_i32 : BitVec 32 := 9#32
  let v433 : BitVec 32 := Scalar.subi c9_i32 v432
  let c1_i32_234 : BitVec 32 := 1#32
  let v435 : BitVec 32 := Scalar.divsi v433 c1_i32_234
  let v436 : BitVec 32 := Scalar.muli v435 c1_i32_234
  let v437 : BitVec 32 := Scalar.addi v432 v436
  let c1_i32_236 : BitVec 32 := 1#32
  let arg15 : BitVec 32 := Scf.iv v437 c1_i32_236 k0_t2
  let v556 : Index := Scalar.indexCast arg15
  let c0_305 : Index := 0#32
  ![0, 2, v556.toNat, 0]
def k0_off58 (i : grid0.Coords) (k0_t2 : Fin (k0_t2_loop i).trips) : Fin 2 → Nat :=
  let arg2 : BitVec 32 := BitVec.ofNat 32 (i 2).val
  let c1_i32 : BitVec 32 := 1#32
  let v432 : BitVec 32 := Scalar.addi arg2 c1_i32
  let c9_i32 : BitVec 32 := 9#32
  let v433 : BitVec 32 := Scalar.subi c9_i32 v432
  let c1_i32_234 : BitVec 32 := 1#32
  let v435 : BitVec 32 := Scalar.divsi v433 c1_i32_234
  let v436 : BitVec 32 := Scalar.muli v435 c1_i32_234
  let v437 : BitVec 32 := Scalar.addi v432 v436
  let c1_i32_236 : BitVec 32 := 1#32
  let arg15 : BitVec 32 := Scf.iv v437 c1_i32_236 k0_t2
  let c256_i32_237 : BitVec 32 := 256#32
  let v438 : BitVec 32 := Scalar.muli arg15 c256_i32_237
  let v439 : BitVec 32 := v438
  let v597 : Index := Scalar.indexCast v439
  let c768_328 : Index := 768#32
  ![v597.toNat, 768]
def k0_off59 (i : grid0.Coords) (k0_t2 : Fin (k0_t2_loop i).trips) : Fin 2 → Nat :=
  let arg2 : BitVec 32 := BitVec.ofNat 32 (i 2).val
  let c1_i32 : BitVec 32 := 1#32
  let v432 : BitVec 32 := Scalar.addi arg2 c1_i32
  let c9_i32 : BitVec 32 := 9#32
  let v433 : BitVec 32 := Scalar.subi c9_i32 v432
  let c1_i32_234 : BitVec 32 := 1#32
  let v435 : BitVec 32 := Scalar.divsi v433 c1_i32_234
  let v436 : BitVec 32 := Scalar.muli v435 c1_i32_234
  let v437 : BitVec 32 := Scalar.addi v432 v436
  let c1_i32_236 : BitVec 32 := 1#32
  let arg15 : BitVec 32 := Scf.iv v437 c1_i32_236 k0_t2
  let c256_i32_237 : BitVec 32 := 256#32
  let v438 : BitVec 32 := Scalar.muli arg15 c256_i32_237
  let v439 : BitVec 32 := v438
  let v600 : Index := Scalar.indexCast v439
  let c384_329 : Index := 384#32
  ![v600.toNat, 384]
def k0_off60 (i : grid0.Coords) (k0_t2 : Fin (k0_t2_loop i).trips) : Fin 4 → Nat :=
  let c0_332 : Index := 0#32
  let c3_333 : Index := 3#32
  let arg2 : BitVec 32 := BitVec.ofNat 32 (i 2).val
  let c1_i32 : BitVec 32 := 1#32
  let v432 : BitVec 32 := Scalar.addi arg2 c1_i32
  let c9_i32 : BitVec 32 := 9#32
  let v433 : BitVec 32 := Scalar.subi c9_i32 v432
  let c1_i32_234 : BitVec 32 := 1#32
  let v435 : BitVec 32 := Scalar.divsi v433 c1_i32_234
  let v436 : BitVec 32 := Scalar.muli v435 c1_i32_234
  let v437 : BitVec 32 := Scalar.addi v432 v436
  let c1_i32_236 : BitVec 32 := 1#32
  let arg15 : BitVec 32 := Scf.iv v437 c1_i32_236 k0_t2
  let v605 : Index := Scalar.indexCast arg15
  let c0_334 : Index := 0#32
  ![0, 3, v605.toNat, 0]
def k0_off61 (i : grid0.Coords) (k0_t2 : Fin (k0_t2_loop i).trips) : Fin 2 → Nat :=
  let arg2 : BitVec 32 := BitVec.ofNat 32 (i 2).val
  let c1_i32 : BitVec 32 := 1#32
  let v432 : BitVec 32 := Scalar.addi arg2 c1_i32
  let c9_i32 : BitVec 32 := 9#32
  let v433 : BitVec 32 := Scalar.subi c9_i32 v432
  let c1_i32_234 : BitVec 32 := 1#32
  let v435 : BitVec 32 := Scalar.divsi v433 c1_i32_234
  let v436 : BitVec 32 := Scalar.muli v435 c1_i32_234
  let v437 : BitVec 32 := Scalar.addi v432 v436
  let c1_i32_236 : BitVec 32 := 1#32
  let arg15 : BitVec 32 := Scf.iv v437 c1_i32_236 k0_t2
  let c256_i32_237 : BitVec 32 := 256#32
  let v438 : BitVec 32 := Scalar.muli arg15 c256_i32_237
  let v439 : BitVec 32 := v438
  let v646 : Index := Scalar.indexCast v439
  let c1024_357 : Index := 1024#32
  ![v646.toNat, 1024]
def k0_off62 (i : grid0.Coords) (k0_t2 : Fin (k0_t2_loop i).trips) : Fin 2 → Nat :=
  let arg2 : BitVec 32 := BitVec.ofNat 32 (i 2).val
  let c1_i32 : BitVec 32 := 1#32
  let v432 : BitVec 32 := Scalar.addi arg2 c1_i32
  let c9_i32 : BitVec 32 := 9#32
  let v433 : BitVec 32 := Scalar.subi c9_i32 v432
  let c1_i32_234 : BitVec 32 := 1#32
  let v435 : BitVec 32 := Scalar.divsi v433 c1_i32_234
  let v436 : BitVec 32 := Scalar.muli v435 c1_i32_234
  let v437 : BitVec 32 := Scalar.addi v432 v436
  let c1_i32_236 : BitVec 32 := 1#32
  let arg15 : BitVec 32 := Scf.iv v437 c1_i32_236 k0_t2
  let c256_i32_237 : BitVec 32 := 256#32
  let v438 : BitVec 32 := Scalar.muli arg15 c256_i32_237
  let v439 : BitVec 32 := v438
  let v649 : Index := Scalar.indexCast v439
  let c512_358 : Index := 512#32
  ![v649.toNat, 512]
def k0_off63 (i : grid0.Coords) (k0_t2 : Fin (k0_t2_loop i).trips) : Fin 4 → Nat :=
  let c0_361 : Index := 0#32
  let c4_362 : Index := 4#32
  let arg2 : BitVec 32 := BitVec.ofNat 32 (i 2).val
  let c1_i32 : BitVec 32 := 1#32
  let v432 : BitVec 32 := Scalar.addi arg2 c1_i32
  let c9_i32 : BitVec 32 := 9#32
  let v433 : BitVec 32 := Scalar.subi c9_i32 v432
  let c1_i32_234 : BitVec 32 := 1#32
  let v435 : BitVec 32 := Scalar.divsi v433 c1_i32_234
  let v436 : BitVec 32 := Scalar.muli v435 c1_i32_234
  let v437 : BitVec 32 := Scalar.addi v432 v436
  let c1_i32_236 : BitVec 32 := 1#32
  let arg15 : BitVec 32 := Scf.iv v437 c1_i32_236 k0_t2
  let v654 : Index := Scalar.indexCast arg15
  let c0_363 : Index := 0#32
  ![0, 4, v654.toNat, 0]
def k0_off64 (i : grid0.Coords) (k0_t2 : Fin (k0_t2_loop i).trips) : Fin 2 → Nat :=
  let arg2 : BitVec 32 := BitVec.ofNat 32 (i 2).val
  let c1_i32 : BitVec 32 := 1#32
  let v432 : BitVec 32 := Scalar.addi arg2 c1_i32
  let c9_i32 : BitVec 32 := 9#32
  let v433 : BitVec 32 := Scalar.subi c9_i32 v432
  let c1_i32_234 : BitVec 32 := 1#32
  let v435 : BitVec 32 := Scalar.divsi v433 c1_i32_234
  let v436 : BitVec 32 := Scalar.muli v435 c1_i32_234
  let v437 : BitVec 32 := Scalar.addi v432 v436
  let c1_i32_236 : BitVec 32 := 1#32
  let arg15 : BitVec 32 := Scf.iv v437 c1_i32_236 k0_t2
  let c256_i32_237 : BitVec 32 := 256#32
  let v438 : BitVec 32 := Scalar.muli arg15 c256_i32_237
  let v439 : BitVec 32 := v438
  let v695 : Index := Scalar.indexCast v439
  let c1280_386 : Index := 1280#32
  ![v695.toNat, 1280]
def k0_off65 (i : grid0.Coords) (k0_t2 : Fin (k0_t2_loop i).trips) : Fin 2 → Nat :=
  let arg2 : BitVec 32 := BitVec.ofNat 32 (i 2).val
  let c1_i32 : BitVec 32 := 1#32
  let v432 : BitVec 32 := Scalar.addi arg2 c1_i32
  let c9_i32 : BitVec 32 := 9#32
  let v433 : BitVec 32 := Scalar.subi c9_i32 v432
  let c1_i32_234 : BitVec 32 := 1#32
  let v435 : BitVec 32 := Scalar.divsi v433 c1_i32_234
  let v436 : BitVec 32 := Scalar.muli v435 c1_i32_234
  let v437 : BitVec 32 := Scalar.addi v432 v436
  let c1_i32_236 : BitVec 32 := 1#32
  let arg15 : BitVec 32 := Scf.iv v437 c1_i32_236 k0_t2
  let c256_i32_237 : BitVec 32 := 256#32
  let v438 : BitVec 32 := Scalar.muli arg15 c256_i32_237
  let v439 : BitVec 32 := v438
  let v698 : Index := Scalar.indexCast v439
  let c640_387 : Index := 640#32
  ![v698.toNat, 640]
def k0_off66 (i : grid0.Coords) (k0_t2 : Fin (k0_t2_loop i).trips) : Fin 4 → Nat :=
  let c0_390 : Index := 0#32
  let c5_391 : Index := 5#32
  let arg2 : BitVec 32 := BitVec.ofNat 32 (i 2).val
  let c1_i32 : BitVec 32 := 1#32
  let v432 : BitVec 32 := Scalar.addi arg2 c1_i32
  let c9_i32 : BitVec 32 := 9#32
  let v433 : BitVec 32 := Scalar.subi c9_i32 v432
  let c1_i32_234 : BitVec 32 := 1#32
  let v435 : BitVec 32 := Scalar.divsi v433 c1_i32_234
  let v436 : BitVec 32 := Scalar.muli v435 c1_i32_234
  let v437 : BitVec 32 := Scalar.addi v432 v436
  let c1_i32_236 : BitVec 32 := 1#32
  let arg15 : BitVec 32 := Scf.iv v437 c1_i32_236 k0_t2
  let v703 : Index := Scalar.indexCast arg15
  let c0_392 : Index := 0#32
  ![0, 5, v703.toNat, 0]
def k0_off67 (i : grid0.Coords) (k0_t2 : Fin (k0_t2_loop i).trips) : Fin 2 → Nat :=
  let arg2 : BitVec 32 := BitVec.ofNat 32 (i 2).val
  let c1_i32 : BitVec 32 := 1#32
  let v432 : BitVec 32 := Scalar.addi arg2 c1_i32
  let c9_i32 : BitVec 32 := 9#32
  let v433 : BitVec 32 := Scalar.subi c9_i32 v432
  let c1_i32_234 : BitVec 32 := 1#32
  let v435 : BitVec 32 := Scalar.divsi v433 c1_i32_234
  let v436 : BitVec 32 := Scalar.muli v435 c1_i32_234
  let v437 : BitVec 32 := Scalar.addi v432 v436
  let c1_i32_236 : BitVec 32 := 1#32
  let arg15 : BitVec 32 := Scf.iv v437 c1_i32_236 k0_t2
  let c256_i32_237 : BitVec 32 := 256#32
  let v438 : BitVec 32 := Scalar.muli arg15 c256_i32_237
  let v439 : BitVec 32 := v438
  let v744 : Index := Scalar.indexCast v439
  let c1536_415 : Index := 1536#32
  ![v744.toNat, 1536]
def k0_off68 (i : grid0.Coords) (k0_t2 : Fin (k0_t2_loop i).trips) : Fin 2 → Nat :=
  let arg2 : BitVec 32 := BitVec.ofNat 32 (i 2).val
  let c1_i32 : BitVec 32 := 1#32
  let v432 : BitVec 32 := Scalar.addi arg2 c1_i32
  let c9_i32 : BitVec 32 := 9#32
  let v433 : BitVec 32 := Scalar.subi c9_i32 v432
  let c1_i32_234 : BitVec 32 := 1#32
  let v435 : BitVec 32 := Scalar.divsi v433 c1_i32_234
  let v436 : BitVec 32 := Scalar.muli v435 c1_i32_234
  let v437 : BitVec 32 := Scalar.addi v432 v436
  let c1_i32_236 : BitVec 32 := 1#32
  let arg15 : BitVec 32 := Scf.iv v437 c1_i32_236 k0_t2
  let c256_i32_237 : BitVec 32 := 256#32
  let v438 : BitVec 32 := Scalar.muli arg15 c256_i32_237
  let v439 : BitVec 32 := v438
  let v747 : Index := Scalar.indexCast v439
  let c768_416 : Index := 768#32
  ![v747.toNat, 768]
def k0_off69 (i : grid0.Coords) (k0_t2 : Fin (k0_t2_loop i).trips) : Fin 4 → Nat :=
  let c0_419 : Index := 0#32
  let c6_420 : Index := 6#32
  let arg2 : BitVec 32 := BitVec.ofNat 32 (i 2).val
  let c1_i32 : BitVec 32 := 1#32
  let v432 : BitVec 32 := Scalar.addi arg2 c1_i32
  let c9_i32 : BitVec 32 := 9#32
  let v433 : BitVec 32 := Scalar.subi c9_i32 v432
  let c1_i32_234 : BitVec 32 := 1#32
  let v435 : BitVec 32 := Scalar.divsi v433 c1_i32_234
  let v436 : BitVec 32 := Scalar.muli v435 c1_i32_234
  let v437 : BitVec 32 := Scalar.addi v432 v436
  let c1_i32_236 : BitVec 32 := 1#32
  let arg15 : BitVec 32 := Scf.iv v437 c1_i32_236 k0_t2
  let v752 : Index := Scalar.indexCast arg15
  let c0_421 : Index := 0#32
  ![0, 6, v752.toNat, 0]
def k0_off70 (i : grid0.Coords) (k0_t2 : Fin (k0_t2_loop i).trips) : Fin 2 → Nat :=
  let arg2 : BitVec 32 := BitVec.ofNat 32 (i 2).val
  let c1_i32 : BitVec 32 := 1#32
  let v432 : BitVec 32 := Scalar.addi arg2 c1_i32
  let c9_i32 : BitVec 32 := 9#32
  let v433 : BitVec 32 := Scalar.subi c9_i32 v432
  let c1_i32_234 : BitVec 32 := 1#32
  let v435 : BitVec 32 := Scalar.divsi v433 c1_i32_234
  let v436 : BitVec 32 := Scalar.muli v435 c1_i32_234
  let v437 : BitVec 32 := Scalar.addi v432 v436
  let c1_i32_236 : BitVec 32 := 1#32
  let arg15 : BitVec 32 := Scf.iv v437 c1_i32_236 k0_t2
  let c256_i32_237 : BitVec 32 := 256#32
  let v438 : BitVec 32 := Scalar.muli arg15 c256_i32_237
  let v439 : BitVec 32 := v438
  let v793 : Index := Scalar.indexCast v439
  let c1792_444 : Index := 1792#32
  ![v793.toNat, 1792]
def k0_off71 (i : grid0.Coords) (k0_t2 : Fin (k0_t2_loop i).trips) : Fin 2 → Nat :=
  let arg2 : BitVec 32 := BitVec.ofNat 32 (i 2).val
  let c1_i32 : BitVec 32 := 1#32
  let v432 : BitVec 32 := Scalar.addi arg2 c1_i32
  let c9_i32 : BitVec 32 := 9#32
  let v433 : BitVec 32 := Scalar.subi c9_i32 v432
  let c1_i32_234 : BitVec 32 := 1#32
  let v435 : BitVec 32 := Scalar.divsi v433 c1_i32_234
  let v436 : BitVec 32 := Scalar.muli v435 c1_i32_234
  let v437 : BitVec 32 := Scalar.addi v432 v436
  let c1_i32_236 : BitVec 32 := 1#32
  let arg15 : BitVec 32 := Scf.iv v437 c1_i32_236 k0_t2
  let c256_i32_237 : BitVec 32 := 256#32
  let v438 : BitVec 32 := Scalar.muli arg15 c256_i32_237
  let v439 : BitVec 32 := v438
  let v796 : Index := Scalar.indexCast v439
  let c896_445 : Index := 896#32
  ![v796.toNat, 896]
def k0_off72 (i : grid0.Coords) (k0_t2 : Fin (k0_t2_loop i).trips) : Fin 4 → Nat :=
  let c0_448 : Index := 0#32
  let c7_449 : Index := 7#32
  let arg2 : BitVec 32 := BitVec.ofNat 32 (i 2).val
  let c1_i32 : BitVec 32 := 1#32
  let v432 : BitVec 32 := Scalar.addi arg2 c1_i32
  let c9_i32 : BitVec 32 := 9#32
  let v433 : BitVec 32 := Scalar.subi c9_i32 v432
  let c1_i32_234 : BitVec 32 := 1#32
  let v435 : BitVec 32 := Scalar.divsi v433 c1_i32_234
  let v436 : BitVec 32 := Scalar.muli v435 c1_i32_234
  let v437 : BitVec 32 := Scalar.addi v432 v436
  let c1_i32_236 : BitVec 32 := 1#32
  let arg15 : BitVec 32 := Scf.iv v437 c1_i32_236 k0_t2
  let v801 : Index := Scalar.indexCast arg15
  let c0_450 : Index := 0#32
  ![0, 7, v801.toNat, 0]
def k0_cond2 (i : grid0.Coords) : BitVec 1 :=
  let arg2 : BitVec 32 := BitVec.ofNat 32 (i 2).val
  let c0_i32_5 : BitVec 32 := 0#32
  let v16 : BitVec 1 := Scalar.cmpi .sgt arg2 c0_i32_5
  let v17 : BitVec 32 := Scalar.extui v16
  let c0_i32_6 : BitVec 32 := 0#32
  let v18 : BitVec 1 := Scalar.cmpi .ne v17 c0_i32_6
  v18

def k0_mult4 (i : grid0.Coords) : BitVec 32 :=
  let arg2 : BitVec 32 := BitVec.ofNat 32 (i 2).val
  let c256_i32_16 : BitVec 32 := 256#32
  let v28 : BitVec 32 := Scalar.muli arg2 c256_i32_16
  v28
def k0_off73 (i : grid0.Coords) : Fin 2 → Nat :=
  let arg2 : BitVec 32 := BitVec.ofNat 32 (i 2).val
  let c256_i32_16 : BitVec 32 := 256#32
  let v28 : BitVec 32 := Scalar.muli arg2 c256_i32_16
  let v29 : BitVec 32 := v28
  let v40 : Index := Scalar.indexCast v29
  let c0_19 : Index := 0#32
  ![v40.toNat, 0]
def k0_off74 (i : grid0.Coords) : Fin 2 → Nat :=
  let arg2 : BitVec 32 := BitVec.ofNat 32 (i 2).val
  let c256_i32_16 : BitVec 32 := 256#32
  let v28 : BitVec 32 := Scalar.muli arg2 c256_i32_16
  let v29 : BitVec 32 := v28
  let v43 : Index := Scalar.indexCast v29
  let c0_20 : Index := 0#32
  ![v43.toNat, 0]
def k0_off75 (i : grid0.Coords) : Fin 4 → Nat :=
  let c0_23 : Index := 0#32
  let c0_24 : Index := 0#32
  let arg2 : BitVec 32 := BitVec.ofNat 32 (i 2).val
  let v48 : Index := Scalar.indexCast arg2
  let c0_25 : Index := 0#32
  ![0, 0, v48.toNat, 0]
def k0_off76 (i : grid0.Coords) : Fin 2 → Nat :=
  let arg2 : BitVec 32 := BitVec.ofNat 32 (i 2).val
  let c256_i32_16 : BitVec 32 := 256#32
  let v28 : BitVec 32 := Scalar.muli arg2 c256_i32_16
  let v29 : BitVec 32 := v28
  let v92 : Index := Scalar.indexCast v29
  let c256 : Index := 256#32
  ![v92.toNat, 256]
def k0_off77 (i : grid0.Coords) : Fin 2 → Nat :=
  let arg2 : BitVec 32 := BitVec.ofNat 32 (i 2).val
  let c256_i32_16 : BitVec 32 := 256#32
  let v28 : BitVec 32 := Scalar.muli arg2 c256_i32_16
  let v29 : BitVec 32 := v28
  let v95 : Index := Scalar.indexCast v29
  let c128 : Index := 128#32
  ![v95.toNat, 128]
def k0_off78 (i : grid0.Coords) : Fin 4 → Nat :=
  let c0_51 : Index := 0#32
  let c1 : Index := 1#32
  let arg2 : BitVec 32 := BitVec.ofNat 32 (i 2).val
  let v100 : Index := Scalar.indexCast arg2
  let c0_52 : Index := 0#32
  ![0, 1, v100.toNat, 0]
def k0_off79 (i : grid0.Coords) : Fin 2 → Nat :=
  let arg2 : BitVec 32 := BitVec.ofNat 32 (i 2).val
  let c256_i32_16 : BitVec 32 := 256#32
  let v28 : BitVec 32 := Scalar.muli arg2 c256_i32_16
  let v29 : BitVec 32 := v28
  let v144 : Index := Scalar.indexCast v29
  let c512 : Index := 512#32
  ![v144.toNat, 512]
def k0_off80 (i : grid0.Coords) : Fin 2 → Nat :=
  let arg2 : BitVec 32 := BitVec.ofNat 32 (i 2).val
  let c256_i32_16 : BitVec 32 := 256#32
  let v28 : BitVec 32 := Scalar.muli arg2 c256_i32_16
  let v29 : BitVec 32 := v28
  let v147 : Index := Scalar.indexCast v29
  let c256_76 : Index := 256#32
  ![v147.toNat, 256]
def k0_off81 (i : grid0.Coords) : Fin 4 → Nat :=
  let c0_79 : Index := 0#32
  let c2 : Index := 2#32
  let arg2 : BitVec 32 := BitVec.ofNat 32 (i 2).val
  let v152 : Index := Scalar.indexCast arg2
  let c0_80 : Index := 0#32
  ![0, 2, v152.toNat, 0]
def k0_off82 (i : grid0.Coords) : Fin 2 → Nat :=
  let arg2 : BitVec 32 := BitVec.ofNat 32 (i 2).val
  let c256_i32_16 : BitVec 32 := 256#32
  let v28 : BitVec 32 := Scalar.muli arg2 c256_i32_16
  let v29 : BitVec 32 := v28
  let v196 : Index := Scalar.indexCast v29
  let c768 : Index := 768#32
  ![v196.toNat, 768]
def k0_off83 (i : grid0.Coords) : Fin 2 → Nat :=
  let arg2 : BitVec 32 := BitVec.ofNat 32 (i 2).val
  let c256_i32_16 : BitVec 32 := 256#32
  let v28 : BitVec 32 := Scalar.muli arg2 c256_i32_16
  let v29 : BitVec 32 := v28
  let v199 : Index := Scalar.indexCast v29
  let c384 : Index := 384#32
  ![v199.toNat, 384]
def k0_off84 (i : grid0.Coords) : Fin 4 → Nat :=
  let c0_106 : Index := 0#32
  let c3 : Index := 3#32
  let arg2 : BitVec 32 := BitVec.ofNat 32 (i 2).val
  let v204 : Index := Scalar.indexCast arg2
  let c0_107 : Index := 0#32
  ![0, 3, v204.toNat, 0]
def k0_off85 (i : grid0.Coords) : Fin 2 → Nat :=
  let arg2 : BitVec 32 := BitVec.ofNat 32 (i 2).val
  let c256_i32_16 : BitVec 32 := 256#32
  let v28 : BitVec 32 := Scalar.muli arg2 c256_i32_16
  let v29 : BitVec 32 := v28
  let v248 : Index := Scalar.indexCast v29
  let c1024 : Index := 1024#32
  ![v248.toNat, 1024]
def k0_off86 (i : grid0.Coords) : Fin 2 → Nat :=
  let arg2 : BitVec 32 := BitVec.ofNat 32 (i 2).val
  let c256_i32_16 : BitVec 32 := 256#32
  let v28 : BitVec 32 := Scalar.muli arg2 c256_i32_16
  let v29 : BitVec 32 := v28
  let v251 : Index := Scalar.indexCast v29
  let c512_131 : Index := 512#32
  ![v251.toNat, 512]
def k0_off87 (i : grid0.Coords) : Fin 4 → Nat :=
  let c0_134 : Index := 0#32
  let c4 : Index := 4#32
  let arg2 : BitVec 32 := BitVec.ofNat 32 (i 2).val
  let v256 : Index := Scalar.indexCast arg2
  let c0_135 : Index := 0#32
  ![0, 4, v256.toNat, 0]
def k0_off88 (i : grid0.Coords) : Fin 2 → Nat :=
  let arg2 : BitVec 32 := BitVec.ofNat 32 (i 2).val
  let c256_i32_16 : BitVec 32 := 256#32
  let v28 : BitVec 32 := Scalar.muli arg2 c256_i32_16
  let v29 : BitVec 32 := v28
  let v300 : Index := Scalar.indexCast v29
  let c1280 : Index := 1280#32
  ![v300.toNat, 1280]
def k0_off89 (i : grid0.Coords) : Fin 2 → Nat :=
  let arg2 : BitVec 32 := BitVec.ofNat 32 (i 2).val
  let c256_i32_16 : BitVec 32 := 256#32
  let v28 : BitVec 32 := Scalar.muli arg2 c256_i32_16
  let v29 : BitVec 32 := v28
  let v303 : Index := Scalar.indexCast v29
  let c640 : Index := 640#32
  ![v303.toNat, 640]
def k0_off90 (i : grid0.Coords) : Fin 4 → Nat :=
  let c0_161 : Index := 0#32
  let c5 : Index := 5#32
  let arg2 : BitVec 32 := BitVec.ofNat 32 (i 2).val
  let v308 : Index := Scalar.indexCast arg2
  let c0_162 : Index := 0#32
  ![0, 5, v308.toNat, 0]
def k0_off91 (i : grid0.Coords) : Fin 2 → Nat :=
  let arg2 : BitVec 32 := BitVec.ofNat 32 (i 2).val
  let c256_i32_16 : BitVec 32 := 256#32
  let v28 : BitVec 32 := Scalar.muli arg2 c256_i32_16
  let v29 : BitVec 32 := v28
  let v352 : Index := Scalar.indexCast v29
  let c1536 : Index := 1536#32
  ![v352.toNat, 1536]
def k0_off92 (i : grid0.Coords) : Fin 2 → Nat :=
  let arg2 : BitVec 32 := BitVec.ofNat 32 (i 2).val
  let c256_i32_16 : BitVec 32 := 256#32
  let v28 : BitVec 32 := Scalar.muli arg2 c256_i32_16
  let v29 : BitVec 32 := v28
  let v355 : Index := Scalar.indexCast v29
  let c768_186 : Index := 768#32
  ![v355.toNat, 768]
def k0_off93 (i : grid0.Coords) : Fin 4 → Nat :=
  let c0_189 : Index := 0#32
  let c6 : Index := 6#32
  let arg2 : BitVec 32 := BitVec.ofNat 32 (i 2).val
  let v360 : Index := Scalar.indexCast arg2
  let c0_190 : Index := 0#32
  ![0, 6, v360.toNat, 0]
def k0_off94 (i : grid0.Coords) : Fin 2 → Nat :=
  let arg2 : BitVec 32 := BitVec.ofNat 32 (i 2).val
  let c256_i32_16 : BitVec 32 := 256#32
  let v28 : BitVec 32 := Scalar.muli arg2 c256_i32_16
  let v29 : BitVec 32 := v28
  let v404 : Index := Scalar.indexCast v29
  let c1792 : Index := 1792#32
  ![v404.toNat, 1792]
def k0_off95 (i : grid0.Coords) : Fin 2 → Nat :=
  let arg2 : BitVec 32 := BitVec.ofNat 32 (i 2).val
  let c256_i32_16 : BitVec 32 := 256#32
  let v28 : BitVec 32 := Scalar.muli arg2 c256_i32_16
  let v29 : BitVec 32 := v28
  let v407 : Index := Scalar.indexCast v29
  let c896 : Index := 896#32
  ![v407.toNat, 896]
def k0_off96 (i : grid0.Coords) : Fin 4 → Nat :=
  let c0_216 : Index := 0#32
  let c7 : Index := 7#32
  let arg2 : BitVec 32 := BitVec.ofNat 32 (i 2).val
  let v412 : Index := Scalar.indexCast arg2
  let c0_217 : Index := 0#32
  ![0, 7, v412.toNat, 0]
@[reducible] def k0_t3_loop (i : grid0.Coords) : Scf.Loop 32 :=
  let arg2 : BitVec 32 := BitVec.ofNat 32 (i 2).val
  let c1_i32 : BitVec 32 := 1#32
  let v456 : BitVec 32 := Scalar.addi arg2 c1_i32
  let c9_i32 : BitVec 32 := 9#32
  let v457 : BitVec 32 := Scalar.subi c9_i32 v456
  let c1_i32_242 : BitVec 32 := 1#32
  let v459 : BitVec 32 := Scalar.divsi v457 c1_i32_242
  let v460 : BitVec 32 := Scalar.muli v459 c1_i32_242
  let v461 : BitVec 32 := Scalar.addi v456 v460
  let c1_i32_243 : BitVec 32 := 1#32
  ⟨v456, v461, c1_i32_243⟩
def k0_mult5 (i : grid0.Coords) (k0_t3 : Fin (k0_t3_loop i).trips) : BitVec 32 :=
  let arg2 : BitVec 32 := BitVec.ofNat 32 (i 2).val
  let c1_i32 : BitVec 32 := 1#32
  let v456 : BitVec 32 := Scalar.addi arg2 c1_i32
  let c1_i32_243 : BitVec 32 := 1#32
  let arg15 : BitVec 32 := Scf.iv v456 c1_i32_243 k0_t3
  let c256_i32_245 : BitVec 32 := 256#32
  let v462 : BitVec 32 := Scalar.muli arg15 c256_i32_245
  v462
def k0_off97 (i : grid0.Coords) (k0_t3 : Fin (k0_t3_loop i).trips) : Fin 2 → Nat :=
  let arg2 : BitVec 32 := BitVec.ofNat 32 (i 2).val
  let c1_i32 : BitVec 32 := 1#32
  let v456 : BitVec 32 := Scalar.addi arg2 c1_i32
  let c1_i32_243 : BitVec 32 := 1#32
  let arg15 : BitVec 32 := Scf.iv v456 c1_i32_243 k0_t3
  let c256_i32_245 : BitVec 32 := 256#32
  let v462 : BitVec 32 := Scalar.muli arg15 c256_i32_245
  let v463 : BitVec 32 := v462
  let v464 : Index := Scalar.indexCast v463
  let c0_246 : Index := 0#32
  ![v464.toNat, 0]
def k0_off98 (i : grid0.Coords) (k0_t3 : Fin (k0_t3_loop i).trips) : Fin 2 → Nat :=
  let arg2 : BitVec 32 := BitVec.ofNat 32 (i 2).val
  let c1_i32 : BitVec 32 := 1#32
  let v456 : BitVec 32 := Scalar.addi arg2 c1_i32
  let c1_i32_243 : BitVec 32 := 1#32
  let arg15 : BitVec 32 := Scf.iv v456 c1_i32_243 k0_t3
  let c256_i32_245 : BitVec 32 := 256#32
  let v462 : BitVec 32 := Scalar.muli arg15 c256_i32_245
  let v463 : BitVec 32 := v462
  let v467 : Index := Scalar.indexCast v463
  let c0_247 : Index := 0#32
  ![v467.toNat, 0]
def k0_off99 (i : grid0.Coords) (k0_t3 : Fin (k0_t3_loop i).trips) : Fin 4 → Nat :=
  let c0_250 : Index := 0#32
  let c0_251 : Index := 0#32
  let arg2 : BitVec 32 := BitVec.ofNat 32 (i 2).val
  let c1_i32 : BitVec 32 := 1#32
  let v456 : BitVec 32 := Scalar.addi arg2 c1_i32
  let c1_i32_243 : BitVec 32 := 1#32
  let arg15 : BitVec 32 := Scf.iv v456 c1_i32_243 k0_t3
  let v472 : Index := Scalar.indexCast arg15
  let c0_252 : Index := 0#32
  ![0, 0, v472.toNat, 0]
def k0_off100 (i : grid0.Coords) (k0_t3 : Fin (k0_t3_loop i).trips) : Fin 2 → Nat :=
  let arg2 : BitVec 32 := BitVec.ofNat 32 (i 2).val
  let c1_i32 : BitVec 32 := 1#32
  let v456 : BitVec 32 := Scalar.addi arg2 c1_i32
  let c1_i32_243 : BitVec 32 := 1#32
  let arg15 : BitVec 32 := Scf.iv v456 c1_i32_243 k0_t3
  let c256_i32_245 : BitVec 32 := 256#32
  let v462 : BitVec 32 := Scalar.muli arg15 c256_i32_245
  let v463 : BitVec 32 := v462
  let v514 : Index := Scalar.indexCast v463
  let c256_275 : Index := 256#32
  ![v514.toNat, 256]
def k0_off101 (i : grid0.Coords) (k0_t3 : Fin (k0_t3_loop i).trips) : Fin 2 → Nat :=
  let arg2 : BitVec 32 := BitVec.ofNat 32 (i 2).val
  let c1_i32 : BitVec 32 := 1#32
  let v456 : BitVec 32 := Scalar.addi arg2 c1_i32
  let c1_i32_243 : BitVec 32 := 1#32
  let arg15 : BitVec 32 := Scf.iv v456 c1_i32_243 k0_t3
  let c256_i32_245 : BitVec 32 := 256#32
  let v462 : BitVec 32 := Scalar.muli arg15 c256_i32_245
  let v463 : BitVec 32 := v462
  let v517 : Index := Scalar.indexCast v463
  let c128_276 : Index := 128#32
  ![v517.toNat, 128]
def k0_off102 (i : grid0.Coords) (k0_t3 : Fin (k0_t3_loop i).trips) : Fin 4 → Nat :=
  let c0_279 : Index := 0#32
  let c1_280 : Index := 1#32
  let arg2 : BitVec 32 := BitVec.ofNat 32 (i 2).val
  let c1_i32 : BitVec 32 := 1#32
  let v456 : BitVec 32 := Scalar.addi arg2 c1_i32
  let c1_i32_243 : BitVec 32 := 1#32
  let arg15 : BitVec 32 := Scf.iv v456 c1_i32_243 k0_t3
  let v522 : Index := Scalar.indexCast arg15
  let c0_281 : Index := 0#32
  ![0, 1, v522.toNat, 0]
def k0_off103 (i : grid0.Coords) (k0_t3 : Fin (k0_t3_loop i).trips) : Fin 2 → Nat :=
  let arg2 : BitVec 32 := BitVec.ofNat 32 (i 2).val
  let c1_i32 : BitVec 32 := 1#32
  let v456 : BitVec 32 := Scalar.addi arg2 c1_i32
  let c1_i32_243 : BitVec 32 := 1#32
  let arg15 : BitVec 32 := Scf.iv v456 c1_i32_243 k0_t3
  let c256_i32_245 : BitVec 32 := 256#32
  let v462 : BitVec 32 := Scalar.muli arg15 c256_i32_245
  let v463 : BitVec 32 := v462
  let v564 : Index := Scalar.indexCast v463
  let c512_304 : Index := 512#32
  ![v564.toNat, 512]
def k0_off104 (i : grid0.Coords) (k0_t3 : Fin (k0_t3_loop i).trips) : Fin 2 → Nat :=
  let arg2 : BitVec 32 := BitVec.ofNat 32 (i 2).val
  let c1_i32 : BitVec 32 := 1#32
  let v456 : BitVec 32 := Scalar.addi arg2 c1_i32
  let c1_i32_243 : BitVec 32 := 1#32
  let arg15 : BitVec 32 := Scf.iv v456 c1_i32_243 k0_t3
  let c256_i32_245 : BitVec 32 := 256#32
  let v462 : BitVec 32 := Scalar.muli arg15 c256_i32_245
  let v463 : BitVec 32 := v462
  let v567 : Index := Scalar.indexCast v463
  let c256_305 : Index := 256#32
  ![v567.toNat, 256]
def k0_off105 (i : grid0.Coords) (k0_t3 : Fin (k0_t3_loop i).trips) : Fin 4 → Nat :=
  let c0_308 : Index := 0#32
  let c2_309 : Index := 2#32
  let arg2 : BitVec 32 := BitVec.ofNat 32 (i 2).val
  let c1_i32 : BitVec 32 := 1#32
  let v456 : BitVec 32 := Scalar.addi arg2 c1_i32
  let c1_i32_243 : BitVec 32 := 1#32
  let arg15 : BitVec 32 := Scf.iv v456 c1_i32_243 k0_t3
  let v572 : Index := Scalar.indexCast arg15
  let c0_310 : Index := 0#32
  ![0, 2, v572.toNat, 0]
def k0_off106 (i : grid0.Coords) (k0_t3 : Fin (k0_t3_loop i).trips) : Fin 2 → Nat :=
  let arg2 : BitVec 32 := BitVec.ofNat 32 (i 2).val
  let c1_i32 : BitVec 32 := 1#32
  let v456 : BitVec 32 := Scalar.addi arg2 c1_i32
  let c1_i32_243 : BitVec 32 := 1#32
  let arg15 : BitVec 32 := Scf.iv v456 c1_i32_243 k0_t3
  let c256_i32_245 : BitVec 32 := 256#32
  let v462 : BitVec 32 := Scalar.muli arg15 c256_i32_245
  let v463 : BitVec 32 := v462
  let v614 : Index := Scalar.indexCast v463
  let c768_333 : Index := 768#32
  ![v614.toNat, 768]
def k0_off107 (i : grid0.Coords) (k0_t3 : Fin (k0_t3_loop i).trips) : Fin 2 → Nat :=
  let arg2 : BitVec 32 := BitVec.ofNat 32 (i 2).val
  let c1_i32 : BitVec 32 := 1#32
  let v456 : BitVec 32 := Scalar.addi arg2 c1_i32
  let c1_i32_243 : BitVec 32 := 1#32
  let arg15 : BitVec 32 := Scf.iv v456 c1_i32_243 k0_t3
  let c256_i32_245 : BitVec 32 := 256#32
  let v462 : BitVec 32 := Scalar.muli arg15 c256_i32_245
  let v463 : BitVec 32 := v462
  let v617 : Index := Scalar.indexCast v463
  let c384_334 : Index := 384#32
  ![v617.toNat, 384]
def k0_off108 (i : grid0.Coords) (k0_t3 : Fin (k0_t3_loop i).trips) : Fin 4 → Nat :=
  let c0_337 : Index := 0#32
  let c3_338 : Index := 3#32
  let arg2 : BitVec 32 := BitVec.ofNat 32 (i 2).val
  let c1_i32 : BitVec 32 := 1#32
  let v456 : BitVec 32 := Scalar.addi arg2 c1_i32
  let c1_i32_243 : BitVec 32 := 1#32
  let arg15 : BitVec 32 := Scf.iv v456 c1_i32_243 k0_t3
  let v622 : Index := Scalar.indexCast arg15
  let c0_339 : Index := 0#32
  ![0, 3, v622.toNat, 0]
def k0_off109 (i : grid0.Coords) (k0_t3 : Fin (k0_t3_loop i).trips) : Fin 2 → Nat :=
  let arg2 : BitVec 32 := BitVec.ofNat 32 (i 2).val
  let c1_i32 : BitVec 32 := 1#32
  let v456 : BitVec 32 := Scalar.addi arg2 c1_i32
  let c1_i32_243 : BitVec 32 := 1#32
  let arg15 : BitVec 32 := Scf.iv v456 c1_i32_243 k0_t3
  let c256_i32_245 : BitVec 32 := 256#32
  let v462 : BitVec 32 := Scalar.muli arg15 c256_i32_245
  let v463 : BitVec 32 := v462
  let v664 : Index := Scalar.indexCast v463
  let c1024_362 : Index := 1024#32
  ![v664.toNat, 1024]
def k0_off110 (i : grid0.Coords) (k0_t3 : Fin (k0_t3_loop i).trips) : Fin 2 → Nat :=
  let arg2 : BitVec 32 := BitVec.ofNat 32 (i 2).val
  let c1_i32 : BitVec 32 := 1#32
  let v456 : BitVec 32 := Scalar.addi arg2 c1_i32
  let c1_i32_243 : BitVec 32 := 1#32
  let arg15 : BitVec 32 := Scf.iv v456 c1_i32_243 k0_t3
  let c256_i32_245 : BitVec 32 := 256#32
  let v462 : BitVec 32 := Scalar.muli arg15 c256_i32_245
  let v463 : BitVec 32 := v462
  let v667 : Index := Scalar.indexCast v463
  let c512_363 : Index := 512#32
  ![v667.toNat, 512]
def k0_off111 (i : grid0.Coords) (k0_t3 : Fin (k0_t3_loop i).trips) : Fin 4 → Nat :=
  let c0_366 : Index := 0#32
  let c4_367 : Index := 4#32
  let arg2 : BitVec 32 := BitVec.ofNat 32 (i 2).val
  let c1_i32 : BitVec 32 := 1#32
  let v456 : BitVec 32 := Scalar.addi arg2 c1_i32
  let c1_i32_243 : BitVec 32 := 1#32
  let arg15 : BitVec 32 := Scf.iv v456 c1_i32_243 k0_t3
  let v672 : Index := Scalar.indexCast arg15
  let c0_368 : Index := 0#32
  ![0, 4, v672.toNat, 0]
def k0_off112 (i : grid0.Coords) (k0_t3 : Fin (k0_t3_loop i).trips) : Fin 2 → Nat :=
  let arg2 : BitVec 32 := BitVec.ofNat 32 (i 2).val
  let c1_i32 : BitVec 32 := 1#32
  let v456 : BitVec 32 := Scalar.addi arg2 c1_i32
  let c1_i32_243 : BitVec 32 := 1#32
  let arg15 : BitVec 32 := Scf.iv v456 c1_i32_243 k0_t3
  let c256_i32_245 : BitVec 32 := 256#32
  let v462 : BitVec 32 := Scalar.muli arg15 c256_i32_245
  let v463 : BitVec 32 := v462
  let v714 : Index := Scalar.indexCast v463
  let c1280_391 : Index := 1280#32
  ![v714.toNat, 1280]
def k0_off113 (i : grid0.Coords) (k0_t3 : Fin (k0_t3_loop i).trips) : Fin 2 → Nat :=
  let arg2 : BitVec 32 := BitVec.ofNat 32 (i 2).val
  let c1_i32 : BitVec 32 := 1#32
  let v456 : BitVec 32 := Scalar.addi arg2 c1_i32
  let c1_i32_243 : BitVec 32 := 1#32
  let arg15 : BitVec 32 := Scf.iv v456 c1_i32_243 k0_t3
  let c256_i32_245 : BitVec 32 := 256#32
  let v462 : BitVec 32 := Scalar.muli arg15 c256_i32_245
  let v463 : BitVec 32 := v462
  let v717 : Index := Scalar.indexCast v463
  let c640_392 : Index := 640#32
  ![v717.toNat, 640]
def k0_off114 (i : grid0.Coords) (k0_t3 : Fin (k0_t3_loop i).trips) : Fin 4 → Nat :=
  let c0_395 : Index := 0#32
  let c5_396 : Index := 5#32
  let arg2 : BitVec 32 := BitVec.ofNat 32 (i 2).val
  let c1_i32 : BitVec 32 := 1#32
  let v456 : BitVec 32 := Scalar.addi arg2 c1_i32
  let c1_i32_243 : BitVec 32 := 1#32
  let arg15 : BitVec 32 := Scf.iv v456 c1_i32_243 k0_t3
  let v722 : Index := Scalar.indexCast arg15
  let c0_397 : Index := 0#32
  ![0, 5, v722.toNat, 0]
def k0_off115 (i : grid0.Coords) (k0_t3 : Fin (k0_t3_loop i).trips) : Fin 2 → Nat :=
  let arg2 : BitVec 32 := BitVec.ofNat 32 (i 2).val
  let c1_i32 : BitVec 32 := 1#32
  let v456 : BitVec 32 := Scalar.addi arg2 c1_i32
  let c1_i32_243 : BitVec 32 := 1#32
  let arg15 : BitVec 32 := Scf.iv v456 c1_i32_243 k0_t3
  let c256_i32_245 : BitVec 32 := 256#32
  let v462 : BitVec 32 := Scalar.muli arg15 c256_i32_245
  let v463 : BitVec 32 := v462
  let v764 : Index := Scalar.indexCast v463
  let c1536_420 : Index := 1536#32
  ![v764.toNat, 1536]
def k0_off116 (i : grid0.Coords) (k0_t3 : Fin (k0_t3_loop i).trips) : Fin 2 → Nat :=
  let arg2 : BitVec 32 := BitVec.ofNat 32 (i 2).val
  let c1_i32 : BitVec 32 := 1#32
  let v456 : BitVec 32 := Scalar.addi arg2 c1_i32
  let c1_i32_243 : BitVec 32 := 1#32
  let arg15 : BitVec 32 := Scf.iv v456 c1_i32_243 k0_t3
  let c256_i32_245 : BitVec 32 := 256#32
  let v462 : BitVec 32 := Scalar.muli arg15 c256_i32_245
  let v463 : BitVec 32 := v462
  let v767 : Index := Scalar.indexCast v463
  let c768_421 : Index := 768#32
  ![v767.toNat, 768]
def k0_off117 (i : grid0.Coords) (k0_t3 : Fin (k0_t3_loop i).trips) : Fin 4 → Nat :=
  let c0_424 : Index := 0#32
  let c6_425 : Index := 6#32
  let arg2 : BitVec 32 := BitVec.ofNat 32 (i 2).val
  let c1_i32 : BitVec 32 := 1#32
  let v456 : BitVec 32 := Scalar.addi arg2 c1_i32
  let c1_i32_243 : BitVec 32 := 1#32
  let arg15 : BitVec 32 := Scf.iv v456 c1_i32_243 k0_t3
  let v772 : Index := Scalar.indexCast arg15
  let c0_426 : Index := 0#32
  ![0, 6, v772.toNat, 0]
def k0_off118 (i : grid0.Coords) (k0_t3 : Fin (k0_t3_loop i).trips) : Fin 2 → Nat :=
  let arg2 : BitVec 32 := BitVec.ofNat 32 (i 2).val
  let c1_i32 : BitVec 32 := 1#32
  let v456 : BitVec 32 := Scalar.addi arg2 c1_i32
  let c1_i32_243 : BitVec 32 := 1#32
  let arg15 : BitVec 32 := Scf.iv v456 c1_i32_243 k0_t3
  let c256_i32_245 : BitVec 32 := 256#32
  let v462 : BitVec 32 := Scalar.muli arg15 c256_i32_245
  let v463 : BitVec 32 := v462
  let v814 : Index := Scalar.indexCast v463
  let c1792_449 : Index := 1792#32
  ![v814.toNat, 1792]
def k0_off119 (i : grid0.Coords) (k0_t3 : Fin (k0_t3_loop i).trips) : Fin 2 → Nat :=
  let arg2 : BitVec 32 := BitVec.ofNat 32 (i 2).val
  let c1_i32 : BitVec 32 := 1#32
  let v456 : BitVec 32 := Scalar.addi arg2 c1_i32
  let c1_i32_243 : BitVec 32 := 1#32
  let arg15 : BitVec 32 := Scf.iv v456 c1_i32_243 k0_t3
  let c256_i32_245 : BitVec 32 := 256#32
  let v462 : BitVec 32 := Scalar.muli arg15 c256_i32_245
  let v463 : BitVec 32 := v462
  let v817 : Index := Scalar.indexCast v463
  let c896_450 : Index := 896#32
  ![v817.toNat, 896]
def k0_off120 (i : grid0.Coords) (k0_t3 : Fin (k0_t3_loop i).trips) : Fin 4 → Nat :=
  let c0_453 : Index := 0#32
  let c7_454 : Index := 7#32
  let arg2 : BitVec 32 := BitVec.ofNat 32 (i 2).val
  let c1_i32 : BitVec 32 := 1#32
  let v456 : BitVec 32 := Scalar.addi arg2 c1_i32
  let c1_i32_243 : BitVec 32 := 1#32
  let arg15 : BitVec 32 := Scf.iv v456 c1_i32_243 k0_t3
  let v822 : Index := Scalar.indexCast arg15
  let c0_455 : Index := 0#32
  ![0, 7, v822.toNat, 0]
@[reducible] def k0_t4_loop (i : grid0.Coords) : Scf.Loop 32 :=
  let arg2 : BitVec 32 := BitVec.ofNat 32 (i 2).val
  let c1_i32 : BitVec 32 := 1#32
  let v456 : BitVec 32 := Scalar.addi arg2 c1_i32
  let c9_i32 : BitVec 32 := 9#32
  let v457 : BitVec 32 := Scalar.subi c9_i32 v456
  let c1_i32_242 : BitVec 32 := 1#32
  let v459 : BitVec 32 := Scalar.divsi v457 c1_i32_242
  let v460 : BitVec 32 := Scalar.muli v459 c1_i32_242
  let v461 : BitVec 32 := Scalar.addi v456 v460
  let v458 : BitVec 32 := Scalar.addi v456 v457
  let c1_i32_244 : BitVec 32 := 1#32
  ⟨v461, v458, c1_i32_244⟩
def k0_mult6 (i : grid0.Coords) (k0_t4 : Fin (k0_t4_loop i).trips) : BitVec 32 :=
  let arg2 : BitVec 32 := BitVec.ofNat 32 (i 2).val
  let c1_i32 : BitVec 32 := 1#32
  let v456 : BitVec 32 := Scalar.addi arg2 c1_i32
  let c9_i32 : BitVec 32 := 9#32
  let v457 : BitVec 32 := Scalar.subi c9_i32 v456
  let c1_i32_242 : BitVec 32 := 1#32
  let v459 : BitVec 32 := Scalar.divsi v457 c1_i32_242
  let v460 : BitVec 32 := Scalar.muli v459 c1_i32_242
  let v461 : BitVec 32 := Scalar.addi v456 v460
  let c1_i32_244 : BitVec 32 := 1#32
  let arg15 : BitVec 32 := Scf.iv v461 c1_i32_244 k0_t4
  let c256_i32_245 : BitVec 32 := 256#32
  let v462 : BitVec 32 := Scalar.muli arg15 c256_i32_245
  v462
def k0_off121 (i : grid0.Coords) (k0_t4 : Fin (k0_t4_loop i).trips) : Fin 2 → Nat :=
  let arg2 : BitVec 32 := BitVec.ofNat 32 (i 2).val
  let c1_i32 : BitVec 32 := 1#32
  let v456 : BitVec 32 := Scalar.addi arg2 c1_i32
  let c9_i32 : BitVec 32 := 9#32
  let v457 : BitVec 32 := Scalar.subi c9_i32 v456
  let c1_i32_242 : BitVec 32 := 1#32
  let v459 : BitVec 32 := Scalar.divsi v457 c1_i32_242
  let v460 : BitVec 32 := Scalar.muli v459 c1_i32_242
  let v461 : BitVec 32 := Scalar.addi v456 v460
  let c1_i32_244 : BitVec 32 := 1#32
  let arg15 : BitVec 32 := Scf.iv v461 c1_i32_244 k0_t4
  let c256_i32_245 : BitVec 32 := 256#32
  let v462 : BitVec 32 := Scalar.muli arg15 c256_i32_245
  let v463 : BitVec 32 := v462
  let v464 : Index := Scalar.indexCast v463
  let c0_246 : Index := 0#32
  ![v464.toNat, 0]
def k0_off122 (i : grid0.Coords) (k0_t4 : Fin (k0_t4_loop i).trips) : Fin 2 → Nat :=
  let arg2 : BitVec 32 := BitVec.ofNat 32 (i 2).val
  let c1_i32 : BitVec 32 := 1#32
  let v456 : BitVec 32 := Scalar.addi arg2 c1_i32
  let c9_i32 : BitVec 32 := 9#32
  let v457 : BitVec 32 := Scalar.subi c9_i32 v456
  let c1_i32_242 : BitVec 32 := 1#32
  let v459 : BitVec 32 := Scalar.divsi v457 c1_i32_242
  let v460 : BitVec 32 := Scalar.muli v459 c1_i32_242
  let v461 : BitVec 32 := Scalar.addi v456 v460
  let c1_i32_244 : BitVec 32 := 1#32
  let arg15 : BitVec 32 := Scf.iv v461 c1_i32_244 k0_t4
  let c256_i32_245 : BitVec 32 := 256#32
  let v462 : BitVec 32 := Scalar.muli arg15 c256_i32_245
  let v463 : BitVec 32 := v462
  let v467 : Index := Scalar.indexCast v463
  let c0_247 : Index := 0#32
  ![v467.toNat, 0]
def k0_off123 (i : grid0.Coords) (k0_t4 : Fin (k0_t4_loop i).trips) : Fin 4 → Nat :=
  let c0_250 : Index := 0#32
  let c0_251 : Index := 0#32
  let arg2 : BitVec 32 := BitVec.ofNat 32 (i 2).val
  let c1_i32 : BitVec 32 := 1#32
  let v456 : BitVec 32 := Scalar.addi arg2 c1_i32
  let c9_i32 : BitVec 32 := 9#32
  let v457 : BitVec 32 := Scalar.subi c9_i32 v456
  let c1_i32_242 : BitVec 32 := 1#32
  let v459 : BitVec 32 := Scalar.divsi v457 c1_i32_242
  let v460 : BitVec 32 := Scalar.muli v459 c1_i32_242
  let v461 : BitVec 32 := Scalar.addi v456 v460
  let c1_i32_244 : BitVec 32 := 1#32
  let arg15 : BitVec 32 := Scf.iv v461 c1_i32_244 k0_t4
  let v472 : Index := Scalar.indexCast arg15
  let c0_252 : Index := 0#32
  ![0, 0, v472.toNat, 0]
def k0_off124 (i : grid0.Coords) (k0_t4 : Fin (k0_t4_loop i).trips) : Fin 2 → Nat :=
  let arg2 : BitVec 32 := BitVec.ofNat 32 (i 2).val
  let c1_i32 : BitVec 32 := 1#32
  let v456 : BitVec 32 := Scalar.addi arg2 c1_i32
  let c9_i32 : BitVec 32 := 9#32
  let v457 : BitVec 32 := Scalar.subi c9_i32 v456
  let c1_i32_242 : BitVec 32 := 1#32
  let v459 : BitVec 32 := Scalar.divsi v457 c1_i32_242
  let v460 : BitVec 32 := Scalar.muli v459 c1_i32_242
  let v461 : BitVec 32 := Scalar.addi v456 v460
  let c1_i32_244 : BitVec 32 := 1#32
  let arg15 : BitVec 32 := Scf.iv v461 c1_i32_244 k0_t4
  let c256_i32_245 : BitVec 32 := 256#32
  let v462 : BitVec 32 := Scalar.muli arg15 c256_i32_245
  let v463 : BitVec 32 := v462
  let v514 : Index := Scalar.indexCast v463
  let c256_275 : Index := 256#32
  ![v514.toNat, 256]
def k0_off125 (i : grid0.Coords) (k0_t4 : Fin (k0_t4_loop i).trips) : Fin 2 → Nat :=
  let arg2 : BitVec 32 := BitVec.ofNat 32 (i 2).val
  let c1_i32 : BitVec 32 := 1#32
  let v456 : BitVec 32 := Scalar.addi arg2 c1_i32
  let c9_i32 : BitVec 32 := 9#32
  let v457 : BitVec 32 := Scalar.subi c9_i32 v456
  let c1_i32_242 : BitVec 32 := 1#32
  let v459 : BitVec 32 := Scalar.divsi v457 c1_i32_242
  let v460 : BitVec 32 := Scalar.muli v459 c1_i32_242
  let v461 : BitVec 32 := Scalar.addi v456 v460
  let c1_i32_244 : BitVec 32 := 1#32
  let arg15 : BitVec 32 := Scf.iv v461 c1_i32_244 k0_t4
  let c256_i32_245 : BitVec 32 := 256#32
  let v462 : BitVec 32 := Scalar.muli arg15 c256_i32_245
  let v463 : BitVec 32 := v462
  let v517 : Index := Scalar.indexCast v463
  let c128_276 : Index := 128#32
  ![v517.toNat, 128]
def k0_off126 (i : grid0.Coords) (k0_t4 : Fin (k0_t4_loop i).trips) : Fin 4 → Nat :=
  let c0_279 : Index := 0#32
  let c1_280 : Index := 1#32
  let arg2 : BitVec 32 := BitVec.ofNat 32 (i 2).val
  let c1_i32 : BitVec 32 := 1#32
  let v456 : BitVec 32 := Scalar.addi arg2 c1_i32
  let c9_i32 : BitVec 32 := 9#32
  let v457 : BitVec 32 := Scalar.subi c9_i32 v456
  let c1_i32_242 : BitVec 32 := 1#32
  let v459 : BitVec 32 := Scalar.divsi v457 c1_i32_242
  let v460 : BitVec 32 := Scalar.muli v459 c1_i32_242
  let v461 : BitVec 32 := Scalar.addi v456 v460
  let c1_i32_244 : BitVec 32 := 1#32
  let arg15 : BitVec 32 := Scf.iv v461 c1_i32_244 k0_t4
  let v522 : Index := Scalar.indexCast arg15
  let c0_281 : Index := 0#32
  ![0, 1, v522.toNat, 0]
def k0_off127 (i : grid0.Coords) (k0_t4 : Fin (k0_t4_loop i).trips) : Fin 2 → Nat :=
  let arg2 : BitVec 32 := BitVec.ofNat 32 (i 2).val
  let c1_i32 : BitVec 32 := 1#32
  let v456 : BitVec 32 := Scalar.addi arg2 c1_i32
  let c9_i32 : BitVec 32 := 9#32
  let v457 : BitVec 32 := Scalar.subi c9_i32 v456
  let c1_i32_242 : BitVec 32 := 1#32
  let v459 : BitVec 32 := Scalar.divsi v457 c1_i32_242
  let v460 : BitVec 32 := Scalar.muli v459 c1_i32_242
  let v461 : BitVec 32 := Scalar.addi v456 v460
  let c1_i32_244 : BitVec 32 := 1#32
  let arg15 : BitVec 32 := Scf.iv v461 c1_i32_244 k0_t4
  let c256_i32_245 : BitVec 32 := 256#32
  let v462 : BitVec 32 := Scalar.muli arg15 c256_i32_245
  let v463 : BitVec 32 := v462
  let v564 : Index := Scalar.indexCast v463
  let c512_304 : Index := 512#32
  ![v564.toNat, 512]
def k0_off128 (i : grid0.Coords) (k0_t4 : Fin (k0_t4_loop i).trips) : Fin 2 → Nat :=
  let arg2 : BitVec 32 := BitVec.ofNat 32 (i 2).val
  let c1_i32 : BitVec 32 := 1#32
  let v456 : BitVec 32 := Scalar.addi arg2 c1_i32
  let c9_i32 : BitVec 32 := 9#32
  let v457 : BitVec 32 := Scalar.subi c9_i32 v456
  let c1_i32_242 : BitVec 32 := 1#32
  let v459 : BitVec 32 := Scalar.divsi v457 c1_i32_242
  let v460 : BitVec 32 := Scalar.muli v459 c1_i32_242
  let v461 : BitVec 32 := Scalar.addi v456 v460
  let c1_i32_244 : BitVec 32 := 1#32
  let arg15 : BitVec 32 := Scf.iv v461 c1_i32_244 k0_t4
  let c256_i32_245 : BitVec 32 := 256#32
  let v462 : BitVec 32 := Scalar.muli arg15 c256_i32_245
  let v463 : BitVec 32 := v462
  let v567 : Index := Scalar.indexCast v463
  let c256_305 : Index := 256#32
  ![v567.toNat, 256]
def k0_off129 (i : grid0.Coords) (k0_t4 : Fin (k0_t4_loop i).trips) : Fin 4 → Nat :=
  let c0_308 : Index := 0#32
  let c2_309 : Index := 2#32
  let arg2 : BitVec 32 := BitVec.ofNat 32 (i 2).val
  let c1_i32 : BitVec 32 := 1#32
  let v456 : BitVec 32 := Scalar.addi arg2 c1_i32
  let c9_i32 : BitVec 32 := 9#32
  let v457 : BitVec 32 := Scalar.subi c9_i32 v456
  let c1_i32_242 : BitVec 32 := 1#32
  let v459 : BitVec 32 := Scalar.divsi v457 c1_i32_242
  let v460 : BitVec 32 := Scalar.muli v459 c1_i32_242
  let v461 : BitVec 32 := Scalar.addi v456 v460
  let c1_i32_244 : BitVec 32 := 1#32
  let arg15 : BitVec 32 := Scf.iv v461 c1_i32_244 k0_t4
  let v572 : Index := Scalar.indexCast arg15
  let c0_310 : Index := 0#32
  ![0, 2, v572.toNat, 0]
def k0_off130 (i : grid0.Coords) (k0_t4 : Fin (k0_t4_loop i).trips) : Fin 2 → Nat :=
  let arg2 : BitVec 32 := BitVec.ofNat 32 (i 2).val
  let c1_i32 : BitVec 32 := 1#32
  let v456 : BitVec 32 := Scalar.addi arg2 c1_i32
  let c9_i32 : BitVec 32 := 9#32
  let v457 : BitVec 32 := Scalar.subi c9_i32 v456
  let c1_i32_242 : BitVec 32 := 1#32
  let v459 : BitVec 32 := Scalar.divsi v457 c1_i32_242
  let v460 : BitVec 32 := Scalar.muli v459 c1_i32_242
  let v461 : BitVec 32 := Scalar.addi v456 v460
  let c1_i32_244 : BitVec 32 := 1#32
  let arg15 : BitVec 32 := Scf.iv v461 c1_i32_244 k0_t4
  let c256_i32_245 : BitVec 32 := 256#32
  let v462 : BitVec 32 := Scalar.muli arg15 c256_i32_245
  let v463 : BitVec 32 := v462
  let v614 : Index := Scalar.indexCast v463
  let c768_333 : Index := 768#32
  ![v614.toNat, 768]
def k0_off131 (i : grid0.Coords) (k0_t4 : Fin (k0_t4_loop i).trips) : Fin 2 → Nat :=
  let arg2 : BitVec 32 := BitVec.ofNat 32 (i 2).val
  let c1_i32 : BitVec 32 := 1#32
  let v456 : BitVec 32 := Scalar.addi arg2 c1_i32
  let c9_i32 : BitVec 32 := 9#32
  let v457 : BitVec 32 := Scalar.subi c9_i32 v456
  let c1_i32_242 : BitVec 32 := 1#32
  let v459 : BitVec 32 := Scalar.divsi v457 c1_i32_242
  let v460 : BitVec 32 := Scalar.muli v459 c1_i32_242
  let v461 : BitVec 32 := Scalar.addi v456 v460
  let c1_i32_244 : BitVec 32 := 1#32
  let arg15 : BitVec 32 := Scf.iv v461 c1_i32_244 k0_t4
  let c256_i32_245 : BitVec 32 := 256#32
  let v462 : BitVec 32 := Scalar.muli arg15 c256_i32_245
  let v463 : BitVec 32 := v462
  let v617 : Index := Scalar.indexCast v463
  let c384_334 : Index := 384#32
  ![v617.toNat, 384]
def k0_off132 (i : grid0.Coords) (k0_t4 : Fin (k0_t4_loop i).trips) : Fin 4 → Nat :=
  let c0_337 : Index := 0#32
  let c3_338 : Index := 3#32
  let arg2 : BitVec 32 := BitVec.ofNat 32 (i 2).val
  let c1_i32 : BitVec 32 := 1#32
  let v456 : BitVec 32 := Scalar.addi arg2 c1_i32
  let c9_i32 : BitVec 32 := 9#32
  let v457 : BitVec 32 := Scalar.subi c9_i32 v456
  let c1_i32_242 : BitVec 32 := 1#32
  let v459 : BitVec 32 := Scalar.divsi v457 c1_i32_242
  let v460 : BitVec 32 := Scalar.muli v459 c1_i32_242
  let v461 : BitVec 32 := Scalar.addi v456 v460
  let c1_i32_244 : BitVec 32 := 1#32
  let arg15 : BitVec 32 := Scf.iv v461 c1_i32_244 k0_t4
  let v622 : Index := Scalar.indexCast arg15
  let c0_339 : Index := 0#32
  ![0, 3, v622.toNat, 0]
def k0_off133 (i : grid0.Coords) (k0_t4 : Fin (k0_t4_loop i).trips) : Fin 2 → Nat :=
  let arg2 : BitVec 32 := BitVec.ofNat 32 (i 2).val
  let c1_i32 : BitVec 32 := 1#32
  let v456 : BitVec 32 := Scalar.addi arg2 c1_i32
  let c9_i32 : BitVec 32 := 9#32
  let v457 : BitVec 32 := Scalar.subi c9_i32 v456
  let c1_i32_242 : BitVec 32 := 1#32
  let v459 : BitVec 32 := Scalar.divsi v457 c1_i32_242
  let v460 : BitVec 32 := Scalar.muli v459 c1_i32_242
  let v461 : BitVec 32 := Scalar.addi v456 v460
  let c1_i32_244 : BitVec 32 := 1#32
  let arg15 : BitVec 32 := Scf.iv v461 c1_i32_244 k0_t4
  let c256_i32_245 : BitVec 32 := 256#32
  let v462 : BitVec 32 := Scalar.muli arg15 c256_i32_245
  let v463 : BitVec 32 := v462
  let v664 : Index := Scalar.indexCast v463
  let c1024_362 : Index := 1024#32
  ![v664.toNat, 1024]
def k0_off134 (i : grid0.Coords) (k0_t4 : Fin (k0_t4_loop i).trips) : Fin 2 → Nat :=
  let arg2 : BitVec 32 := BitVec.ofNat 32 (i 2).val
  let c1_i32 : BitVec 32 := 1#32
  let v456 : BitVec 32 := Scalar.addi arg2 c1_i32
  let c9_i32 : BitVec 32 := 9#32
  let v457 : BitVec 32 := Scalar.subi c9_i32 v456
  let c1_i32_242 : BitVec 32 := 1#32
  let v459 : BitVec 32 := Scalar.divsi v457 c1_i32_242
  let v460 : BitVec 32 := Scalar.muli v459 c1_i32_242
  let v461 : BitVec 32 := Scalar.addi v456 v460
  let c1_i32_244 : BitVec 32 := 1#32
  let arg15 : BitVec 32 := Scf.iv v461 c1_i32_244 k0_t4
  let c256_i32_245 : BitVec 32 := 256#32
  let v462 : BitVec 32 := Scalar.muli arg15 c256_i32_245
  let v463 : BitVec 32 := v462
  let v667 : Index := Scalar.indexCast v463
  let c512_363 : Index := 512#32
  ![v667.toNat, 512]
def k0_off135 (i : grid0.Coords) (k0_t4 : Fin (k0_t4_loop i).trips) : Fin 4 → Nat :=
  let c0_366 : Index := 0#32
  let c4_367 : Index := 4#32
  let arg2 : BitVec 32 := BitVec.ofNat 32 (i 2).val
  let c1_i32 : BitVec 32 := 1#32
  let v456 : BitVec 32 := Scalar.addi arg2 c1_i32
  let c9_i32 : BitVec 32 := 9#32
  let v457 : BitVec 32 := Scalar.subi c9_i32 v456
  let c1_i32_242 : BitVec 32 := 1#32
  let v459 : BitVec 32 := Scalar.divsi v457 c1_i32_242
  let v460 : BitVec 32 := Scalar.muli v459 c1_i32_242
  let v461 : BitVec 32 := Scalar.addi v456 v460
  let c1_i32_244 : BitVec 32 := 1#32
  let arg15 : BitVec 32 := Scf.iv v461 c1_i32_244 k0_t4
  let v672 : Index := Scalar.indexCast arg15
  let c0_368 : Index := 0#32
  ![0, 4, v672.toNat, 0]
def k0_off136 (i : grid0.Coords) (k0_t4 : Fin (k0_t4_loop i).trips) : Fin 2 → Nat :=
  let arg2 : BitVec 32 := BitVec.ofNat 32 (i 2).val
  let c1_i32 : BitVec 32 := 1#32
  let v456 : BitVec 32 := Scalar.addi arg2 c1_i32
  let c9_i32 : BitVec 32 := 9#32
  let v457 : BitVec 32 := Scalar.subi c9_i32 v456
  let c1_i32_242 : BitVec 32 := 1#32
  let v459 : BitVec 32 := Scalar.divsi v457 c1_i32_242
  let v460 : BitVec 32 := Scalar.muli v459 c1_i32_242
  let v461 : BitVec 32 := Scalar.addi v456 v460
  let c1_i32_244 : BitVec 32 := 1#32
  let arg15 : BitVec 32 := Scf.iv v461 c1_i32_244 k0_t4
  let c256_i32_245 : BitVec 32 := 256#32
  let v462 : BitVec 32 := Scalar.muli arg15 c256_i32_245
  let v463 : BitVec 32 := v462
  let v714 : Index := Scalar.indexCast v463
  let c1280_391 : Index := 1280#32
  ![v714.toNat, 1280]
def k0_off137 (i : grid0.Coords) (k0_t4 : Fin (k0_t4_loop i).trips) : Fin 2 → Nat :=
  let arg2 : BitVec 32 := BitVec.ofNat 32 (i 2).val
  let c1_i32 : BitVec 32 := 1#32
  let v456 : BitVec 32 := Scalar.addi arg2 c1_i32
  let c9_i32 : BitVec 32 := 9#32
  let v457 : BitVec 32 := Scalar.subi c9_i32 v456
  let c1_i32_242 : BitVec 32 := 1#32
  let v459 : BitVec 32 := Scalar.divsi v457 c1_i32_242
  let v460 : BitVec 32 := Scalar.muli v459 c1_i32_242
  let v461 : BitVec 32 := Scalar.addi v456 v460
  let c1_i32_244 : BitVec 32 := 1#32
  let arg15 : BitVec 32 := Scf.iv v461 c1_i32_244 k0_t4
  let c256_i32_245 : BitVec 32 := 256#32
  let v462 : BitVec 32 := Scalar.muli arg15 c256_i32_245
  let v463 : BitVec 32 := v462
  let v717 : Index := Scalar.indexCast v463
  let c640_392 : Index := 640#32
  ![v717.toNat, 640]
def k0_off138 (i : grid0.Coords) (k0_t4 : Fin (k0_t4_loop i).trips) : Fin 4 → Nat :=
  let c0_395 : Index := 0#32
  let c5_396 : Index := 5#32
  let arg2 : BitVec 32 := BitVec.ofNat 32 (i 2).val
  let c1_i32 : BitVec 32 := 1#32
  let v456 : BitVec 32 := Scalar.addi arg2 c1_i32
  let c9_i32 : BitVec 32 := 9#32
  let v457 : BitVec 32 := Scalar.subi c9_i32 v456
  let c1_i32_242 : BitVec 32 := 1#32
  let v459 : BitVec 32 := Scalar.divsi v457 c1_i32_242
  let v460 : BitVec 32 := Scalar.muli v459 c1_i32_242
  let v461 : BitVec 32 := Scalar.addi v456 v460
  let c1_i32_244 : BitVec 32 := 1#32
  let arg15 : BitVec 32 := Scf.iv v461 c1_i32_244 k0_t4
  let v722 : Index := Scalar.indexCast arg15
  let c0_397 : Index := 0#32
  ![0, 5, v722.toNat, 0]
def k0_off139 (i : grid0.Coords) (k0_t4 : Fin (k0_t4_loop i).trips) : Fin 2 → Nat :=
  let arg2 : BitVec 32 := BitVec.ofNat 32 (i 2).val
  let c1_i32 : BitVec 32 := 1#32
  let v456 : BitVec 32 := Scalar.addi arg2 c1_i32
  let c9_i32 : BitVec 32 := 9#32
  let v457 : BitVec 32 := Scalar.subi c9_i32 v456
  let c1_i32_242 : BitVec 32 := 1#32
  let v459 : BitVec 32 := Scalar.divsi v457 c1_i32_242
  let v460 : BitVec 32 := Scalar.muli v459 c1_i32_242
  let v461 : BitVec 32 := Scalar.addi v456 v460
  let c1_i32_244 : BitVec 32 := 1#32
  let arg15 : BitVec 32 := Scf.iv v461 c1_i32_244 k0_t4
  let c256_i32_245 : BitVec 32 := 256#32
  let v462 : BitVec 32 := Scalar.muli arg15 c256_i32_245
  let v463 : BitVec 32 := v462
  let v764 : Index := Scalar.indexCast v463
  let c1536_420 : Index := 1536#32
  ![v764.toNat, 1536]
def k0_off140 (i : grid0.Coords) (k0_t4 : Fin (k0_t4_loop i).trips) : Fin 2 → Nat :=
  let arg2 : BitVec 32 := BitVec.ofNat 32 (i 2).val
  let c1_i32 : BitVec 32 := 1#32
  let v456 : BitVec 32 := Scalar.addi arg2 c1_i32
  let c9_i32 : BitVec 32 := 9#32
  let v457 : BitVec 32 := Scalar.subi c9_i32 v456
  let c1_i32_242 : BitVec 32 := 1#32
  let v459 : BitVec 32 := Scalar.divsi v457 c1_i32_242
  let v460 : BitVec 32 := Scalar.muli v459 c1_i32_242
  let v461 : BitVec 32 := Scalar.addi v456 v460
  let c1_i32_244 : BitVec 32 := 1#32
  let arg15 : BitVec 32 := Scf.iv v461 c1_i32_244 k0_t4
  let c256_i32_245 : BitVec 32 := 256#32
  let v462 : BitVec 32 := Scalar.muli arg15 c256_i32_245
  let v463 : BitVec 32 := v462
  let v767 : Index := Scalar.indexCast v463
  let c768_421 : Index := 768#32
  ![v767.toNat, 768]
def k0_off141 (i : grid0.Coords) (k0_t4 : Fin (k0_t4_loop i).trips) : Fin 4 → Nat :=
  let c0_424 : Index := 0#32
  let c6_425 : Index := 6#32
  let arg2 : BitVec 32 := BitVec.ofNat 32 (i 2).val
  let c1_i32 : BitVec 32 := 1#32
  let v456 : BitVec 32 := Scalar.addi arg2 c1_i32
  let c9_i32 : BitVec 32 := 9#32
  let v457 : BitVec 32 := Scalar.subi c9_i32 v456
  let c1_i32_242 : BitVec 32 := 1#32
  let v459 : BitVec 32 := Scalar.divsi v457 c1_i32_242
  let v460 : BitVec 32 := Scalar.muli v459 c1_i32_242
  let v461 : BitVec 32 := Scalar.addi v456 v460
  let c1_i32_244 : BitVec 32 := 1#32
  let arg15 : BitVec 32 := Scf.iv v461 c1_i32_244 k0_t4
  let v772 : Index := Scalar.indexCast arg15
  let c0_426 : Index := 0#32
  ![0, 6, v772.toNat, 0]
def k0_off142 (i : grid0.Coords) (k0_t4 : Fin (k0_t4_loop i).trips) : Fin 2 → Nat :=
  let arg2 : BitVec 32 := BitVec.ofNat 32 (i 2).val
  let c1_i32 : BitVec 32 := 1#32
  let v456 : BitVec 32 := Scalar.addi arg2 c1_i32
  let c9_i32 : BitVec 32 := 9#32
  let v457 : BitVec 32 := Scalar.subi c9_i32 v456
  let c1_i32_242 : BitVec 32 := 1#32
  let v459 : BitVec 32 := Scalar.divsi v457 c1_i32_242
  let v460 : BitVec 32 := Scalar.muli v459 c1_i32_242
  let v461 : BitVec 32 := Scalar.addi v456 v460
  let c1_i32_244 : BitVec 32 := 1#32
  let arg15 : BitVec 32 := Scf.iv v461 c1_i32_244 k0_t4
  let c256_i32_245 : BitVec 32 := 256#32
  let v462 : BitVec 32 := Scalar.muli arg15 c256_i32_245
  let v463 : BitVec 32 := v462
  let v814 : Index := Scalar.indexCast v463
  let c1792_449 : Index := 1792#32
  ![v814.toNat, 1792]
def k0_off143 (i : grid0.Coords) (k0_t4 : Fin (k0_t4_loop i).trips) : Fin 2 → Nat :=
  let arg2 : BitVec 32 := BitVec.ofNat 32 (i 2).val
  let c1_i32 : BitVec 32 := 1#32
  let v456 : BitVec 32 := Scalar.addi arg2 c1_i32
  let c9_i32 : BitVec 32 := 9#32
  let v457 : BitVec 32 := Scalar.subi c9_i32 v456
  let c1_i32_242 : BitVec 32 := 1#32
  let v459 : BitVec 32 := Scalar.divsi v457 c1_i32_242
  let v460 : BitVec 32 := Scalar.muli v459 c1_i32_242
  let v461 : BitVec 32 := Scalar.addi v456 v460
  let c1_i32_244 : BitVec 32 := 1#32
  let arg15 : BitVec 32 := Scf.iv v461 c1_i32_244 k0_t4
  let c256_i32_245 : BitVec 32 := 256#32
  let v462 : BitVec 32 := Scalar.muli arg15 c256_i32_245
  let v463 : BitVec 32 := v462
  let v817 : Index := Scalar.indexCast v463
  let c896_450 : Index := 896#32
  ![v817.toNat, 896]
def k0_off144 (i : grid0.Coords) (k0_t4 : Fin (k0_t4_loop i).trips) : Fin 4 → Nat :=
  let c0_453 : Index := 0#32
  let c7_454 : Index := 7#32
  let arg2 : BitVec 32 := BitVec.ofNat 32 (i 2).val
  let c1_i32 : BitVec 32 := 1#32
  let v456 : BitVec 32 := Scalar.addi arg2 c1_i32
  let c9_i32 : BitVec 32 := 9#32
  let v457 : BitVec 32 := Scalar.subi c9_i32 v456
  let c1_i32_242 : BitVec 32 := 1#32
  let v459 : BitVec 32 := Scalar.divsi v457 c1_i32_242
  let v460 : BitVec 32 := Scalar.muli v459 c1_i32_242
  let v461 : BitVec 32 := Scalar.addi v456 v460
  let c1_i32_244 : BitVec 32 := 1#32
  let arg15 : BitVec 32 := Scf.iv v461 c1_i32_244 k0_t4
  let v822 : Index := Scalar.indexCast arg15
  let c0_455 : Index := 0#32
  ![0, 7, v822.toNat, 0]
def k0_cond3 (i : grid0.Coords) : BitVec 1 :=
  let arg2 : BitVec 32 := BitVec.ofNat 32 (i 2).val
  let c8_i32 : BitVec 32 := 8#32
  let v25 : BitVec 1 := Scalar.cmpi .eq arg2 c8_i32
  let v26 : BitVec 32 := Scalar.extui v25
  let c0_i32_15 : BitVec 32 := 0#32
  let v27 : BitVec 1 := Scalar.cmpi .ne v26 c0_i32_15
  v27

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg0 c9_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg0 c9_i32
  let v1 : BitVec 32 := Scalar.addi v0 arg2
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg0 c9_i32
  let v1 : BitVec 32 := Scalar.addi v0 arg2
  let c0_i32 : BitVec 32 := 0#32
  ![v1.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.muli arg0 c9_i32
  let v1 : BitVec 32 := Scalar.addi v0 arg2
  let c0_i32 : BitVec 32 := 0#32
  ![v1.toNat, arg1.toNat]

abbrev stage0_0 : Fin 1 → Memref sig .tc .vmem S2304x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S2304x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]

abbrev stage0_4 : Fin 2 → Memref sig .tc .vmem S1x8x9x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x8x9x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S2304x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true, false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AttnIdeal.lean ====
variable {F : FTy → Type} [FloatOps F] [Named F]
def κ : String → Option EReal := fun
  | "c" => some (((Real.sqrt 192)⁻¹ : ℝ) : EReal)
  | "cl" => some (((Real.sqrt 192)⁻¹ * (Real.log 2)⁻¹ : ℝ) : EReal)
  | _ => none
-- ==== AttnRefIdeal.lean ====
abbrev S4x2064x8x192 : Shape := ⟨4, ![4, 2064, 8, 192]⟩
abbrev S4x2064x8x128 : Shape := ⟨4, ![4, 2064, 8, 128]⟩
abbrev S4x8x2064x2064 : Shape := ⟨4, ![4, 8, 2064, 2064]⟩
abbrev S_ : Shape := ⟨0, ![]⟩
abbrev S2064 : Shape := ⟨1, ![2064]⟩
abbrev S1x2064 : Shape := ⟨2, ![1, 2064]⟩
abbrev S2064x1 : Shape := ⟨2, ![2064, 1]⟩
abbrev S2064x2064 : Shape := ⟨2, ![2064, 2064]⟩
abbrev S4x8x2064 : Shape := ⟨3, ![4, 8, 2064]⟩
abbrev S4x8x2064x1 : Shape := ⟨4, ![4, 8, 2064, 1]⟩
abbrev S4x8x128x2064 : Shape := ⟨4, ![4, 8, 128, 2064]⟩
abbrev S4x8x2064x192 : Shape := ⟨4, ![4, 8, 2064, 192]⟩

abbrev nBuf : Space → Nat
  | .hbm => 89
  | .vmem => 0
  | .smem => 0
  | _ => 0

abbrev bufTy : (tb : Table) → Fin (tcTables nBuf tb) → BufTy
  | .hbm, ⟨0, _⟩ => ⟨S4x2064x8x192, .f32⟩
  | .hbm, ⟨1, _⟩ => ⟨S4x2064x8x192, .f32⟩
  | .hbm, ⟨2, _⟩ => ⟨S4x2064x8x128, .f32⟩
  | .hbm, ⟨3, _⟩ => ⟨S4x2064x8x128, .f32⟩
  | .hbm, ⟨4, _⟩ => ⟨S4x8x2064x2064, .f32⟩
  | .hbm, ⟨5, _⟩ => ⟨S_, .f32⟩
  | .hbm, ⟨6, _⟩ => ⟨S_, .f32⟩
  | .hbm, ⟨7, _⟩ => ⟨S4x8x2064x2064, .f32⟩
  | .hbm, ⟨8, _⟩ => ⟨S4x8x2064x2064, .f32⟩
  | .hbm, ⟨9, _⟩ => ⟨S2064, .i32⟩
  | .hbm, ⟨10, _⟩ => ⟨S1x2064, .i32⟩
  | .hbm, ⟨11, _⟩ => ⟨S2064x1, .i32⟩
  | .hbm, ⟨12, _⟩ => ⟨S2064x2064, .i32⟩
  | .hbm, ⟨13, _⟩ => ⟨S2064x2064, .i32⟩
  | .hbm, ⟨14, _⟩ => ⟨S2064x2064, .i1⟩
  | .hbm, ⟨15, _⟩ => ⟨S_, .f32⟩
  | .hbm, ⟨16, _⟩ => ⟨S_, .f32⟩
  | .hbm, ⟨17, _⟩ => ⟨S4x8x2064x2064, .i1⟩
  | .hbm, ⟨18, _⟩ => ⟨S4x8x2064x2064, .f32⟩
  | .hbm, ⟨19, _⟩ => ⟨S4x8x2064x2064, .f32⟩
  | .hbm, ⟨20, _⟩ => ⟨S_, .f32⟩
  | .hbm, ⟨21, _⟩ => ⟨S4x8x2064x2064, .f32⟩
  | .hbm, ⟨22, _⟩ => ⟨S_, .f32⟩
  | .hbm, ⟨23, _⟩ => ⟨S4x8x2064, .f32⟩
  | .hbm, ⟨24, _⟩ => ⟨S4x8x2064x1, .f32⟩
  | .hbm, ⟨25, _⟩ => ⟨S4x8x2064x2064, .f32⟩
  | .hbm, ⟨26, _⟩ => ⟨S4x8x2064x2064, .i1⟩
  | .hbm, ⟨27, _⟩ => ⟨S4x8x2064x2064, .f32⟩
  | .hbm, ⟨28, _⟩ => ⟨S_, .f32⟩
  | .hbm, ⟨29, _⟩ => ⟨S4x8x2064, .f32⟩
  | .hbm, ⟨30, _⟩ => ⟨S_, .f32⟩
  | .hbm, ⟨31, _⟩ => ⟨S4x8x2064, .f32⟩
  | .hbm, ⟨32, _⟩ => ⟨S4x8x2064, .f32⟩
  | .hbm, ⟨33, _⟩ => ⟨S_, .f32⟩
  | .hbm, ⟨34, _⟩ => ⟨S4x8x2064, .f32⟩
  | .hbm, ⟨35, _⟩ => ⟨S4x8x2064, .i1⟩
  | .hbm, ⟨36, _⟩ => ⟨S_, .f32⟩
  | .hbm, ⟨37, _⟩ => ⟨S4x8x2064, .f32⟩
  | .hbm, ⟨38, _⟩ => ⟨S4x8x2064, .i1⟩
  | .hbm, ⟨39, _⟩ => ⟨S_, .f32⟩
  | .hbm, ⟨40, _⟩ => ⟨S4x8x2064, .f32⟩
  | .hbm, ⟨41, _⟩ => ⟨S_, .f32⟩
  | .hbm, ⟨42, _⟩ => ⟨S4x8x2064, .f32⟩
  | .hbm, ⟨43, _⟩ => ⟨S_, .f32⟩
  | .hbm, ⟨44, _⟩ => ⟨S4x8x2064, .f32⟩
  | .hbm, ⟨45, _⟩ => ⟨S4x8x2064, .f32⟩
  | .hbm, ⟨46, _⟩ => ⟨S4x8x2064, .f32⟩
  | .hbm, ⟨47, _⟩ => ⟨S4x8x2064x1, .f32⟩
  | .hbm, ⟨48, _⟩ => ⟨S4x8x2064x2064, .f32⟩
  | .hbm, ⟨49, _⟩ => ⟨S4x8x2064x2064, .f32⟩
  | .hbm, ⟨50, _⟩ => ⟨S4x8x2064x2064, .f32⟩
  | .hbm, ⟨51, _⟩ => ⟨S_, .f32⟩
  | .hbm, ⟨52, _⟩ => ⟨S4x8x2064, .f32⟩
  | .hbm, ⟨53, _⟩ => ⟨S4x8x2064x1, .f32⟩
  | .hbm, ⟨54, _⟩ => ⟨S4x8x2064x2064, .f32⟩
  | .hbm, ⟨55, _⟩ => ⟨S4x8x2064x2064, .f32⟩
  | .hbm, ⟨56, _⟩ => ⟨S4x8x2064x1, .f32⟩
  | .hbm, ⟨57, _⟩ => ⟨S_, .f32⟩
  | .hbm, ⟨58, _⟩ => ⟨S4x8x2064x1, .f32⟩
  | .hbm, ⟨59, _⟩ => ⟨S4x8x2064x1, .f32⟩
  | .hbm, ⟨60, _⟩ => ⟨S4x8x128x2064, .f32⟩
  | .hbm, ⟨61, _⟩ => ⟨S4x2064x8x128, .f32⟩
  | .hbm, ⟨62, _⟩ => ⟨S4x8x128x2064, .f32⟩
  | .hbm, ⟨63, _⟩ => ⟨S4x8x2064x2064, .f32⟩
  | .hbm, ⟨64, _⟩ => ⟨S4x8x128x2064, .f32⟩
  | .hbm, ⟨65, _⟩ => ⟨S4x2064x8x128, .f32⟩
  | .hbm, ⟨66, _⟩ => ⟨S4x8x2064x2064, .f32⟩
  | .hbm, ⟨67, _⟩ => ⟨S4x8x2064x2064, .f32⟩
  | .hbm, ⟨68, _⟩ => ⟨S4x8x2064x2064, .f32⟩
  | .hbm, ⟨69, _⟩ => ⟨S_, .f32⟩
  | .hbm, ⟨70, _⟩ => ⟨S4x8x2064, .f32⟩
  | .hbm, ⟨71, _⟩ => ⟨S4x8x2064x1, .f32⟩
  | .hbm, ⟨72, _⟩ => ⟨S4x8x2064x1, .f32⟩
  | .hbm, ⟨73, _⟩ => ⟨S4x8x2064x2064, .f32⟩
  | .hbm, ⟨74, _⟩ => ⟨S4x8x2064x2064, .f32⟩
  | .hbm, ⟨75, _⟩ => ⟨S_, .f32⟩
  | .hbm, ⟨76, _⟩ => ⟨S4x8x2064, .f32⟩
  | .hbm, ⟨77, _⟩ => ⟨S4x8x2064x2064, .f32⟩
  | .hbm, ⟨78, _⟩ => ⟨S4x8x2064x2064, .f32⟩
  | .hbm, ⟨79, _⟩ => ⟨S4x8x2064x2064, .f32⟩
  | .hbm, ⟨80, _⟩ => ⟨S_, .f32⟩
  | .hbm, ⟨81, _⟩ => ⟨S4x8x2064x2064, .f32⟩
  | .hbm, ⟨82, _⟩ => ⟨S4x8x2064x2064, .f32⟩
  | .hbm, ⟨83, _⟩ => ⟨S4x8x2064x2064, .f32⟩
  | .hbm, ⟨84, _⟩ => ⟨S4x8x2064x2064, .f32⟩
  | .hbm, ⟨85, _⟩ => ⟨S4x8x2064x192, .f32⟩
  | .hbm, ⟨86, _⟩ => ⟨S4x2064x8x192, .f32⟩
  | .hbm, ⟨87, _⟩ => ⟨S4x8x2064x192, .f32⟩
  | .hbm, ⟨88, _⟩ => ⟨S4x2064x8x192, .f32⟩
  | _, _ => ⟨S4x2064x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_v10_1 : Ref sig .tc := ⟨.hbm, 17, rfl⟩
abbrev main_call0_v2 : Ref sig .tc := ⟨.hbm, 18, rfl⟩
abbrev main_v10_0 : Ref sig .tc := ⟨.hbm, 19, rfl⟩
abbrev main_call0_cst : Ref sig .tc := ⟨.hbm, 20, rfl⟩
abbrev main_v10_2 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_call1_cst : Ref sig .tc := ⟨.hbm, 80, rfl⟩
abbrev main_call1_v0 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩

abbrev nD : Nat := 1
abbrev τ : Topo := Topo.v7x

variable {F : FTy → Type} [FloatOps F]
-- ==== InProj.lean ====
abbrev S4x2064x1024 : Shape := ⟨3, ![4, 2064, 1024]⟩
abbrev S1024x6608 : Shape := ⟨2, ![1024, 6608]⟩
abbrev S1024x1024 : Shape := ⟨2, ![1024, 1024]⟩
abbrev S1024x512 : Shape := ⟨2, ![1024, 512]⟩
abbrev S1024x6144 : Shape := ⟨2, ![1024, 6144]⟩
abbrev S_ : Shape := ⟨0, ![]⟩
abbrev S4x2304x1024 : Shape := ⟨3, ![4, 2304, 1024]⟩
abbrev S9216x1024 : Shape := ⟨2, ![9216, 1024]⟩
abbrev S9216x6144 : Shape := ⟨2, ![9216, 6144]⟩
abbrev S2304x1024 : Shape := ⟨2, ![2304, 1024]⟩
abbrev S4x2304x6144 : Shape := ⟨3, ![4, 2304, 6144]⟩
abbrev S4x2064x6144 : Shape := ⟨3, ![4, 2064, 6144]⟩
abbrev S4x2064x512 : Shape := ⟨3, ![4, 2064, 512]⟩

abbrev nBuf : Space → Nat
  | .hbm => 27
  | .vmem => 6
  | .smem => 0
  | _ => 0

abbrev bufTy : (tb : Table) → Fin (tcTables nBuf tb) → BufTy
  | .hbm, ⟨0, _⟩ => ⟨S4x2064x1024, .f32⟩
  | .hbm, ⟨1, _⟩ => ⟨S1024x6608, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x512, .f32⟩
  | .hbm, ⟨8, _⟩ => ⟨S1024x512, .f32⟩
  | .hbm, ⟨9, _⟩ => ⟨S1024x6144, .f32⟩
  | .hbm, ⟨10, _⟩ => ⟨S1024x6144, .bf16⟩
  | .hbm, ⟨11, _⟩ => ⟨S_, .i32⟩
  | .hbm, ⟨12, _⟩ => ⟨S_, .f32⟩
  | .hbm, ⟨13, _⟩ => ⟨S4x2304x1024, .f32⟩
  | .hbm, ⟨14, _⟩ => ⟨S9216x1024, .f32⟩
  | .hbm, ⟨15, _⟩ => ⟨S9216x1024, .bf16⟩
  | .hbm, ⟨16, _⟩ => ⟨S9216x6144, .bf16⟩
  | .hbm, ⟨17, _⟩ => ⟨S4x2304x6144, .bf16⟩
  | .hbm, ⟨18, _⟩ => ⟨S4x2064x6144, .bf16⟩
  | .hbm, ⟨19, _⟩ => ⟨S4x2064x6144, .f32⟩
  | .hbm, ⟨20, _⟩ => ⟨S4x2064x1024, .f32⟩
  | .hbm, ⟨21, _⟩ => ⟨S4x2064x1024, .f32⟩
  | .hbm, ⟨22, _⟩ => ⟨S4x2064x1024, .f32⟩
  | .hbm, ⟨23, _⟩ => ⟨S4x2064x1024, .f32⟩
  | .hbm, ⟨24, _⟩ => ⟨S4x2064x1024, .f32⟩
  | .hbm, ⟨25, _⟩ => ⟨S4x2064x512, .f32⟩
  | .hbm, ⟨26, _⟩ => ⟨S4x2064x512, .f32⟩
  | .local _ .vmem, ⟨0, _⟩ => ⟨S2304x1024, .bf16⟩
  | .local _ .vmem, ⟨1, _⟩ => ⟨S2304x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2304x1024, .bf16⟩
  | .local _ .vmem, ⟨5, _⟩ => ⟨S2304x1024, .bf16⟩
  | _, _ => ⟨S4x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_call0_v0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2304x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRefIdeal.lean ====
abbrev S4x2064x1024 : Shape := ⟨3, ![4, 2064, 1024]⟩
abbrev S1024x6608 : Shape := ⟨2, ![1024, 6608]⟩
abbrev S4x2064x6608 : Shape := ⟨3, ![4, 2064, 6608]⟩
abbrev S4x2064x512 : Shape := ⟨3, ![4, 2064, 512]⟩
abbrev S4x2064x16 : Shape := ⟨3, ![4, 2064, 16]⟩
abbrev S4x2064x256 : Shape := ⟨3, ![4, 2064, 256]⟩
abbrev S4x2064x128 : Shape := ⟨3, ![4, 2064, 128]⟩
abbrev S4x2064x64 : Shape := ⟨3, ![4, 2064, 64]⟩

abbrev nBuf : Space → Nat
  | .hbm => 14
  | .vmem => 0
  | .smem => 0
  | _ => 0

abbrev bufTy : (tb : Table) → Fin (tcTables nBuf tb) → BufTy
  | .hbm, ⟨0, _⟩ => ⟨S4x2064x1024, .f32⟩
  | .hbm, ⟨1, _⟩ => ⟨S1024x6608, .f32⟩
  | .hbm, ⟨2, _⟩ => ⟨S4x2064x6608, .f32⟩
  | .hbm, ⟨3, _⟩ => ⟨S4x2064x512, .f32⟩
  | .hbm, ⟨4, _⟩ => ⟨S4x2064x512, .f32⟩
  | .hbm, ⟨5, _⟩ => ⟨S4x2064x1024, .f32⟩
  | .hbm, ⟨6, _⟩ => ⟨S4x2064x16, .f32⟩
  | .hbm, ⟨7, _⟩ => ⟨S4x2064x1024, .f32⟩
  | .hbm, ⟨8, _⟩ => ⟨S4x2064x256, .f32⟩
  | .hbm, ⟨9, _⟩ => ⟨S4x2064x128, .f32⟩
  | .hbm, ⟨10, _⟩ => ⟨S4x2064x64, .f32⟩
  | .hbm, ⟨11, _⟩ => ⟨S4x2064x1024, .f32⟩
  | .hbm, ⟨12, _⟩ => ⟨S4x2064x1024, .f32⟩
  | .hbm, ⟨13, _⟩ => ⟨S4x2064x1024, .f32⟩
  | _, _ => ⟨S4x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== DwSq.lean ====
abbrev S4x2064x1024 : Shape := ⟨3, ![4, 2064, 1024]⟩
abbrev S_ : Shape := ⟨0, ![]⟩
abbrev S4x2304x1024 : Shape := ⟨3, ![4, 2304, 1024]⟩
abbrev S9216x1024 : Shape := ⟨2, ![9216, 1024]⟩
abbrev S1024x1024 : Shape := ⟨2, ![1024, 1024]⟩
abbrev S2304x1024 : Shape := ⟨2, ![2304, 1024]⟩

abbrev nBuf : Space → Nat
  | .hbm => 14
  | .vmem => 6
  | .smem => 0
  | _ => 0

abbrev bufTy : (tb : Table) → Fin (tcTables nBuf tb) → BufTy
  | .hbm, ⟨0, _⟩ => ⟨S4x2064x1024, .f32⟩
  | .hbm, ⟨1, _⟩ => ⟨S4x2064x1024, .f32⟩
  | .hbm, ⟨2, _⟩ => ⟨S_, .i32⟩
  | .hbm, ⟨3, _⟩ => ⟨S_, .f32⟩
  | .hbm, ⟨4, _⟩ => ⟨S4x2304x1024, .f32⟩
  | .hbm, ⟨5, _⟩ => ⟨S9216x1024, .f32⟩
  | .hbm, ⟨6, _⟩ => ⟨S9216x1024, .bf16⟩
  | .hbm, ⟨7, _⟩ => ⟨S_, .i32⟩
  | .hbm, ⟨8, _⟩ => ⟨S_, .f32⟩
  | .hbm, ⟨9, _⟩ => ⟨S4x2304x1024, .f32⟩
  | .hbm, ⟨10, _⟩ => ⟨S9216x1024, .f32⟩
  | .hbm, ⟨11, _⟩ => ⟨S9216x1024, .bf16⟩
  | .hbm, ⟨12, _⟩ => ⟨S1024x1024, .bf16⟩
  | .hbm, ⟨13, _⟩ => ⟨S1024x1024, .f32⟩
  | .local _ .vmem, ⟨0, _⟩ => ⟨S2304x1024, .bf16⟩
  | .local _ .vmem, ⟨1, _⟩ => ⟨S2304x1024, .bf16⟩
  | .local _ .vmem, ⟨2, _⟩ => ⟨S2304x1024, .bf16⟩
  | .local _ .vmem, ⟨3, _⟩ => ⟨S2304x1024, .bf16⟩
  | .local _ .vmem, ⟨4, _⟩ => ⟨S1024x1024, .bf16⟩
  | .local _ .vmem, ⟨5, _⟩ => ⟨S1024x1024, .f32⟩
  | _, _ => ⟨S4x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call1_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwSqRefIdeal.lean ====
abbrev S4x2064x1024 : Shape := ⟨3, ![4, 2064, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4x2064x1024, .f32⟩
  | .hbm, ⟨1, _⟩ => ⟨S4x2064x1024, .f32⟩
  | .hbm, ⟨2, _⟩ => ⟨S_, .f32⟩
  | .hbm, ⟨3, _⟩ => ⟨S1024x1024, .f32⟩
  | .hbm, ⟨4, _⟩ => ⟨S4x2064x1024, .f32⟩
  | .hbm, ⟨5, _⟩ => ⟨S1024x1024, .f32⟩
  | .hbm, ⟨6, _⟩ => ⟨S1024x1024, .f32⟩
  | _, _ => ⟨S4x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwGates.lean ====
abbrev S4x2064x1024 : Shape := ⟨3, ![4, 2064, 1024]⟩
abbrev S4x2064x2048 : Shape := ⟨3, ![4, 2064, 2048]⟩
abbrev S_ : Shape := ⟨0, ![]⟩
abbrev S4x2304x1024 : Shape := ⟨3, ![4, 2304, 1024]⟩
abbrev S9216x1024 : Shape := ⟨2, ![9216, 1024]⟩
abbrev S4x2304x2048 : Shape := ⟨3, ![4, 2304, 2048]⟩
abbrev S9216x2048 : Shape := ⟨2, ![9216, 2048]⟩
abbrev S1024x2048 : Shape := ⟨2, ![1024, 2048]⟩
abbrev S2304x1024 : Shape := ⟨2, ![2304, 1024]⟩
abbrev S1024x1024 : Shape := ⟨2, ![1024, 1024]⟩

abbrev nBuf : Space → Nat
  | .hbm => 14
  | .vmem => 7
  | .smem => 0
  | _ => 0

abbrev bufTy : (tb : Table) → Fin (tcTables nBuf tb) → BufTy
  | .hbm, ⟨0, _⟩ => ⟨S4x2064x1024, .f32⟩
  | .hbm, ⟨1, _⟩ => ⟨S4x2064x2048, .f32⟩
  | .hbm, ⟨2, _⟩ => ⟨S_, .i32⟩
  | .hbm, ⟨3, _⟩ => ⟨S_, .f32⟩
  | .hbm, ⟨4, _⟩ => ⟨S4x2304x1024, .f32⟩
  | .hbm, ⟨5, _⟩ => ⟨S9216x1024, .f32⟩
  | .hbm, ⟨6, _⟩ => ⟨S9216x1024, .bf16⟩
  | .hbm, ⟨7, _⟩ => ⟨S_, .i32⟩
  | .hbm, ⟨8, _⟩ => ⟨S_, .f32⟩
  | .hbm, ⟨9, _⟩ => ⟨S4x2304x2048, .f32⟩
  | .hbm, ⟨10, _⟩ => ⟨S9216x2048, .f32⟩
  | .hbm, ⟨11, _⟩ => ⟨S9216x2048, .bf16⟩
  | .hbm, ⟨12, _⟩ => ⟨S1024x2048, .bf16⟩
  | .hbm, ⟨13, _⟩ => ⟨S1024x2048, .f32⟩
  | .local _ .vmem, ⟨0, _⟩ => ⟨S2304x1024, .bf16⟩
  | .local _ .vmem, ⟨1, _⟩ => ⟨S2304x1024, .bf16⟩
  | .local _ .vmem, ⟨2, _⟩ => ⟨S2304x1024, .bf16⟩
  | .local _ .vmem, ⟨3, _⟩ => ⟨S2304x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call1_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwGatesRefIdeal.lean ====
abbrev S4x2064x1024 : Shape := ⟨3, ![4, 2064, 1024]⟩
abbrev S4x2064x2048 : Shape := ⟨3, ![4, 2064, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4x2064x1024, .f32⟩
  | .hbm, ⟨1, _⟩ => ⟨S4x2064x2048, .f32⟩
  | .hbm, ⟨2, _⟩ => ⟨S_, .f32⟩
  | .hbm, ⟨3, _⟩ => ⟨S1024x2048, .f32⟩
  | .hbm, ⟨4, _⟩ => ⟨S4x2064x2048, .f32⟩
  | .hbm, ⟨5, _⟩ => ⟨S2048x1024, .f32⟩
  | .hbm, ⟨6, _⟩ => ⟨S1024x2048, .f32⟩
  | _, _ => ⟨S4x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwGla.lean ====
abbrev S4x2064x1024 : Shape := ⟨3, ![4, 2064, 1024]⟩
abbrev S4x2064x2064 : Shape := ⟨3, ![4, 2064, 2064]⟩
abbrev S_ : Shape := ⟨0, ![]⟩
abbrev S4x2064x2304 : Shape := ⟨3, ![4, 2064, 2304]⟩
abbrev S4x2304x1024 : Shape := ⟨3, ![4, 2304, 1024]⟩
abbrev S9216x1024 : Shape := ⟨2, ![9216, 1024]⟩
abbrev S4x2304x2304 : Shape := ⟨3, ![4, 2304, 2304]⟩
abbrev S9216x2304 : Shape := ⟨2, ![9216, 2304]⟩
abbrev S1024x2304 : Shape := ⟨2, ![1024, 2304]⟩
abbrev S2304x1024 : Shape := ⟨2, ![2304, 1024]⟩
abbrev S2304x768 : Shape := ⟨2, ![2304, 768]⟩
abbrev S1024x768 : Shape := ⟨2, ![1024, 768]⟩
abbrev S1024x2064 : Shape := ⟨2, ![1024, 2064]⟩

abbrev nBuf : Space → Nat
  | .hbm => 18
  | .vmem => 7
  | .smem => 0
  | _ => 0

abbrev bufTy : (tb : Table) → Fin (tcTables nBuf tb) → BufTy
  | .hbm, ⟨0, _⟩ => ⟨S4x2064x1024, .f32⟩
  | .hbm, ⟨1, _⟩ => ⟨S4x2064x2064, .f32⟩
  | .hbm, ⟨2, _⟩ => ⟨S_, .i32⟩
  | .hbm, ⟨3, _⟩ => ⟨S_, .f32⟩
  | .hbm, ⟨4, _⟩ => ⟨S4x2064x2304, .f32⟩
  | .hbm, ⟨5, _⟩ => ⟨S_, .i32⟩
  | .hbm, ⟨6, _⟩ => ⟨S_, .f32⟩
  | .hbm, ⟨7, _⟩ => ⟨S4x2304x1024, .f32⟩
  | .hbm, ⟨8, _⟩ => ⟨S9216x1024, .f32⟩
  | .hbm, ⟨9, _⟩ => ⟨S9216x1024, .bf16⟩
  | .hbm, ⟨10, _⟩ => ⟨S_, .i32⟩
  | .hbm, ⟨11, _⟩ => ⟨S_, .f32⟩
  | .hbm, ⟨12, _⟩ => ⟨S4x2304x2304, .f32⟩
  | .hbm, ⟨13, _⟩ => ⟨S9216x2304, .f32⟩
  | .hbm, ⟨14, _⟩ => ⟨S9216x2304, .bf16⟩
  | .hbm, ⟨15, _⟩ => ⟨S1024x2304, .bf16⟩
  | .hbm, ⟨16, _⟩ => ⟨S1024x2304, .f32⟩
  | .hbm, ⟨17, _⟩ => ⟨S1024x2064, .f32⟩
  | .local _ .vmem, ⟨0, _⟩ => ⟨S2304x1024, .bf16⟩
  | .local _ .vmem, ⟨1, _⟩ => ⟨S2304x1024, .bf16⟩
  | .local _ .vmem, ⟨2, _⟩ => ⟨S2304x768, .bf16⟩
  | .local _ .vmem, ⟨3, _⟩ => ⟨S2304x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S4x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_call2_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2304x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwGlaRefIdeal.lean ====
abbrev S4x2064x1024 : Shape := ⟨3, ![4, 2064, 1024]⟩
abbrev S4x2064x2064 : Shape := ⟨3, ![4, 2064, 2064]⟩
abbrev S_ : Shape := ⟨0, ![]⟩
abbrev S1024x2064 : Shape := ⟨2, ![1024, 2064]⟩
abbrev S2064x1024 : Shape := ⟨2, ![2064, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4x2064x1024, .f32⟩
  | .hbm, ⟨1, _⟩ => ⟨S4x2064x2064, .f32⟩
  | .hbm, ⟨2, _⟩ => ⟨S_, .f32⟩
  | .hbm, ⟨3, _⟩ => ⟨S1024x2064, .f32⟩
  | .hbm, ⟨4, _⟩ => ⟨S4x2064x2064, .f32⟩
  | .hbm, ⟨5, _⟩ => ⟨S2064x1024, .f32⟩
  | .hbm, ⟨6, _⟩ => ⟨S1024x2064, .f32⟩
  | _, _ => ⟨S4x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.RunA.lean ====
module

public import proofs.«01_k».proof.Proof.Gen.AttnIdeal.Loops
public import proofs.«01_k».proof.Proof.Gen.AttnIdeal.Frame

@[expose] public section

set_option maxRecDepth 16384

noncomputable section

namespace Cert.AttnIdeal.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal.Gen

set_option synthInstance.maxHeartbeats 400000
set_option maxHeartbeats 4000000

variable {F : FTy → Type} [FloatOps F] [Named F]

local notation "𝕄" => MT nD τ sig Unit (Elt F) ℕ (UR sig nD τ) ℕ

/-- The body at the first key block: the pieces it leaves in each written buffer, found by running it. -/
@[irreducible] def runA (𝒱 : Variants) (c : Dev nD) (bd : Option 𝒱.V) (i : grid0.Coords) (arg3 : Memref sig .tc .vmem S2304x2048 .bf16) (harg3 : arg3.IsWhole) (arg4 : Memref sig .tc .vmem S256x2048 .bf16) (harg4 : arg4.IsWhole) (arg5 : Memref sig .tc .vmem S256x1024 .bf16) (harg5 : arg5.IsWhole) (arg6 : Memref sig .tc .vmem S2304x1024 .bf16) (harg6 : arg6.IsWhole) (arg7 : Memref sig .tc .vmem S1x8x9x256 .f32) (harg7 : arg7.IsWhole) (arg8 : Memref sig .tc .vmem S1x8x9x256 .f32) (harg8 : arg8.IsWhole) (arg9 : Memref sig .tc .vmem S2304x2048 .bf16) (harg9 : arg9.IsWhole) (arg10 : Memref sig .tc .vmem S256x2048 .bf16) (harg10 : arg10.IsWhole) (arg11 : Memref sig .tc .vmem S256x1024 .bf16) (harg11 : arg11.IsWhole) (arg12 : Memref sig .tc .vmem S2304x2048 .f32) (harg12 : arg12.IsWhole) (arg13 : Memref sig .tc .vmem S256x2048 .f32) (harg13 : arg13.IsWhole) (arg14 : Memref sig .tc .vmem S256x1024 .f32) (harg14 : arg14.IsWhole)
    (hc1 : k0_cond1 i = 1#1) (hc2 : ¬ k0_cond2 i = 1#1) (hc3 : ¬ k0_cond3 i = 1#1)
    (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) :
    Σ' (L10 : List (View.Piece (Elt F) S256x2048 .bf16)) (L11 : List (View.Piece (Elt F) S256x1024 .bf16)), { L12 : List (View.Piece (Elt F) S2304x2048 .f32) // ∀ (E : Set ℕ),
      (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) : sProp 𝕄)
      ⊢ wp frame (wpE (defs₀ (F := F)) 𝒱 (c : Thread nD τ) bd) E (cc0_attn_bwd i arg3 harg3 arg4 harg4 arg5 harg5 arg6 harg6 arg7 harg7 arg8 harg8 arg9 harg9 arg10 harg10 arg11 harg11 arg12 harg12 arg13 harg13 arg14 harg14)
          (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} arg10.view.writes (Elt F) f10 L10) ∗ (arg11.view.loc (c : Thread nD τ) ↦[arg11.view.set]{fullShare} arg11.view.writes (Elt F) f11 L11) ∗ (arg12.view.loc (c : Thread nD τ) ↦[arg12.view.set]{fullShare} arg12.view.writes (Elt F) f12 L12) ∗ (∃ d, arg13.view.loc (c : Thread nD τ) ↦[arg13.view.set]{fullShare} d) ∗ (∃ d, arg14.view.loc (c : Thread nD τ) ↦[arg14.view.set]{fullShare} d))) } := by
  refine ⟨?_, ?_, ?_, fun E => ?run⟩
  case run =>
    rw [cc0_attn_bwd_eq_skeleton]
    unfold cc0_attn_bwd_skel
    iintro ⟨H3, H4, H5, H6, H7, H8, H9, H10, H11, H12, H13, H14⟩
    sl_exec (disch := first | sl_exact hc1 | sl_exact hc2 | sl_exact hc3)
    sl_step
    sl_close

end Cert.AttnIdeal.Proof

end

end
-- ==== Proof.RunB.lean ====
module

public import proofs.«01_k».proof.Proof.Gen.AttnIdeal.Loops
public import proofs.«01_k».proof.Proof.Gen.AttnIdeal.Frame

@[expose] public section

set_option maxRecDepth 16384

noncomputable section

namespace Cert.AttnIdeal.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal.Gen

set_option synthInstance.maxHeartbeats 400000
set_option maxHeartbeats 4000000

variable {F : FTy → Type} [FloatOps F] [Named F]

local notation "𝕄" => MT nD τ sig Unit (Elt F) ℕ (UR sig nD τ) ℕ

/-- The body at a middle key block: the pieces it leaves in each written buffer, found by running it. -/
@[irreducible] def runB (𝒱 : Variants) (c : Dev nD) (bd : Option 𝒱.V) (i : grid0.Coords) (arg3 : Memref sig .tc .vmem S2304x2048 .bf16) (harg3 : arg3.IsWhole) (arg4 : Memref sig .tc .vmem S256x2048 .bf16) (harg4 : arg4.IsWhole) (arg5 : Memref sig .tc .vmem S256x1024 .bf16) (harg5 : arg5.IsWhole) (arg6 : Memref sig .tc .vmem S2304x1024 .bf16) (harg6 : arg6.IsWhole) (arg7 : Memref sig .tc .vmem S1x8x9x256 .f32) (harg7 : arg7.IsWhole) (arg8 : Memref sig .tc .vmem S1x8x9x256 .f32) (harg8 : arg8.IsWhole) (arg9 : Memref sig .tc .vmem S2304x2048 .bf16) (harg9 : arg9.IsWhole) (arg10 : Memref sig .tc .vmem S256x2048 .bf16) (harg10 : arg10.IsWhole) (arg11 : Memref sig .tc .vmem S256x1024 .bf16) (harg11 : arg11.IsWhole) (arg12 : Memref sig .tc .vmem S2304x2048 .f32) (harg12 : arg12.IsWhole) (arg13 : Memref sig .tc .vmem S256x2048 .f32) (harg13 : arg13.IsWhole) (arg14 : Memref sig .tc .vmem S256x1024 .f32) (harg14 : arg14.IsWhole)
    (hc1 : ¬ k0_cond1 i = 1#1) (hc2 : k0_cond2 i = 1#1) (hc3 : ¬ k0_cond3 i = 1#1)
    (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) :
    Σ' (L10 : List (View.Piece (Elt F) S256x2048 .bf16)) (L11 : List (View.Piece (Elt F) S256x1024 .bf16)), { L12 : List (View.Piece (Elt F) S2304x2048 .f32) // ∀ (E : Set ℕ),
      (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) : sProp 𝕄)
      ⊢ wp frame (wpE (defs₀ (F := F)) 𝒱 (c : Thread nD τ) bd) E (cc0_attn_bwd i arg3 harg3 arg4 harg4 arg5 harg5 arg6 harg6 arg7 harg7 arg8 harg8 arg9 harg9 arg10 harg10 arg11 harg11 arg12 harg12 arg13 harg13 arg14 harg14)
          (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} arg10.view.writes (Elt F) f10 L10) ∗ (arg11.view.loc (c : Thread nD τ) ↦[arg11.view.set]{fullShare} arg11.view.writes (Elt F) f11 L11) ∗ (arg12.view.loc (c : Thread nD τ) ↦[arg12.view.set]{fullShare} arg12.view.writes (Elt F) f12 L12) ∗ (∃ d, arg13.view.loc (c : Thread nD τ) ↦[arg13.view.set]{fullShare} d) ∗ (∃ d, arg14.view.loc (c : Thread nD τ) ↦[arg14.view.set]{fullShare} d))) } := by
  refine ⟨?_, ?_, ?_, fun E => ?run⟩
  case run =>
    rw [cc0_attn_bwd_eq_skeleton]
    unfold cc0_attn_bwd_skel
    iintro ⟨H3, H4, H5, H6, H7, H8, H9, H10, H11, H12, H13, H14⟩
    sl_exec (disch := first | sl_exact hc1 | sl_exact hc2 | sl_exact hc3)
    sl_step
    sl_close

end Cert.AttnIdeal.Proof

end

end
-- ==== Proof.RunC.lean ====
module

public import proofs.«01_k».proof.Proof.Gen.AttnIdeal.Loops
public import proofs.«01_k».proof.Proof.Gen.AttnIdeal.Frame

@[expose] public section

set_option maxRecDepth 16384

noncomputable section

namespace Cert.AttnIdeal.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal.Gen

set_option synthInstance.maxHeartbeats 400000
set_option maxHeartbeats 4000000

variable {F : FTy → Type} [FloatOps F] [Named F]

local notation "𝕄" => MT nD τ sig Unit (Elt F) ℕ (UR sig nD τ) ℕ

/-- The body at the last key block: the pieces it leaves in each written buffer, found by running it. -/
@[irreducible] def runC (𝒱 : Variants) (c : Dev nD) (bd : Option 𝒱.V) (i : grid0.Coords) (arg3 : Memref sig .tc .vmem S2304x2048 .bf16) (harg3 : arg3.IsWhole) (arg4 : Memref sig .tc .vmem S256x2048 .bf16) (harg4 : arg4.IsWhole) (arg5 : Memref sig .tc .vmem S256x1024 .bf16) (harg5 : arg5.IsWhole) (arg6 : Memref sig .tc .vmem S2304x1024 .bf16) (harg6 : arg6.IsWhole) (arg7 : Memref sig .tc .vmem S1x8x9x256 .f32) (harg7 : arg7.IsWhole) (arg8 : Memref sig .tc .vmem S1x8x9x256 .f32) (harg8 : arg8.IsWhole) (arg9 : Memref sig .tc .vmem S2304x2048 .bf16) (harg9 : arg9.IsWhole) (arg10 : Memref sig .tc .vmem S256x2048 .bf16) (harg10 : arg10.IsWhole) (arg11 : Memref sig .tc .vmem S256x1024 .bf16) (harg11 : arg11.IsWhole) (arg12 : Memref sig .tc .vmem S2304x2048 .f32) (harg12 : arg12.IsWhole) (arg13 : Memref sig .tc .vmem S256x2048 .f32) (harg13 : arg13.IsWhole) (arg14 : Memref sig .tc .vmem S256x1024 .f32) (harg14 : arg14.IsWhole)
    (hc1 : ¬ k0_cond1 i = 1#1) (hc2 : k0_cond2 i = 1#1) (hc3 : k0_cond3 i = 1#1)
    (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) :
    Σ' (L9 : List (View.Piece (Elt F) S2304x2048 .bf16)) (L10 : List (View.Piece (Elt F) S256x2048 .bf16)) (L11 : List (View.Piece (Elt F) S256x1024 .bf16)), { L12 : List (View.Piece (Elt F) S2304x2048 .f32) // ∀ (E : Set ℕ),
      (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) : sProp 𝕄)
      ⊢ wp frame (wpE (defs₀ (F := F)) 𝒱 (c : Thread nD τ) bd) E (cc0_attn_bwd i arg3 harg3 arg4 harg4 arg5 harg5 arg6 harg6 arg7 harg7 arg8 harg8 arg9 harg9 arg10 harg10 arg11 harg11 arg12 harg12 arg13 harg13 arg14 harg14)
          (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} arg9.view.writes (Elt F) f9 L9) ∗ (arg10.view.loc (c : Thread nD τ) ↦[arg10.view.set]{fullShare} arg10.view.writes (Elt F) f10 L10) ∗ (arg11.view.loc (c : Thread nD τ) ↦[arg11.view.set]{fullShare} arg11.view.writes (Elt F) f11 L11) ∗ (arg12.view.loc (c : Thread nD τ) ↦[arg12.view.set]{fullShare} arg12.view.writes (Elt F) f12 L12) ∗ (∃ d, arg13.view.loc (c : Thread nD τ) ↦[arg13.view.set]{fullShare} d) ∗ (∃ d, arg14.view.loc (c : Thread nD τ) ↦[arg14.view.set]{fullShare} d))) } := by
  refine ⟨?_, ?_, ?_, ?_, fun E => ?run⟩
  case run =>
    rw [cc0_attn_bwd_eq_skeleton]
    unfold cc0_attn_bwd_skel
    iintro ⟨H3, H4, H5, H6, H7, H8, H9, H10, H11, H12, H13, H14⟩
    sl_exec (disch := first | sl_exact hc1 | sl_exact hc2 | sl_exact hc3)
    sl_step
    sl_close

end Cert.AttnIdeal.Proof

end

end
-- ==== Proof.Body.lean ====
module

public import proofs.«01_k».proof.Proof.Gen.AttnIdeal.Loops
public import proofs.«01_k».proof.Proof.Gen.AttnIdeal.Frame
public import proofs.«01_k».proof.Proof.RunA
public import proofs.«01_k».proof.Proof.RunB
public import proofs.«01_k».proof.Proof.RunC

@[expose] public section

set_option maxRecDepth 16384

noncomputable section

namespace Cert.AttnIdeal.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal.Gen

set_option maxHeartbeats 1000000

variable {F : FTy → Type} [FloatOps F] [Named F] (m : (ℓ : Loc nD τ sig) → Buf (Elt F) ℓ)

local notation "𝕄" => MT nD τ sig Unit (Elt F) ℕ (UR sig nD τ) ℕ

/-- At point `t` the first branch (the first key block of a sequence) is taken exactly when `t` is a multiple of nine. -/
theorem cond1_iff : ∀ t : Fin cfg0.N, k0_cond1 (grid0.coords t) = 1#1 ↔ t.val % 9 = 0 := by decide +kernel
/-- The second branch is taken at every later key block. -/
theorem cond2_iff : ∀ t : Fin cfg0.N, k0_cond2 (grid0.coords t) = 1#1 ↔ t.val % 9 ≠ 0 := by decide +kernel
/-- The last branch (the query gradient is written out) is taken at the last key block. -/
theorem cond3_iff : ∀ t : Fin cfg0.N, k0_cond3 (grid0.coords t) = 1#1 ↔ t.val % 9 = 8 := by decide +kernel

/-- What is to be shown of the body's run, as statements about contents alone: `P` of the carried query gradient is kept,
    and `R6`, `R7`, `R8` hold of the written blocks. -/
structure Outcome (P : Dev nD → Fin (cfg0.N + 1) → (S2304x2048.Idx → Elt F .f32) → Prop)
    (R6 : Dev nD → Fin cfg0.N → (S2304x2048.Idx → Elt F .bf16) → Prop)
    (R7 : Dev nD → Fin cfg0.N → (S256x2048.Idx → Elt F .bf16) → Prop)
    (R8 : Dev nD → Fin cfg0.N → (S256x1024.Idx → Elt F .bf16) → Prop) : Prop where
  first : ∀ (c : Dev nD) (t : Fin cfg0.N) (hc1 : k0_cond1 (grid0.coords t) = 1#1) (hc2 : ¬ k0_cond2 (grid0.coords t) = 1#1) (hc3 : ¬ k0_cond3 (grid0.coords t) = 1#1)
    (f3 : BufTy.Contents (Elt F) (st0_0 t).view.ty) (f4 : BufTy.Contents (Elt F) (st0_1 t).view.ty) (f5 : BufTy.Contents (Elt F) (st0_2 t).view.ty) (f6 : BufTy.Contents (Elt F) (st0_3 t).view.ty) (f7 : BufTy.Contents (Elt F) (st0_4 t).view.ty) (f8 : BufTy.Contents (Elt F) (st0_5 t).view.ty) (f9 : BufTy.Contents (Elt F) (st0_6 t).view.ty) (f10 : BufTy.Contents (Elt F) (st0_7 t).view.ty) (f11 : BufTy.Contents (Elt F) (st0_8 t).view.ty) (f12 : BufTy.Contents (Elt F) (Memref.whole cc0_scratch0).view.ty) (f13 : BufTy.Contents (Elt F) (Memref.whole cc0_scratch1).view.ty) (f14 : BufTy.Contents (Elt F) (Memref.whole cc0_scratch2).view.ty)
    (h3 : (st0_0 t).view.read (Elt F) f3 = iblk m c 0 t)
    (h4 : (st0_1 t).view.read (Elt F) f4 = iblk m c 1 t)
    (h5 : (st0_2 t).view.read (Elt F) f5 = iblk m c 2 t)
    (h6 : (st0_3 t).view.read (Elt F) f6 = iblk m c 3 t)
    (h7 : (st0_4 t).view.read (Elt F) f7 = iblk m c 4 t)
    (h8 : (st0_5 t).view.read (Elt F) f8 = iblk m c 5 t)
    (hP : P c t.castSucc ((Memref.whole cc0_scratch0).view.read (Elt F) f12)),
    R7 c t ((st0_7 t).view.read (Elt F) ((st0_7 t).view.writes (Elt F) f10 (runA (F := F) Variants.none c none (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _) (Memref.whole cc0_scratch1) (Memref.isWhole_whole _) (Memref.whole cc0_scratch2) (Memref.isWhole_whole _) hc1 hc2 hc3 f3 f4 f5 f6 f7 f8 f9 f10 f11 f12 f13 f14).1))
    ∧ R8 c t ((st0_8 t).view.read (Elt F) ((st0_8 t).view.writes (Elt F) f11 (runA (F := F) Variants.none c none (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _) (Memref.whole cc0_scratch1) (Memref.isWhole_whole _) (Memref.whole cc0_scratch2) (Memref.isWhole_whole _) hc1 hc2 hc3 f3 f4 f5 f6 f7 f8 f9 f10 f11 f12 f13 f14).2.1))
    ∧ P c t.succ ((Memref.whole cc0_scratch0).view.read (Elt F) ((Memref.whole cc0_scratch0).view.writes (Elt F) f12 (runA (F := F) Variants.none c none (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _) (Memref.whole cc0_scratch1) (Memref.isWhole_whole _) (Memref.whole cc0_scratch2) (Memref.isWhole_whole _) hc1 hc2 hc3 f3 f4 f5 f6 f7 f8 f9 f10 f11 f12 f13 f14).2.2.1))
  middle : ∀ (c : Dev nD) (t : Fin cfg0.N) (hc1 : ¬ k0_cond1 (grid0.coords t) = 1#1) (hc2 : k0_cond2 (grid0.coords t) = 1#1) (hc3 : ¬ k0_cond3 (grid0.coords t) = 1#1)
    (f3 : BufTy.Contents (Elt F) (st0_0 t).view.ty) (f4 : BufTy.Contents (Elt F) (st0_1 t).view.ty) (f5 : BufTy.Contents (Elt F) (st0_2 t).view.ty) (f6 : BufTy.Contents (Elt F) (st0_3 t).view.ty) (f7 : BufTy.Contents (Elt F) (st0_4 t).view.ty) (f8 : BufTy.Contents (Elt F) (st0_5 t).view.ty) (f9 : BufTy.Contents (Elt F) (st0_6 t).view.ty) (f10 : BufTy.Contents (Elt F) (st0_7 t).view.ty) (f11 : BufTy.Contents (Elt F) (st0_8 t).view.ty) (f12 : BufTy.Contents (Elt F) (Memref.whole cc0_scratch0).view.ty) (f13 : BufTy.Contents (Elt F) (Memref.whole cc0_scratch1).view.ty) (f14 : BufTy.Contents (Elt F) (Memref.whole cc0_scratch2).view.ty)
    (h3 : (st0_0 t).view.read (Elt F) f3 = iblk m c 0 t)
    (h4 : (st0_1 t).view.read (Elt F) f4 = iblk m c 1 t)
    (h5 : (st0_2 t).view.read (Elt F) f5 = iblk m c 2 t)
    (h6 : (st0_3 t).view.read (Elt F) f6 = iblk m c 3 t)
    (h7 : (st0_4 t).view.read (Elt F) f7 = iblk m c 4 t)
    (h8 : (st0_5 t).view.read (Elt F) f8 = iblk m c 5 t)
    (hP : P c t.castSucc ((Memref.whole cc0_scratch0).view.read (Elt F) f12)),
    R7 c t ((st0_7 t).view.read (Elt F) ((st0_7 t).view.writes (Elt F) f10 (runB (F := F) Variants.none c none (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _) (Memref.whole cc0_scratch1) (Memref.isWhole_whole _) (Memref.whole cc0_scratch2) (Memref.isWhole_whole _) hc1 hc2 hc3 f3 f4 f5 f6 f7 f8 f9 f10 f11 f12 f13 f14).1))
    ∧ R8 c t ((st0_8 t).view.read (Elt F) ((st0_8 t).view.writes (Elt F) f11 (runB (F := F) Variants.none c none (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _) (Memref.whole cc0_scratch1) (Memref.isWhole_whole _) (Memref.whole cc0_scratch2) (Memref.isWhole_whole _) hc1 hc2 hc3 f3 f4 f5 f6 f7 f8 f9 f10 f11 f12 f13 f14).2.1))
    ∧ P c t.succ ((Memref.whole cc0_scratch0).view.read (Elt F) ((Memref.whole cc0_scratch0).view.writes (Elt F) f12 (runB (F := F) Variants.none c none (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _) (Memref.whole cc0_scratch1) (Memref.isWhole_whole _) (Memref.whole cc0_scratch2) (Memref.isWhole_whole _) hc1 hc2 hc3 f3 f4 f5 f6 f7 f8 f9 f10 f11 f12 f13 f14).2.2.1))
  last : ∀ (c : Dev nD) (t : Fin cfg0.N) (hc1 : ¬ k0_cond1 (grid0.coords t) = 1#1) (hc2 : k0_cond2 (grid0.coords t) = 1#1) (hc3 : k0_cond3 (grid0.coords t) = 1#1)
    (f3 : BufTy.Contents (Elt F) (st0_0 t).view.ty) (f4 : BufTy.Contents (Elt F) (st0_1 t).view.ty) (f5 : BufTy.Contents (Elt F) (st0_2 t).view.ty) (f6 : BufTy.Contents (Elt F) (st0_3 t).view.ty) (f7 : BufTy.Contents (Elt F) (st0_4 t).view.ty) (f8 : BufTy.Contents (Elt F) (st0_5 t).view.ty) (f9 : BufTy.Contents (Elt F) (st0_6 t).view.ty) (f10 : BufTy.Contents (Elt F) (st0_7 t).view.ty) (f11 : BufTy.Contents (Elt F) (st0_8 t).view.ty) (f12 : BufTy.Contents (Elt F) (Memref.whole cc0_scratch0).view.ty) (f13 : BufTy.Contents (Elt F) (Memref.whole cc0_scratch1).view.ty) (f14 : BufTy.Contents (Elt F) (Memref.whole cc0_scratch2).view.ty)
    (h3 : (st0_0 t).view.read (Elt F) f3 = iblk m c 0 t)
    (h4 : (st0_1 t).view.read (Elt F) f4 = iblk m c 1 t)
    (h5 : (st0_2 t).view.read (Elt F) f5 = iblk m c 2 t)
    (h6 : (st0_3 t).view.read (Elt F) f6 = iblk m c 3 t)
    (h7 : (st0_4 t).view.read (Elt F) f7 = iblk m c 4 t)
    (h8 : (st0_5 t).view.read (Elt F) f8 = iblk m c 5 t)
    (hP : P c t.castSucc ((Memref.whole cc0_scratch0).view.read (Elt F) f12)),
    R6 c t ((st0_6 t).view.read (Elt F) ((st0_6 t).view.writes (Elt F) f9 (runC (F := F) Variants.none c none (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _) (Memref.whole cc0_scratch1) (Memref.isWhole_whole _) (Memref.whole cc0_scratch2) (Memref.isWhole_whole _) hc1 hc2 hc3 f3 f4 f5 f6 f7 f8 f9 f10 f11 f12 f13 f14).1))
    ∧ R7 c t ((st0_7 t).view.read (Elt F) ((st0_7 t).view.writes (Elt F) f10 (runC (F := F) Variants.none c none (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _) (Memref.whole cc0_scratch1) (Memref.isWhole_whole _) (Memref.whole cc0_scratch2) (Memref.isWhole_whole _) hc1 hc2 hc3 f3 f4 f5 f6 f7 f8 f9 f10 f11 f12 f13 f14).2.1))
    ∧ R8 c t ((st0_8 t).view.read (Elt F) ((st0_8 t).view.writes (Elt F) f11 (runC (F := F) Variants.none c none (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _) (Memref.whole cc0_scratch1) (Memref.isWhole_whole _) (Memref.whole cc0_scratch2) (Memref.isWhole_whole _) hc1 hc2 hc3 f3 f4 f5 f6 f7 f8 f9 f10 f11 f12 f13 f14).2.2.1))
    ∧ P c t.succ ((Memref.whole cc0_scratch0).view.read (Elt F) ((Memref.whole cc0_scratch0).view.writes (Elt F) f12 (runC (F := F) Variants.none c none (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _) (Memref.whole cc0_scratch1) (Memref.isWhole_whole _) (Memref.whole cc0_scratch2) (Memref.isWhole_whole _) hc1 hc2 hc3 f3 f4 f5 f6 f7 f8 f9 f10 f11 f12 f13 f14).2.2.2.1))

/-- The invariant between points: the carried query gradient at contents of which `P` holds, the two accumulators of a
    point at anything, and the core's random generator. -/
def Phi (P : Dev nD → Fin (cfg0.N + 1) → (S2304x2048.Idx → Elt F .f32) → Prop) (c : Dev nD) (t : Fin (cfg0.N + 1)) : sProp 𝕄 :=
  iprop((∃ X, ⌜P c t X⌝ ∗ owns c (Memref.whole cc0_scratch0) fullShare X) ∗ (∃ X, owns c (Memref.whole cc0_scratch1) fullShare X) ∗ (∃ X, owns c (Memref.whole cc0_scratch2) fullShare X) ∗ ∃ r, prngReg c r)

/-- One point of the grid, the first key block: the invariant is kept and the written blocks are as stated. -/
theorem bodyA {P R6 R7 R8} (H : Outcome (F := F) m P R6 R7 R8) (c : Dev nD) (t : Fin cfg0.N) (hc1 : k0_cond1 (grid0.coords t) = 1#1) (hc2 : ¬ k0_cond2 (grid0.coords t) = 1#1) (hc3 : ¬ k0_cond3 (grid0.coords t) = 1#1) (X6 : S2304x2048.Idx → Elt F .bf16) :
    iprop(Phi P c t.castSucc ∗ owns c (st0_0 t) fullShare (iblk m c 0 t) ∗ owns c (st0_1 t) fullShare (iblk m c 1 t) ∗ owns c (st0_2 t) fullShare (iblk m c 2 t) ∗ owns c (st0_3 t) fullShare (iblk m c 3 t) ∗ owns c (st0_4 t) fullShare (iblk m c 4 t) ∗ owns c (st0_5 t) fullShare (iblk m c 5 t) ∗ owns c (st0_6 t) fullShare X6 ∗ (∃ X, owns c (st0_7 t) fullShare X) ∗ (∃ X, owns c (st0_8 t) fullShare X))
      ⊢ wp frame (wpE (defs₀ (F := F)) Variants.none (c : Thread nD τ) none) Set.univ (bodyAt0 t) (fun _ =>
        iprop(Phi P c t.succ ∗ owns c (st0_0 t) fullShare (iblk m c 0 t) ∗ owns c (st0_1 t) fullShare (iblk m c 1 t) ∗ owns c (st0_2 t) fullShare (iblk m c 2 t) ∗ owns c (st0_3 t) fullShare (iblk m c 3 t) ∗ owns c (st0_4 t) fullShare (iblk m c 4 t) ∗ owns c (st0_5 t) fullShare (iblk m c 5 t) ∗ owns c (st0_6 t) fullShare X6 ∗ (∃ X, ⌜R7 c t X⌝ ∗ owns c (st0_7 t) fullShare X) ∗ (∃ X, ⌜R8 c t X⌝ ∗ owns c (st0_8 t) fullShare X))) := by
  unfold Phi owns bodyAt0
  iintro ⟨⟨⟨%X12, %hP, %f12, %h12, H12⟩, ⟨%X13, %f13, %h13, H13⟩, ⟨%X14, %f14, %h14, H14⟩, Hr⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%X10, %f10, %h10, H10⟩, ⟨%X11, %f11, %h11, H11⟩⟩
  have hO := H.first c t hc1 hc2 hc3 f3 f4 f5 f6 f7 f8 f9 f10 f11 f12 f13 f14 h3 h4 h5 h6 h7 h8 (h12 ▸ hP)
  iapply (wp_wand_r Idealize.ShloMosaic.frame (wpE (defs₀ (F := F)) Variants.none (c : Thread nD τ) none) Set.univ)
  isplitl [H3 H4 H5 H6 H7 H8 H9 H10 H11 H12 H13 H14]
  · iapply ((runA (F := F) Variants.none c none (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _) (Memref.whole cc0_scratch1) (Memref.isWhole_whole _) (Memref.whole cc0_scratch2) (Memref.isWhole_whole _) hc1 hc2 hc3 f3 f4 f5 f6 f7 f8 f9 f10 f11 f12 f13 f14).2.2.2 Set.univ)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  iintro %_ ⟨H3, H4, H5, H6, H7, H8, H9, H10, H11, H12, ⟨%g13, H13⟩, ⟨%g14, H14⟩⟩
  isplitl [H12 H13 H14 Hr]
  · isplitl [H12]
    · iexists _; isplitr; swap
      · iexists _; isplitr; swap; (iexact H12); ipureintro; rfl
      · ipureintro; exact hO.2.2
    isplitl [H13]; · iexists _; iexists g13; isplitr; swap; (iexact H13); ipureintro; rfl
    isplitl [H14]; · iexists _; iexists g14; isplitr; swap; (iexact H14); ipureintro; rfl
    iexact Hr
  isplitl [H3]; · iexists f3; isplitr; swap; (iexact H3); ipureintro; exact h3
  isplitl [H4]; · iexists f4; isplitr; swap; (iexact H4); ipureintro; exact h4
  isplitl [H5]; · iexists f5; isplitr; swap; (iexact H5); ipureintro; exact h5
  isplitl [H6]; · iexists f6; isplitr; swap; (iexact H6); ipureintro; exact h6
  isplitl [H7]; · iexists f7; isplitr; swap; (iexact H7); ipureintro; exact h7
  isplitl [H8]; · iexists f8; isplitr; swap; (iexact H8); ipureintro; exact h8
  isplitl [H9]; · iexists f9; isplitr; swap; (iexact H9); ipureintro; exact h9
  isplitl [H10]
  · iexists _; isplitr; swap
    · iexists _; isplitr; swap; (iexact H10); ipureintro; rfl
    · ipureintro; exact hO.1
  iexists _; isplitr; swap
  · iexists _; isplitr; swap; (iexact H11); ipureintro; rfl
  · ipureintro; exact hO.2.1

/-- One point of the grid, a middle key block: the invariant is kept and the written blocks are as stated. -/
theorem bodyB {P R6 R7 R8} (H : Outcome (F := F) m P R6 R7 R8) (c : Dev nD) (t : Fin cfg0.N) (hc1 : ¬ k0_cond1 (grid0.coords t) = 1#1) (hc2 : k0_cond2 (grid0.coords t) = 1#1) (hc3 : ¬ k0_cond3 (grid0.coords t) = 1#1) (X6 : S2304x2048.Idx → Elt F .bf16) :
    iprop(Phi P c t.castSucc ∗ owns c (st0_0 t) fullShare (iblk m c 0 t) ∗ owns c (st0_1 t) fullShare (iblk m c 1 t) ∗ owns c (st0_2 t) fullShare (iblk m c 2 t) ∗ owns c (st0_3 t) fullShare (iblk m c 3 t) ∗ owns c (st0_4 t) fullShare (iblk m c 4 t) ∗ owns c (st0_5 t) fullShare (iblk m c 5 t) ∗ owns c (st0_6 t) fullShare X6 ∗ (∃ X, owns c (st0_7 t) fullShare X) ∗ (∃ X, owns c (st0_8 t) fullShare X))
      ⊢ wp frame (wpE (defs₀ (F := F)) Variants.none (c : Thread nD τ) none) Set.univ (bodyAt0 t) (fun _ =>
        iprop(Phi P c t.succ ∗ owns c (st0_0 t) fullShare (iblk m c 0 t) ∗ owns c (st0_1 t) fullShare (iblk m c 1 t) ∗ owns c (st0_2 t) fullShare (iblk m c 2 t) ∗ owns c (st0_3 t) fullShare (iblk m c 3 t) ∗ owns c (st0_4 t) fullShare (iblk m c 4 t) ∗ owns c (st0_5 t) fullShare (iblk m c 5 t) ∗ owns c (st0_6 t) fullShare X6 ∗ (∃ X, ⌜R7 c t X⌝ ∗ owns c (st0_7 t) fullShare X) ∗ (∃ X, ⌜R8 c t X⌝ ∗ owns c (st0_8 t) fullShare X))) := by
  unfold Phi owns bodyAt0
  iintro ⟨⟨⟨%X12, %hP, %f12, %h12, H12⟩, ⟨%X13, %f13, %h13, H13⟩, ⟨%X14, %f14, %h14, H14⟩, Hr⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%X10, %f10, %h10, H10⟩, ⟨%X11, %f11, %h11, H11⟩⟩
  have hO := H.middle c t hc1 hc2 hc3 f3 f4 f5 f6 f7 f8 f9 f10 f11 f12 f13 f14 h3 h4 h5 h6 h7 h8 (h12 ▸ hP)
  iapply (wp_wand_r Idealize.ShloMosaic.frame (wpE (defs₀ (F := F)) Variants.none (c : Thread nD τ) none) Set.univ)
  isplitl [H3 H4 H5 H6 H7 H8 H9 H10 H11 H12 H13 H14]
  · iapply ((runB (F := F) Variants.none c none (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _) (Memref.whole cc0_scratch1) (Memref.isWhole_whole _) (Memref.whole cc0_scratch2) (Memref.isWhole_whole _) hc1 hc2 hc3 f3 f4 f5 f6 f7 f8 f9 f10 f11 f12 f13 f14).2.2.2 Set.univ)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  iintro %_ ⟨H3, H4, H5, H6, H7, H8, H9, H10, H11, H12, ⟨%g13, H13⟩, ⟨%g14, H14⟩⟩
  isplitl [H12 H13 H14 Hr]
  · isplitl [H12]
    · iexists _; isplitr; swap
      · iexists _; isplitr; swap; (iexact H12); ipureintro; rfl
      · ipureintro; exact hO.2.2
    isplitl [H13]; · iexists _; iexists g13; isplitr; swap; (iexact H13); ipureintro; rfl
    isplitl [H14]; · iexists _; iexists g14; isplitr; swap; (iexact H14); ipureintro; rfl
    iexact Hr
  isplitl [H3]; · iexists f3; isplitr; swap; (iexact H3); ipureintro; exact h3
  isplitl [H4]; · iexists f4; isplitr; swap; (iexact H4); ipureintro; exact h4
  isplitl [H5]; · iexists f5; isplitr; swap; (iexact H5); ipureintro; exact h5
  isplitl [H6]; · iexists f6; isplitr; swap; (iexact H6); ipureintro; exact h6
  isplitl [H7]; · iexists f7; isplitr; swap; (iexact H7); ipureintro; exact h7
  isplitl [H8]; · iexists f8; isplitr; swap; (iexact H8); ipureintro; exact h8
  isplitl [H9]; · iexists f9; isplitr; swap; (iexact H9); ipureintro; exact h9
  isplitl [H10]
  · iexists _; isplitr; swap
    · iexists _; isplitr; swap; (iexact H10); ipureintro; rfl
    · ipureintro; exact hO.1
  iexists _; isplitr; swap
  · iexists _; isplitr; swap; (iexact H11); ipureintro; rfl
  · ipureintro; exact hO.2.1

/-- One point of the grid, the last key block: the invariant is kept and the written blocks are as stated. -/
theorem bodyC {P R6 R7 R8} (H : Outcome (F := F) m P R6 R7 R8) (c : Dev nD) (t : Fin cfg0.N) (hc1 : ¬ k0_cond1 (grid0.coords t) = 1#1) (hc2 : k0_cond2 (grid0.coords t) = 1#1) (hc3 : k0_cond3 (grid0.coords t) = 1#1) (X6 : S2304x2048.Idx → Elt F .bf16) :
    iprop(Phi P c t.castSucc ∗ owns c (st0_0 t) fullShare (iblk m c 0 t) ∗ owns c (st0_1 t) fullShare (iblk m c 1 t) ∗ owns c (st0_2 t) fullShare (iblk m c 2 t) ∗ owns c (st0_3 t) fullShare (iblk m c 3 t) ∗ owns c (st0_4 t) fullShare (iblk m c 4 t) ∗ owns c (st0_5 t) fullShare (iblk m c 5 t) ∗ owns c (st0_6 t) fullShare X6 ∗ (∃ X, owns c (st0_7 t) fullShare X) ∗ (∃ X, owns c (st0_8 t) fullShare X))
      ⊢ wp frame (wpE (defs₀ (F := F)) Variants.none (c : Thread nD τ) none) Set.univ (bodyAt0 t) (fun _ =>
        iprop(Phi P c t.succ ∗ owns c (st0_0 t) fullShare (iblk m c 0 t) ∗ owns c (st0_1 t) fullShare (iblk m c 1 t) ∗ owns c (st0_2 t) fullShare (iblk m c 2 t) ∗ owns c (st0_3 t) fullShare (iblk m c 3 t) ∗ owns c (st0_4 t) fullShare (iblk m c 4 t) ∗ owns c (st0_5 t) fullShare (iblk m c 5 t) ∗ (∃ X, ⌜R6 c t X⌝ ∗ owns c (st0_6 t) fullShare X) ∗ (∃ X, ⌜R7 c t X⌝ ∗ owns c (st0_7 t) fullShare X) ∗ (∃ X, ⌜R8 c t X⌝ ∗ owns c (st0_8 t) fullShare X))) := by
  unfold Phi owns bodyAt0
  iintro ⟨⟨⟨%X12, %hP, %f12, %h12, H12⟩, ⟨%X13, %f13, %h13, H13⟩, ⟨%X14, %f14, %h14, H14⟩, Hr⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%X10, %f10, %h10, H10⟩, ⟨%X11, %f11, %h11, H11⟩⟩
  have hO := H.last c t hc1 hc2 hc3 f3 f4 f5 f6 f7 f8 f9 f10 f11 f12 f13 f14 h3 h4 h5 h6 h7 h8 (h12 ▸ hP)
  iapply (wp_wand_r Idealize.ShloMosaic.frame (wpE (defs₀ (F := F)) Variants.none (c : Thread nD τ) none) Set.univ)
  isplitl [H3 H4 H5 H6 H7 H8 H9 H10 H11 H12 H13 H14]
  · iapply ((runC (F := F) Variants.none c none (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _) (Memref.whole cc0_scratch1) (Memref.isWhole_whole _) (Memref.whole cc0_scratch2) (Memref.isWhole_whole _) hc1 hc2 hc3 f3 f4 f5 f6 f7 f8 f9 f10 f11 f12 f13 f14).2.2.2.2 Set.univ)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  iintro %_ ⟨H3, H4, H5, H6, H7, H8, H9, H10, H11, H12, ⟨%g13, H13⟩, ⟨%g14, H14⟩⟩
  isplitl [H12 H13 H14 Hr]
  · isplitl [H12]
    · iexists _; isplitr; swap
      · iexists _; isplitr; swap; (iexact H12); ipureintro; rfl
      · ipureintro; exact hO.2.2.2
    isplitl [H13]; · iexists _; iexists g13; isplitr; swap; (iexact H13); ipureintro; rfl
    isplitl [H14]; · iexists _; iexists g14; isplitr; swap; (iexact H14); ipureintro; rfl
    iexact Hr
  isplitl [H3]; · iexists f3; isplitr; swap; (iexact H3); ipureintro; exact h3
  isplitl [H4]; · iexists f4; isplitr; swap; (iexact H4); ipureintro; exact h4
  isplitl [H5]; · iexists f5; isplitr; swap; (iexact H5); ipureintro; exact h5
  isplitl [H6]; · iexists f6; isplitr; swap; (iexact H6); ipureintro; exact h6
  isplitl [H7]; · iexists f7; isplitr; swap; (iexact H7); ipureintro; exact h7
  isplitl [H8]; · iexists f8; isplitr; swap; (iexact H8); ipureintro; exact h8
  isplitl [H9]
  · iexists _; isplitr; swap
    · iexists _; isplitr; swap; (iexact H9); ipureintro; rfl
    · ipureintro; exact hO.1
  isplitl [H10]
  · iexists _; isplitr; swap
    · iexists _; isplitr; swap; (iexact H10); ipureintro; rfl
    · ipureintro; exact hO.2.1
  iexists _; isplitr; swap
  · iexists _; isplitr; swap; (iexact H11); ipureintro; rfl
  · ipureintro; exact hO.2.2.1

end Cert.AttnIdeal.Proof

end

end
-- ==== Proof.Run.lean ====
module

public import proofs.«01_k».proof.Proof.Body

@[expose] public section

set_option maxRecDepth 16384

noncomputable section

namespace Cert.AttnIdeal.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal.Gen

set_option maxHeartbeats 1000000

variable {F : FTy → Type} [FloatOps F] [Named F] (m : (ℓ : Loc nD τ sig) → Buf (Elt F) ℓ) (ρ : Dev nD → PrngReg)

local notation "𝕄" => MT nD τ sig Unit (Elt F) ℕ (UR sig nD τ) ℕ

/-- The proof data of the launch: the arrays as the host lines leave them, every input block left in place, the output
    blocks at `D6`, `D7`, `D8`, and `P` of the carried query gradient between points. -/
def dats (P : Dev nD → Fin (cfg0.N + 1) → (S2304x2048.Idx → Elt F .f32) → Prop)
    (D6 : Dev nD → Fin cfg0.N → (S2304x2048.Idx → Elt F .bf16)) (D7 : Dev nD → Fin cfg0.N → (S256x2048.Idx → Elt F .bf16))
    (D8 : Dev nD → Fin cfg0.N → (S256x1024.Idx → Elt F .bf16)) (_ : Fin 1) (c : Dev nD) :
    Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => D6 c t
    | ⟨7, _⟩ => D7 c t
    | ⟨8, _⟩ => D8 c t
  Φ t := Phi P c t
  q _ := fullShare
  owed _ := 0

/-- The three output windows, whose contents the frame claim does not read. -/
def forgets : Fin cfg0.W → Bool := fun w => decide (6 ≤ w.val)

/-- The body table's row at a point is the kernel's body at that point. -/
theorem defs₀_row (t : Fin cfg0.N) : defs₀ (F := F) .tc cfg0.body (cfg0.bodyArgs t (cfg0.slots t)) = bodyAt0 t := by
  unfold defs₀; rw [Defs.onTc_tc]

/-- The body obligation with the written blocks at anything. -/
theorem obligation_forget {P : Dev nD → Fin (cfg0.N + 1) → (S2304x2048.Idx → Elt F .f32) → Prop}
    {D6 : Dev nD → Fin cfg0.N → (S2304x2048.Idx → Elt F .bf16)} {D7 : Dev nD → Fin cfg0.N → (S256x2048.Idx → Elt F .bf16)}
    {D8 : Dev nD → Fin cfg0.N → (S256x1024.Idx → Elt F .bf16)}
    (H : Outcome m P (fun _ _ _ => True) (fun _ _ _ => True) (fun _ _ _ => True)) (c : Dev nD) :
    Pipeline.BodyObligationLoose (dats m P D6 D7 D8 0 c) (defs₀ (F := F)) Variants.none () Set.univ forgets := fun t => by
  have hb0 := before0_0_of m (dats m P D6 D7 D8 0 c) (by dsimp only [dats]) (fun _ => by dsimp only [dats]) t
  have hb1 := before0_1_of m (dats m P D6 D7 D8 0 c) (by dsimp only [dats]) (fun _ => by dsimp only [dats]) t
  have hb2 := before0_2_of m (dats m P D6 D7 D8 0 c) (by dsimp only [dats]) (fun _ => by dsimp only [dats]) t
  have hb3 := before0_3_of m (dats m P D6 D7 D8 0 c) (by dsimp only [dats]) (fun _ => by dsimp only [dats]) t
  have hb4 := before0_4_of m (dats m P D6 D7 D8 0 c) (by dsimp only [dats]) (fun _ => by dsimp only [dats]) t
  have hb5 := before0_5_of m (dats m P D6 D7 D8 0 c) (by dsimp only [dats]) (fun _ => by dsimp only [dats]) t
  have hw : Dat.owesAt (dats m P D6 D7 D8 0 c) () t.succ = Dat.owesAt (dats m P D6 D7 D8 0 c) () t.castSucc := rfl
  have hΦ (s) : Dat.Φ (dats m P D6 D7 D8 0 c) s = Phi P c s := by dsimp only [dats]
  have ha0 : Dat.after (dats m P D6 D7 D8 0 c) 0 t = iblk m c 0 t := by dsimp only [dats]
  have ha1 : Dat.after (dats m P D6 D7 D8 0 c) 1 t = iblk m c 1 t := by dsimp only [dats]
  have ha2 : Dat.after (dats m P D6 D7 D8 0 c) 2 t = iblk m c 2 t := by dsimp only [dats]
  have ha3 : Dat.after (dats m P D6 D7 D8 0 c) 3 t = iblk m c 3 t := by dsimp only [dats]
  have ha4 : Dat.after (dats m P D6 D7 D8 0 c) 4 t = iblk m c 4 t := by dsimp only [dats]
  have ha5 : Dat.after (dats m P D6 D7 D8 0 c) 5 t = iblk m c 5 t := by dsimp only [dats]
  have ha6 : Dat.after (dats m P D6 D7 D8 0 c) 6 t = D6 c t := by dsimp only [dats]
  have ha7 : Dat.after (dats m P D6 D7 D8 0 c) 7 t = D7 c t := by dsimp only [dats]
  have ha8 : Dat.after (dats m P D6 D7 D8 0 c) 8 t = D8 c t := by dsimp only [dats]
  rw [bigSep_W0, bigSep_W0, defs₀_row]
  by_cases h0 : t.val % 9 = 0
  · have hc1 := (cond1_iff t).mpr h0
    have hc2 : ¬ k0_cond2 (grid0.coords t) = 1#1 := fun h => (cond2_iff t).mp h h0
    have hc3 : ¬ k0_cond3 (grid0.coords t) = 1#1 := fun h => by have := (cond3_iff t).mp h; omega
    show iprop(Dat.Φ (dats m P D6 D7 D8 0 c) t.castSucc ∗ Dat.owesAt (dats m P D6 D7 D8 0 c) () t.castSucc ∗ (∃ d, owns c (st0_0 t) fullShare (Dat.before (dats m P D6 D7 D8 0 c) 0 t d)) ∗ (∃ d, owns c (st0_1 t) fullShare (Dat.before (dats m P D6 D7 D8 0 c) 1 t d)) ∗ (∃ d, owns c (st0_2 t) fullShare (Dat.before (dats m P D6 D7 D8 0 c) 2 t d)) ∗ (∃ d, owns c (st0_3 t) fullShare (Dat.before (dats m P D6 D7 D8 0 c) 3 t d)) ∗ (∃ d, owns c (st0_4 t) fullShare (Dat.before (dats m P D6 D7 D8 0 c) 4 t d)) ∗ (∃ d, owns c (st0_5 t) fullShare (Dat.before (dats m P D6 D7 D8 0 c) 5 t d)) ∗ (∃ X, owns c (st0_6 t) fullShare X) ∗ (∃ X, owns c (st0_7 t) fullShare X) ∗ (∃ X, owns c (st0_8 t) fullShare X))
      ⊢ wp frame (wpE (defs₀ (F := F)) Variants.none (c : Thread nD τ) none) Set.univ (bodyAt0 t) (fun _ => iprop(Dat.Φ (dats m P D6 D7 D8 0 c) t.succ ∗ Dat.owesAt (dats m P D6 D7 D8 0 c) () t.succ ∗ owns c (st0_0 t) fullShare (Dat.after (dats m P D6 D7 D8 0 c) 0 t) ∗ owns c (st0_1 t) fullShare (Dat.after (dats m P D6 D7 D8 0 c) 1 t) ∗ owns c (st0_2 t) fullShare (Dat.after (dats m P D6 D7 D8 0 c) 2 t) ∗ owns c (st0_3 t) fullShare (Dat.after (dats m P D6 D7 D8 0 c) 3 t) ∗ owns c (st0_4 t) fullShare (Dat.after (dats m P D6 D7 D8 0 c) 4 t) ∗ owns c (st0_5 t) fullShare (Dat.after (dats m P D6 D7 D8 0 c) 5 t) ∗ (∃ X, owns c (st0_6 t) fullShare X) ∗ (∃ X, owns c (st0_7 t) fullShare X) ∗ (∃ X, owns c (st0_8 t) fullShare X)))
    rw [hw, hΦ, hΦ, ha0, ha1, ha2, ha3, ha4, ha5]
    iintro ⟨HP, HO, ⟨%d0, H0⟩, ⟨%d1, H1⟩, ⟨%d2, H2⟩, ⟨%d3, H3⟩, ⟨%d4, H4⟩, ⟨%d5, H5⟩, ⟨%X6, H6⟩, ⟨%d7, H7⟩, ⟨%d8, H8⟩⟩
    rw [hb0, hb1, hb2, hb3, hb4, hb5]
    iapply (wp_wand_r Idealize.ShloMosaic.frame (wpE (defs₀ (F := F)) Variants.none (c : Thread nD τ) none) Set.univ)
    isplitl [HP H0 H1 H2 H3 H4 H5 H6 H7 H8]
    · iapply (bodyA m H c t hc1 hc2 hc3 _)
      isplitl [HP]; · iexact HP
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
    iintro %_ ⟨HP, H0, H1, H2, H3, H4, H5, H6, ⟨%X7, %e7, H7⟩, ⟨%X8, %e8, H8⟩⟩
    isplitl [HP]; · iexact HP
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iexists _; iexact H8
  have hc1 : ¬ k0_cond1 (grid0.coords t) = 1#1 := fun h => h0 ((cond1_iff t).mp h)
  have hc2 := (cond2_iff t).mpr h0
  by_cases h8 : t.val % 9 = 8
  · have hc3 := (cond3_iff t).mpr h8
    show iprop(Dat.Φ (dats m P D6 D7 D8 0 c) t.castSucc ∗ Dat.owesAt (dats m P D6 D7 D8 0 c) () t.castSucc ∗ (∃ d, owns c (st0_0 t) fullShare (Dat.before (dats m P D6 D7 D8 0 c) 0 t d)) ∗ (∃ d, owns c (st0_1 t) fullShare (Dat.before (dats m P D6 D7 D8 0 c) 1 t d)) ∗ (∃ d, owns c (st0_2 t) fullShare (Dat.before (dats m P D6 D7 D8 0 c) 2 t d)) ∗ (∃ d, owns c (st0_3 t) fullShare (Dat.before (dats m P D6 D7 D8 0 c) 3 t d)) ∗ (∃ d, owns c (st0_4 t) fullShare (Dat.before (dats m P D6 D7 D8 0 c) 4 t d)) ∗ (∃ d, owns c (st0_5 t) fullShare (Dat.before (dats m P D6 D7 D8 0 c) 5 t d)) ∗ (∃ X, owns c (st0_6 t) fullShare X) ∗ (∃ X, owns c (st0_7 t) fullShare X) ∗ (∃ X, owns c (st0_8 t) fullShare X))
      ⊢ wp frame (wpE (defs₀ (F := F)) Variants.none (c : Thread nD τ) none) Set.univ (bodyAt0 t) (fun _ => iprop(Dat.Φ (dats m P D6 D7 D8 0 c) t.succ ∗ Dat.owesAt (dats m P D6 D7 D8 0 c) () t.succ ∗ owns c (st0_0 t) fullShare (Dat.after (dats m P D6 D7 D8 0 c) 0 t) ∗ owns c (st0_1 t) fullShare (Dat.after (dats m P D6 D7 D8 0 c) 1 t) ∗ owns c (st0_2 t) fullShare (Dat.after (dats m P D6 D7 D8 0 c) 2 t) ∗ owns c (st0_3 t) fullShare (Dat.after (dats m P D6 D7 D8 0 c) 3 t) ∗ owns c (st0_4 t) fullShare (Dat.after (dats m P D6 D7 D8 0 c) 4 t) ∗ owns c (st0_5 t) fullShare (Dat.after (dats m P D6 D7 D8 0 c) 5 t) ∗ (∃ X, owns c (st0_6 t) fullShare X) ∗ (∃ X, owns c (st0_7 t) fullShare X) ∗ (∃ X, owns c (st0_8 t) fullShare X)))
    rw [hw, hΦ, hΦ, ha0, ha1, ha2, ha3, ha4, ha5]
    iintro ⟨HP, HO, ⟨%d0, H0⟩, ⟨%d1, H1⟩, ⟨%d2, H2⟩, ⟨%d3, H3⟩, ⟨%d4, H4⟩, ⟨%d5, H5⟩, ⟨%X6, H6⟩, ⟨%d7, H7⟩, ⟨%d8, H8⟩⟩
    rw [hb0, hb1, hb2, hb3, hb4, hb5]
    iapply (wp_wand_r Idealize.ShloMosaic.frame (wpE (defs₀ (F := F)) Variants.none (c : Thread nD τ) none) Set.univ)
    isplitl [HP H0 H1 H2 H3 H4 H5 H6 H7 H8]
    · iapply (bodyC m H c t hc1 hc2 hc3 _)
      isplitl [HP]; · iexact HP
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
    iintro %_ ⟨HP, H0, H1, H2, H3, H4, H5, ⟨%X6', %e6, H6⟩, ⟨%X7, %e7, H7⟩, ⟨%X8, %e8, H8⟩⟩
    isplitl [HP]; · iexact HP
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iexists _; iexact H8
  · have hc3 : ¬ k0_cond3 (grid0.coords t) = 1#1 := fun h => h8 ((cond3_iff t).mp h)
    show iprop(Dat.Φ (dats m P D6 D7 D8 0 c) t.castSucc ∗ Dat.owesAt (dats m P D6 D7 D8 0 c) () t.castSucc ∗ (∃ d, owns c (st0_0 t) fullShare (Dat.before (dats m P D6 D7 D8 0 c) 0 t d)) ∗ (∃ d, owns c (st0_1 t) fullShare (Dat.before (dats m P D6 D7 D8 0 c) 1 t d)) ∗ (∃ d, owns c (st0_2 t) fullShare (Dat.before (dats m P D6 D7 D8 0 c) 2 t d)) ∗ (∃ d, owns c (st0_3 t) fullShare (Dat.before (dats m P D6 D7 D8 0 c) 3 t d)) ∗ (∃ d, owns c (st0_4 t) fullShare (Dat.before (dats m P D6 D7 D8 0 c) 4 t d)) ∗ (∃ d, owns c (st0_5 t) fullShare (Dat.before (dats m P D6 D7 D8 0 c) 5 t d)) ∗ (∃ X, owns c (st0_6 t) fullShare X) ∗ (∃ X, owns c (st0_7 t) fullShare X) ∗ (∃ X, owns c (st0_8 t) fullShare X))
      ⊢ wp frame (wpE (defs₀ (F := F)) Variants.none (c : Thread nD τ) none) Set.univ (bodyAt0 t) (fun _ => iprop(Dat.Φ (dats m P D6 D7 D8 0 c) t.succ ∗ Dat.owesAt (dats m P D6 D7 D8 0 c) () t.succ ∗ owns c (st0_0 t) fullShare (Dat.after (dats m P D6 D7 D8 0 c) 0 t) ∗ owns c (st0_1 t) fullShare (Dat.after (dats m P D6 D7 D8 0 c) 1 t) ∗ owns c (st0_2 t) fullShare (Dat.after (dats m P D6 D7 D8 0 c) 2 t) ∗ owns c (st0_3 t) fullShare (Dat.after (dats m P D6 D7 D8 0 c) 3 t) ∗ owns c (st0_4 t) fullShare (Dat.after (dats m P D6 D7 D8 0 c) 4 t) ∗ owns c (st0_5 t) fullShare (Dat.after (dats m P D6 D7 D8 0 c) 5 t) ∗ (∃ X, owns c (st0_6 t) fullShare X) ∗ (∃ X, owns c (st0_7 t) fullShare X) ∗ (∃ X, owns c (st0_8 t) fullShare X)))
    rw [hw, hΦ, hΦ, ha0, ha1, ha2, ha3, ha4, ha5]
    iintro ⟨HP, HO, ⟨%d0, H0⟩, ⟨%d1, H1⟩, ⟨%d2, H2⟩, ⟨%d3, H3⟩, ⟨%d4, H4⟩, ⟨%d5, H5⟩, ⟨%X6, H6⟩, ⟨%d7, H7⟩, ⟨%d8, H8⟩⟩
    rw [hb0, hb1, hb2, hb3, hb4, hb5]
    iapply (wp_wand_r Idealize.ShloMosaic.frame (wpE (defs₀ (F := F)) Variants.none (c : Thread nD τ) none) Set.univ)
    isplitl [HP H0 H1 H2 H3 H4 H5 H6 H7 H8]
    · iapply (bodyB m H c t hc1 hc2 hc3 _)
      isplitl [HP]; · iexact HP
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
    iintro %_ ⟨HP, H0, H1, H2, H3, H4, H5, H6, ⟨%X7, %e7, H7⟩, ⟨%X8, %e8, H8⟩⟩
    isplitl [HP]; · iexact HP
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iexists _; iexact H8

/-- The buffers that the host lines after the launch write. -/
def tailWrites : Finset (Ref sig .tc) := {main_v54, main_v55, main_v56, main_v57, main_v58, main_v59, main_v60, main_v61, main_v62, main_v63, main_v64, main_v65, main_v66, main_v67}

/-- Those lines write only these buffers. -/
theorem tail_writes : ∀ ops ∈ ([hostOps1] : List (List (HloOp τ sig (Elt F)))), ∀ op ∈ ops, ∀ b : Ref sig .tc,
    Proc.devRef .tc b ∈ op.writes → b ∈ tailWrites := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl
  all_goals
    intro b hb
    simp only [StableHlo.nullary_writes, StableHlo.unary_writes, StableHlo.binary_writes, StableHlo.reshape_writes, Finset.mem_singleton] at hb
    have hb' := Proc.devRef_injective _ hb
    subst hb'
    decide

/-- The frame of the kernel's program: it runs to the end, its arguments are unchanged and every counter is back at
    zero. At any float values. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  let P : Dev nD → Fin (cfg0.N + 1) → (S2304x2048.Idx → Elt F .f32) → Prop := fun _ _ _ => True
  let D6 : Dev nD → Fin cfg0.N → (S2304x2048.Idx → Elt F .bf16) := fun _ t => Dat.unnamed (cfg := cfg0) 6 t
  let D7 : Dev nD → Fin cfg0.N → (S256x2048.Idx → Elt F .bf16) := fun _ t => Dat.unnamed (cfg := cfg0) 7 t
  let D8 : Dev nD → Fin cfg0.N → (S256x1024.Idx → Elt F .bf16) := fun _ t => Dat.unnamed (cfg := cfg0) 8 t
  have H : Outcome (F := F) m P (fun _ _ _ => True) (fun _ _ _ => True) (fun _ _ _ => True) :=
    ⟨fun _ _ _ _ _ => by intros; exact ⟨trivial, trivial, trivial⟩, fun _ _ _ _ _ => by intros; exact ⟨trivial, trivial, trivial⟩,
      fun _ _ _ _ _ => by intros; exact ⟨trivial, trivial, trivial, trivial⟩⟩
  have hP0 : ∀ c X, P c 0 X := fun _ _ => trivial
  have hrun := Pipeline.θ_run_frame_around_T_track_forget (Q' := _) cfgs (dats m P D6 D7 D8) (0 : Fin 1) launch0 defs₀ Variants.none forgets tailWrites m ρ main
    (obligation_forget m H) (fun _ _ => by unfold Dat.share; split <;> rfl) (fun _ _ => by dsimp only [dats]) (V0 m) [hostOps1] sfx_sub sfx_fresh sfx_keeps
    tail_writes (hmain m Variants.none) (fun _ _ => by dsimp only [dats])
    (fun c => by
      unfold Pipeline.ΦA; rw [scopedRest0_eq]
      rw [show Dat.Φ (dats m P D6 D7 D8 0 c) 0 = Phi P c 0 from by dsimp only [dats]]
      unfold Phi; simp only [owns_whole]
      iintro ⟨⟨⟨%g12, H12⟩, ⟨%g13, H13⟩, ⟨%g14, H14⟩⟩, Hr⟩
      isplitl [H12]
      · iexists g12; isplitr; swap; (iexact H12); ipureintro; exact hP0 c g12
      isplitl [H13]; · iexists _; iexact H13
      isplitl [H14]; · iexists _; iexact H14
      iexact Hr)
    (fun c => by
      unfold Pipeline.ΦA; rw [scopedRest0_eq]
      rw [show ∀ s, Dat.Φ (dats m P D6 D7 D8 0 c) s = Phi P c s from fun s => by dsimp only [dats]]
      unfold Phi; simp only [owns_whole]
      iintro ⟨⟨%X12, %hP, H12⟩, ⟨%X13, H13⟩, ⟨%X14, H14⟩, Hr⟩
      isplitl [H12 H13 H14]
      · isplitl [H12]; · iexists _; iexact H12
        isplitl [H13]; · iexists _; iexact H13
        iexists _; iexact H14
      iexact Hr) (fun _ h => h)
  refine (θ_run defs _ _).mono (fun r h => ⟨fun c => ?_, h.2⟩) hrun
  have hk := fun b hb => (h.1 c).2 b hb
  exact ⟨(hk main_arg0 (by decide)).trans (V_main_arg0 m c), (hk main_arg1 (by decide)).trans (V_main_arg1 m c),
    (hk main_arg2 (by decide)).trans (V_main_arg2 m c), (hk main_arg3 (by decide)).trans (V_main_arg3 m c)⟩

end Cert.AttnIdeal.Proof

end

end
-- ==== Proof.Frames.lean ====
/- The frame claims of the three programs and the named constants' claim. -/
module

public import proofs.«01_k».proof.Defs
public import proofs.«01_k».proof.Proof.Gen.Attn
public import proofs.«01_k».proof.Proof.Gen.AttnRefIdeal.Run
public import proofs.«01_k».proof.Proof.Run
public import Idealize.ShloMosaic.Adequacy
public import Idealize.ShloMosaic.Init
public import Idealize.ShloMosaic.Lib.Claim

@[expose] public section

noncomputable section

namespace Cert.AttnIdeal.Proof

open Idealize.ShloMosaic Idealize.ShloMosaic.TcCoe Idealize.SL.Sem

attribute [local instance] Cert.Attn.Gen.facts Cert.AttnIdeal.Gen.facts Cert.AttnRefIdeal.Gen.facts

/-- At bits a named constant is the pattern it was printed with. -/
@[reducible] def namedBits : Named Bits where
  named _ _ {φ} w := Scalar.ofBits φ w

attribute [local instance] namedBits

set_option maxHeartbeats 4000000 in
/-- At bits the kernel bodies of the two printed programs are one. -/
theorem defs₀_eq : Cert.Attn.defs₀ (F := Bits) = Cert.AttnIdeal.defs₀ (F := Bits) := by
  unfold Cert.Attn.defs₀ Cert.AttnIdeal.defs₀
  refine congrArg Defs.onTc (funext fun l => funext fun x => ?_)
  match l, x with
  | ⟨0, _⟩, (t, s) => exact rfl

/-- At bits the two printed programs' definitions are one. -/
theorem defs_eq : Cert.Attn.defs (F := Bits) = Cert.AttnIdeal.defs (F := Bits) := by
  unfold Cert.Attn.defs Cert.AttnIdeal.defs
  exact congrArg (Pipeline.defs Cert.AttnIdeal.pcfgs) defs₀_eq

set_option maxHeartbeats 4000000 in
/-- At bits the two printed programs' main functions are one. -/
theorem main_eq : Cert.Attn.main (F := Bits) = Cert.AttnIdeal.main (F := Bits) := rfl

set_option maxHeartbeats 4000000 in
/-- The kernel's program at bits runs to the end with its arguments unchanged and every counter back at zero: the run at
    any float values, taken at bits. -/
theorem frame_attn : Cert.quiescent_Attn := fun m ρ _ => by
  have h := frame_any (F := Bits) m ρ
  rw [← defs_eq, ← main_eq] at h
  exact h

/-- The same of the idealized kernel, at the reals. -/
theorem frame_attnIdeal : Cert.quiescent_AttnIdeal := fun m ρ _ => frame_any (F := Ideal) m ρ

/-- The reference runs to the end with its arguments unchanged and every counter at zero. -/
theorem frame_ref : Cert.quiescent_AttnRefIdeal := by
  intro m ρ _
  hlo_run
  · exact fun _ => ⟨trivial, trivial, trivial, trivial⟩
  · funext g; obtain ⟨_, g⟩ := g; rcases g with g | g <;> exact g.elim0

/-- The named constants are the reals they stand for. -/
theorem preserves : Cert.preserves_Attn_AttnIdeal :=
  ⟨IdealRules.named_const.statement _ _ _ _ _ rfl, IdealRules.named_const.statement _ _ _ _ _ rfl⟩

end Cert.AttnIdeal.Proof

end
-- ==== Proof.RunExact.lean ====
module

public import proofs.«01_k».proof.Proof.Run

@[expose] public section

set_option maxRecDepth 16384

noncomputable section

namespace Cert.AttnIdeal.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal.Gen

set_option maxHeartbeats 1000000

variable {F : FTy → Type} [FloatOps F] [Named F] (m : (ℓ : Loc nD τ sig) → Buf (Elt F) ℓ) (ρ : Dev nD → PrngReg)

local notation "𝕄" => MT nD τ sig Unit (Elt F) ℕ (UR sig nD τ) ℕ

/-- The body obligation with every written block at its stated contents. -/
theorem obligation {P : Dev nD → Fin (cfg0.N + 1) → (S2304x2048.Idx → Elt F .f32) → Prop}
    {D6 : Dev nD → Fin cfg0.N → (S2304x2048.Idx → Elt F .bf16)} {D7 : Dev nD → Fin cfg0.N → (S256x2048.Idx → Elt F .bf16)}
    {D8 : Dev nD → Fin cfg0.N → (S256x1024.Idx → Elt F .bf16)}
    (H : Outcome m P (fun c t X => X = D6 c t) (fun c t X => X = D7 c t) (fun c t X => X = D8 c t)) (c : Dev nD) :
    Pipeline.BodyObligationLoose (dats m P D6 D7 D8 0 c) (defs₀ (F := F)) Variants.none () Set.univ := fun t => by
  have hb0 := before0_0_of m (dats m P D6 D7 D8 0 c) (by dsimp only [dats]) (fun _ => by dsimp only [dats]) t
  have hb1 := before0_1_of m (dats m P D6 D7 D8 0 c) (by dsimp only [dats]) (fun _ => by dsimp only [dats]) t
  have hb2 := before0_2_of m (dats m P D6 D7 D8 0 c) (by dsimp only [dats]) (fun _ => by dsimp only [dats]) t
  have hb3 := before0_3_of m (dats m P D6 D7 D8 0 c) (by dsimp only [dats]) (fun _ => by dsimp only [dats]) t
  have hb4 := before0_4_of m (dats m P D6 D7 D8 0 c) (by dsimp only [dats]) (fun _ => by dsimp only [dats]) t
  have hb5 := before0_5_of m (dats m P D6 D7 D8 0 c) (by dsimp only [dats]) (fun _ => by dsimp only [dats]) t
  have hw : Dat.owesAt (dats m P D6 D7 D8 0 c) () t.succ = Dat.owesAt (dats m P D6 D7 D8 0 c) () t.castSucc := rfl
  have hΦ (s) : Dat.Φ (dats m P D6 D7 D8 0 c) s = Phi P c s := by dsimp only [dats]
  have ha0 : Dat.after (dats m P D6 D7 D8 0 c) 0 t = iblk m c 0 t := by dsimp only [dats]
  have ha1 : Dat.after (dats m P D6 D7 D8 0 c) 1 t = iblk m c 1 t := by dsimp only [dats]
  have ha2 : Dat.after (dats m P D6 D7 D8 0 c) 2 t = iblk m c 2 t := by dsimp only [dats]
  have ha3 : Dat.after (dats m P D6 D7 D8 0 c) 3 t = iblk m c 3 t := by dsimp only [dats]
  have ha4 : Dat.after (dats m P D6 D7 D8 0 c) 4 t = iblk m c 4 t := by dsimp only [dats]
  have ha5 : Dat.after (dats m P D6 D7 D8 0 c) 5 t = iblk m c 5 t := by dsimp only [dats]
  have ha6 : Dat.after (dats m P D6 D7 D8 0 c) 6 t = D6 c t := by dsimp only [dats]
  have ha7 : Dat.after (dats m P D6 D7 D8 0 c) 7 t = D7 c t := by dsimp only [dats]
  have ha8 : Dat.after (dats m P D6 D7 D8 0 c) 8 t = D8 c t := by dsimp only [dats]
  rw [bigSep_W0, bigSep_W0, defs₀_row]
  by_cases h0 : t.val % 9 = 0
  · have hc1 := (cond1_iff t).mpr h0
    have hc2 : ¬ k0_cond2 (grid0.coords t) = 1#1 := fun h => (cond2_iff t).mp h h0
    have hc3 : ¬ k0_cond3 (grid0.coords t) = 1#1 := fun h => by have := (cond3_iff t).mp h; omega
    have hidle : cfg0.idle 6 (cfg0.grid.coords t) = true := by show (!(k0_cond3 (grid0.coords t) == 1#1)) = true; rw [Bool.not_eq_true', beq_eq_false_iff_ne]; exact hc3
    have hflush : (cfg0.win 6).flush t = false := Bool.eq_false_iff.mpr fun h => hc3 ((cond3_iff t).mpr ((flush0_6 t).mp h))
    refine triple_restated (W := wp frame (wpE (defs₀ (F := F)) Variants.none (c : Thread nD τ) none) Set.univ (bodyAt0 t)) (P := iprop(Dat.Φ (dats m P D6 D7 D8 0 c) t.castSucc ∗ Dat.owesAt (dats m P D6 D7 D8 0 c) () t.castSucc ∗ (∃ d, owns c (st0_0 t) fullShare (Dat.before (dats m P D6 D7 D8 0 c) 0 t d)) ∗ (∃ d, owns c (st0_1 t) fullShare (Dat.before (dats m P D6 D7 D8 0 c) 1 t d)) ∗ (∃ d, owns c (st0_2 t) fullShare (Dat.before (dats m P D6 D7 D8 0 c) 2 t d)) ∗ (∃ d, owns c (st0_3 t) fullShare (Dat.before (dats m P D6 D7 D8 0 c) 3 t d)) ∗ (∃ d, owns c (st0_4 t) fullShare (Dat.before (dats m P D6 D7 D8 0 c) 4 t d)) ∗ (∃ d, owns c (st0_5 t) fullShare (Dat.before (dats m P D6 D7 D8 0 c) 5 t d)) ∗ (∃ d, owns c (st0_6 t) fullShare (Dat.before (dats m P D6 D7 D8 0 c) 6 t d)) ∗ (∃ d, owns c (st0_7 t) fullShare (Dat.before (dats m P D6 D7 D8 0 c) 7 t d)) ∗ (∃ d, owns c (st0_8 t) fullShare (Dat.before (dats m P D6 D7 D8 0 c) 8 t d))))
        (Q := fun _ => iprop(Dat.Φ (dats m P D6 D7 D8 0 c) t.succ ∗ Dat.owesAt (dats m P D6 D7 D8 0 c) () t.succ ∗ owns c (st0_0 t) fullShare (Dat.after (dats m P D6 D7 D8 0 c) 0 t) ∗ owns c (st0_1 t) fullShare (Dat.after (dats m P D6 D7 D8 0 c) 1 t) ∗ owns c (st0_2 t) fullShare (Dat.after (dats m P D6 D7 D8 0 c) 2 t) ∗ owns c (st0_3 t) fullShare (Dat.after (dats m P D6 D7 D8 0 c) 3 t) ∗ owns c (st0_4 t) fullShare (Dat.after (dats m P D6 D7 D8 0 c) 4 t) ∗ owns c (st0_5 t) fullShare (Dat.after (dats m P D6 D7 D8 0 c) 5 t) ∗ (∃ d, owns c (st0_6 t) fullShare (Dat.before (dats m P D6 D7 D8 0 c) 6 t d)) ∗ owns c (st0_7 t) fullShare (Dat.after (dats m P D6 D7 D8 0 c) 7 t) ∗ owns c (st0_8 t) fullShare (Dat.after (dats m P D6 D7 D8 0 c) 8 t))) ?_ rfl .rfl (fun _ => sep_mono .rfl (sep_mono .rfl (sep_mono .rfl (sep_mono .rfl (sep_mono .rfl (sep_mono .rfl (sep_mono .rfl (sep_mono .rfl (sep_mono ?_ (sep_mono .rfl .rfl))))))))))
    rotate_left
    · rw [hidle, hflush]
    rw [hw, hΦ, hΦ, ha0, ha1, ha2, ha3, ha4, ha5, ha7, ha8]
    iintro ⟨HP, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    rw [hb0, hb1, hb2, hb3, hb4, hb5]
    iapply (wp_wand_r Idealize.ShloMosaic.frame (wpE (defs₀ (F := F)) Variants.none (c : Thread nD τ) none) Set.univ)
    isplitl [HP H0 H1 H2 H3 H4 H5 H6 H7 H8]
    · iapply (bodyA m H c t hc1 hc2 hc3 _)
      isplitl [HP]; · iexact HP
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
    iintro %_ ⟨HP, H0, H1, H2, H3, H4, H5, H6, ⟨%X7, %e7, H7⟩, ⟨%X8, %e8, H8⟩⟩
    subst e7; subst e8
    isplitl [HP]; · iexact HP
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexists d6; iexact H6
    isplitl [H7]; · iexact H7
    iexact H8
  have hc1 : ¬ k0_cond1 (grid0.coords t) = 1#1 := fun h => h0 ((cond1_iff t).mp h)
  have hc2 := (cond2_iff t).mpr h0
  by_cases h8 : t.val % 9 = 8
  · have hc3 := (cond3_iff t).mpr h8
    have hidle : cfg0.idle 6 (cfg0.grid.coords t) = false := by show (!(k0_cond3 (grid0.coords t) == 1#1)) = false; rw [hc3]; rfl
    refine triple_restated (W := wp frame (wpE (defs₀ (F := F)) Variants.none (c : Thread nD τ) none) Set.univ (bodyAt0 t)) (P := iprop(Dat.Φ (dats m P D6 D7 D8 0 c) t.castSucc ∗ Dat.owesAt (dats m P D6 D7 D8 0 c) () t.castSucc ∗ (∃ d, owns c (st0_0 t) fullShare (Dat.before (dats m P D6 D7 D8 0 c) 0 t d)) ∗ (∃ d, owns c (st0_1 t) fullShare (Dat.before (dats m P D6 D7 D8 0 c) 1 t d)) ∗ (∃ d, owns c (st0_2 t) fullShare (Dat.before (dats m P D6 D7 D8 0 c) 2 t d)) ∗ (∃ d, owns c (st0_3 t) fullShare (Dat.before (dats m P D6 D7 D8 0 c) 3 t d)) ∗ (∃ d, owns c (st0_4 t) fullShare (Dat.before (dats m P D6 D7 D8 0 c) 4 t d)) ∗ (∃ d, owns c (st0_5 t) fullShare (Dat.before (dats m P D6 D7 D8 0 c) 5 t d)) ∗ (∃ d, owns c (st0_6 t) fullShare (Dat.before (dats m P D6 D7 D8 0 c) 6 t d)) ∗ (∃ d, owns c (st0_7 t) fullShare (Dat.before (dats m P D6 D7 D8 0 c) 7 t d)) ∗ (∃ d, owns c (st0_8 t) fullShare (Dat.before (dats m P D6 D7 D8 0 c) 8 t d))))
        (Q := fun _ => iprop(Dat.Φ (dats m P D6 D7 D8 0 c) t.succ ∗ Dat.owesAt (dats m P D6 D7 D8 0 c) () t.succ ∗ owns c (st0_0 t) fullShare (Dat.after (dats m P D6 D7 D8 0 c) 0 t) ∗ owns c (st0_1 t) fullShare (Dat.after (dats m P D6 D7 D8 0 c) 1 t) ∗ owns c (st0_2 t) fullShare (Dat.after (dats m P D6 D7 D8 0 c) 2 t) ∗ owns c (st0_3 t) fullShare (Dat.after (dats m P D6 D7 D8 0 c) 3 t) ∗ owns c (st0_4 t) fullShare (Dat.after (dats m P D6 D7 D8 0 c) 4 t) ∗ owns c (st0_5 t) fullShare (Dat.after (dats m P D6 D7 D8 0 c) 5 t) ∗ owns c (st0_6 t) fullShare (Dat.after (dats m P D6 D7 D8 0 c) 6 t) ∗ owns c (st0_7 t) fullShare (Dat.after (dats m P D6 D7 D8 0 c) 7 t) ∗ owns c (st0_8 t) fullShare (Dat.after (dats m P D6 D7 D8 0 c) 8 t))) ?_ rfl .rfl (fun _ => sep_mono .rfl (sep_mono .rfl (sep_mono .rfl (sep_mono .rfl (sep_mono .rfl (sep_mono .rfl (sep_mono .rfl (sep_mono .rfl (sep_mono ?_ (sep_mono .rfl .rfl))))))))))
    rotate_left
    · rw [hidle]
    rw [hw, hΦ, hΦ, ha0, ha1, ha2, ha3, ha4, ha5, ha6, ha7, ha8]
    iintro ⟨HP, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    rw [hb0, hb1, hb2, hb3, hb4, hb5]
    iapply (wp_wand_r Idealize.ShloMosaic.frame (wpE (defs₀ (F := F)) Variants.none (c : Thread nD τ) none) Set.univ)
    isplitl [HP H0 H1 H2 H3 H4 H5 H6 H7 H8]
    · iapply (bodyC m H c t hc1 hc2 hc3 _)
      isplitl [HP]; · iexact HP
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
    iintro %_ ⟨HP, H0, H1, H2, H3, H4, H5, ⟨%X6', %e6, H6⟩, ⟨%X7, %e7, H7⟩, ⟨%X8, %e8, H8⟩⟩
    subst e7; subst e8
    subst e6
    isplitl [HP]; · iexact HP
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc3 : ¬ k0_cond3 (grid0.coords t) = 1#1 := fun h => h8 ((cond3_iff t).mp h)
    have hidle : cfg0.idle 6 (cfg0.grid.coords t) = true := by show (!(k0_cond3 (grid0.coords t) == 1#1)) = true; rw [Bool.not_eq_true', beq_eq_false_iff_ne]; exact hc3
    have hflush : (cfg0.win 6).flush t = false := Bool.eq_false_iff.mpr fun h => hc3 ((cond3_iff t).mpr ((flush0_6 t).mp h))
    refine triple_restated (W := wp frame (wpE (defs₀ (F := F)) Variants.none (c : Thread nD τ) none) Set.univ (bodyAt0 t)) (P := iprop(Dat.Φ (dats m P D6 D7 D8 0 c) t.castSucc ∗ Dat.owesAt (dats m P D6 D7 D8 0 c) () t.castSucc ∗ (∃ d, owns c (st0_0 t) fullShare (Dat.before (dats m P D6 D7 D8 0 c) 0 t d)) ∗ (∃ d, owns c (st0_1 t) fullShare (Dat.before (dats m P D6 D7 D8 0 c) 1 t d)) ∗ (∃ d, owns c (st0_2 t) fullShare (Dat.before (dats m P D6 D7 D8 0 c) 2 t d)) ∗ (∃ d, owns c (st0_3 t) fullShare (Dat.before (dats m P D6 D7 D8 0 c) 3 t d)) ∗ (∃ d, owns c (st0_4 t) fullShare (Dat.before (dats m P D6 D7 D8 0 c) 4 t d)) ∗ (∃ d, owns c (st0_5 t) fullShare (Dat.before (dats m P D6 D7 D8 0 c) 5 t d)) ∗ (∃ d, owns c (st0_6 t) fullShare (Dat.before (dats m P D6 D7 D8 0 c) 6 t d)) ∗ (∃ d, owns c (st0_7 t) fullShare (Dat.before (dats m P D6 D7 D8 0 c) 7 t d)) ∗ (∃ d, owns c (st0_8 t) fullShare (Dat.before (dats m P D6 D7 D8 0 c) 8 t d))))
        (Q := fun _ => iprop(Dat.Φ (dats m P D6 D7 D8 0 c) t.succ ∗ Dat.owesAt (dats m P D6 D7 D8 0 c) () t.succ ∗ owns c (st0_0 t) fullShare (Dat.after (dats m P D6 D7 D8 0 c) 0 t) ∗ owns c (st0_1 t) fullShare (Dat.after (dats m P D6 D7 D8 0 c) 1 t) ∗ owns c (st0_2 t) fullShare (Dat.after (dats m P D6 D7 D8 0 c) 2 t) ∗ owns c (st0_3 t) fullShare (Dat.after (dats m P D6 D7 D8 0 c) 3 t) ∗ owns c (st0_4 t) fullShare (Dat.after (dats m P D6 D7 D8 0 c) 4 t) ∗ owns c (st0_5 t) fullShare (Dat.after (dats m P D6 D7 D8 0 c) 5 t) ∗ (∃ d, owns c (st0_6 t) fullShare (Dat.before (dats m P D6 D7 D8 0 c) 6 t d)) ∗ owns c (st0_7 t) fullShare (Dat.after (dats m P D6 D7 D8 0 c) 7 t) ∗ owns c (st0_8 t) fullShare (Dat.after (dats m P D6 D7 D8 0 c) 8 t))) ?_ rfl .rfl (fun _ => sep_mono .rfl (sep_mono .rfl (sep_mono .rfl (sep_mono .rfl (sep_mono .rfl (sep_mono .rfl (sep_mono .rfl (sep_mono .rfl (sep_mono ?_ (sep_mono .rfl .rfl))))))))))
    rotate_left
    · rw [hidle, hflush]
    rw [hw, hΦ, hΦ, ha0, ha1, ha2, ha3, ha4, ha5, ha7, ha8]
    iintro ⟨HP, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    rw [hb0, hb1, hb2, hb3, hb4, hb5]
    iapply (wp_wand_r Idealize.ShloMosaic.frame (wpE (defs₀ (F := F)) Variants.none (c : Thread nD τ) none) Set.univ)
    isplitl [HP H0 H1 H2 H3 H4 H5 H6 H7 H8]
    · iapply (bodyB m H c t hc1 hc2 hc3 _)
      isplitl [HP]; · iexact HP
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8
    iintro %_ ⟨HP, H0, H1, H2, H3, H4, H5, H6, ⟨%X7, %e7, H7⟩, ⟨%X8, %e8, H8⟩⟩
    subst e7; subst e8
    isplitl [HP]; · iexact HP
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexists d6; iexact H6
    isplitl [H7]; · iexact H7
    iexact H8

/-- The run with every written block known: every array of the launch ends at what the proof data compute, every other
    buffer as the host lines after it leave it. -/
theorem run_exact {P : Dev nD → Fin (cfg0.N + 1) → (S2304x2048.Idx → Elt F .f32) → Prop}
    {D6 : Dev nD → Fin cfg0.N → (S2304x2048.Idx → Elt F .bf16)} {D7 : Dev nD → Fin cfg0.N → (S256x2048.Idx → Elt F .bf16)}
    {D8 : Dev nD → Fin cfg0.N → (S256x1024.Idx → Elt F .bf16)} (H : Outcome m P (fun c t X => X = D6 c t) (fun c t X => X = D7 c t) (fun c t X => X = D8 c t))
    (hP0 : ∀ c X, P c 0 X) :
    θ_run defs (onTc (τ := τ) (main (F := F))) ⟨m, fun _ => 0, ρ⟩
      (Pipeline.FramePost cfgs (dats m P D6 D7 D8) 0 (Pipeline.afterTail₀ cfgs (dats m P D6 D7 D8) 0 (V0 m) [hostOps1])) :=
  Pipeline.θ_run_frame_around_track cfgs (dats m P D6 D7 D8) (0 : Fin 1) launch0 defs₀ Variants.none m ρ main
    (obligation m H) (fun _ _ => by unfold Dat.share; split <;> rfl) (fun _ _ => by dsimp only [dats]) (V0 m) [hostOps1] sfx_sub sfx_fresh sfx_keeps
    (hmain m Variants.none) (fun _ _ => by dsimp only [dats])
    (fun c => by
      unfold Pipeline.ΦA; rw [scopedRest0_eq]
      rw [show Dat.Φ (dats m P D6 D7 D8 0 c) 0 = Phi P c 0 from by dsimp only [dats]]
      unfold Phi; simp only [owns_whole]
      iintro ⟨⟨⟨%g12, H12⟩, ⟨%g13, H13⟩, ⟨%g14, H14⟩⟩, Hr⟩
      isplitl [H12]
      · iexists g12; isplitr; swap; (iexact H12); ipureintro; exact hP0 c g12
      isplitl [H13]; · iexists _; iexact H13
      isplitl [H14]; · iexists _; iexact H14
      iexact Hr)
    (fun c => by
      unfold Pipeline.ΦA; rw [scopedRest0_eq]
      rw [show ∀ s, Dat.Φ (dats m P D6 D7 D8 0 c) s = Phi P c s from fun s => by dsimp only [dats]]
      unfold Phi; simp only [owns_whole]
      iintro ⟨⟨%X12, %hP, H12⟩, ⟨%X13, H13⟩, ⟨%X14, H14⟩, Hr⟩
      isplitl [H12 H13 H14]
      · isplitl [H12]; · iexists _; iexact H12
        isplitl [H13]; · iexists _; iexact H13
        iexists _; iexact H14
      iexact Hr) _ (fun _ h => h.1)

end Cert.AttnIdeal.Proof

end

end
-- ==== Proof.Host.lean ====
/- The six arrays the host lines hand the region, as functions of the arguments: layout, and the softmax's row statistics. -/
module

public import proofs.«01_k».proof.Proof.Gen.AttnIdeal.Frame
public import Idealize.ShloMosaic.Lib.Pipeline.ValueKit
public import Idealize.ShloMosaic.Lib.StableHlo.RunRead

@[expose] public section

set_option maxRecDepth 16384

noncomputable section

namespace Cert.AttnIdeal.Proof

open Idealize.ShloMosaic Idealize.ShloMosaic.TcCoe Idealize.ShloMosaic.Tactic Cert.AttnIdeal Cert.AttnIdeal.Gen

set_option maxHeartbeats 400000

/-- The padding value. -/
def padZero : FVec Ideal S_ .f32 := sitofp .f32 (constantI S_ 32 0#32)
/-- Queries and keys as the region reads them. -/
def padK (x : FVec Ideal S4x2064x8x192 .f32) : FVec Ideal S9216x2048 .bf16 :=
  truncf .bf16 (shapeCast S9216x2048 (pad S4x2304x2048 ![0, 240, 0] ![0, 0, 0] ![0, 0, 0]
    (shapeCast S4x2064x2048 (pad S4x2064x8x256 ![0, 0, 0, 0] ![0, 0, 0, 64] ![0, 0, 0, 0] x padZero pads_S4x2064x8x192_S4x2064x8x256_000_000_000_0640 h_S_)
      shapeCasts_S4x2064x8x256_S4x2064x2048) padZero pads_S4x2064x2048_S4x2304x2048_000_24000_000 h_S_) shapeCasts_S4x2304x2048_S9216x2048) bitsLt_bf16_f32
/-- Values and the output's gradient as the region reads them. -/
def padV (x : FVec Ideal S4x2064x8x128 .f32) : FVec Ideal S9216x1024 .bf16 :=
  truncf .bf16 (shapeCast S9216x1024 (pad S4x2304x1024 ![0, 240, 0] ![0, 0, 0] ![0, 0, 0]
    (shapeCast S4x2064x1024 x shapeCasts_S4x2064x8x128_S4x2064x1024) padZero pads_S4x2064x1024_S4x2304x1024_000_24000_000 h_S_)
    shapeCasts_S4x2304x1024_S9216x1024) bitsLt_bf16_f32
/-- A row statistic as the region reads it. -/
def padL (x : FVec Ideal S4x8x2064 .f32) : FVec Ideal S4x8x9x256 .f32 :=
  shapeCast S4x8x9x256 (pad S4x8x2304 ![0, 0, 240] ![0, 0, 0] ![0, 0, 0] x padZero pads_S4x8x2064_S4x8x2304_000_000_24000 h_S_) shapeCasts_S4x8x2304_S4x8x9x256

/-- The masked, scaled scores. -/
def hS (q k : FVec Ideal S4x2064x8x192 .f32) : FVec Ideal S4x8x2064x2064 .f32 :=
  select (broadcastInDim S4x8x2064x2064 ![2, 3] bcast_S2064x2064_S4x8x2064x2064_2_3
      (cmpi .sle (broadcastInDim S2064x2064 ![0, 1] bcast_S1x2064_S2064x2064_0_1 (broadcastInDim S1x2064 ![1] bcast_S2064_S1x2064_1 (iotaInDim S2064 32 0)))
        (broadcastInDim S2064x2064 ![0, 1] bcast_S2064x1_S2064x2064_0_1 (broadcastInDim S2064x1 ![0] bcast_S2064_S2064x1_0 (iotaInDim S2064 32 0)))))
    (Host.divf (Host.dotGeneral dot_S4x2064x8x192_S4x2064x8x192_S4x8x2064x2064_3_3_1_1_02_02 none q k)
      (broadcastInDim S4x8x2064x2064 ![] bcast_S_S4x8x2064x2064 (Host.sqrt (constant S_ .f32 0x43400000#32))))
    (broadcastInDim S4x8x2064x2064 ![] bcast_S_S4x8x2064x2064 (constant S_ .f32 0xFF800000#32))
/-- Each row's greatest score. -/
def hTop (q k : FVec Ideal S4x2064x8x192 .f32) : FVec Ideal S4x8x2064x1 .f32 :=
  broadcastInDim S4x8x2064x1 ![0, 1, 2] bcast_S4x8x2064_S4x8x2064x1_0_1_2
    (Host.reduce FloatOps.maximumf (hS q k) (constant S_ .f32 0xFF800000#32) reducesTo_S4x8x2064x2064_S4x8x2064_d3 h_S_)
/-- The exponentials behind a row's shift. -/
def expS (q k : FVec Ideal S4x2064x8x192 .f32) (top : FVec Ideal S4x8x2064x1 .f32) : FVec Ideal S4x8x2064x2064 .f32 :=
  Host.exp (subf (hS q k) (broadcastInDim S4x8x2064x2064 ![0, 1, 2, 3] bcast_S4x8x2064x1_S4x8x2064x2064_0_1_2_3 top))
/-- Each row's total. -/
def totS (q k : FVec Ideal S4x2064x8x192 .f32) (top : FVec Ideal S4x8x2064x1 .f32) : FVec Ideal S4x8x2064x1 .f32 :=
  broadcastInDim S4x8x2064x1 ![0, 1, 2] bcast_S4x8x2064_S4x8x2064x1_0_1_2
    (Host.reduceAdd (expS q k top) (constant S_ .f32 0x00000000#32) reducesTo_S4x8x2064x2064_S4x8x2064_d3 h_S_)
/-- The base-two log of each row's total of exponentials. -/
def hLse (q k : FVec Ideal S4x2064x8x192 .f32) : FVec Ideal S4x8x2064 .f32 :=
  Host.divf (shapeCast S4x8x2064 (addf (hTop q k) (Host.log (totS q k (hTop q k)))) shapeCasts_S4x8x2064x1_S4x8x2064)
    (broadcastInDim S4x8x2064 ![] bcast_S_S4x8x2064 (Host.log (constant S_ .f32 0x40000000#32)))
/-- Each row's product of the output's gradient with the output. -/
def hDelta (q k : FVec Ideal S4x2064x8x192 .f32) (v o : FVec Ideal S4x2064x8x128 .f32) : FVec Ideal S4x8x2064 .f32 :=
  transpose S4x8x2064 [0, 2, 1] (Host.reduceAdd (mulf o (transpose S4x2064x8x128 [0, 3, 1, 2]
    (Host.dotGeneral dot_S4x2064x8x128_S4x8x2064x2064_S4x8x128x2064_1_3_3_2_02_01 none v
      (Host.divf (expS q k (hTop q k)) (broadcastInDim S4x8x2064x2064 ![0, 1, 2, 3] bcast_S4x8x2064x1_S4x8x2064x2064_0_1_2_3 (totS q k (hTop q k)))))
    transposes_S4x8x128x2064_S4x2064x8x128_0_3_1_2)) (constant S_ .f32 0x00000000#32) reducesTo_S4x2064x8x128_S4x2064x8_d3 h_S_) transposes_S4x2064x8_S4x8x2064_0_2_1

end Cert.AttnIdeal.Proof

end

end
-- ==== Proof.HostAt.lean ====
/- The six arrays the host lines hand the region, as functions of the arguments: layout, and the softmax's row statistics. -/
module

public import proofs.«01_k».proof.Proof.Host
public import Idealize.ShloMosaic.Lib.Pipeline.ValueKit
public import Idealize.ShloMosaic.Lib.StableHlo.ReadAt

@[expose] public section

set_option maxRecDepth 16384

noncomputable section

namespace Cert.AttnIdeal.Proof

open Idealize.ShloMosaic Idealize.ShloMosaic.TcCoe Idealize.ShloMosaic.Tactic Cert.AttnIdeal Cert.AttnIdeal.Gen

set_option maxHeartbeats 400000

theorem sitofp0 : (FloatOps.sitofp FTy.f32 0#32 : Ideal .f32) = (0 : EReal) := by
  show (((0#32 : BitVec 32).toInt : ℝ) : EReal) = 0
  norm_num
theorem padZero_apply (x : S_.Idx) : padZero x = (0 : EReal) := by
  unfold padZero
  pointwise
  exact sitofp0

section
variable (m : (ℓ : Loc nD τ sig) → Buf (Elt Ideal) ℓ) (c : Dev nD)

/-- The queries behind their padding. -/
theorem V_q (i : Fin 9216) (j : Fin 2048) : V m c main_v35 (ix2 i j) = if H : 240 ≤ i.val % 2304 ∧ j.val % 256 < 192 then m ((c : Thread nD τ).loc main_arg0) (ix4 ⟨i / 2304, by omega⟩ ⟨i % 2304 - 240, by omega⟩ ⟨j / 256, by omega⟩ ⟨j % 256, H.2⟩) else (0 : EReal) := by
  unfold_abbrev_sides
  after_reads_at
  simp only [sitofp0]
  split_ifs <;> first | (exfalso; omega) | rfl
/-- The keys behind theirs. -/
theorem V_k (i : Fin 9216) (j : Fin 2048) : V m c main_v40 (ix2 i j) = if H : 240 ≤ i.val % 2304 ∧ j.val % 256 < 192 then m ((c : Thread nD τ).loc main_arg1) (ix4 ⟨i / 2304, by omega⟩ ⟨i % 2304 - 240, by omega⟩ ⟨j / 256, by omega⟩ ⟨j % 256, H.2⟩) else (0 : EReal) := by
  unfold_abbrev_sides
  after_reads_at
  simp only [sitofp0]
  split_ifs <;> first | (exfalso; omega) | rfl
/-- The values behind theirs. -/
theorem V_v (i : Fin 9216) (j : Fin 1024) : V m c main_v44 (ix2 i j) = if H : 240 ≤ i.val % 2304 then m ((c : Thread nD τ).loc main_arg2) (ix4 ⟨i / 2304, by omega⟩ ⟨i % 2304 - 240, by omega⟩ ⟨j / 128, by omega⟩ ⟨j % 128, by omega⟩) else (0 : EReal) := by
  unfold_abbrev_sides
  after_reads_at
  simp only [sitofp0]
  split_ifs <;> first | (exfalso; omega) | rfl
/-- The output's gradient behind its own. -/
theorem V_o (i : Fin 9216) (j : Fin 1024) : V m c main_v48 (ix2 i j) = if H : 240 ≤ i.val % 2304 then m ((c : Thread nD τ).loc main_arg3) (ix4 ⟨i / 2304, by omega⟩ ⟨i % 2304 - 240, by omega⟩ ⟨j / 128, by omega⟩ ⟨j % 128, by omega⟩) else (0 : EReal) := by
  unfold_abbrev_sides
  after_reads_at
  simp only [sitofp0]
  split_ifs <;> first | (exfalso; omega) | rfl
end

/-- A padded row statistic. -/
theorem padL_apply (x : FVec Ideal S4x8x2064 .f32) (b : Fin 4) (h : Fin 8) (a : Fin 9) (s : Fin 256) :
    padL x (ix4 b h a s) = if H : 240 ≤ 256 * a.val + s.val then x (ix3 b h ⟨256 * a + s - 240, by omega⟩) else (0 : EReal) := by
  unfold padL padZero
  pointwise
  simp only [sitofp0]
  split_ifs <;> first | (exfalso; omega) | rfl | (refine congrArg x ?_; congr 1; ext; show _ = _; simp only []; omega)

end Cert.AttnIdeal.Proof

end

end
-- ==== Proof.HostStats.lean ====
/- The six arrays the host lines hand the region, as functions of the arguments: layout, and the softmax's row statistics. -/
module

public import proofs.«01_k».proof.Proof.Host
public import Idealize.ShloMosaic.Lib.Pipeline.ValueKit
public import Idealize.ShloMosaic.Lib.StableHlo.ReadAt

@[expose] public section

set_option maxRecDepth 16384

noncomputable section

namespace Cert.AttnIdeal.Proof

open Idealize.ShloMosaic Idealize.ShloMosaic.TcCoe Idealize.ShloMosaic.Tactic Cert.AttnIdeal Cert.AttnIdeal.Gen

set_option maxHeartbeats 400000

section
variable (m : (ℓ : Loc nD τ sig) → Buf (Elt Ideal) ℓ) (c : Dev nD)
attribute [local irreducible] addf subf mulf select truncf shapeCast broadcastInDim constant pad transpose Host.divf Host.exp Host.log Host.sqrt Host.reduceAdd Host.reduce sitofp
theorem V_l : V m c main_v50 = padL (hLse (m ((c : Thread nD τ).loc main_arg0)) (m ((c : Thread nD τ).loc main_arg1))) := by
  unfold_abbrev_sides
  after_reads_simp
  simp -implicitDefEqProofs only [StableHlo.TRef.toBuf, StableHlo.TRef.ofBuf, cast_cast, cast_eq]
  clean_types
  rfl
theorem V_d : V m c main_v52 = padL (hDelta (m ((c : Thread nD τ).loc main_arg0)) (m ((c : Thread nD τ).loc main_arg1)) (m ((c : Thread nD τ).loc main_arg2)) (m ((c : Thread nD τ).loc main_arg3))) := by
  unfold_abbrev_sides
  after_reads_simp
  simp -implicitDefEqProofs only [StableHlo.TRef.toBuf, StableHlo.TRef.ofBuf, cast_cast, cast_eq]
  clean_types
  rfl
end

end Cert.AttnIdeal.Proof

end

end
-- ==== Proof.Head.lean ====
/- What one head of one pair of blocks (256 queries against 256 keys) computes, as functions of the loaded blocks, and those
   functions read at an index over the extended reals. -/
module

public import proofs.«01_k».proof.Proof.Gen.AttnIdeal.Skeleton
public import Idealize.ShloMosaic.Lib.Pointwise
public import Idealize.ShloMosaic.PureOps.IdealRules

@[expose] public section

set_option maxRecDepth 16384

noncomputable section

namespace Cert.AttnIdeal.Proof

open Idealize.ShloMosaic Idealize.ShloMosaic.TcCoe Cert.AttnIdeal Cert.AttnIdeal.Gen

variable {F : FTy → Type} [FloatOps F] [Named F]

/-- The transposed probabilities, keys down and queries across, before any mask. -/
def headE (q k : Vec F S256x256 .bf16) (l : Vec F S1x1x1x256 .f32) : FVec F S256x256 .f32 :=
  exp2 (subf (mulf (matmul dot_S256x256_S256x256_S256x256_1_1_0_0_n_n none (shapeCast S256x256 k shapeCasts_S256x256_S256x256)
    (shapeCast S256x256 q shapeCasts_S256x256_S256x256) (constant S256x256 .f32 0x00000000#32))
    (broadcast S256x256 (Named.named κ "cl" 0x3DD53B95#32)))
    (broadcastTo S256x256 (shapeCast S1x256 l shapeCasts_S1x1x1x256_S1x256) broadcasts_S1x256_S256x256))

/-- The transposed probabilities under a mask. -/
def headP (mk : IVec S256x256 1) (q k : Vec F S256x256 .bf16) (l : Vec F S1x1x1x256 .f32) : FVec F S256x256 .f32 :=
  select mk (headE q k l) (broadcast S256x256 (Scalar.ofBits .f32 0x00000000#32))

/-- The value gradient's block, accumulated. -/
def headDv (p : FVec F S256x256 .f32) (o : Vec F S256x128 .bf16) (old : Vec F S256x128 .f32) : FVec F S256x128 .f32 :=
  shapeCast S256x128 (addf old (matmul dot_S256x256_S256x128_S256x128_1_0_0_1_n_n none (truncf .bf16 p bitsLt_bf16_f32)
    (shapeCast S256x128 o shapeCasts_S256x128_S256x128) (constant S256x128 .f32 0x00000000#32))) shapeCasts_S256x128_S256x128

/-- The transposed gradient of the scores. -/
def headDs (p : FVec F S256x256 .f32) (o v : Vec F S256x128 .bf16) (d : Vec F S1x1x1x256 .f32) : FVec F S256x256 .bf16 :=
  truncf .bf16 (mulf (mulf p (subf (matmul dot_S256x128_S256x128_S256x256_1_1_0_0_n_n none (shapeCast S256x128 v shapeCasts_S256x128_S256x128)
    (shapeCast S256x128 o shapeCasts_S256x128_S256x128) (constant S256x256 .f32 0x00000000#32))
    (broadcastTo S256x256 (shapeCast S1x256 d shapeCasts_S1x1x1x256_S1x256) broadcasts_S1x256_S256x256)))
    (broadcast S256x256 (Named.named κ "c" 0x3D93CD3A#32))) bitsLt_bf16_f32

/-- The key gradient's block, accumulated. -/
def headDk (s : FVec F S256x256 .bf16) (q : Vec F S256x256 .bf16) (old : Vec F S256x256 .f32) : FVec F S256x256 .f32 :=
  shapeCast S256x256 (addf old (matmul dot_S256x256_S256x256_S256x256_1_0_0_1_n_n none s (shapeCast S256x256 q shapeCasts_S256x256_S256x256)
    (constant S256x256 .f32 0x00000000#32))) shapeCasts_S256x256_S256x256

/-- The query gradient's block from one key block. -/
def headDq (s : FVec F S256x256 .bf16) (k : Vec F S256x256 .bf16) : FVec F S256x256 .f32 :=
  shapeCast S256x256 (matmul dot_S256x256_S256x256_S256x256_0_0_1_1_n_n none s (shapeCast S256x256 k shapeCasts_S256x256_S256x256)
    (constant S256x256 .f32 0x00000000#32)) shapeCasts_S256x256_S256x256

/-- The query gradient's block, accumulated. -/
def headDq' (s : FVec F S256x256 .bf16) (k : Vec F S256x256 .bf16) (old : Vec F S256x256 .f32) : FVec F S256x256 .f32 :=
  shapeCast S256x256 (addf old (matmul dot_S256x256_S256x256_S256x256_0_0_1_1_n_n none s (shapeCast S256x256 k shapeCasts_S256x256_S256x256)
    (constant S256x256 .f32 0x00000000#32))) shapeCasts_S256x256_S256x256

/-- The score scale, 1/√192. -/
def cS : EReal := (((Real.sqrt 192)⁻¹ : ℝ) : EReal)
/-- The score scale in base two, 1/√192 · 1/ln 2. -/
def cL : EReal := (((Real.sqrt 192)⁻¹ * (Real.log 2)⁻¹ : ℝ) : EReal)

theorem named_c : (Named.named κ "c" 0x3D93CD3A#32 : Ideal .f32) = cS := IdealRules.named_const.ideal_named_scalar _ _ _ _ rfl
theorem named_cl : (Named.named κ "cl" 0x3DD53B95#32 : Ideal .f32) = cL := IdealRules.named_const.ideal_named_scalar _ _ _ _ rfl

theorem headE_apply (q k : Vec Ideal S256x256 .bf16) (l : Vec Ideal S1x1x1x256 .f32) (r s : Fin 256) :
    headE q k l (ix2 r s) = Ideal.exp2 ((∑ d : Fin 256, k (ix2 r d) * q (ix2 s d)) * cL - l (ix4 0 0 0 s)) := by
  unfold headE
  rw [named_cl]
  pointwise
  rfl

theorem headP_apply (mk : IVec S256x256 1) (q k : Vec Ideal S256x256 .bf16) (l : Vec Ideal S1x1x1x256 .f32) (r s : Fin 256) :
    headP mk q k l (ix2 r s) = if mk (ix2 r s) = 1#1 then headE q k l (ix2 r s) else 0 := by
  unfold headP
  show (if _ then _ else Ideal.ofBits .f32 0x00000000#32) = _
  rw [Ideal.ofBits_zero_f32]
  rfl

theorem headDv_apply (p : FVec Ideal S256x256 .f32) (o : Vec Ideal S256x128 .bf16) (old : Vec Ideal S256x128 .f32) (r : Fin 256) (e : Fin 128) :
    headDv p o old (ix2 r e) = old (ix2 r e) + ∑ s : Fin 256, p (ix2 r s) * o (ix2 s e) := by
  unfold headDv
  pointwise

theorem headDs_apply (p : FVec Ideal S256x256 .f32) (o v : Vec Ideal S256x128 .bf16) (d : Vec Ideal S1x1x1x256 .f32) (r s : Fin 256) :
    headDs p o v d (ix2 r s) = p (ix2 r s) * ((∑ e : Fin 128, v (ix2 r e) * o (ix2 s e)) - d (ix4 0 0 0 s)) * cS := by
  unfold headDs
  rw [named_c]
  pointwise

theorem headDk_apply (s : FVec Ideal S256x256 .bf16) (q : Vec Ideal S256x256 .bf16) (old : Vec Ideal S256x256 .f32) (r d : Fin 256) :
    headDk s q old (ix2 r d) = old (ix2 r d) + ∑ t : Fin 256, s (ix2 r t) * q (ix2 t d) := by
  unfold headDk
  pointwise

theorem headDq_apply (s : FVec Ideal S256x256 .bf16) (k : Vec Ideal S256x256 .bf16) (t d : Fin 256) :
    headDq s k (ix2 t d) = ∑ r : Fin 256, s (ix2 r t) * k (ix2 r d) := by
  unfold headDq
  pointwise

theorem headDq'_apply (s : FVec Ideal S256x256 .bf16) (k : Vec Ideal S256x256 .bf16) (old : Vec Ideal S256x256 .f32) (t d : Fin 256) :
    headDq' s k old (ix2 t d) = old (ix2 t d) + ∑ r : Fin 256, s (ix2 r t) * k (ix2 r d) := by
  unfold headDq'
  pointwise

end Cert.AttnIdeal.Proof

end

end
-- ==== Proof.Spec.lean ====
/- The gradient of causal attention on the padded rows, index by index over the extended reals: what each block of 256
   queries against 256 keys contributes to the gradients of the keys, the values and the queries. -/
module

public import proofs.«01_k».proof.Proof.Head

@[expose] public section

noncomputable section

namespace Cert.AttnIdeal.Proof

open Idealize.ShloMosaic

/-- The arrays of one sequence, by row and column: queries, keys, values, the output's gradient; and by head and row the
    base-two log of the softmax total and the row's `delta`. -/
structure In where
  /-- queries -/
  q : ℕ → ℕ → EReal
  /-- keys -/
  k : ℕ → ℕ → EReal
  /-- values -/
  v : ℕ → ℕ → EReal
  /-- the output's gradient -/
  o : ℕ → ℕ → EReal
  /-- log of the softmax total, base two -/
  l : ℕ → ℕ → EReal
  /-- the sum of output times its gradient -/
  d : ℕ → ℕ → EReal

/-- Query row `i` may look at key row `c`: not later, and not at a padding row unless itself a padding row. -/
abbrev ok (i c : ℕ) : Prop := c ≤ i ∧ (240 ≤ c ∨ i < 240)

variable (I : In)

/-- The unscaled score. -/
def sc (h i c : ℕ) : EReal := ∑ d : Fin 256, I.k c (256 * h + d) * I.q i (256 * h + d)
/-- The probability. -/
def pS (h i c : ℕ) : EReal := if ok i c then Ideal.exp2 (sc I h i c * cL - I.l h i) else 0
/-- The score's gradient, scaled. -/
def dsS (h i c : ℕ) : EReal := pS I h i c * ((∑ e : Fin 128, I.v c (128 * h + e) * I.o i (128 * h + e)) - I.d h i) * cS
/-- Query block `a`'s part of the value gradient at key row `c`. -/
def dvS (h a c e : ℕ) : EReal := ∑ s : Fin 256, pS I h (256 * a + s) c * I.o (256 * a + s) (128 * h + e)
/-- Query block `a`'s part of the key gradient at key row `c`. -/
def dkS (h a c d : ℕ) : EReal := ∑ s : Fin 256, dsS I h (256 * a + s) c * I.q (256 * a + s) (256 * h + d)
/-- Key block `b`'s part of the query gradient at query row `i`. -/
def dqS (h b i d : ℕ) : EReal := ∑ r : Fin 256, dsS I h i (256 * b + r) * I.k (256 * b + r) (256 * h + d)

variable {I}

theorem p_mask {mk : IVec S256x256 1} {q k : Vec Ideal S256x256 .bf16} {l : Vec Ideal S1x1x1x256 .f32} {h a : ℕ} (b : ℕ)
    (hm : ∀ r s : Fin 256, mk (ix2 r s) = 1#1 ↔ ok (256 * a + s) (256 * b + r))
    (hq : ∀ s d : Fin 256, q (ix2 s d) = I.q (256 * a + s) (256 * h + d))
    (hk : ∀ r d : Fin 256, k (ix2 r d) = I.k (256 * b + r) (256 * h + d))
    (hl : ∀ s : Fin 256, l (ix4 0 0 0 s) = I.l h (256 * a + s)) (r s : Fin 256) :
    headP mk q k l (ix2 r s) = pS I h (256 * a + s) (256 * b + r) := by
  rw [headP_apply, headE_apply]
  unfold pS sc
  simp only [hq, hk, hl, hm]

theorem p_full {q k : Vec Ideal S256x256 .bf16} {l : Vec Ideal S1x1x1x256 .f32} {h a : ℕ} (b : ℕ)
    (hm : ∀ r s : Fin 256, ok (256 * a + s) (256 * b + r))
    (hq : ∀ s d : Fin 256, q (ix2 s d) = I.q (256 * a + s) (256 * h + d))
    (hk : ∀ r d : Fin 256, k (ix2 r d) = I.k (256 * b + r) (256 * h + d))
    (hl : ∀ s : Fin 256, l (ix4 0 0 0 s) = I.l h (256 * a + s)) (r s : Fin 256) :
    headE q k l (ix2 r s) = pS I h (256 * a + s) (256 * b + r) := by
  rw [headE_apply]
  unfold pS sc
  simp only [hq, hk, hl, if_pos (hm r s)]

theorem ds_eq {p : FVec Ideal S256x256 .f32} {o v : Vec Ideal S256x128 .bf16} {d : Vec Ideal S1x1x1x256 .f32} {h a b : ℕ}
    (hp : ∀ r s : Fin 256, p (ix2 r s) = pS I h (256 * a + s) (256 * b + r))
    (ho : ∀ (s : Fin 256) (e : Fin 128), o (ix2 s e) = I.o (256 * a + s) (128 * h + e))
    (hv : ∀ (r : Fin 256) (e : Fin 128), v (ix2 r e) = I.v (256 * b + r) (128 * h + e))
    (hd : ∀ s : Fin 256, d (ix4 0 0 0 s) = I.d h (256 * a + s)) (r s : Fin 256) :
    headDs p o v d (ix2 r s) = dsS I h (256 * a + s) (256 * b + r) := by
  rw [headDs_apply]
  unfold dsS
  simp only [hp, ho, hv, hd]

theorem dv_eq {p : FVec Ideal S256x256 .f32} {o : Vec Ideal S256x128 .bf16} {old : Vec Ideal S256x128 .f32} {h a b : ℕ}
    (hp : ∀ r s : Fin 256, p (ix2 r s) = pS I h (256 * a + s) (256 * b + r))
    (ho : ∀ (s : Fin 256) (e : Fin 128), o (ix2 s e) = I.o (256 * a + s) (128 * h + e)) (r : Fin 256) (e : Fin 128) :
    headDv p o old (ix2 r e) = old (ix2 r e) + dvS I h a (256 * b + r) e := by
  rw [headDv_apply]
  unfold dvS
  simp only [hp, ho]

theorem dk_eq {s : FVec Ideal S256x256 .bf16} {q : Vec Ideal S256x256 .bf16} {old : Vec Ideal S256x256 .f32} {h a b : ℕ}
    (hs : ∀ r t : Fin 256, s (ix2 r t) = dsS I h (256 * a + t) (256 * b + r))
    (hq : ∀ s d : Fin 256, q (ix2 s d) = I.q (256 * a + s) (256 * h + d)) (r d : Fin 256) :
    headDk s q old (ix2 r d) = old (ix2 r d) + dkS I h a (256 * b + r) d := by
  rw [headDk_apply]
  unfold dkS
  simp only [hs, hq]

theorem dq_eq {s : FVec Ideal S256x256 .bf16} {k : Vec Ideal S256x256 .bf16} {h a b : ℕ}
    (hs : ∀ r t : Fin 256, s (ix2 r t) = dsS I h (256 * a + t) (256 * b + r))
    (hk : ∀ r d : Fin 256, k (ix2 r d) = I.k (256 * b + r) (256 * h + d)) (t d : Fin 256) :
    headDq s k (ix2 t d) = dqS I h b (256 * a + t) d := by
  rw [headDq_apply]
  unfold dqS
  simp only [hs, hk]

theorem dq_acc {s : FVec Ideal S256x256 .bf16} {k : Vec Ideal S256x256 .bf16} {old : Vec Ideal S256x256 .f32} {h a b : ℕ}
    (hs : ∀ r t : Fin 256, s (ix2 r t) = dsS I h (256 * a + t) (256 * b + r))
    (hk : ∀ r d : Fin 256, k (ix2 r d) = I.k (256 * b + r) (256 * h + d)) (t d : Fin 256) :
    headDq' s k old (ix2 t d) = old (ix2 t d) + dqS I h b (256 * a + t) d := by
  rw [headDq'_apply]
  unfold dqS
  simp only [hs, hk]

end Cert.AttnIdeal.Proof

end

end
-- ==== Proof.Mask.lean ====
/- The causal-and-front mask of a pair of blocks, as the program computes it in 32-bit words. -/
module

public import proofs.«01_k».proof.Proof.Spec
public import Idealize.ShloMosaic.Lib.WordCmp

@[expose] public section

noncomputable section

namespace Cert.AttnIdeal.Proof

open Idealize.ShloMosaic Idealize.ShloMosaic.TcCoe Cert.AttnIdeal Cert.AttnIdeal.Gen Idealize.ShloMosaic.WordCmp

/-- A position in the sequence as a word: its block times 256 plus its row. -/
theorem word (b r : ℕ) : IntOp.addi (IntOp.muli (BitVec.ofNat 32 b) 256#32) (BitVec.ofNat 32 r) = BitVec.ofNat 32 (256 * b + r) := by
  show BitVec.ofNat 32 b * BitVec.ofNat 32 256 + BitVec.ofNat 32 r = _
  rw [BitVec.ofNat_mul_ofNat, BitVec.ofNat_add_ofNat, Nat.mul_comm]

/-- The three comparisons, joined, say that query `i` may see key `c`. -/
theorem mask_word {i c : ℕ} (hi : i < 2 ^ 31) (hc : c < 2 ^ 31) :
    IntOp.andi (IntOp.cmpi .sle (BitVec.ofNat 32 c) (BitVec.ofNat 32 i))
      (IntOp.ori (IntOp.cmpi .sge (BitVec.ofNat 32 c) 240#32) (IntOp.cmpi .slt (BitVec.ofNat 32 i) 240#32)) = 1#1 ↔ ok i c := by
  rw [cmpi_sle_ofNat (w := 32) hc hi, cmpi_sge_ofNat (w := 32) (b := 240) hc (by norm_num), cmpi_slt_ofNat (w := 32) (b := 240) hi (by norm_num)]
  unfold ok
  by_cases h1 : c ≤ i <;> by_cases h2 : 240 ≤ c <;> by_cases h3 : i < 240 <;> simp [h1, h2, h3, IntOp.andi, IntOp.ori]

theorem coord_lt (i : grid0.Coords) : (i 2).val < 9 := (i 2).isLt

theorem mask_word' {a b : ℕ} (ha : a < 9) (hb : b < 9) (r s : Fin 256) :
    IntOp.andi (IntOp.cmpi .sle (IntOp.addi (IntOp.muli (BitVec.ofNat 32 b) 256#32) (BitVec.ofNat 32 r)) (IntOp.addi (IntOp.muli (BitVec.ofNat 32 a) 256#32) (BitVec.ofNat 32 s)))
      (IntOp.ori (IntOp.cmpi .sge (IntOp.addi (IntOp.muli (BitVec.ofNat 32 b) 256#32) (BitVec.ofNat 32 r)) 240#32) (IntOp.cmpi .slt (IntOp.addi (IntOp.muli (BitVec.ofNat 32 a) 256#32) (BitVec.ofNat 32 s)) 240#32)) = 1#1
      ↔ ok (256 * a + s) (256 * b + r) := by
  rw [word, word]
  exact mask_word (by omega) (by omega)

private theorem iota0 (r s : Fin 256) : iota .tc S256x256 32 [0] iota_S256x256_d0_w32 (ix2 r s) = BitVec.ofNat 32 r := by
  show BitVec.ofNat 32 (0 * 256 + r.val) = _
  rw [Nat.zero_mul, Nat.zero_add]

private theorem iota1 (r s : Fin 256) : iota .tc S256x256 32 [1] iota_S256x256_d1_w32 (ix2 r s) = BitVec.ofNat 32 s := by
  show BitVec.ofNat 32 (0 * 256 + s.val) = _
  rw [Nat.zero_mul, Nat.zero_add]

/-- The mask of the diagonal pair of blocks, first branch. -/
theorem maskA (i : grid0.Coords) (r s : Fin 256) :
    k0_pay158 (BitVec.ofNat 32 (i 2).val) (k0_pay3 i) (iota .tc S256x256 32 [1] iota_S256x256_d1_w32) (ix2 r s) = 1#1 ↔ ok (256 * (i 2).val + s) (256 * (i 2).val + r) := by
  rw [← mask_word' (coord_lt i) (coord_lt i) r s, ← iota0 r s, ← iota1 r s]
  rfl

/-- The mask of the diagonal pair of blocks, second branch. -/
theorem maskB (i : grid0.Coords) (r s : Fin 256) :
    k0_pay384 (BitVec.ofNat 32 (i 2).val) (k0_pay3 i) (iota .tc S256x256 32 [1] iota_S256x256_d1_w32) (ix2 r s) = 1#1 ↔ ok (256 * (i 2).val + s) (256 * (i 2).val + r) :=
  maskA i r s

/-- The mask of a later query block in the first branch. -/
theorem maskT (i : grid0.Coords) (k : Fin (k0_t1_loop i).trips) (hk : (i 2).val + 1 + k.val < 9) (r s : Fin 256) :
    k0_pay10 i (k0_pay3 i) (iota .tc S256x256 32 [1] iota_S256x256_d1_w32) (Scalar.addi (BitVec.ofNat 32 (i 2).val) 1#32) 1#32 k (ix2 r s) = 1#1
      ↔ ok (256 * ((i 2).val + 1 + k.val) + s) (256 * (i 2).val + r) := by
  have e : Scf.iv (Scalar.addi (BitVec.ofNat 32 (i 2).val) 1#32) 1#32 k.val = BitVec.ofNat 32 ((i 2).val + 1 + k.val) := by
    show BitVec.ofNat 32 (i 2).val + 1#32 + BitVec.ofNat 32 k * 1#32 = _
    rw [BitVec.mul_one, BitVec.ofNat_add_ofNat, BitVec.ofNat_add_ofNat]
  rw [← mask_word' hk (coord_lt i) r s, ← iota0 r s, ← iota1 r s, ← e]
  rfl

end Cert.AttnIdeal.Proof

end

end
-- ==== Proof.Step.lean ====
/- Loads of a block from a buffer, and one store of a block among the eight of a pass over the heads, read index by index. -/
module

public import proofs.«01_k».proof.Proof.Head
public import Idealize.ShloMosaic.Lib.WritesUnit
public import Idealize.ShloMosaic.Lib.VecWindow

@[expose] public section

noncomputable section

namespace Cert.AttnIdeal.Proof

open Idealize.ShloMosaic Idealize.ShloMosaic.TcCoe

variable {sg : RefSig} {κ' : Kind} {sp : Space} {e : EltTy} {Val : EltTy → Type}

/-- A block loaded from a two-axis buffer reads the buffer at the offsets plus the index. -/
theorem ld2 {m n w z : ℕ} (v : View sg κ' sp ⟨2, ![m, n]⟩ e) (X : v.ty.Contents Val) {G : ℕ → ℕ → Val e}
    (hX : ∀ (i : Fin m) (j : Fin n), v.read Val X (ix2 i j) = G i j) {off : Fin 2 → ℕ} {inb} {R C R' C' : ℕ} (h : off = ![R, C])
    (hR : R = R') (hC : C = C') (s : Fin w) (d : Fin z) :
    v.readAt Val (Rect.unit (s := ⟨2, ![m, n]⟩) off (⟨2, ![w, z]⟩ : Shape).size inb).toLoadRect X (ix2 s d) = G (R' + s) (C' + d) := by
  subst h hR hC
  have h0 : R + s.val < m := by have : R + w ≤ m := inb 0; omega
  have h1 : C + d.val < n := by have : C + z ≤ n := inb 1; omega
  refine Eq.trans ?_ (hX ⟨R + s, h0⟩ ⟨C + d, h1⟩)
  rw [View.readAt_apply]
  refine congrArg _ (funext fun a => Fin.ext ?_)
  match a with
  | ⟨0, _⟩ => show R + 1 * s.val = R + s.val; omega
  | ⟨1, _⟩ => show C + 1 * d.val = C + d.val; omega

/-- A row of 256 loaded from a statistics buffer `1 × heads × blocks × 256`. -/
theorem ld4 {m n : ℕ} (v : View sg κ' sp ⟨4, ![1, m, n, 256]⟩ e) (X : v.ty.Contents Val) {G : ℕ → ℕ → Val e}
    (hX : ∀ (i : Fin m) (j : Fin n) (s : Fin 256), v.read Val X (ix4 0 i j s) = G i (256 * j + s)) {off : Fin 4 → ℕ} {inb} {H A H' A' : ℕ}
    (h : off = ![0, H, A, 0]) (hH : H = H') (hA : A = A') (s : Fin 256) :
    v.readAt Val (Rect.unit (s := ⟨4, ![1, m, n, 256]⟩) off (⟨4, ![1, 1, 1, 256]⟩ : Shape).size inb).toLoadRect X (ix4 0 0 0 s) = G H' (256 * A' + s) := by
  subst h hH hA
  have h0 : H < m := by have : H + 1 ≤ m := inb 1; omega
  have h1 : A < n := by have : A + 1 ≤ n := inb 2; omega
  refine Eq.trans ?_ (hX ⟨H, h0⟩ ⟨A, h1⟩ s)
  rw [View.readAt_apply]
  refine congrArg _ (funext fun a => Fin.ext ?_)
  match a with
  | ⟨0, _⟩ => rfl
  | ⟨1, _⟩ => show H + 1 * 0 = H; omega
  | ⟨2, _⟩ => show A + 1 * 0 = A; omega
  | ⟨3, _⟩ => show 0 + 1 * s.val = s.val; omega

/-- After `h` heads' stores over contents `B`: the rows of the block hold `G` in the columns of those heads, the rest is `B`. -/
def Upto {m n : ℕ} (v : View sg κ' sp ⟨2, ![m, n]⟩ e) (f : v.ty.Contents Val) (R w z : ℕ) (B G : ℕ → ℕ → Val e) (h : ℕ) (L : List (View.Piece Val ⟨2, ![m, n]⟩ e)) : Prop :=
  ∀ (i : Fin m) (j : Fin n), v.read Val (v.writes Val f L) (ix2 i j) = if R ≤ i.val ∧ i.val < R + w ∧ j.val < z * h then G i j else B i j

theorem Upto.nil {m n : ℕ} {v : View sg κ' sp ⟨2, ![m, n]⟩ e} {f : v.ty.Contents Val} {R w z : ℕ} {B G : ℕ → ℕ → Val e}
    {L : List (View.Piece Val ⟨2, ![m, n]⟩ e)} (hB : ∀ (i : Fin m) (j : Fin n), v.read Val (v.writes Val f L) (ix2 i j) = B i j) : Upto v f R w z B G 0 L := fun i j => by
  rw [if_neg (by omega)]
  exact hB i j

/-- One more head's store. -/
theorem Upto.cons {m n w z : ℕ} {v : View sg κ' sp ⟨2, ![m, n]⟩ e} {f : v.ty.Contents Val} {R : ℕ} {B G : ℕ → ℕ → Val e} {h C : ℕ} {L : List (View.Piece Val ⟨2, ![m, n]⟩ e)}
    (hL : Upto v f R w z B G h L) {off : Fin 2 → ℕ} {inb} {pay : (⟨2, ![w, z]⟩ : Shape).Idx → Val e} {R' : ℕ} (hoff : off = ![R', C]) (hR : R' = R) (hC : C = z * h)
    (hpay : ∀ (t : Fin w) (d : Fin z), pay (ix2 t d) = G (R + t) (z * h + d)) :
    Upto v f R w z B G (h + 1) (⟨Rect.unit (s := ⟨2, ![m, n]⟩) off (⟨2, ![w, z]⟩ : Shape).size inb, pay⟩ :: L) := fun i j => by
  subst hR hC
  have hz : z * (h + 1) = z * h + z := by ring
  by_cases hi : R' ≤ i.val ∧ i.val < R' + w
  · by_cases hj : z * h ≤ j.val ∧ j.val < z * h + z
    · rw [if_pos (by omega)]
      refine (View.read_writes_cons_unit_of_mem v f inb pay L (ix2 i j) (ix2 (⟨i.val - R', by omega⟩ : Fin w) (⟨j.val - z * h, by omega⟩ : Fin z)) hoff ?_).trans ?_
      · intro a
        match a with
        | ⟨0, _⟩ => show i.val = R' + (i.val - R'); omega
        | ⟨1, _⟩ => show j.val = z * h + (j.val - z * h); omega
      · rw [hpay]
        show G (R' + (i.val - R')) (z * h + (j.val - z * h)) = _
        rw [Nat.add_sub_cancel' hi.1, Nat.add_sub_cancel' hj.1]
    · rw [View.read_writes_cons_unit_of_not_mem v f inb pay L (ix2 i j) hoff 1 (by show j.val < z * h ∨ z * h + z ≤ j.val; omega), hL i j]
      refine if_congr ?_ rfl rfl
      omega
  · rw [View.read_writes_cons_unit_of_not_mem v f inb pay L (ix2 i j) hoff 0 (by show i.val < R' ∨ R' + w ≤ i.val; omega), hL i j, if_neg (by omega), if_neg (by omega)]

/-- The accumulator's block of head `h`, read before that head's store, still holds the old contents. -/
theorem Upto.old {m n w z : ℕ} [∀ e, Nonempty (Val e)] {v : View sg κ' sp ⟨2, ![m, n]⟩ e} {R : ℕ} {B G : ℕ → ℕ → Val e} {h C : ℕ} {L : List (View.Piece Val ⟨2, ![m, n]⟩ e)}
    (hL : Upto v v.junk R w z B G h L) {off : Fin 2 → ℕ} {inb} {R' : ℕ} (hoff : off = ![R', C]) (hR : R' = R) (hC : C = z * h) (t : Fin w) (d : Fin z) :
    v.readCov L (Rect.unit (s := ⟨2, ![m, n]⟩) off (⟨2, ![w, z]⟩ : Shape).size inb).toLoadRect (ix2 t d) = B (R + t) (z * h + d) := by
  subst hoff hR hC
  have h0 : R' + t.val < m := by have : R' + w ≤ m := inb 0; omega
  have h1 : z * h + d.val < n := by have : z * h + z ≤ n := inb 1; omega
  have := hL ⟨R' + t, h0⟩ ⟨z * h + d, h1⟩
  rw [if_neg (fun hh => by have : z * h + d.val < z * h := hh.2.2; omega)] at this
  refine Eq.trans ?_ this
  show v.readAt Val _ (v.writes Val v.junk L) _ = _
  rw [View.readAt_apply]
  refine congrArg _ (funext fun a => Fin.ext ?_)
  match a with
  | ⟨0, _⟩ => show R' + 1 * t.val = R' + t.val; omega
  | ⟨1, _⟩ => show z * h + 1 * d.val = z * h + d.val; omega

end Cert.AttnIdeal.Proof

end

end
-- ==== Proof.Acc.lean ====
/- The loads of one grid point in terms of the whole arrays, and the accumulators after each head's store. -/
module

public import proofs.«01_k».proof.Proof.Mask
public import proofs.«01_k».proof.Proof.Step

@[expose] public section

noncomputable section

namespace Cert.AttnIdeal.Proof

open Idealize.ShloMosaic Idealize.ShloMosaic.TcCoe Cert.AttnIdeal Cert.AttnIdeal.Gen

/-- The six buffers read at key block `b` hold the arrays of `I`: all queries, the block's keys and values. -/
structure Reads (I : In) (b : ℕ) (arg3 : Memref sig .tc .vmem S2304x2048 .bf16) (arg4 : Memref sig .tc .vmem S256x2048 .bf16) (arg5 : Memref sig .tc .vmem S256x1024 .bf16)
    (arg6 : Memref sig .tc .vmem S2304x1024 .bf16) (arg7 arg8 : Memref sig .tc .vmem S1x8x9x256 .f32)
    (X3 : BufTy.Contents (Elt Ideal) arg3.view.ty) (X4 : BufTy.Contents (Elt Ideal) arg4.view.ty) (X5 : BufTy.Contents (Elt Ideal) arg5.view.ty)
    (X6 : BufTy.Contents (Elt Ideal) arg6.view.ty) (X7 : BufTy.Contents (Elt Ideal) arg7.view.ty) (X8 : BufTy.Contents (Elt Ideal) arg8.view.ty) : Prop where
  q : ∀ (i : Fin 2304) (j : Fin 2048), arg3.view.read (Elt Ideal) X3 (ix2 i j) = I.q i j
  k : ∀ (i : Fin 256) (j : Fin 2048), arg4.view.read (Elt Ideal) X4 (ix2 i j) = I.k (256 * b + i) j
  v : ∀ (i : Fin 256) (j : Fin 1024), arg5.view.read (Elt Ideal) X5 (ix2 i j) = I.v (256 * b + i) j
  o : ∀ (i : Fin 2304) (j : Fin 1024), arg6.view.read (Elt Ideal) X6 (ix2 i j) = I.o i j
  l : ∀ (h : Fin 8) (a : Fin 9) (s : Fin 256), arg7.view.read (Elt Ideal) X7 (ix4 0 h a s) = I.l h (256 * a + s)
  d : ∀ (h : Fin 8) (a : Fin 9) (s : Fin 256), arg8.view.read (Elt Ideal) X8 (ix4 0 h a s) = I.d h (256 * a + s)

section
variable {I : In} {b : ℕ} {arg3 : Memref sig .tc .vmem S2304x2048 .bf16} {arg4 : Memref sig .tc .vmem S256x2048 .bf16} {arg5 : Memref sig .tc .vmem S256x1024 .bf16}
    {arg6 : Memref sig .tc .vmem S2304x1024 .bf16} {arg7 arg8 : Memref sig .tc .vmem S1x8x9x256 .f32}
    {X3 : BufTy.Contents (Elt Ideal) arg3.view.ty} {X4 : BufTy.Contents (Elt Ideal) arg4.view.ty} {X5 : BufTy.Contents (Elt Ideal) arg5.view.ty}
    {X6 : BufTy.Contents (Elt Ideal) arg6.view.ty} {X7 : BufTy.Contents (Elt Ideal) arg7.view.ty} {X8 : BufTy.Contents (Elt Ideal) arg8.view.ty}
    (H : Reads I b arg3 arg4 arg5 arg6 arg7 arg8 X3 X4 X5 X6 X7 X8)
include H

theorem Reads.lq {h a : ℕ} {off : Fin 2 → ℕ} {inb} {R C : ℕ} (e : off = ![R, C]) (hR : R = 256 * a) (hC : C = 256 * h) (s d : Fin 256) :
    arg3.view.readAt (Elt Ideal) (Rect.unit (s := S2304x2048) off S256x256.size inb).toLoadRect X3 (ix2 s d) = I.q (256 * a + s) (256 * h + d) :=
  ld2 _ X3 H.q e hR hC s d
theorem Reads.lo {h a : ℕ} {off : Fin 2 → ℕ} {inb} {R C : ℕ} (e : off = ![R, C]) (hR : R = 256 * a) (hC : C = 128 * h) (s : Fin 256) (d : Fin 128) :
    arg6.view.readAt (Elt Ideal) (Rect.unit (s := S2304x1024) off S256x128.size inb).toLoadRect X6 (ix2 s d) = I.o (256 * a + s) (128 * h + d) :=
  ld2 _ X6 H.o e hR hC s d
theorem Reads.lk {h : ℕ} {off : Fin 2 → ℕ} {inb} {C : ℕ} (e : off = ![0, C]) (hC : C = 256 * h) (s d : Fin 256) :
    arg4.view.readAt (Elt Ideal) (Rect.unit (s := S256x2048) off S256x256.size inb).toLoadRect X4 (ix2 s d) = I.k (256 * b + s) (256 * h + d) :=
  (ld2 _ X4 (G := fun i j => I.k (256 * b + i) j) H.k e rfl hC s d).trans (by rw [Nat.zero_add])
theorem Reads.lv {h : ℕ} {off : Fin 2 → ℕ} {inb} {C : ℕ} (e : off = ![0, C]) (hC : C = 128 * h) (s : Fin 256) (d : Fin 128) :
    arg5.view.readAt (Elt Ideal) (Rect.unit (s := S256x1024) off S256x128.size inb).toLoadRect X5 (ix2 s d) = I.v (256 * b + s) (128 * h + d) :=
  (ld2 _ X5 (G := fun i j => I.v (256 * b + i) j) H.v e rfl hC s d).trans (by rw [Nat.zero_add])
theorem Reads.ll {h a : ℕ} {off : Fin 4 → ℕ} {inb} {A C : ℕ} (e : off = ![0, C, A, 0]) (hA : A = a) (hC : C = h) (s : Fin 256) :
    arg7.view.readAt (Elt Ideal) (Rect.unit (s := S1x8x9x256) off S1x1x1x256.size inb).toLoadRect X7 (ix4 0 0 0 s) = I.l h (256 * a + s) :=
  ld4 _ X7 H.l e hC hA s
theorem Reads.ld {h a : ℕ} {off : Fin 4 → ℕ} {inb} {A C : ℕ} (e : off = ![0, C, A, 0]) (hA : A = a) (hC : C = h) (s : Fin 256) :
    arg8.view.readAt (Elt Ideal) (Rect.unit (s := S1x8x9x256) off S1x1x1x256.size inb).toLoadRect X8 (ix4 0 0 0 s) = I.d h (256 * a + s) :=
  ld4 _ X8 H.d e hC hA s
end

variable (I : In) (a b : ℕ)

/-- The value gradient's accumulator with query block `a`'s part added. -/
def addDv (B : ℕ → ℕ → EReal) (r J : ℕ) : EReal := B r J + dvS I (J / 128) a (256 * b + r) (J % 128)
/-- The key gradient's accumulator with query block `a`'s part added. -/
def addDk (B : ℕ → ℕ → EReal) (r J : ℕ) : EReal := B r J + dkS I (J / 256) a (256 * b + r) (J % 256)
/-- Key block `b`'s part of the query gradient. -/
def setDq (i J : ℕ) : EReal := dqS I (J / 256) b i (J % 256)
/-- The query gradient's accumulator with key block `b`'s part added. -/
def addDq (B : ℕ → ℕ → EReal) (i J : ℕ) : EReal := B i J + dqS I (J / 256) b i (J % 256)

variable {I a b} {sg : RefSig} {κ' : Kind} {sp : Space} {B : ℕ → ℕ → EReal} {h : ℕ}

theorem colv (h : ℕ) (e : Fin 128) : (128 * h + e.val) / 128 = h ∧ (128 * h + e.val) % 128 = e.val := by omega
theorem colk (h : ℕ) (e : Fin 256) : (256 * h + e.val) / 256 = h ∧ (256 * h + e.val) % 256 = e.val := by omega

/-- One head's addition to the value gradient, over stores so far. -/
theorem stepDv {v : View sg κ' sp S256x1024 .f32} {L : List (View.Piece (Elt Ideal) S256x1024 .f32)}
    (hL : Upto v v.junk 0 256 128 B (addDv I a b B) h L) {off : Fin 2 → ℕ} {inb} {pay : S256x128.Idx → Elt Ideal .f32} {C : ℕ} (hoff : off = ![0, C]) (hC : C = 128 * h)
    (hpay : ∀ (r : Fin 256) (e : Fin 128), pay (ix2 r e) = v.readCov L (Rect.unit (s := S256x1024) off S256x128.size inb).toLoadRect (ix2 r e) + dvS I h a (256 * b + r) e) :
    Upto v v.junk 0 256 128 B (addDv I a b B) (h + 1) (⟨Rect.unit (s := S256x1024) off S256x128.size inb, pay⟩ :: L) :=
  hL.cons hoff rfl hC fun r e => by
    rw [hpay r e, hL.old hoff rfl hC r e, addDv, Nat.zero_add, (colv h e).1, (colv h e).2]

/-- One head's addition to the key gradient, over stores so far. -/
theorem stepDk {v : View sg κ' sp S256x2048 .f32} {L : List (View.Piece (Elt Ideal) S256x2048 .f32)}
    (hL : Upto v v.junk 0 256 256 B (addDk I a b B) h L) {off : Fin 2 → ℕ} {inb} {pay : S256x256.Idx → Elt Ideal .f32} {C : ℕ} (hoff : off = ![0, C]) (hC : C = 256 * h)
    (hpay : ∀ (r e : Fin 256), pay (ix2 r e) = v.readCov L (Rect.unit (s := S256x2048) off S256x256.size inb).toLoadRect (ix2 r e) + dkS I h a (256 * b + r) e) :
    Upto v v.junk 0 256 256 B (addDk I a b B) (h + 1) (⟨Rect.unit (s := S256x2048) off S256x256.size inb, pay⟩ :: L) :=
  hL.cons hoff rfl hC fun r e => by
    rw [hpay r e, hL.old hoff rfl hC r e, addDk, Nat.zero_add, (colk h e).1, (colk h e).2]

/-- One head's addition to the value gradient in a pass that reads the contents before it. -/
theorem tripDv {v : View sg κ' sp S256x1024 .f32} {f : v.ty.Contents (Elt Ideal)} {L : List (View.Piece (Elt Ideal) S256x1024 .f32)}
    (hL : Upto v f 0 256 128 B (addDv I a b B) h L) (hB : ∀ (i : Fin 256) (j : Fin 1024), v.read (Elt Ideal) f (ix2 i j) = B i j)
    {off : Fin 2 → ℕ} {inb} {pay : S256x128.Idx → Elt Ideal .f32} {C : ℕ} (hoff : off = ![0, C]) (hC : C = 128 * h)
    (hpay : ∀ (r : Fin 256) (e : Fin 128), pay (ix2 r e) = v.readAt (Elt Ideal) (Rect.unit (s := S256x1024) off S256x128.size inb).toLoadRect f (ix2 r e) + dvS I h a (256 * b + r) e) :
    Upto v f 0 256 128 B (addDv I a b B) (h + 1) (⟨Rect.unit (s := S256x1024) off S256x128.size inb, pay⟩ :: L) :=
  hL.cons hoff rfl hC fun r e => by
    rw [hpay r e, ld2 v f hB hoff rfl hC r e, addDv, Nat.zero_add, (colv h e).1, (colv h e).2]

/-- One head's addition to the key gradient in a pass that reads the contents before it. -/
theorem tripDk {v : View sg κ' sp S256x2048 .f32} {f : v.ty.Contents (Elt Ideal)} {L : List (View.Piece (Elt Ideal) S256x2048 .f32)}
    (hL : Upto v f 0 256 256 B (addDk I a b B) h L) (hB : ∀ (i : Fin 256) (j : Fin 2048), v.read (Elt Ideal) f (ix2 i j) = B i j)
    {off : Fin 2 → ℕ} {inb} {pay : S256x256.Idx → Elt Ideal .f32} {C : ℕ} (hoff : off = ![0, C]) (hC : C = 256 * h)
    (hpay : ∀ (r e : Fin 256), pay (ix2 r e) = v.readAt (Elt Ideal) (Rect.unit (s := S256x2048) off S256x256.size inb).toLoadRect f (ix2 r e) + dkS I h a (256 * b + r) e) :
    Upto v f 0 256 256 B (addDk I a b B) (h + 1) (⟨Rect.unit (s := S256x2048) off S256x256.size inb, pay⟩ :: L) :=
  hL.cons hoff rfl hC fun r e => by
    rw [hpay r e, ld2 v f hB hoff rfl hC r e, addDk, Nat.zero_add, (colk h e).1, (colk h e).2]

/-- One head's query gradient, stored. -/
theorem putDq {v : View sg κ' sp S2304x2048 .f32} {f : v.ty.Contents (Elt Ideal)} {L : List (View.Piece (Elt Ideal) S2304x2048 .f32)}
    (hL : Upto v f (256 * a) 256 256 B (setDq I b) h L) {off : Fin 2 → ℕ} {inb} {pay : S256x256.Idx → Elt Ideal .f32} {R C : ℕ} (hoff : off = ![R, C]) (hR : R = 256 * a) (hC : C = 256 * h)
    (hpay : ∀ (t d : Fin 256), pay (ix2 t d) = dqS I h b (256 * a + t) d) :
    Upto v f (256 * a) 256 256 B (setDq I b) (h + 1) (⟨Rect.unit (s := S2304x2048) off S256x256.size inb, pay⟩ :: L) :=
  hL.cons hoff hR hC fun r e => by
    rw [hpay r e, setDq, (colk h e).1, (colk h e).2]

/-- One head's query gradient, added. -/
theorem tripDq {v : View sg κ' sp S2304x2048 .f32} {f : v.ty.Contents (Elt Ideal)} {L : List (View.Piece (Elt Ideal) S2304x2048 .f32)}
    (hL : Upto v f (256 * a) 256 256 B (addDq I b B) h L) (hB : ∀ (i : Fin 2304) (j : Fin 2048), v.read (Elt Ideal) f (ix2 i j) = B i j)
    {off : Fin 2 → ℕ} {inb} {pay : S256x256.Idx → Elt Ideal .f32} {R C : ℕ} (hoff : off = ![R, C]) (hR : R = 256 * a) (hC : C = 256 * h)
    (hpay : ∀ (t d : Fin 256), pay (ix2 t d) = v.readAt (Elt Ideal) (Rect.unit (s := S2304x2048) off S256x256.size inb).toLoadRect f (ix2 t d) + dqS I h b (256 * a + t) d) :
    Upto v f (256 * a) 256 256 B (addDq I b B) (h + 1) (⟨Rect.unit (s := S2304x2048) off S256x256.size inb, pay⟩ :: L) :=
  hL.cons hoff hR hC fun r e => by
    rw [hpay r e, ld2 v f hB hoff hR hC r e, addDq, (colk h e).1, (colk h e).2]

/-- A buffer overwritten whole holds what was stored. -/
theorem whole {m n : ℕ} {e : EltTy} {Val : EltTy → Type} (v : View sg κ' sp ⟨2, ![m, n]⟩ e) (f : v.ty.Contents Val) {off : Fin 2 → ℕ} {inb} {pay : (⟨2, ![m, n]⟩ : Shape).Idx → Val e} {L : List (View.Piece Val ⟨2, ![m, n]⟩ e)}
    (hoff : off = ![0, 0]) (i : Fin m) (j : Fin n) :
    v.read Val (v.writes Val f (⟨Rect.unit (s := ⟨2, ![m, n]⟩) off (⟨2, ![m, n]⟩ : Shape).size inb, pay⟩ :: L)) (ix2 i j) = pay (ix2 i j) := by
  refine View.read_writes_cons_unit_of_mem v f inb pay L (ix2 i j) (ix2 i j) hoff fun a => ?_
  match a with
  | ⟨0, _⟩ => show i.val = 0 + i.val; omega
  | ⟨1, _⟩ => show j.val = 0 + j.val; omega

/-- A two-axis buffer loaded whole. -/
theorem ldw {m n : ℕ} {e : EltTy} {Val : EltTy → Type} (v : View sg κ' sp ⟨2, ![m, n]⟩ e) (f : v.ty.Contents Val) {off : Fin 2 → ℕ} {inb} (hoff : off = ![0, 0]) (i : Fin m) (j : Fin n) :
    v.readAt Val (Rect.unit (s := ⟨2, ![m, n]⟩) off (⟨2, ![m, n]⟩ : Shape).size inb).toLoadRect f (ix2 i j) = v.read Val f (ix2 i j) := by
  subst hoff
  rw [View.readAt_apply]
  refine congrArg _ (funext fun a => Fin.ext ?_)
  match a with
  | ⟨0, _⟩ => show 0 + 1 * i.val = i.val; omega
  | ⟨1, _⟩ => show 0 + 1 * j.val = j.val; omega

theorem zero1 (r : Fin 256) (e : Fin 2048) : k0_pay1 (F := Ideal) (ix2 r e) = 0 := Ideal.ofBits_zero_f32
theorem zero2 (r : Fin 256) (e : Fin 1024) : k0_pay2 (F := Ideal) (ix2 r e) = 0 := Ideal.ofBits_zero_f32

end Cert.AttnIdeal.Proof

end

end
-- ==== Proof.Blocks.lean ====
/- What the six operand windows hold at a grid point: one batch of the six arrays the host lines prepared. -/
module

public import proofs.«01_k».proof.Proof.Acc
public import proofs.«01_k».proof.Proof.Gen.AttnIdeal.Frame
public import Idealize.ShloMosaic.Lib.Pipeline.ValueKit

@[expose] public section

set_option maxRecDepth 16384

noncomputable section

namespace Cert.AttnIdeal.Proof

open Idealize.ShloMosaic Idealize.ShloMosaic.TcCoe Idealize.ShloMosaic.Tactic Cert.AttnIdeal Cert.AttnIdeal.Gen

set_option maxHeartbeats 400000

/-- A two-axis array as a function of two numbers, zero outside. -/
def nat2 {m n : ℕ} (x : (⟨2, ![m, n]⟩ : Shape).Idx → EReal) (i j : ℕ) : EReal := if h : i < m ∧ j < n then x (ix2 ⟨i, h.1⟩ ⟨j, h.2⟩) else 0
theorem nat2_eq {m n : ℕ} (x : (⟨2, ![m, n]⟩ : Shape).Idx → EReal) {i j : ℕ} (hi : i < m) (hj : j < n) : nat2 x i j = x (ix2 ⟨i, hi⟩ ⟨j, hj⟩) := by
  unfold nat2; rw [dif_pos ⟨hi, hj⟩]

/-- A row statistic of batch `β` as a function of head and row, zero outside. -/
def natRow (x : S4x8x9x256.Idx → EReal) (β h i : ℕ) : EReal :=
  if H : β < 4 ∧ h < 8 ∧ i < 2304 then x (ix4 ⟨β, H.1⟩ ⟨h, H.2.1⟩ ⟨i / 256, by omega⟩ ⟨i % 256, by omega⟩) else 0
theorem natRow_eq (x : S4x8x9x256.Idx → EReal) {β h i : ℕ} (hβ : β < 4) (hh : h < 8) (hi : i < 2304) :
    natRow x β h i = x (ix4 ⟨β, hβ⟩ ⟨h, hh⟩ ⟨i / 256, by omega⟩ ⟨i % 256, by omega⟩) := by
  unfold natRow; rw [dif_pos ⟨hβ, hh, hi⟩]

variable (m : (ℓ : Loc nD τ sig) → Buf (Elt Ideal) ℓ)

/-- Batch `β` of the six arrays the region finds. -/
def inOf (c : Dev nD) (β : ℕ) : In where
  q i j := nat2 (m := 9216) (n := 2048) (V m c main_v35) (2304 * β + i) j
  k i j := nat2 (m := 9216) (n := 2048) (V m c main_v40) (2304 * β + i) j
  v i j := nat2 (m := 9216) (n := 1024) (V m c main_v44) (2304 * β + i) j
  o i j := nat2 (m := 9216) (n := 1024) (V m c main_v48) (2304 * β + i) j
  l h i := natRow (V m c main_v50) β h i
  d h i := natRow (V m c main_v52) β h i

theorem idx0 : ∀ t : Fin cfg0.N, win0_0.index t = ![t.val / 9, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![t.val / 9, 0] := by decide +kernel
theorem idx4 : ∀ t : Fin cfg0.N, win0_4.index t = ![t.val / 9, 0, 0, 0] := by decide +kernel
theorem idx5 : ∀ t : Fin cfg0.N, win0_5.index t = ![t.val / 9, 0, 0, 0] := by decide +kernel
/-- The key block's number at a point. -/
theorem coord2 : ∀ t : Fin cfg0.N, (grid0.coords t 2).val = t.val % 9 := by decide +kernel
theorem N36 : cfg0.N = 36 := by decide +kernel

theorem blk0 (c : Dev nD) (t : Fin cfg0.N) (i : Fin 2304) (j : Fin 2048) : iblk m c 0 t (ix2 i j) = (inOf m c (t.val / 9)).q i j := by
  have ht : t.val < 36 := N36 ▸ t.isLt
  refine Eq.trans ?_ (nat2_eq (m := 9216) (n := 2048) (V m c main_v35) (i := 2304 * (t.val / 9) + i.val) (by omega) j.isLt).symm
  blk_ext [iblk, idx0 t]
theorem blk1 (c : Dev nD) (t : Fin cfg0.N) (i : Fin 256) (j : Fin 2048) : iblk m c 1 t (ix2 i j) = (inOf m c (t.val / 9)).k (256 * (t.val % 9) + i) j := by
  have ht : t.val < 36 := N36 ▸ t.isLt
  refine Eq.trans ?_ (nat2_eq (m := 9216) (n := 2048) (V m c main_v40) (i := 2304 * (t.val / 9) + (256 * (t.val % 9) + i.val)) (by omega) j.isLt).symm
  blk_ext [iblk, idx1 t]
theorem blk2 (c : Dev nD) (t : Fin cfg0.N) (i : Fin 256) (j : Fin 1024) : iblk m c 2 t (ix2 i j) = (inOf m c (t.val / 9)).v (256 * (t.val % 9) + i) j := by
  have ht : t.val < 36 := N36 ▸ t.isLt
  refine Eq.trans ?_ (nat2_eq (m := 9216) (n := 1024) (V m c main_v44) (i := 2304 * (t.val / 9) + (256 * (t.val % 9) + i.val)) (by omega) j.isLt).symm
  blk_ext [iblk, idx2 t]
theorem blk3 (c : Dev nD) (t : Fin cfg0.N) (i : Fin 2304) (j : Fin 1024) : iblk m c 3 t (ix2 i j) = (inOf m c (t.val / 9)).o i j := by
  have ht : t.val < 36 := N36 ▸ t.isLt
  refine Eq.trans ?_ (nat2_eq (m := 9216) (n := 1024) (V m c main_v48) (i := 2304 * (t.val / 9) + i.val) (by omega) j.isLt).symm
  blk_ext [iblk, idx3 t]
theorem blk4 (c : Dev nD) (t : Fin cfg0.N) (h : Fin 8) (a : Fin 9) (s : Fin 256) : iblk m c 4 t (ix4 0 h a s) = (inOf m c (t.val / 9)).l h (256 * a + s) := by
  have ht : t.val < 36 := N36 ▸ t.isLt
  refine Eq.trans ?_ (natRow_eq (V m c main_v50) (β := t.val / 9) (i := 256 * a.val + s.val) (by omega) h.isLt (by omega)).symm
  blk_ext [iblk, idx4 t]
theorem blk5 (c : Dev nD) (t : Fin cfg0.N) (h : Fin 8) (a : Fin 9) (s : Fin 256) : iblk m c 5 t (ix4 0 h a s) = (inOf m c (t.val / 9)).d h (256 * a + s) := by
  have ht : t.val < 36 := N36 ▸ t.isLt
  refine Eq.trans ?_ (natRow_eq (V m c main_v52) (β := t.val / 9) (i := 256 * a.val + s.val) (by omega) h.isLt (by omega)).symm
  blk_ext [iblk, idx5 t]

/-- At grid point `t` the staging buffers hold batch `t / 9`, with the keys and values of block `t % 9`. -/
theorem reads (c : Dev nD) (t : Fin cfg0.N) {X3 : BufTy.Contents (Elt Ideal) (st0_0 t).view.ty} {X4 : BufTy.Contents (Elt Ideal) (st0_1 t).view.ty} {X5 : BufTy.Contents (Elt Ideal) (st0_2 t).view.ty}
    {X6 : BufTy.Contents (Elt Ideal) (st0_3 t).view.ty} {X7 : BufTy.Contents (Elt Ideal) (st0_4 t).view.ty} {X8 : BufTy.Contents (Elt Ideal) (st0_5 t).view.ty}
    (h3 : (st0_0 t).view.read (Elt Ideal) X3 = iblk m c 0 t) (h4 : (st0_1 t).view.read (Elt Ideal) X4 = iblk m c 1 t) (h5 : (st0_2 t).view.read (Elt Ideal) X5 = iblk m c 2 t)
    (h6 : (st0_3 t).view.read (Elt Ideal) X6 = iblk m c 3 t) (h7 : (st0_4 t).view.read (Elt Ideal) X7 = iblk m c 4 t) (h8 : (st0_5 t).view.read (Elt Ideal) X8 = iblk m c 5 t) :
    Reads (inOf m c (t.val / 9)) (grid0.coords t 2).val (st0_0 t) (st0_1 t) (st0_2 t) (st0_3 t) (st0_4 t) (st0_5 t) X3 X4 X5 X6 X7 X8 where
  q i j := (congrFun h3 _).trans (blk0 m c t i j)
  k i j := (congrFun h4 _).trans ((blk1 m c t i j).trans (by rw [coord2]))
  v i j := (congrFun h5 _).trans ((blk2 m c t i j).trans (by rw [coord2]))
  o i j := (congrFun h6 _).trans (blk3 m c t i j)
  l h a s := (congrFun h7 _).trans (blk4 m c t h a s)
  d h a s := (congrFun h8 _).trans (blk5 m c t h a s)

end Cert.AttnIdeal.Proof

end

end
-- ==== Proof.Trip1.lean ====
/- One pass of the first branch's loop over later query blocks: what its eight heads leave in the three accumulators. -/
module

public import proofs.«01_k».proof.Proof.Acc
public import proofs.«01_k».proof.Proof.Gen.AttnIdeal.Loops

@[expose] public section

set_option maxRecDepth 16384

noncomputable section

namespace Cert.AttnIdeal.Proof

open Idealize.ShloMosaic Idealize.ShloMosaic.TcCoe Cert.AttnIdeal Cert.AttnIdeal.Gen

variable {I : In} {i : grid0.Coords} {𝒱 : Variants} {c : Dev nD} {bd : Option 𝒱.V}
    {arg3 : Memref sig .tc .vmem S2304x2048 .bf16} {harg3 : arg3.IsWhole}
    {arg4 : Memref sig .tc .vmem S256x2048 .bf16} {harg4 : arg4.IsWhole}
    {arg5 : Memref sig .tc .vmem S256x1024 .bf16} {harg5 : arg5.IsWhole}
    {arg6 : Memref sig .tc .vmem S2304x1024 .bf16} {harg6 : arg6.IsWhole}
    {arg7 : Memref sig .tc .vmem S1x8x9x256 .f32} {harg7 : arg7.IsWhole}
    {arg8 : Memref sig .tc .vmem S1x8x9x256 .f32} {harg8 : arg8.IsWhole}
    {arg9 : Memref sig .tc .vmem S2304x2048 .bf16} {harg9 : arg9.IsWhole}
    {arg10 : Memref sig .tc .vmem S256x2048 .bf16} {harg10 : arg10.IsWhole}
    {arg11 : Memref sig .tc .vmem S256x1024 .bf16} {harg11 : arg11.IsWhole}
    {arg12 : Memref sig .tc .vmem S2304x2048 .f32} {harg12 : arg12.IsWhole}
    {arg13 : Memref sig .tc .vmem S256x2048 .f32} {harg13 : arg13.IsWhole}
    {arg14 : Memref sig .tc .vmem S256x1024 .f32} {harg14 : arg14.IsWhole}
    {X3 : BufTy.Contents (Elt Ideal) arg3.view.ty} {X4 : BufTy.Contents (Elt Ideal) arg4.view.ty} {X5 : BufTy.Contents (Elt Ideal) arg5.view.ty} {X6 : BufTy.Contents (Elt Ideal) arg6.view.ty} {X7 : BufTy.Contents (Elt Ideal) arg7.view.ty} {X8 : BufTy.Contents (Elt Ideal) arg8.view.ty}
    (H : Reads I (i 2).val arg3 arg4 arg5 arg6 arg7 arg8 X3 X4 X5 X6 X7 X8)
    (f12 : BufTy.Contents (Elt Ideal) arg12.view.ty) (f13 : BufTy.Contents (Elt Ideal) arg13.view.ty) (f14 : BufTy.Contents (Elt Ideal) arg14.view.ty)
include H

set_option maxHeartbeats 400000
attribute [local irreducible] addf subf mulf Idealize.ShloMosaic.exp2 select truncf shapeCast broadcastTo broadcast constant View.readAt View.readCov

/-- One pass of the loop: the value gradient. -/
theorem trip1_dv (hc1 : k0_cond1 i = 1#1) (k : Fin (k0_t1_loop i).trips) (hk : (i 2).val + 1 + k.val < 9) {B : ℕ → ℕ → EReal}
    (hB : ∀ (i : Fin 256) (j : Fin 1024), arg14.view.read (Elt Ideal) f14 (ix2 i j) = B i j) :
    Upto arg14.view f14 0 256 128 B (addDv I ((i 2).val + 1 + k.val) (i 2).val B) 8
      ((trip_k0_t1 𝒱 c bd i arg3 harg3 arg4 harg4 arg5 harg5 arg6 harg6 arg7 harg7 arg8 harg8 arg9 harg9 arg10 harg10 arg11 harg11 arg12 harg12 arg13 harg13 arg14 harg14 (iota .tc S256x256 32 [1] iota_S256x256_d1_w32) hc1 (Scalar.addi (BitVec.ofNat 32 (i 2).val) 1#32) X3 X4 X5 X6 X7 X8 k).2.2.1 f12 f13 f14) := by
  unfold trip_k0_t1
  iterate 8
    refine tripDv ?_ hB rfl rfl ?_
    rotate_left
    · intro r e
      refine dv_eq ?_ ?_ r e
      · intro r s
        refine p_mask _ ?_ ?_ ?_ ?_ r s
        · exact maskT i k hk
        · exact H.lq ClosedOff.eq (by omega) rfl
        · exact H.lk rfl rfl
        · exact H.ll ClosedOff.eq (by omega) rfl
      · exact H.lo ClosedOff.eq (by omega) rfl
  exact Upto.nil hB

/-- One pass of the loop: the key gradient. -/
theorem trip1_dk (hc1 : k0_cond1 i = 1#1) (k : Fin (k0_t1_loop i).trips) (hk : (i 2).val + 1 + k.val < 9) {B : ℕ → ℕ → EReal}
    (hB : ∀ (i : Fin 256) (j : Fin 2048), arg13.view.read (Elt Ideal) f13 (ix2 i j) = B i j) :
    Upto arg13.view f13 0 256 256 B (addDk I ((i 2).val + 1 + k.val) (i 2).val B) 8
      ((trip_k0_t1 𝒱 c bd i arg3 harg3 arg4 harg4 arg5 harg5 arg6 harg6 arg7 harg7 arg8 harg8 arg9 harg9 arg10 harg10 arg11 harg11 arg12 harg12 arg13 harg13 arg14 harg14 (iota .tc S256x256 32 [1] iota_S256x256_d1_w32) hc1 (Scalar.addi (BitVec.ofNat 32 (i 2).val) 1#32) X3 X4 X5 X6 X7 X8 k).2.1 f12 f13 f14) := by
  unfold trip_k0_t1
  iterate 8
    refine tripDk ?_ hB rfl rfl ?_
    rotate_left
    · intro r e
      refine dk_eq ?_ ?_ r e
      · intro r s
        refine ds_eq ?_ ?_ ?_ ?_ r s
        · intro r s
          refine p_mask _ ?_ ?_ ?_ ?_ r s
          · exact maskT i k hk
          · exact H.lq ClosedOff.eq (by omega) rfl
          · exact H.lk rfl rfl
          · exact H.ll ClosedOff.eq (by omega) rfl
        · exact H.lo ClosedOff.eq (by omega) rfl
        · exact H.lv rfl rfl
        · exact H.ld ClosedOff.eq (by omega) rfl
      · exact H.lq ClosedOff.eq (by omega) rfl
  exact Upto.nil hB

/-- One pass of the loop: the query gradient. -/
theorem trip1_dq (hc1 : k0_cond1 i = 1#1) (k : Fin (k0_t1_loop i).trips) (hk : (i 2).val + 1 + k.val < 9) {B : ℕ → ℕ → EReal}
    (hB : ∀ (i : Fin 2304) (j : Fin 2048), arg12.view.read (Elt Ideal) f12 (ix2 i j) = B i j) :
    Upto arg12.view f12 (256 * ((i 2).val + 1 + k.val)) 256 256 B (setDq I (i 2).val) 8
      ((trip_k0_t1 𝒱 c bd i arg3 harg3 arg4 harg4 arg5 harg5 arg6 harg6 arg7 harg7 arg8 harg8 arg9 harg9 arg10 harg10 arg11 harg11 arg12 harg12 arg13 harg13 arg14 harg14 (iota .tc S256x256 32 [1] iota_S256x256_d1_w32) hc1 (Scalar.addi (BitVec.ofNat 32 (i 2).val) 1#32) X3 X4 X5 X6 X7 X8 k).1 f12 f13 f14) := by
  unfold trip_k0_t1
  iterate 8
    refine putDq ?_ ClosedOff.eq (by omega) rfl ?_
    rotate_left
    · intro r e
      refine dq_eq ?_ ?_ r e
      · intro r s
        refine ds_eq ?_ ?_ ?_ ?_ r s
        · intro r s
          refine p_mask _ ?_ ?_ ?_ ?_ r s
          · exact maskT i k hk
          · exact H.lq ClosedOff.eq (by omega) rfl
          · exact H.lk rfl rfl
          · exact H.ll ClosedOff.eq (by omega) rfl
        · exact H.lo ClosedOff.eq (by omega) rfl
        · exact H.lv rfl rfl
        · exact H.ld ClosedOff.eq (by omega) rfl
      · exact H.lk rfl rfl
  exact Upto.nil hB

end Cert.AttnIdeal.Proof

end

end
-- ==== Proof.Trip3.lean ====
/- One pass of the second branch's loop over later query blocks: what its eight heads leave in the three accumulators. -/
module

public import proofs.«01_k».proof.Proof.Acc
public import proofs.«01_k».proof.Proof.Gen.AttnIdeal.Loops

@[expose] public section

set_option maxRecDepth 16384

noncomputable section

namespace Cert.AttnIdeal.Proof

open Idealize.ShloMosaic Idealize.ShloMosaic.TcCoe Cert.AttnIdeal Cert.AttnIdeal.Gen

/-- Behind the first key block every later query sees every key. -/
theorem ok_later {a b : ℕ} (hb : 0 < b) (ha : b < a) (r s : Fin 256) : ok (256 * a + s) (256 * b + r) := by
  unfold ok
  omega

variable {I : In} {i : grid0.Coords} {𝒱 : Variants} {c : Dev nD} {bd : Option 𝒱.V}
    {arg3 : Memref sig .tc .vmem S2304x2048 .bf16} {harg3 : arg3.IsWhole}
    {arg4 : Memref sig .tc .vmem S256x2048 .bf16} {harg4 : arg4.IsWhole}
    {arg5 : Memref sig .tc .vmem S256x1024 .bf16} {harg5 : arg5.IsWhole}
    {arg6 : Memref sig .tc .vmem S2304x1024 .bf16} {harg6 : arg6.IsWhole}
    {arg7 : Memref sig .tc .vmem S1x8x9x256 .f32} {harg7 : arg7.IsWhole}
    {arg8 : Memref sig .tc .vmem S1x8x9x256 .f32} {harg8 : arg8.IsWhole}
    {arg9 : Memref sig .tc .vmem S2304x2048 .bf16} {harg9 : arg9.IsWhole}
    {arg10 : Memref sig .tc .vmem S256x2048 .bf16} {harg10 : arg10.IsWhole}
    {arg11 : Memref sig .tc .vmem S256x1024 .bf16} {harg11 : arg11.IsWhole}
    {arg12 : Memref sig .tc .vmem S2304x2048 .f32} {harg12 : arg12.IsWhole}
    {arg13 : Memref sig .tc .vmem S256x2048 .f32} {harg13 : arg13.IsWhole}
    {arg14 : Memref sig .tc .vmem S256x1024 .f32} {harg14 : arg14.IsWhole}
    {X3 : BufTy.Contents (Elt Ideal) arg3.view.ty} {X4 : BufTy.Contents (Elt Ideal) arg4.view.ty} {X5 : BufTy.Contents (Elt Ideal) arg5.view.ty} {X6 : BufTy.Contents (Elt Ideal) arg6.view.ty} {X7 : BufTy.Contents (Elt Ideal) arg7.view.ty} {X8 : BufTy.Contents (Elt Ideal) arg8.view.ty}
    (H : Reads I (i 2).val arg3 arg4 arg5 arg6 arg7 arg8 X3 X4 X5 X6 X7 X8)
    (f12 : BufTy.Contents (Elt Ideal) arg12.view.ty) (f13 : BufTy.Contents (Elt Ideal) arg13.view.ty) (f14 : BufTy.Contents (Elt Ideal) arg14.view.ty)
include H

set_option maxHeartbeats 400000
attribute [local irreducible] addf subf mulf Idealize.ShloMosaic.exp2 select truncf shapeCast broadcastTo broadcast constant View.readAt View.readCov

/-- One pass of the loop: the value gradient. -/
theorem trip3_dv (hc2 : k0_cond2 i = 1#1) (k : Fin (k0_t3_loop i).trips) (hb : 0 < (i 2).val) {B : ℕ → ℕ → EReal}
    (hB : ∀ (i : Fin 256) (j : Fin 1024), arg14.view.read (Elt Ideal) f14 (ix2 i j) = B i j) :
    Upto arg14.view f14 0 256 128 B (addDv I ((i 2).val + 1 + k.val) (i 2).val B) 8
      ((trip_k0_t3 𝒱 c bd i arg3 harg3 arg4 harg4 arg5 harg5 arg6 harg6 arg7 harg7 arg8 harg8 arg9 harg9 arg10 harg10 arg11 harg11 arg12 harg12 arg13 harg13 arg14 harg14 (BitVec.ofNat 32 (i 2).val) (k0_pay3 i) (iota .tc S256x256 32 [1] iota_S256x256_d1_w32) hc2 (Scalar.addi (BitVec.ofNat 32 (i 2).val) 1#32) X3 X4 X5 X6 X7 X8 k).2.2.1 f12 f13 f14) := by
  unfold trip_k0_t3
  iterate 8
    refine tripDv ?_ hB rfl rfl ?_
    rotate_left
    · intro r e
      refine dv_eq ?_ ?_ r e
      · intro r s
        refine p_full _ ?_ ?_ ?_ ?_ r s
        · exact fun r s => ok_later hb (by omega) r s
        · exact H.lq ClosedOff.eq (by omega) rfl
        · exact H.lk rfl rfl
        · exact H.ll ClosedOff.eq (by omega) rfl
      · exact H.lo ClosedOff.eq (by omega) rfl
  exact Upto.nil hB

/-- One pass of the loop: the key gradient. -/
theorem trip3_dk (hc2 : k0_cond2 i = 1#1) (k : Fin (k0_t3_loop i).trips) (hb : 0 < (i 2).val) {B : ℕ → ℕ → EReal}
    (hB : ∀ (i : Fin 256) (j : Fin 2048), arg13.view.read (Elt Ideal) f13 (ix2 i j) = B i j) :
    Upto arg13.view f13 0 256 256 B (addDk I ((i 2).val + 1 + k.val) (i 2).val B) 8
      ((trip_k0_t3 𝒱 c bd i arg3 harg3 arg4 harg4 arg5 harg5 arg6 harg6 arg7 harg7 arg8 harg8 arg9 harg9 arg10 harg10 arg11 harg11 arg12 harg12 arg13 harg13 arg14 harg14 (BitVec.ofNat 32 (i 2).val) (k0_pay3 i) (iota .tc S256x256 32 [1] iota_S256x256_d1_w32) hc2 (Scalar.addi (BitVec.ofNat 32 (i 2).val) 1#32) X3 X4 X5 X6 X7 X8 k).2.1 f12 f13 f14) := by
  unfold trip_k0_t3
  iterate 8
    refine tripDk ?_ hB rfl rfl ?_
    rotate_left
    · intro r e
      refine dk_eq ?_ ?_ r e
      · intro r s
        refine ds_eq ?_ ?_ ?_ ?_ r s
        · intro r s
          refine p_full _ ?_ ?_ ?_ ?_ r s
          · exact fun r s => ok_later hb (by omega) r s
          · exact H.lq ClosedOff.eq (by omega) rfl
          · exact H.lk rfl rfl
          · exact H.ll ClosedOff.eq (by omega) rfl
        · exact H.lo ClosedOff.eq (by omega) rfl
        · exact H.lv rfl rfl
        · exact H.ld ClosedOff.eq (by omega) rfl
      · exact H.lq ClosedOff.eq (by omega) rfl
  exact Upto.nil hB

/-- One pass of the loop: the query gradient. -/
theorem trip3_dq (hc2 : k0_cond2 i = 1#1) (k : Fin (k0_t3_loop i).trips) (hb : 0 < (i 2).val) {B : ℕ → ℕ → EReal}
    (hB : ∀ (i : Fin 2304) (j : Fin 2048), arg12.view.read (Elt Ideal) f12 (ix2 i j) = B i j) :
    Upto arg12.view f12 (256 * ((i 2).val + 1 + k.val)) 256 256 B (addDq I (i 2).val B) 8
      ((trip_k0_t3 𝒱 c bd i arg3 harg3 arg4 harg4 arg5 harg5 arg6 harg6 arg7 harg7 arg8 harg8 arg9 harg9 arg10 harg10 arg11 harg11 arg12 harg12 arg13 harg13 arg14 harg14 (BitVec.ofNat 32 (i 2).val) (k0_pay3 i) (iota .tc S256x256 32 [1] iota_S256x256_d1_w32) hc2 (Scalar.addi (BitVec.ofNat 32 (i 2).val) 1#32) X3 X4 X5 X6 X7 X8 k).1 f12 f13 f14) := by
  unfold trip_k0_t3
  iterate 8
    refine tripDq ?_ hB ClosedOff.eq (by omega) rfl ?_
    rotate_left
    · intro r e
      refine dq_acc ?_ ?_ r e
      · intro r s
        refine ds_eq ?_ ?_ ?_ ?_ r s
        · intro r s
          refine p_full _ ?_ ?_ ?_ ?_ r s
          · exact fun r s => ok_later hb (by omega) r s
          · exact H.lq ClosedOff.eq (by omega) rfl
          · exact H.lk rfl rfl
          · exact H.ll ClosedOff.eq (by omega) rfl
        · exact H.lo ClosedOff.eq (by omega) rfl
        · exact H.lv rfl rfl
        · exact H.ld ClosedOff.eq (by omega) rfl
      · exact H.lk rfl rfl
  exact Upto.nil hB

end Cert.AttnIdeal.Proof

end

end
-- ==== Proof.Sweep.lean ====
/- The two loops over later query blocks: the three accumulators after any number of passes. -/
module

public import proofs.«01_k».proof.Proof.Trip1
public import proofs.«01_k».proof.Proof.Trip3

@[expose] public section

set_option maxRecDepth 16384

noncomputable section

namespace Cert.AttnIdeal.Proof

open Idealize.ShloMosaic Idealize.ShloMosaic.TcCoe Cert.AttnIdeal Cert.AttnIdeal.Gen

/-- After all eight heads the whole width of the block's rows is replaced. -/
theorem Upto.full {sg : RefSig} {κ' : Kind} {sp : Space} {e : EltTy} {Val : EltTy → Type} {m n : ℕ} {v : View sg κ' sp ⟨2, ![m, n]⟩ e} {f : v.ty.Contents Val} {R w z : ℕ} {B G : ℕ → ℕ → Val e} {L : List (View.Piece Val ⟨2, ![m, n]⟩ e)}
    (hL : Upto v f R w z B G 8 L) (hn : n ≤ z * 8) (i : Fin m) (j : Fin n) :
    v.read Val (v.writes Val f L) (ix2 i j) = if R ≤ i.val ∧ i.val < R + w then G i j else B i j :=
  (hL i j).trans (if_congr ⟨fun h => ⟨h.1, h.2.1⟩, fun h => ⟨h.1, h.2, by omega⟩⟩ rfl rfl)

theorem trips1 : ∀ i : grid0.Coords, (k0_t1_loop i).trips = 8 - (i 2).val := by decide +kernel
theorem trips2 : ∀ i : grid0.Coords, (k0_t2_loop i).trips = 0 := by decide +kernel
theorem trips3 : ∀ i : grid0.Coords, (k0_t3_loop i).trips = 8 - (i 2).val := by decide +kernel
theorem trips4 : ∀ i : grid0.Coords, (k0_t4_loop i).trips = 0 := by decide +kernel

variable (I : In) (b : ℕ)
/-- The value gradient's accumulator after the query blocks behind `b`, the first `n` of them. -/
def sumDv (B : ℕ → ℕ → EReal) (n r J : ℕ) : EReal := B r J + ∑ m ∈ Finset.range n, dvS I (J / 128) (b + 1 + m) (256 * b + r) (J % 128)
/-- The key gradient's accumulator after the query blocks behind `b`, the first `n` of them. -/
def sumDk (B : ℕ → ℕ → EReal) (n r J : ℕ) : EReal := B r J + ∑ m ∈ Finset.range n, dkS I (J / 256) (b + 1 + m) (256 * b + r) (J % 256)
/-- The query gradient's accumulator with `G` on the query blocks behind `b`, the first `n` of them. -/
def onto (B G : ℕ → ℕ → EReal) (n i J : ℕ) : EReal := if 256 * (b + 1) ≤ i ∧ i < 256 * (b + 1 + n) then G i J else B i J

theorem sumDv_succ (B : ℕ → ℕ → EReal) (n r J : ℕ) : addDv I (b + 1 + n) b (sumDv I b B n) r J = sumDv I b B (n + 1) r J := by
  rw [addDv, sumDv, sumDv, Finset.sum_range_succ, add_assoc]
theorem sumDk_succ (B : ℕ → ℕ → EReal) (n r J : ℕ) : addDk I (b + 1 + n) b (sumDk I b B n) r J = sumDk I b B (n + 1) r J := by
  rw [addDk, sumDk, sumDk, Finset.sum_range_succ, add_assoc]
variable {I b}
theorem onto_succ {B G G' : ℕ → ℕ → EReal} {n i J : ℕ} (h : ¬ (256 * (b + 1) ≤ i ∧ i < 256 * (b + 1 + n)) → G' i J = G i J) :
    (if 256 * (b + 1 + n) ≤ i ∧ i < 256 * (b + 1 + n) + 256 then G' i J else onto b B G n i J) = onto b B G (n + 1) i J := by
  unfold onto
  split_ifs <;> first | rfl | omega | exact h (by omega)

variable {i : grid0.Coords} {𝒱 : Variants} {c : Dev nD} {bd : Option 𝒱.V}
    {arg3 : Memref sig .tc .vmem S2304x2048 .bf16} {harg3 : arg3.IsWhole}
    {arg4 : Memref sig .tc .vmem S256x2048 .bf16} {harg4 : arg4.IsWhole}
    {arg5 : Memref sig .tc .vmem S256x1024 .bf16} {harg5 : arg5.IsWhole}
    {arg6 : Memref sig .tc .vmem S2304x1024 .bf16} {harg6 : arg6.IsWhole}
    {arg7 : Memref sig .tc .vmem S1x8x9x256 .f32} {harg7 : arg7.IsWhole}
    {arg8 : Memref sig .tc .vmem S1x8x9x256 .f32} {harg8 : arg8.IsWhole}
    {arg9 : Memref sig .tc .vmem S2304x2048 .bf16} {harg9 : arg9.IsWhole}
    {arg10 : Memref sig .tc .vmem S256x2048 .bf16} {harg10 : arg10.IsWhole}
    {arg11 : Memref sig .tc .vmem S256x1024 .bf16} {harg11 : arg11.IsWhole}
    {arg12 : Memref sig .tc .vmem S2304x2048 .f32} {harg12 : arg12.IsWhole}
    {arg13 : Memref sig .tc .vmem S256x2048 .f32} {harg13 : arg13.IsWhole}
    {arg14 : Memref sig .tc .vmem S256x1024 .f32} {harg14 : arg14.IsWhole}
    {X3 : BufTy.Contents (Elt Ideal) arg3.view.ty} {X4 : BufTy.Contents (Elt Ideal) arg4.view.ty} {X5 : BufTy.Contents (Elt Ideal) arg5.view.ty} {X6 : BufTy.Contents (Elt Ideal) arg6.view.ty} {X7 : BufTy.Contents (Elt Ideal) arg7.view.ty} {X8 : BufTy.Contents (Elt Ideal) arg8.view.ty}
    (H : Reads I (i 2).val arg3 arg4 arg5 arg6 arg7 arg8 X3 X4 X5 X6 X7 X8)
    (f12 : BufTy.Contents (Elt Ideal) arg12.view.ty) (f13 : BufTy.Contents (Elt Ideal) arg13.view.ty) (f14 : BufTy.Contents (Elt Ideal) arg14.view.ty)
include H

set_option maxHeartbeats 400000

/-- The three accumulators after `n` passes of the loop. -/
theorem loop1 (hc1 : k0_cond1 i = 1#1) {B12 B13 B14 : ℕ → ℕ → EReal}
    (h12 : ∀ (i : Fin 2304) (j : Fin 2048), arg12.view.read (Elt Ideal) f12 (ix2 i j) = B12 i j)
    (h13 : ∀ (i : Fin 256) (j : Fin 2048), arg13.view.read (Elt Ideal) f13 (ix2 i j) = B13 i j)
    (h14 : ∀ (i : Fin 256) (j : Fin 1024), arg14.view.read (Elt Ideal) f14 (ix2 i j) = B14 i j) (n : ℕ) (hn : n ≤ (k0_t1_loop i).trips) :
    (∀ (i' : Fin 2304) (j : Fin 2048), arg12.view.read (Elt Ideal) (arg12.view.writes (Elt Ideal) f12 (pb_k0_t1 𝒱 c bd i arg3 harg3 arg4 harg4 arg5 harg5 arg6 harg6 arg7 harg7 arg8 harg8 arg9 harg9 arg10 harg10 arg11 harg11 arg12 harg12 arg13 harg13 arg14 harg14 (iota .tc S256x256 32 [1] iota_S256x256_d1_w32) hc1 (Scalar.addi (BitVec.ofNat 32 (i 2).val) 1#32) X3 X4 X5 X6 X7 X8 f12 f13 f14 n).1) (ix2 i' j) = onto (i 2).val B12 (setDq I (i 2).val) n i' j)
    ∧ (∀ (i' : Fin 256) (j : Fin 2048), arg13.view.read (Elt Ideal) (arg13.view.writes (Elt Ideal) f13 (pb_k0_t1 𝒱 c bd i arg3 harg3 arg4 harg4 arg5 harg5 arg6 harg6 arg7 harg7 arg8 harg8 arg9 harg9 arg10 harg10 arg11 harg11 arg12 harg12 arg13 harg13 arg14 harg14 (iota .tc S256x256 32 [1] iota_S256x256_d1_w32) hc1 (Scalar.addi (BitVec.ofNat 32 (i 2).val) 1#32) X3 X4 X5 X6 X7 X8 f12 f13 f14 n).2.1) (ix2 i' j) = sumDk I (i 2).val B13 n i' j)
    ∧ (∀ (i' : Fin 256) (j : Fin 1024), arg14.view.read (Elt Ideal) (arg14.view.writes (Elt Ideal) f14 (pb_k0_t1 𝒱 c bd i arg3 harg3 arg4 harg4 arg5 harg5 arg6 harg6 arg7 harg7 arg8 harg8 arg9 harg9 arg10 harg10 arg11 harg11 arg12 harg12 arg13 harg13 arg14 harg14 (iota .tc S256x256 32 [1] iota_S256x256_d1_w32) hc1 (Scalar.addi (BitVec.ofNat 32 (i 2).val) 1#32) X3 X4 X5 X6 X7 X8 f12 f13 f14 n).2.2) (ix2 i' j) = sumDv I (i 2).val B14 n i' j) := by
  induction n with
  | zero =>
    refine ⟨fun i' j => (h12 i' j).trans ?_, fun i' j => (h13 i' j).trans ?_, fun i' j => (h14 i' j).trans ?_⟩
    · rw [onto, if_neg (by omega)]
    · rw [sumDk, Finset.sum_range_zero, add_zero]
    · rw [sumDv, Finset.sum_range_zero, add_zero]
  | succ n ih =>
    obtain ⟨i12, i13, i14⟩ := ih (by omega)
    have hk : (i 2).val + 1 + n < 9 := by have := trips1 i; omega
    rw [pb_k0_t1_succ (F := Ideal) 𝒱 c bd i arg3 harg3 arg4 harg4 arg5 harg5 arg6 harg6 arg7 harg7 arg8 harg8 arg9 harg9 arg10 harg10 arg11 harg11 arg12 harg12 arg13 harg13 arg14 harg14 (iota .tc S256x256 32 [1] iota_S256x256_d1_w32) hc1 (Scalar.addi (BitVec.ofNat 32 (i 2).val) 1#32) X3 X4 X5 X6 X7 X8 f12 f13 f14 ⟨n, hn⟩]
    refine ⟨fun i' j => ?_, fun i' j => ?_, fun i' j => ?_⟩
    · rw [View.writes_append]
      refine ((trip1_dq H _ _ _ hc1 ⟨n, hn⟩ hk i12).full (by norm_num) i' j).trans ?_
      exact onto_succ fun _ => rfl
    · rw [View.writes_append]
      refine ((trip1_dk H _ _ _ hc1 ⟨n, hn⟩ hk i13).full (by norm_num) i' j).trans ?_
      rw [if_pos ⟨Nat.zero_le _, by omega⟩, sumDk_succ]
    · rw [View.writes_append]
      refine ((trip1_dv H _ _ _ hc1 ⟨n, hn⟩ hk i14).full (by norm_num) i' j).trans ?_
      rw [if_pos ⟨Nat.zero_le _, by omega⟩, sumDv_succ]

/-- The three accumulators after `n` passes of the loop. -/
theorem loop3 (hc2 : k0_cond2 i = 1#1) (hb : 0 < (i 2).val) {B12 B13 B14 : ℕ → ℕ → EReal}
    (h12 : ∀ (i : Fin 2304) (j : Fin 2048), arg12.view.read (Elt Ideal) f12 (ix2 i j) = B12 i j)
    (h13 : ∀ (i : Fin 256) (j : Fin 2048), arg13.view.read (Elt Ideal) f13 (ix2 i j) = B13 i j)
    (h14 : ∀ (i : Fin 256) (j : Fin 1024), arg14.view.read (Elt Ideal) f14 (ix2 i j) = B14 i j) (n : ℕ) (hn : n ≤ (k0_t3_loop i).trips) :
    (∀ (i' : Fin 2304) (j : Fin 2048), arg12.view.read (Elt Ideal) (arg12.view.writes (Elt Ideal) f12 (pb_k0_t3 𝒱 c bd i arg3 harg3 arg4 harg4 arg5 harg5 arg6 harg6 arg7 harg7 arg8 harg8 arg9 harg9 arg10 harg10 arg11 harg11 arg12 harg12 arg13 harg13 arg14 harg14 (BitVec.ofNat 32 (i 2).val) (k0_pay3 i) (iota .tc S256x256 32 [1] iota_S256x256_d1_w32) hc2 (Scalar.addi (BitVec.ofNat 32 (i 2).val) 1#32) X3 X4 X5 X6 X7 X8 f12 f13 f14 n).1) (ix2 i' j) = onto (i 2).val B12 (addDq I (i 2).val B12) n i' j)
    ∧ (∀ (i' : Fin 256) (j : Fin 2048), arg13.view.read (Elt Ideal) (arg13.view.writes (Elt Ideal) f13 (pb_k0_t3 𝒱 c bd i arg3 harg3 arg4 harg4 arg5 harg5 arg6 harg6 arg7 harg7 arg8 harg8 arg9 harg9 arg10 harg10 arg11 harg11 arg12 harg12 arg13 harg13 arg14 harg14 (BitVec.ofNat 32 (i 2).val) (k0_pay3 i) (iota .tc S256x256 32 [1] iota_S256x256_d1_w32) hc2 (Scalar.addi (BitVec.ofNat 32 (i 2).val) 1#32) X3 X4 X5 X6 X7 X8 f12 f13 f14 n).2.1) (ix2 i' j) = sumDk I (i 2).val B13 n i' j)
    ∧ (∀ (i' : Fin 256) (j : Fin 1024), arg14.view.read (Elt Ideal) (arg14.view.writes (Elt Ideal) f14 (pb_k0_t3 𝒱 c bd i arg3 harg3 arg4 harg4 arg5 harg5 arg6 harg6 arg7 harg7 arg8 harg8 arg9 harg9 arg10 harg10 arg11 harg11 arg12 harg12 arg13 harg13 arg14 harg14 (BitVec.ofNat 32 (i 2).val) (k0_pay3 i) (iota .tc S256x256 32 [1] iota_S256x256_d1_w32) hc2 (Scalar.addi (BitVec.ofNat 32 (i 2).val) 1#32) X3 X4 X5 X6 X7 X8 f12 f13 f14 n).2.2) (ix2 i' j) = sumDv I (i 2).val B14 n i' j) := by
  induction n with
  | zero =>
    refine ⟨fun i' j => (h12 i' j).trans ?_, fun i' j => (h13 i' j).trans ?_, fun i' j => (h14 i' j).trans ?_⟩
    · rw [onto, if_neg (by omega)]
    · rw [sumDk, Finset.sum_range_zero, add_zero]
    · rw [sumDv, Finset.sum_range_zero, add_zero]
  | succ n ih =>
    obtain ⟨i12, i13, i14⟩ := ih (by omega)
    have hk : (i 2).val + 1 + n < 9 := by have := trips3 i; omega
    rw [pb_k0_t3_succ (F := Ideal) 𝒱 c bd i arg3 harg3 arg4 harg4 arg5 harg5 arg6 harg6 arg7 harg7 arg8 harg8 arg9 harg9 arg10 harg10 arg11 harg11 arg12 harg12 arg13 harg13 arg14 harg14 (BitVec.ofNat 32 (i 2).val) (k0_pay3 i) (iota .tc S256x256 32 [1] iota_S256x256_d1_w32) hc2 (Scalar.addi (BitVec.ofNat 32 (i 2).val) 1#32) X3 X4 X5 X6 X7 X8 f12 f13 f14 ⟨n, hn⟩]
    refine ⟨fun i' j => ?_, fun i' j => ?_, fun i' j => ?_⟩
    · rw [View.writes_append]
      refine ((trip3_dq H _ _ _ hc2 ⟨n, hn⟩ hb i12).full (by norm_num) i' j).trans ?_
      exact onto_succ fun hh => by rw [addDq, addDq, onto, if_neg hh]
    · rw [View.writes_append]
      refine ((trip3_dk H _ _ _ hc2 ⟨n, hn⟩ hb i13).full (by norm_num) i' j).trans ?_
      rw [if_pos ⟨Nat.zero_le _, by omega⟩, sumDk_succ]
    · rw [View.writes_append]
      refine ((trip3_dv H _ _ _ hc2 ⟨n, hn⟩ hb i14).full (by norm_num) i' j).trans ?_
      rw [if_pos ⟨Nat.zero_le _, by omega⟩, sumDv_succ]

end Cert.AttnIdeal.Proof

end

end
-- ==== Proof.DiagA.lean ====
/- The diagonal pair of blocks in the first branch: what the eight heads leave in the three accumulators. -/
module

public import proofs.«01_k».proof.Proof.Acc
public import proofs.«01_k».proof.Proof.RunA

@[expose] public section

set_option maxRecDepth 16384

noncomputable section

namespace Cert.AttnIdeal.Proof

open Idealize.ShloMosaic Idealize.ShloMosaic.TcCoe Cert.AttnIdeal Cert.AttnIdeal.Gen

variable {I : In} {i : grid0.Coords} {arg3 : Memref sig .tc .vmem S2304x2048 .bf16} {arg4 : Memref sig .tc .vmem S256x2048 .bf16} {arg5 : Memref sig .tc .vmem S256x1024 .bf16}
    {arg6 : Memref sig .tc .vmem S2304x1024 .bf16} {arg7 arg8 : Memref sig .tc .vmem S1x8x9x256 .f32}
    {X3 : BufTy.Contents (Elt Ideal) arg3.view.ty} {X4 : BufTy.Contents (Elt Ideal) arg4.view.ty} {X5 : BufTy.Contents (Elt Ideal) arg5.view.ty}
    {X6 : BufTy.Contents (Elt Ideal) arg6.view.ty} {X7 : BufTy.Contents (Elt Ideal) arg7.view.ty} {X8 : BufTy.Contents (Elt Ideal) arg8.view.ty}
    (H : Reads I (i 2).val arg3 arg4 arg5 arg6 arg7 arg8 X3 X4 X5 X6 X7 X8)
include H

set_option maxHeartbeats 400000

attribute [local irreducible] addf subf mulf Idealize.ShloMosaic.exp2 select truncf shapeCast broadcastTo broadcast constant View.readAt View.readCov

/-- The value gradient after the diagonal pair. -/
theorem diagA_dv (hc1 : k0_cond1 i = 1#1) (arg14 : Memref sig .tc .vmem S256x1024 .f32) :
    Upto arg14.view arg14.view.junk 0 256 128 (fun _ _ => 0) (addDv I (i 2).val (i 2).val fun _ _ => 0) 8
      (runA.sl.H14_9 (F := Ideal) i arg3 arg4 arg6 arg7 arg14 hc1 X3 X4 X6 X7) := by
  iterate 8
    refine stepDv ?_ rfl rfl ?_
    rotate_left
    · intro r e
      refine dv_eq ?_ ?_ r e
      · intro r s
        refine p_mask _ ?_ ?_ ?_ ?_ r s
        · exact maskA i
        · exact H.lq ClosedOff.eq rfl rfl
        · exact H.lk rfl rfl
        · exact H.ll ClosedOff.eq rfl rfl
      · exact H.lo ClosedOff.eq rfl rfl
  exact Upto.nil fun i j => (whole _ _ rfl i j).trans (zero2 i j)

/-- The key gradient after the diagonal pair. -/
theorem diagA_dk (hc1 : k0_cond1 i = 1#1) (arg13 : Memref sig .tc .vmem S256x2048 .f32) :
    Upto arg13.view arg13.view.junk 0 256 256 (fun _ _ => 0) (addDk I (i 2).val (i 2).val fun _ _ => 0) 8
      (runA.sl.H13_9 (F := Ideal) i arg3 arg4 arg5 arg6 arg7 arg8 arg13 hc1 X3 X4 X5 X6 X7 X8) := by
  iterate 8
    refine stepDk ?_ rfl rfl ?_
    rotate_left
    · intro r e
      refine dk_eq ?_ ?_ r e
      · intro r s
        refine ds_eq ?_ ?_ ?_ ?_ r s
        · intro r s
          refine p_mask _ ?_ ?_ ?_ ?_ r s
          · exact maskA i
          · exact H.lq ClosedOff.eq rfl rfl
          · exact H.lk rfl rfl
          · exact H.ll ClosedOff.eq rfl rfl
        · exact H.lo ClosedOff.eq rfl rfl
        · exact H.lv rfl rfl
        · exact H.ld ClosedOff.eq rfl rfl
      · exact H.lq ClosedOff.eq rfl rfl
  exact Upto.nil fun i j => (whole _ _ rfl i j).trans (zero1 i j)

end Cert.AttnIdeal.Proof

end

end
-- ==== Proof.OutA.lean ====
/- The first branch: what its run leaves in the two gradients written out and in the carried query gradient. -/
module

public import proofs.«01_k».proof.Proof.Sweep
public import proofs.«01_k».proof.Proof.DiagA

@[expose] public section

set_option maxRecDepth 16384

noncomputable section

namespace Cert.AttnIdeal.Proof

open Idealize.ShloMosaic Idealize.ShloMosaic.TcCoe Cert.AttnIdeal Cert.AttnIdeal.Gen

section
variable {sg : RefSig} {κ' : Kind} {sp : Space} {e : EltTy} {Val : EltTy → Type} {s : Shape} {v : View sg κ' sp s e} {f : v.ty.Contents Val} {L L' : List (View.Piece Val s e)} {x : s.Idx}
theorem read_append : v.read Val (v.writes Val f (L ++ L')) x = v.read Val (v.writes Val (v.writes Val f L') L) x := by
  rw [View.writes_append]
theorem read_nil_append (h : L = []) : v.read Val (v.writes Val f (L ++ L')) x = v.read Val (v.writes Val f L') x := by
  rw [h, List.nil_append]
end

/-- Contents of a two-axis buffer as a function of two numbers. -/
theorem asNat {m n : ℕ} {α : Type} [Inhabited α] (x : (⟨2, ![m, n]⟩ : Shape).Idx → α) : ∃ B : ℕ → ℕ → α, ∀ (i : Fin m) (j : Fin n), x (ix2 i j) = B i j :=
  ⟨fun i j => if h : i < m ∧ j < n then x (ix2 ⟨i, h.1⟩ ⟨j, h.2⟩) else default, fun i j => by
    show _ = dite _ _ _
    rw [dif_pos ⟨i.isLt, j.isLt⟩]⟩

theorem pay7 (x : FVec Ideal S256x2048 .f32) (r : Fin 256) (e : Fin 2048) : k0_pay7 (F := Ideal) x (ix2 r e) = x (ix2 r e) := by unfold k0_pay7; pointwise
theorem pay8 (x : FVec Ideal S256x1024 .f32) (r : Fin 256) (e : Fin 1024) : k0_pay8 (F := Ideal) x (ix2 r e) = x (ix2 r e) := by unfold k0_pay8; pointwise

/-- The key gradient of key block `b`: all query blocks from `b` on. -/
def finDk (I : In) (b r J : ℕ) : EReal := ∑ n ∈ Finset.range (9 - b), dkS I (J / 256) (b + n) (256 * b + r) (J % 256)
/-- The value gradient of key block `b`: all query blocks from `b` on. -/
def finDv (I : In) (b r J : ℕ) : EReal := ∑ n ∈ Finset.range (9 - b), dvS I (J / 128) (b + n) (256 * b + r) (J % 128)

theorem finDk_eq (I : In) {b : ℕ} (hb : b < 9) (r J : ℕ) : sumDk I b (addDk I b b fun _ _ => 0) (8 - b) r J = finDk I b r J := by
  rw [sumDk, addDk, zero_add, finDk, show 9 - b = (8 - b) + 1 by omega, Finset.sum_range_succ', add_comm]
  refine congrArg₂ _ (Finset.sum_congr rfl fun m _ => ?_) rfl
  rw [show b + 1 + m = b + (m + 1) by omega]
theorem finDv_eq (I : In) {b : ℕ} (hb : b < 9) (r J : ℕ) : sumDv I b (addDv I b b fun _ _ => 0) (8 - b) r J = finDv I b r J := by
  rw [sumDv, addDv, zero_add, finDv, show 9 - b = (8 - b) + 1 by omega, Finset.sum_range_succ', add_comm]
  refine congrArg₂ _ (Finset.sum_congr rfl fun m _ => ?_) rfl
  rw [show b + 1 + m = b + (m + 1) by omega]

variable {I : In} {i : grid0.Coords} {𝒱 : Variants} {c : Dev nD} {bd : Option 𝒱.V}
    {arg3 : Memref sig .tc .vmem S2304x2048 .bf16} {harg3 : arg3.IsWhole}
    {arg4 : Memref sig .tc .vmem S256x2048 .bf16} {harg4 : arg4.IsWhole}
    {arg5 : Memref sig .tc .vmem S256x1024 .bf16} {harg5 : arg5.IsWhole}
    {arg6 : Memref sig .tc .vmem S2304x1024 .bf16} {harg6 : arg6.IsWhole}
    {arg7 : Memref sig .tc .vmem S1x8x9x256 .f32} {harg7 : arg7.IsWhole}
    {arg8 : Memref sig .tc .vmem S1x8x9x256 .f32} {harg8 : arg8.IsWhole}
    {arg9 : Memref sig .tc .vmem S2304x2048 .bf16} {harg9 : arg9.IsWhole}
    {arg10 : Memref sig .tc .vmem S256x2048 .bf16} {harg10 : arg10.IsWhole}
    {arg11 : Memref sig .tc .vmem S256x1024 .bf16} {harg11 : arg11.IsWhole}
    {arg12 : Memref sig .tc .vmem S2304x2048 .f32} {harg12 : arg12.IsWhole}
    {arg13 : Memref sig .tc .vmem S256x2048 .f32} {harg13 : arg13.IsWhole}
    {arg14 : Memref sig .tc .vmem S256x1024 .f32} {harg14 : arg14.IsWhole}
    {X3 : BufTy.Contents (Elt Ideal) arg3.view.ty} {X4 : BufTy.Contents (Elt Ideal) arg4.view.ty} {X5 : BufTy.Contents (Elt Ideal) arg5.view.ty} {X6 : BufTy.Contents (Elt Ideal) arg6.view.ty} {X7 : BufTy.Contents (Elt Ideal) arg7.view.ty} {X8 : BufTy.Contents (Elt Ideal) arg8.view.ty}
    (H : Reads I (i 2).val arg3 arg4 arg5 arg6 arg7 arg8 X3 X4 X5 X6 X7 X8)
    (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty)
include H

set_option maxHeartbeats 800000
attribute [local irreducible] addf subf mulf Idealize.ShloMosaic.exp2 select truncf shapeCast broadcastTo broadcast constant View.readAt View.readCov

omit H in
theorem nil2 (hc1 : k0_cond1 i = 1#1) (v12 : IVec S256x256 32) (w : BitVec 32) : pb_k0_t2 𝒱 c bd i arg3 harg3 arg4 harg4 arg5 harg5 arg6 harg6 arg7 harg7 arg8 harg8 arg9 harg9 arg10 harg10 arg11 harg11 arg12 harg12 arg13 harg13 arg14 harg14 v12 hc1 w X3 X4 X5 X6 X7 X8 f12 f13 f14 (k0_t2_loop i).trips = ([], [], []) := by
  rw [trips2 i, pb_k0_t2.eq_1]
omit H in
theorem nil4 (hc2 : k0_cond2 i = 1#1) (w u : BitVec 32) : pb_k0_t4 𝒱 c bd i arg3 harg3 arg4 harg4 arg5 harg5 arg6 harg6 arg7 harg7 arg8 harg8 arg9 harg9 arg10 harg10 arg11 harg11 arg12 harg12 arg13 harg13 arg14 harg14 hc2 w u X3 X4 X5 X6 X7 X8 f12 f13 f14 (k0_t4_loop i).trips = ([], [], []) := by
  rw [trips4 i, pb_k0_t4.eq_1]

/-- The key gradient of the key block. -/
theorem outA_dk (hc1 : k0_cond1 i = 1#1) (hc2 : ¬ k0_cond2 i = 1#1) (hc3 : ¬ k0_cond3 i = 1#1) (r : Fin 256) (J : Fin 2048) :
    arg10.view.read (Elt Ideal) (arg10.view.writes (Elt Ideal) f10 (runA 𝒱 c bd i arg3 harg3 arg4 harg4 arg5 harg5 arg6 harg6 arg7 harg7 arg8 harg8 arg9 harg9 arg10 harg10 arg11 harg11 arg12 harg12 arg13 harg13 arg14 harg14 hc1 hc2 hc3 X3 X4 X5 X6 X7 X8 f9 f10 f11 f12 f13 f14).1) (ix2 r J) = finDk I (i 2).val r J := by
  unfold runA
  refine (whole _ _ rfl r J).trans ?_
  refine (pay7 _ r J).trans ?_
  refine (ldw _ _ rfl r J).trans ?_
  refine (read_nil_append (congrArg (fun p => p.2.1) (nil2 _ _ _ hc1 _ _))).trans ?_
  refine read_append.trans ?_
  obtain ⟨B12, h12⟩ := asNat (arg12.view.read (Elt Ideal) (arg12.view.writes (Elt Ideal) f12 _))
  refine ((loop1 H _ _ _ hc1 h12 (fun i j => ((diagA_dk H hc1 arg13).full (by norm_num) i j).trans (if_pos ⟨Nat.zero_le _, by omega⟩))
    (fun i j => ((diagA_dv H hc1 arg14).full (by norm_num) i j).trans (if_pos ⟨Nat.zero_le _, by omega⟩)) _ le_rfl).2.1 r J).trans ?_
  rw [trips1, finDk_eq I (coord_lt i)]

/-- The value gradient of the key block. -/
theorem outA_dv (hc1 : k0_cond1 i = 1#1) (hc2 : ¬ k0_cond2 i = 1#1) (hc3 : ¬ k0_cond3 i = 1#1) (r : Fin 256) (J : Fin 1024) :
    arg11.view.read (Elt Ideal) (arg11.view.writes (Elt Ideal) f11 (runA 𝒱 c bd i arg3 harg3 arg4 harg4 arg5 harg5 arg6 harg6 arg7 harg7 arg8 harg8 arg9 harg9 arg10 harg10 arg11 harg11 arg12 harg12 arg13 harg13 arg14 harg14 hc1 hc2 hc3 X3 X4 X5 X6 X7 X8 f9 f10 f11 f12 f13 f14).2.1) (ix2 r J) = finDv I (i 2).val r J := by
  unfold runA
  refine (whole _ _ rfl r J).trans ?_
  refine (pay8 _ r J).trans ?_
  refine (ldw _ _ rfl r J).trans ?_
  refine (read_nil_append (congrArg (fun p => p.2.2) (nil2 _ _ _ hc1 _ _))).trans ?_
  refine read_append.trans ?_
  obtain ⟨B12, h12⟩ := asNat (arg12.view.read (Elt Ideal) (arg12.view.writes (Elt Ideal) f12 _))
  refine ((loop1 H _ _ _ hc1 h12 (fun i j => ((diagA_dk H hc1 arg13).full (by norm_num) i j).trans (if_pos ⟨Nat.zero_le _, by omega⟩))
    (fun i j => ((diagA_dv H hc1 arg14).full (by norm_num) i j).trans (if_pos ⟨Nat.zero_le _, by omega⟩)) _ le_rfl).2.2 r J).trans ?_
  rw [trips1, finDv_eq I (coord_lt i)]

/-- The carried query gradient. -/
theorem outA_dq (hc1 : k0_cond1 i = 1#1) (hc2 : ¬ k0_cond2 i = 1#1) (hc3 : ¬ k0_cond3 i = 1#1) (hb : (i 2).val = 0) (i' : Fin 2304) (J : Fin 2048) :
    arg12.view.read (Elt Ideal) (arg12.view.writes (Elt Ideal) f12 (runA 𝒱 c bd i arg3 harg3 arg4 harg4 arg5 harg5 arg6 harg6 arg7 harg7 arg8 harg8 arg9 harg9 arg10 harg10 arg11 harg11 arg12 harg12 arg13 harg13 arg14 harg14 hc1 hc2 hc3 X3 X4 X5 X6 X7 X8 f9 f10 f11 f12 f13 f14).2.2.1) (ix2 i' J) = setDq I (i 2).val i' J := by
  unfold runA
  refine (read_nil_append (congrArg (fun p => p.1) (nil2 _ _ _ hc1 _ _))).trans ?_
  refine read_append.trans ?_
  obtain ⟨B, hB⟩ := asNat (arg12.view.read (Elt Ideal) f12)
  refine ((loop1 H _ _ _ hc1 (B12 := fun i' J => if 256 * (i 2).val ≤ i' ∧ i' < 256 * (i 2).val + 256 then (setDq I (i 2).val) i' J else B i' J) ?_
    (fun i j => ((diagA_dk H hc1 arg13).full (by norm_num) i j).trans (if_pos ⟨Nat.zero_le _, by omega⟩))
    (fun i j => ((diagA_dv H hc1 arg14).full (by norm_num) i j).trans (if_pos ⟨Nat.zero_le _, by omega⟩)) _ le_rfl).1 i' J).trans ?_
  · intro i' j
    refine Upto.full (Val := Elt Ideal) (e := .f32) (z := 256) (G := setDq I (i 2).val) ?_ (by norm_num) i' j
    iterate 8
      refine putDq ?_ ClosedOff.eq rfl rfl ?_
      rotate_left
      · intro r e
        refine dq_eq ?_ ?_ r e
        · intro r s
          refine ds_eq ?_ ?_ ?_ ?_ r s
          · intro r s
            refine p_mask _ ?_ ?_ ?_ ?_ r s
            · exact maskA i
            · exact H.lq ClosedOff.eq rfl rfl
            · exact H.lk rfl rfl
            · exact H.ll ClosedOff.eq rfl rfl
          · exact H.lo ClosedOff.eq rfl rfl
          · exact H.lv rfl rfl
          · exact H.ld ClosedOff.eq rfl rfl
        · exact H.lk rfl rfl
    exact Upto.nil hB
  · have := coord_lt i
    rw [trips1]
    unfold onto
    dsimp only
    split_ifs <;> first | rfl | omega

end Cert.AttnIdeal.Proof

end

end
-- ==== Proof.DiagB.lean ====
/- The diagonal pair of blocks in the second branch: what the eight heads leave in the three accumulators. -/
module

public import proofs.«01_k».proof.Proof.Acc
public import proofs.«01_k».proof.Proof.RunB

@[expose] public section

set_option maxRecDepth 16384

noncomputable section

namespace Cert.AttnIdeal.Proof

open Idealize.ShloMosaic Idealize.ShloMosaic.TcCoe Cert.AttnIdeal Cert.AttnIdeal.Gen

variable {I : In} {i : grid0.Coords} {arg3 : Memref sig .tc .vmem S2304x2048 .bf16} {arg4 : Memref sig .tc .vmem S256x2048 .bf16} {arg5 : Memref sig .tc .vmem S256x1024 .bf16}
    {arg6 : Memref sig .tc .vmem S2304x1024 .bf16} {arg7 arg8 : Memref sig .tc .vmem S1x8x9x256 .f32}
    {X3 : BufTy.Contents (Elt Ideal) arg3.view.ty} {X4 : BufTy.Contents (Elt Ideal) arg4.view.ty} {X5 : BufTy.Contents (Elt Ideal) arg5.view.ty}
    {X6 : BufTy.Contents (Elt Ideal) arg6.view.ty} {X7 : BufTy.Contents (Elt Ideal) arg7.view.ty} {X8 : BufTy.Contents (Elt Ideal) arg8.view.ty}
    (H : Reads I (i 2).val arg3 arg4 arg5 arg6 arg7 arg8 X3 X4 X5 X6 X7 X8)
include H

set_option maxHeartbeats 400000

attribute [local irreducible] addf subf mulf Idealize.ShloMosaic.exp2 select truncf shapeCast broadcastTo broadcast constant View.readAt View.readCov

/-- The value gradient after the diagonal pair. -/
theorem diagB_dv (hc2 : k0_cond2 i = 1#1) (arg14 : Memref sig .tc .vmem S256x1024 .f32) :
    Upto arg14.view arg14.view.junk 0 256 128 (fun _ _ => 0) (addDv I (i 2).val (i 2).val fun _ _ => 0) 8
      (runB.sl.H14_9 (F := Ideal) i arg3 arg4 arg6 arg7 arg14 hc2 X3 X4 X6 X7) := by
  iterate 8
    refine stepDv ?_ rfl rfl ?_
    rotate_left
    · intro r e
      refine dv_eq ?_ ?_ r e
      · intro r s
        refine p_mask _ ?_ ?_ ?_ ?_ r s
        · exact maskB i
        · exact H.lq ClosedOff.eq rfl rfl
        · exact H.lk rfl rfl
        · exact H.ll ClosedOff.eq rfl rfl
      · exact H.lo ClosedOff.eq rfl rfl
  exact Upto.nil fun i j => (whole _ _ rfl i j).trans (zero2 i j)

/-- The key gradient after the diagonal pair. -/
theorem diagB_dk (hc2 : k0_cond2 i = 1#1) (arg13 : Memref sig .tc .vmem S256x2048 .f32) :
    Upto arg13.view arg13.view.junk 0 256 256 (fun _ _ => 0) (addDk I (i 2).val (i 2).val fun _ _ => 0) 8
      (runB.sl.H13_9 (F := Ideal) i arg3 arg4 arg5 arg6 arg7 arg8 arg13 hc2 X3 X4 X5 X6 X7 X8) := by
  iterate 8
    refine stepDk ?_ rfl rfl ?_
    rotate_left
    · intro r e
      refine dk_eq ?_ ?_ r e
      · intro r s
        refine ds_eq ?_ ?_ ?_ ?_ r s
        · intro r s
          refine p_mask _ ?_ ?_ ?_ ?_ r s
          · exact maskB i
          · exact H.lq ClosedOff.eq rfl rfl
          · exact H.lk rfl rfl
          · exact H.ll ClosedOff.eq rfl rfl
        · exact H.lo ClosedOff.eq rfl rfl
        · exact H.lv rfl rfl
        · exact H.ld ClosedOff.eq rfl rfl
      · exact H.lq ClosedOff.eq rfl rfl
  exact Upto.nil fun i j => (whole _ _ rfl i j).trans (zero1 i j)

end Cert.AttnIdeal.Proof

end

end
-- ==== Proof.OutC.lean ====
/- The second branch at the last key block, where the query gradient is written out too. -/
module

public import proofs.«01_k».proof.Proof.OutA
public import proofs.«01_k».proof.Proof.DiagB
public import proofs.«01_k».proof.Proof.RunC

@[expose] public section

set_option maxRecDepth 16384

noncomputable section

namespace Cert.AttnIdeal.Proof

open Idealize.ShloMosaic Idealize.ShloMosaic.TcCoe Cert.AttnIdeal Cert.AttnIdeal.Gen

variable {I : In} {i : grid0.Coords} {𝒱 : Variants} {c : Dev nD} {bd : Option 𝒱.V}
    {arg3 : Memref sig .tc .vmem S2304x2048 .bf16} {harg3 : arg3.IsWhole}
    {arg4 : Memref sig .tc .vmem S256x2048 .bf16} {harg4 : arg4.IsWhole}
    {arg5 : Memref sig .tc .vmem S256x1024 .bf16} {harg5 : arg5.IsWhole}
    {arg6 : Memref sig .tc .vmem S2304x1024 .bf16} {harg6 : arg6.IsWhole}
    {arg7 : Memref sig .tc .vmem S1x8x9x256 .f32} {harg7 : arg7.IsWhole}
    {arg8 : Memref sig .tc .vmem S1x8x9x256 .f32} {harg8 : arg8.IsWhole}
    {arg9 : Memref sig .tc .vmem S2304x2048 .bf16} {harg9 : arg9.IsWhole}
    {arg10 : Memref sig .tc .vmem S256x2048 .bf16} {harg10 : arg10.IsWhole}
    {arg11 : Memref sig .tc .vmem S256x1024 .bf16} {harg11 : arg11.IsWhole}
    {arg12 : Memref sig .tc .vmem S2304x2048 .f32} {harg12 : arg12.IsWhole}
    {arg13 : Memref sig .tc .vmem S256x2048 .f32} {harg13 : arg13.IsWhole}
    {arg14 : Memref sig .tc .vmem S256x1024 .f32} {harg14 : arg14.IsWhole}
    {X3 : BufTy.Contents (Elt Ideal) arg3.view.ty} {X4 : BufTy.Contents (Elt Ideal) arg4.view.ty} {X5 : BufTy.Contents (Elt Ideal) arg5.view.ty} {X6 : BufTy.Contents (Elt Ideal) arg6.view.ty} {X7 : BufTy.Contents (Elt Ideal) arg7.view.ty} {X8 : BufTy.Contents (Elt Ideal) arg8.view.ty}
    (H : Reads I (i 2).val arg3 arg4 arg5 arg6 arg7 arg8 X3 X4 X5 X6 X7 X8)
    (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty)
include H

set_option maxHeartbeats 800000
attribute [local irreducible] addf subf mulf Idealize.ShloMosaic.exp2 select truncf shapeCast broadcastTo broadcast constant View.readAt View.readCov

/-- The key gradient of the key block. -/
theorem outC_dk (hc1 : ¬ k0_cond1 i = 1#1) (hc2 : k0_cond2 i = 1#1) (hc3 : k0_cond3 i = 1#1) (hb : 0 < (i 2).val) (r : Fin 256) (J : Fin 2048) :
    arg10.view.read (Elt Ideal) (arg10.view.writes (Elt Ideal) f10 (runC 𝒱 c bd i arg3 harg3 arg4 harg4 arg5 harg5 arg6 harg6 arg7 harg7 arg8 harg8 arg9 harg9 arg10 harg10 arg11 harg11 arg12 harg12 arg13 harg13 arg14 harg14 hc1 hc2 hc3 X3 X4 X5 X6 X7 X8 f9 f10 f11 f12 f13 f14).2.1) (ix2 r J) = finDk I (i 2).val r J := by
  unfold runC
  refine (whole _ _ rfl r J).trans ?_
  refine (pay7 _ r J).trans ?_
  refine (ldw _ _ rfl r J).trans ?_
  refine (read_nil_append (congrArg (fun p => p.2.1) (nil4 _ _ _ hc2 _ _))).trans ?_
  refine read_append.trans ?_
  obtain ⟨B12, h12⟩ := asNat (arg12.view.read (Elt Ideal) (arg12.view.writes (Elt Ideal) f12 _))
  refine ((loop3 H _ _ _ hc2 hb h12 (fun i j => ((diagB_dk H hc2 arg13).full (by norm_num) i j).trans (if_pos ⟨Nat.zero_le _, by omega⟩))
    (fun i j => ((diagB_dv H hc2 arg14).full (by norm_num) i j).trans (if_pos ⟨Nat.zero_le _, by omega⟩)) _ le_rfl).2.1 r J).trans ?_
  rw [trips3, finDk_eq I (coord_lt i)]

/-- The value gradient of the key block. -/
theorem outC_dv (hc1 : ¬ k0_cond1 i = 1#1) (hc2 : k0_cond2 i = 1#1) (hc3 : k0_cond3 i = 1#1) (hb : 0 < (i 2).val) (r : Fin 256) (J : Fin 1024) :
    arg11.view.read (Elt Ideal) (arg11.view.writes (Elt Ideal) f11 (runC 𝒱 c bd i arg3 harg3 arg4 harg4 arg5 harg5 arg6 harg6 arg7 harg7 arg8 harg8 arg9 harg9 arg10 harg10 arg11 harg11 arg12 harg12 arg13 harg13 arg14 harg14 hc1 hc2 hc3 X3 X4 X5 X6 X7 X8 f9 f10 f11 f12 f13 f14).2.2.1) (ix2 r J) = finDv I (i 2).val r J := by
  unfold runC
  refine (whole _ _ rfl r J).trans ?_
  refine (pay8 _ r J).trans ?_
  refine (ldw _ _ rfl r J).trans ?_
  refine (read_nil_append (congrArg (fun p => p.2.2) (nil4 _ _ _ hc2 _ _))).trans ?_
  refine read_append.trans ?_
  obtain ⟨B12, h12⟩ := asNat (arg12.view.read (Elt Ideal) (arg12.view.writes (Elt Ideal) f12 _))
  refine ((loop3 H _ _ _ hc2 hb h12 (fun i j => ((diagB_dk H hc2 arg13).full (by norm_num) i j).trans (if_pos ⟨Nat.zero_le _, by omega⟩))
    (fun i j => ((diagB_dv H hc2 arg14).full (by norm_num) i j).trans (if_pos ⟨Nat.zero_le _, by omega⟩)) _ le_rfl).2.2 r J).trans ?_
  rw [trips3, finDv_eq I (coord_lt i)]

/-- The carried query gradient. -/
theorem outC_dq (hc1 : ¬ k0_cond1 i = 1#1) (hc2 : k0_cond2 i = 1#1) (hc3 : k0_cond3 i = 1#1) (hb : 0 < (i 2).val) {B : ℕ → ℕ → EReal} (hB : ∀ (i : Fin 2304) (j : Fin 2048), arg12.view.read (Elt Ideal) f12 (ix2 i j) = B i j) (i' : Fin 2304) (J : Fin 2048) :
    arg12.view.read (Elt Ideal) (arg12.view.writes (Elt Ideal) f12 (runC 𝒱 c bd i arg3 harg3 arg4 harg4 arg5 harg5 arg6 harg6 arg7 harg7 arg8 harg8 arg9 harg9 arg10 harg10 arg11 harg11 arg12 harg12 arg13 harg13 arg14 harg14 hc1 hc2 hc3 X3 X4 X5 X6 X7 X8 f9 f10 f11 f12 f13 f14).2.2.2.1) (ix2 i' J) = if 256 * (i 2).val ≤ i'.val then addDq I (i 2).val B i' J else B i' J := by
  unfold runC
  refine (read_nil_append (congrArg (fun p => p.1) (nil4 _ _ _ hc2 _ _))).trans ?_
  refine read_append.trans ?_
  refine ((loop3 H _ _ _ hc2 hb (B12 := fun i' J => if 256 * (i 2).val ≤ i' ∧ i' < 256 * (i 2).val + 256 then (addDq I (i 2).val B) i' J else B i' J) ?_
    (fun i j => ((diagB_dk H hc2 arg13).full (by norm_num) i j).trans (if_pos ⟨Nat.zero_le _, by omega⟩))
    (fun i j => ((diagB_dv H hc2 arg14).full (by norm_num) i j).trans (if_pos ⟨Nat.zero_le _, by omega⟩)) _ le_rfl).1 i' J).trans ?_
  · intro i' j
    refine Upto.full (Val := Elt Ideal) (e := .f32) (z := 256) (G := addDq I (i 2).val B) ?_ (by norm_num) i' j
    iterate 8
      refine tripDq ?_ hB ClosedOff.eq rfl rfl ?_
      rotate_left
      · intro r e
        refine dq_acc ?_ ?_ r e
        · intro r s
          refine ds_eq ?_ ?_ ?_ ?_ r s
          · intro r s
            refine p_mask _ ?_ ?_ ?_ ?_ r s
            · exact maskB i
            · exact H.lq ClosedOff.eq rfl rfl
            · exact H.lk rfl rfl
            · exact H.ll ClosedOff.eq rfl rfl
          · exact H.lo ClosedOff.eq rfl rfl
          · exact H.lv rfl rfl
          · exact H.ld ClosedOff.eq rfl rfl
        · exact H.lk rfl rfl
    exact Upto.nil hB
  · have := coord_lt i
    rw [trips3]
    unfold onto addDq
    dsimp only
    split_ifs <;> first | rfl | omega

omit H in
theorem pay9 (x : FVec Ideal S2304x2048 .f32) (r : Fin 2304) (e : Fin 2048) : k0_pay9 (F := Ideal) x (ix2 r e) = x (ix2 r e) := by unfold k0_pay9; pointwise

/-- The query gradient written out is the carried one. -/
theorem outC_out (hc1 : ¬ k0_cond1 i = 1#1) (hc2 : k0_cond2 i = 1#1) (hc3 : k0_cond3 i = 1#1) (hb : 0 < (i 2).val) {B : ℕ → ℕ → EReal} (hB : ∀ (i : Fin 2304) (j : Fin 2048), arg12.view.read (Elt Ideal) f12 (ix2 i j) = B i j) (i' : Fin 2304) (J : Fin 2048) :
    arg9.view.read (Elt Ideal) (arg9.view.writes (Elt Ideal) f9 (runC 𝒱 c bd i arg3 harg3 arg4 harg4 arg5 harg5 arg6 harg6 arg7 harg7 arg8 harg8 arg9 harg9 arg10 harg10 arg11 harg11 arg12 harg12 arg13 harg13 arg14 harg14 hc1 hc2 hc3 X3 X4 X5 X6 X7 X8 f9 f10 f11 f12 f13 f14).1) (ix2 i' J) = if 256 * (i 2).val ≤ i'.val then addDq I (i 2).val B i' J else B i' J := by
  refine Eq.trans ?_ (outC_dq (𝒱 := 𝒱) (c := c) (bd := bd) (harg3 := harg3) (harg4 := harg4) (harg5 := harg5) (harg6 := harg6) (harg7 := harg7) (harg8 := harg8) (harg9 := harg9) (harg10 := harg10) (harg11 := harg11) (harg12 := harg12) (harg13 := harg13) (harg14 := harg14) H f9 f10 f11 f12 f13 f14 hc1 hc2 hc3 hb hB i' J)
  unfold runC
  refine (whole _ _ rfl i' J).trans ?_
  refine (pay9 _ i' J).trans ?_
  exact ldw _ _ rfl i' J

end Cert.AttnIdeal.Proof

end

end
-- ==== Proof.OutB.lean ====
/- The second branch: what its run leaves in the two gradients written out and in the carried query gradient. -/
module

public import proofs.«01_k».proof.Proof.OutA
public import proofs.«01_k».proof.Proof.DiagB

@[expose] public section

set_option maxRecDepth 16384

noncomputable section

namespace Cert.AttnIdeal.Proof

open Idealize.ShloMosaic Idealize.ShloMosaic.TcCoe Cert.AttnIdeal Cert.AttnIdeal.Gen

variable {I : In} {i : grid0.Coords} {𝒱 : Variants} {c : Dev nD} {bd : Option 𝒱.V}
    {arg3 : Memref sig .tc .vmem S2304x2048 .bf16} {harg3 : arg3.IsWhole}
    {arg4 : Memref sig .tc .vmem S256x2048 .bf16} {harg4 : arg4.IsWhole}
    {arg5 : Memref sig .tc .vmem S256x1024 .bf16} {harg5 : arg5.IsWhole}
    {arg6 : Memref sig .tc .vmem S2304x1024 .bf16} {harg6 : arg6.IsWhole}
    {arg7 : Memref sig .tc .vmem S1x8x9x256 .f32} {harg7 : arg7.IsWhole}
    {arg8 : Memref sig .tc .vmem S1x8x9x256 .f32} {harg8 : arg8.IsWhole}
    {arg9 : Memref sig .tc .vmem S2304x2048 .bf16} {harg9 : arg9.IsWhole}
    {arg10 : Memref sig .tc .vmem S256x2048 .bf16} {harg10 : arg10.IsWhole}
    {arg11 : Memref sig .tc .vmem S256x1024 .bf16} {harg11 : arg11.IsWhole}
    {arg12 : Memref sig .tc .vmem S2304x2048 .f32} {harg12 : arg12.IsWhole}
    {arg13 : Memref sig .tc .vmem S256x2048 .f32} {harg13 : arg13.IsWhole}
    {arg14 : Memref sig .tc .vmem S256x1024 .f32} {harg14 : arg14.IsWhole}
    {X3 : BufTy.Contents (Elt Ideal) arg3.view.ty} {X4 : BufTy.Contents (Elt Ideal) arg4.view.ty} {X5 : BufTy.Contents (Elt Ideal) arg5.view.ty} {X6 : BufTy.Contents (Elt Ideal) arg6.view.ty} {X7 : BufTy.Contents (Elt Ideal) arg7.view.ty} {X8 : BufTy.Contents (Elt Ideal) arg8.view.ty}
    (H : Reads I (i 2).val arg3 arg4 arg5 arg6 arg7 arg8 X3 X4 X5 X6 X7 X8)
    (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty)
include H

set_option maxHeartbeats 800000
attribute [local irreducible] addf subf mulf Idealize.ShloMosaic.exp2 select truncf shapeCast broadcastTo broadcast constant View.readAt View.readCov

/-- The key gradient of the key block. -/
theorem outB_dk (hc1 : ¬ k0_cond1 i = 1#1) (hc2 : k0_cond2 i = 1#1) (hc3 : ¬ k0_cond3 i = 1#1) (hb : 0 < (i 2).val) (r : Fin 256) (J : Fin 2048) :
    arg10.view.read (Elt Ideal) (arg10.view.writes (Elt Ideal) f10 (runB 𝒱 c bd i arg3 harg3 arg4 harg4 arg5 harg5 arg6 harg6 arg7 harg7 arg8 harg8 arg9 harg9 arg10 harg10 arg11 harg11 arg12 harg12 arg13 harg13 arg14 harg14 hc1 hc2 hc3 X3 X4 X5 X6 X7 X8 f9 f10 f11 f12 f13 f14).1) (ix2 r J) = finDk I (i 2).val r J := by
  unfold runB
  refine (whole _ _ rfl r J).trans ?_
  refine (pay7 _ r J).trans ?_
  refine (ldw _ _ rfl r J).trans ?_
  refine (read_nil_append (congrArg (fun p => p.2.1) (nil4 _ _ _ hc2 _ _))).trans ?_
  refine read_append.trans ?_
  obtain ⟨B12, h12⟩ := asNat (arg12.view.read (Elt Ideal) (arg12.view.writes (Elt Ideal) f12 _))
  refine ((loop3 H _ _ _ hc2 hb h12 (fun i j => ((diagB_dk H hc2 arg13).full (by norm_num) i j).trans (if_pos ⟨Nat.zero_le _, by omega⟩))
    (fun i j => ((diagB_dv H hc2 arg14).full (by norm_num) i j).trans (if_pos ⟨Nat.zero_le _, by omega⟩)) _ le_rfl).2.1 r J).trans ?_
  rw [trips3, finDk_eq I (coord_lt i)]

/-- The value gradient of the key block. -/
theorem outB_dv (hc1 : ¬ k0_cond1 i = 1#1) (hc2 : k0_cond2 i = 1#1) (hc3 : ¬ k0_cond3 i = 1#1) (hb : 0 < (i 2).val) (r : Fin 256) (J : Fin 1024) :
    arg11.view.read (Elt Ideal) (arg11.view.writes (Elt Ideal) f11 (runB 𝒱 c bd i arg3 harg3 arg4 harg4 arg5 harg5 arg6 harg6 arg7 harg7 arg8 harg8 arg9 harg9 arg10 harg10 arg11 harg11 arg12 harg12 arg13 harg13 arg14 harg14 hc1 hc2 hc3 X3 X4 X5 X6 X7 X8 f9 f10 f11 f12 f13 f14).2.1) (ix2 r J) = finDv I (i 2).val r J := by
  unfold runB
  refine (whole _ _ rfl r J).trans ?_
  refine (pay8 _ r J).trans ?_
  refine (ldw _ _ rfl r J).trans ?_
  refine (read_nil_append (congrArg (fun p => p.2.2) (nil4 _ _ _ hc2 _ _))).trans ?_
  refine read_append.trans ?_
  obtain ⟨B12, h12⟩ := asNat (arg12.view.read (Elt Ideal) (arg12.view.writes (Elt Ideal) f12 _))
  refine ((loop3 H _ _ _ hc2 hb h12 (fun i j => ((diagB_dk H hc2 arg13).full (by norm_num) i j).trans (if_pos ⟨Nat.zero_le _, by omega⟩))
    (fun i j => ((diagB_dv H hc2 arg14).full (by norm_num) i j).trans (if_pos ⟨Nat.zero_le _, by omega⟩)) _ le_rfl).2.2 r J).trans ?_
  rw [trips3, finDv_eq I (coord_lt i)]

/-- The carried query gradient. -/
theorem outB_dq (hc1 : ¬ k0_cond1 i = 1#1) (hc2 : k0_cond2 i = 1#1) (hc3 : ¬ k0_cond3 i = 1#1) (hb : 0 < (i 2).val) {B : ℕ → ℕ → EReal} (hB : ∀ (i : Fin 2304) (j : Fin 2048), arg12.view.read (Elt Ideal) f12 (ix2 i j) = B i j) (i' : Fin 2304) (J : Fin 2048) :
    arg12.view.read (Elt Ideal) (arg12.view.writes (Elt Ideal) f12 (runB 𝒱 c bd i arg3 harg3 arg4 harg4 arg5 harg5 arg6 harg6 arg7 harg7 arg8 harg8 arg9 harg9 arg10 harg10 arg11 harg11 arg12 harg12 arg13 harg13 arg14 harg14 hc1 hc2 hc3 X3 X4 X5 X6 X7 X8 f9 f10 f11 f12 f13 f14).2.2.1) (ix2 i' J) = if 256 * (i 2).val ≤ i'.val then addDq I (i 2).val B i' J else B i' J := by
  unfold runB
  refine (read_nil_append (congrArg (fun p => p.1) (nil4 _ _ _ hc2 _ _))).trans ?_
  refine read_append.trans ?_
  refine ((loop3 H _ _ _ hc2 hb (B12 := fun i' J => if 256 * (i 2).val ≤ i' ∧ i' < 256 * (i 2).val + 256 then (addDq I (i 2).val B) i' J else B i' J) ?_
    (fun i j => ((diagB_dk H hc2 arg13).full (by norm_num) i j).trans (if_pos ⟨Nat.zero_le _, by omega⟩))
    (fun i j => ((diagB_dv H hc2 arg14).full (by norm_num) i j).trans (if_pos ⟨Nat.zero_le _, by omega⟩)) _ le_rfl).1 i' J).trans ?_
  · intro i' j
    refine Upto.full (Val := Elt Ideal) (e := .f32) (z := 256) (G := addDq I (i 2).val B) ?_ (by norm_num) i' j
    iterate 8
      refine tripDq ?_ hB ClosedOff.eq rfl rfl ?_
      rotate_left
      · intro r e
        refine dq_acc ?_ ?_ r e
        · intro r s
          refine ds_eq ?_ ?_ ?_ ?_ r s
          · intro r s
            refine p_mask _ ?_ ?_ ?_ ?_ r s
            · exact maskB i
            · exact H.lq ClosedOff.eq rfl rfl
            · exact H.lk rfl rfl
            · exact H.ll ClosedOff.eq rfl rfl
          · exact H.lo ClosedOff.eq rfl rfl
          · exact H.lv rfl rfl
          · exact H.ld ClosedOff.eq rfl rfl
        · exact H.lk rfl rfl
    exact Upto.nil hB
  · have := coord_lt i
    rw [trips3]
    unfold onto addDq
    dsimp only
    split_ifs <;> first | rfl | omega

end Cert.AttnIdeal.Proof

end

end
-- ==== Proof.Points.lean ====
/- The three written blocks and the carried query gradient at every grid point, as sums over blocks. -/
module

public import proofs.«01_k».proof.Proof.Blocks
public import proofs.«01_k».proof.Proof.Body
public import proofs.«01_k».proof.Proof.OutC
public import proofs.«01_k».proof.Proof.OutB

@[expose] public section

set_option maxRecDepth 16384

noncomputable section

namespace Cert.AttnIdeal.Proof

open Idealize.ShloMosaic Idealize.ShloMosaic.TcCoe Cert.AttnIdeal Cert.AttnIdeal.Gen

/-- The query gradient's row `i` after `n` key blocks: those of them not after the row's own. -/
def accDq (I : In) (n i J : ℕ) : EReal := ∑ j ∈ Finset.range (min n (i / 256 + 1)), dqS I (J / 256) j i (J % 256)

theorem accDq_one (I : In) (i J : ℕ) : setDq I 0 i J = accDq I 1 i J := by
  unfold setDq accDq
  rw [show min 1 (i / 256 + 1) = 1 by omega, Finset.sum_range_one]
theorem accDq_succ (I : In) (n i J : ℕ) : (if 256 * n ≤ i then addDq I n (accDq I n) i J else accDq I n i J) = accDq I (n + 1) i J := by
  unfold addDq accDq
  split_ifs with h
  · rw [show min n (i / 256 + 1) = n by omega, show min (n + 1) (i / 256 + 1) = n + 1 by omega, Finset.sum_range_succ]
  · rw [show min n (i / 256 + 1) = min (n + 1) (i / 256 + 1) by omega]

variable (m : (ℓ : Loc nD τ sig) → Buf (Elt Ideal) ℓ)

/-- What the carried query gradient holds before point `t`. -/
def carried (c : Dev nD) (t : Fin (cfg0.N + 1)) (X : S2304x2048.Idx → Elt Ideal .f32) : Prop :=
  t.val % 9 ≠ 0 → ∀ (i : Fin 2304) (J : Fin 2048), X (ix2 i J) = accDq (inOf m c (t.val / 9)) (t.val % 9) i J
/-- The query gradient's block as written at the last key block. -/
def out6 (c : Dev nD) (t : Fin cfg0.N) (x : S2304x2048.Idx) : Elt Ideal .bf16 := accDq (inOf m c (t.val / 9)) 9 (x 0).val (x 1).val
/-- The key gradient's block. -/
def out7 (c : Dev nD) (t : Fin cfg0.N) (x : S256x2048.Idx) : Elt Ideal .bf16 := finDk (inOf m c (t.val / 9)) (t.val % 9) (x 0).val (x 1).val
/-- The value gradient's block. -/
def out8 (c : Dev nD) (t : Fin cfg0.N) (x : S256x1024.Idx) : Elt Ideal .bf16 := finDv (inOf m c (t.val / 9)) (t.val % 9) (x 0).val (x 1).val

set_option maxHeartbeats 800000
attribute [local irreducible] addf subf mulf Idealize.ShloMosaic.exp2 select truncf shapeCast broadcastTo broadcast constant View.readAt View.readCov View.writes View.read

/-- Every grid point leaves these. -/
theorem outcome : Outcome (F := Ideal) m (carried m) (fun c t X => X = out6 m c t) (fun c t X => X = out7 m c t) (fun c t X => X = out8 m c t) where
  first := by
    intro c t hc1 hc2 hc3 f3 f4 f5 f6 f7 f8 f9 f10 f11 f12 f13 f14 h3 h4 h5 h6 h7 h8 hP
    have h0 := (cond1_iff t).mp hc1
    have H := reads m c t h3 h4 h5 h6 h7 h8
    have hb : (grid0.coords t 2).val = 0 := (coord2 t).trans h0
    refine ⟨?_, ?_, ?_⟩
    · funext x; rw [eq_ix2 x]
      refine (outA_dk H f9 f10 f11 f12 f13 f14 hc1 hc2 hc3 _ _).trans ?_
      rw [coord2]; rfl
    · funext x; rw [eq_ix2 x]
      refine (outA_dv H f9 f10 f11 f12 f13 f14 hc1 hc2 hc3 _ _).trans ?_
      rw [coord2]; rfl
    · intro _ i J
      refine (outA_dq H f9 f10 f11 f12 f13 f14 hc1 hc2 hc3 hb i J).trans ?_
      rw [hb, Fin.val_succ, show (t.val + 1) / 9 = t.val / 9 by omega, show (t.val + 1) % 9 = 1 by omega]
      exact accDq_one _ _ _
  middle := by
    intro c t hc1 hc2 hc3 f3 f4 f5 f6 f7 f8 f9 f10 f11 f12 f13 f14 h3 h4 h5 h6 h7 h8 hP
    have h0 : t.val % 9 ≠ 0 := (cond2_iff t).mp hc2
    have h9 : t.val % 9 ≠ 8 := fun h => hc3 ((cond3_iff t).mpr h)
    have H := reads m c t h3 h4 h5 h6 h7 h8
    have hb : 0 < (grid0.coords t 2).val := by rw [coord2]; omega
    have hB := hP h0
    refine ⟨?_, ?_, ?_⟩
    · funext x; rw [eq_ix2 x]
      refine (outB_dk H f9 f10 f11 f12 f13 f14 hc1 hc2 hc3 hb _ _).trans ?_
      rw [coord2]; rfl
    · funext x; rw [eq_ix2 x]
      refine (outB_dv H f9 f10 f11 f12 f13 f14 hc1 hc2 hc3 hb _ _).trans ?_
      rw [coord2]; rfl
    · intro _ i J
      refine (outB_dq H f9 f10 f11 f12 f13 f14 hc1 hc2 hc3 hb hB i J).trans ?_
      rw [Fin.val_succ, Fin.val_castSucc, coord2, show (t.val + 1) / 9 = t.val / 9 by omega, show (t.val + 1) % 9 = t.val % 9 + 1 by omega]
      exact accDq_succ _ _ _ _
  last := by
    intro c t hc1 hc2 hc3 f3 f4 f5 f6 f7 f8 f9 f10 f11 f12 f13 f14 h3 h4 h5 h6 h7 h8 hP
    have h0 : t.val % 9 ≠ 0 := (cond2_iff t).mp hc2
    have h9 : t.val % 9 = 8 := (cond3_iff t).mp hc3
    have H := reads m c t h3 h4 h5 h6 h7 h8
    have hb : 0 < (grid0.coords t 2).val := by rw [coord2]; omega
    have hB := hP h0
    refine ⟨?_, ?_, ?_, ?_⟩
    · funext x; rw [eq_ix2 x]
      refine (outC_out H f9 f10 f11 f12 f13 f14 hc1 hc2 hc3 hb hB _ _).trans ?_
      rw [Fin.val_castSucc, coord2, h9]
      exact accDq_succ _ _ _ _
    · funext x; rw [eq_ix2 x]
      refine (outC_dk H f9 f10 f11 f12 f13 f14 hc1 hc2 hc3 hb _ _).trans ?_
      rw [coord2]; rfl
    · funext x; rw [eq_ix2 x]
      refine (outC_dv H f9 f10 f11 f12 f13 f14 hc1 hc2 hc3 hb _ _).trans ?_
      rw [coord2]; rfl
    · intro h; exact absurd (by rw [Fin.val_succ]; omega) h

end Cert.AttnIdeal.Proof

end

end
-- ==== Proof.Reals.lean ====
/- One head of one sequence over the reals: causal softmax attention and its three gradients. -/
module

public import Idealize.ShloMosaic.PureOps.IdealRules

@[expose] public section

noncomputable section

namespace Cert.AttnReal

/-- Queries, keys, values and the output's gradient of one head of one sequence. -/
structure Rin where
  /-- queries -/
  Q : Fin 2064 → Fin 192 → ℝ
  /-- keys -/
  K : Fin 2064 → Fin 192 → ℝ
  /-- values -/
  V : Fin 2064 → Fin 128 → ℝ
  /-- the output's gradient -/
  O : Fin 2064 → Fin 128 → ℝ

variable (R : Rin)

/-- The scaled score. -/
def X (i j : Fin 2064) : ℝ := (∑ d, R.Q i d * R.K j d) * (Real.sqrt 192)⁻¹
/-- The masked exponential of the score. -/
def W (i j : Fin 2064) : ℝ := if j ≤ i then Real.exp (X R i j) else 0
/-- Its sum over the row. -/
def Z (i : Fin 2064) : ℝ := ∑ j, W R i j
/-- The softmax. -/
def Pr (i j : Fin 2064) : ℝ := W R i j / Z R i
/-- The softmax's gradient. -/
def dP (i j : Fin 2064) : ℝ := ∑ e, R.O i e * R.V j e
/-- The row's mean of it. -/
def Del (i : Fin 2064) : ℝ := ∑ j, Pr R i j * dP R i j
/-- The score's gradient, scaled. -/
def Ds (i j : Fin 2064) : ℝ := Pr R i j * (dP R i j - Del R i) * (Real.sqrt 192)⁻¹
/-- The query gradient. -/
def dQ (i : Fin 2064) (d : Fin 192) : ℝ := ∑ j, Ds R i j * R.K j d
/-- The key gradient. -/
def dK (j : Fin 2064) (d : Fin 192) : ℝ := ∑ i, Ds R i j * R.Q i d
/-- The value gradient. -/
def dV (j : Fin 2064) (e : Fin 128) : ℝ := ∑ i, Pr R i j * R.O i e

theorem W_nonneg (i j) : 0 ≤ W R i j := by unfold W; split_ifs; exacts [(Real.exp_pos _).le, le_rfl]
theorem Z_pos (i) : 0 < Z R i := by
  have h : W R i i ≤ Z R i := Finset.single_le_sum (f := fun j => W R i j) (fun j _ => W_nonneg R i j) (Finset.mem_univ i)
  have : 0 < W R i i := by unfold W; rw [if_pos le_rfl]; exact Real.exp_pos _
  exact this.trans_le h

/-- The exponentials behind a shift of the row's scores. -/
def E (M : Fin 2064 → ℝ) (i j : Fin 2064) : ℝ := if j ≤ i then Real.exp (X R i j - M i) else 0
/-- Their sum. -/
def T (M : Fin 2064 → ℝ) (i : Fin 2064) : ℝ := ∑ j, E R M i j

variable (M : Fin 2064 → ℝ)

theorem E_eq (i j) : E R M i j = W R i j * Real.exp (-M i) := by
  unfold E W; split_ifs
  · rw [← Real.exp_add, sub_eq_add_neg]
  · rw [zero_mul]
theorem T_eq (i) : T R M i = Z R i * Real.exp (-M i) := by
  unfold T Z; rw [Finset.sum_mul]; exact Finset.sum_congr rfl fun j _ => E_eq R M i j
theorem T_pos (i) : 0 < T R M i := by rw [T_eq]; exact mul_pos (Z_pos R i) (Real.exp_pos _)
theorem E_div (i j) : E R M i j / T R M i = Pr R i j := by
  rw [E_eq, T_eq, Pr, mul_div_mul_right _ _ (Real.exp_pos _).ne']

/-- The reference's gradient of the scores. -/
theorem ref_ds (i j) :
    (if j ≤ i then (dP R i j * (1 / T R M i) + -(∑ l, dP R i l * (1 / (T R M i * T R M i)) * E R M i l)) * E R M i j else 0) * (Real.sqrt 192)⁻¹ = Ds R i j := by
  have hT := (T_pos R M i).ne'
  have hs : ∑ l, dP R i l * (1 / (T R M i * T R M i)) * E R M i l = Del R i * (1 / T R M i) := by
    unfold Del; rw [Finset.sum_mul]
    refine Finset.sum_congr rfl fun l _ => ?_
    rw [← E_div R M]; field_simp
  unfold Ds
  split_ifs with h
  · rw [hs, ← E_div R M i j]; field_simp; ring
  · rw [Pr, W, if_neg h]; simp

/-- The kernel's probability from the base-two log of the row's total. -/
theorem ker_p (i j) (h : j ≤ i) :
    Real.rpow 2 ((∑ d, R.K j d * R.Q i d) * ((Real.sqrt 192)⁻¹ * (Real.log 2)⁻¹) - (M i + Real.log (T R M i)) * (1 / Real.log 2)) = Pr R i j := by
  have h2 : Real.log 2 ≠ 0 := (Real.log_pos (by norm_num)).ne'
  have hx : (∑ d, R.K j d * R.Q i d) * ((Real.sqrt 192)⁻¹ * (Real.log 2)⁻¹) - (M i + Real.log (T R M i)) * (1 / Real.log 2)
      = (X R i j - M i - Real.log (T R M i)) / Real.log 2 := by
    unfold X
    rw [Finset.sum_congr rfl fun d _ => mul_comm (R.K j d) (R.Q i d)]
    field_simp
    ring
  rw [hx]
  rw [Real.rpow_eq_pow]
  rw [Real.rpow_def_of_pos (by norm_num), mul_div_cancel₀ _ h2, Real.exp_sub, Real.exp_log (T_pos R M i), ← E_div R M, E, if_pos h]

/-- The kernel's row statistic. -/
theorem ker_del (i) : ∑ e, R.O i e * ∑ j, R.V j e * (E R M i j * (1 / T R M i)) = Del R i := by
  unfold Del dP
  simp only [Finset.mul_sum]
  rw [Finset.sum_comm]
  refine Finset.sum_congr rfl fun j _ => Finset.sum_congr rfl fun e _ => ?_
  rw [← E_div R M]; ring

theorem Pr_zero {i j} (h : ¬ j ≤ i) : Pr R i j = 0 := by rw [Pr, W, if_neg h, zero_div]

end Cert.AttnReal

end

end
-- ==== Proof.SoftmaxAt.lean ====
/- The softmax of the host lines on real operands. -/
module

public import proofs.«01_k».proof.Proof.Host
public import proofs.«01_k».proof.Proof.Reals
public import Idealize.ShloMosaic.Lib.Pipeline.ValueKit
public import Idealize.ShloMosaic.Lib.StableHlo.RunRead

@[expose] public section

set_option maxRecDepth 16384

noncomputable section

namespace Cert.AttnIdeal.Proof

open Idealize.ShloMosaic Idealize.ShloMosaic.TcCoe Idealize.ShloMosaic.Tactic Cert.AttnIdeal Cert.AttnIdeal.Gen

set_option maxHeartbeats 400000

open Cert.AttnReal

theorem scale_bits : (Ideal.ofBits .f32 0x43400000#32 : EReal) = ((192 : ℝ) : EReal) := by
  simp [Ideal.ofBits, Ideal.ieee, -EReal.coe_mul]; norm_num
theorem two_bits : (Ideal.ofBits .f32 0x40000000#32 : EReal) = ((2 : ℝ) : EReal) := by
  simp [Ideal.ofBits, Ideal.ieee, -EReal.coe_mul]; norm_num
theorem one_bits : (Ideal.ofBits .f32 0x3F800000#32 : EReal) = ((1 : ℝ) : EReal) := by
  simp [Ideal.ofBits, Ideal.ieee, -EReal.coe_mul]; norm_num
theorem inf_bits : (Ideal.ofBits .f32 0xFF800000#32 : EReal) = ⊥ := by
  simp [Ideal.ofBits, Ideal.ieee]

theorem top_bits : (Ideal.ofBits .f32 0x7F800000#32 : EReal) = ⊤ := by
  simp [Ideal.ofBits, Ideal.ieee]

/-- The coercion commutes with finite sums. -/
theorem coe_sum {ι : Type} (s : Finset ι) (f : ι → ℝ) : ((∑ x ∈ s, f x : ℝ) : EReal) = ∑ x ∈ s, (f x : EReal) := by
  classical
  induction s using Finset.induction_on with
  | empty => simp
  | insert a s h ih => rw [Finset.sum_insert h, Finset.sum_insert h, EReal.coe_add, ih]

/-- Division by the root of 192. -/
theorem div_scale (x : EReal) : Ideal.div x (Ideal.sqrt (Ideal.ofBits .f32 0x43400000#32)) = x * (((Real.sqrt 192)⁻¹ : ℝ) : EReal) := by
  rw [scale_bits, Ideal.sqrt_coe, if_neg (by norm_num), Ideal.div_coe (Real.sqrt_pos.mpr (by norm_num)).ne', one_div]

/-- The causal mask's select. -/
theorem select_causal {α : Type} (i j : Fin 2064) (a b : α) :
    Scalar.select (IntOp.cmpi CmpIPredicate.sle (BitVec.ofNat 32 j) (BitVec.ofNat 32 i)) a b = if j ≤ i then a else b := by
  have h : (BitVec.ofNat 32 j.val).sle (BitVec.ofNat 32 i.val) = decide (j ≤ i) := by
    rw [BitVec.sle_eq_decide, BitVec.toInt_eq_toNat_of_lt (by rw [BitVec.toNat_ofNat]; omega), BitVec.toInt_eq_toNat_of_lt (by rw [BitVec.toNat_ofNat]; omega),
      BitVec.toNat_ofNat, BitVec.toNat_ofNat]
    refine decide_eq_decide.mpr ?_
    rw [Fin.le_def]; omega
  by_cases hij : j ≤ i
  · rw [if_pos hij]
    show (if BitVec.ofBool ((BitVec.ofNat 32 j.val).sle (BitVec.ofNat 32 i.val)) = 1#1 then a else b) = a
    rw [h, decide_eq_true hij]; rfl
  · rw [if_neg hij]
    show (if BitVec.ofBool ((BitVec.ofNat 32 j.val).sle (BitVec.ofNat 32 i.val)) = 1#1 then a else b) = b
    rw [h, decide_eq_false hij]; rfl

/-- The greatest of finitely many values, some real and none `⊤`, is real. -/
theorem fold_max_real {ι : Type} [Fintype ι] (f : ι → EReal) (i : ι) (hi : f i ≠ ⊥) (ht : ∀ x, f x < ⊤) :
    Finset.fold max ⊥ f Finset.univ = ((Finset.fold max ⊥ f Finset.univ).toReal : EReal) := by
  refine (EReal.coe_toReal ?_ ?_).symm
  · exact ((Finset.fold_max_lt _).mpr ⟨bot_lt_top, fun x _ => ht x⟩).ne
  · intro h
    have := (Finset.le_fold_max (s := Finset.univ) (b := (⊥ : EReal)) (f := f) (f i)).mpr (Or.inr ⟨i, Finset.mem_univ _, le_rfl⟩)
    rw [h] at this
    exact hi (le_bot_iff.mp this)

/-- The real operands of one head of one sequence. -/
def Rof (q k : FVec Ideal S4x2064x8x192 .f32) (v o : FVec Ideal S4x2064x8x128 .f32) (b : Fin 4) (h : Fin 8) : Rin where
  Q i d := EReal.toReal (q (ix4 b i h d))
  K i d := EReal.toReal (k (ix4 b i h d))
  V i e := EReal.toReal (v (ix4 b i h e))
  O i e := EReal.toReal (o (ix4 b i h e))

/-- Every entry is a real. -/
def Fin' {s : Shape} (x : s.Idx → EReal) : Prop := ∀ i, x i = (EReal.toReal (x i) : EReal)

variable {q k : FVec Ideal S4x2064x8x192 .f32} (v o : FVec Ideal S4x2064x8x128 .f32) (hq : Fin' q) (hk : Fin' k) (b : Fin 4) (h : Fin 8)

section
include hq hk

theorem hS_real (i j : Fin 2064) : hS q k (ix4 b h i j) = if j ≤ i then (X (Rof q k v o b h) i j : EReal) else ⊥ := by
  unfold hS
  pointwise
  rw [select_causal, div_scale, inf_bits, X, EReal.coe_mul, coe_sum]
  refine if_congr Iff.rfl ?_ rfl
  refine congrArg (· * _) (Finset.sum_congr rfl fun d _ => ?_)
  rw [EReal.coe_mul, hq, hk]; rfl

/-- Each row's greatest score is real. -/
theorem hTop_real (i : Fin 2064) : hTop q k (ix4 b h i 0) = (EReal.toReal (hTop q k (ix4 b h i 0)) : EReal) := by
  have e : hTop q k (ix4 b h i 0) = Finset.fold max ⊥ (fun x => hS q k (ix4 b h i x)) Finset.univ := by
    unfold hTop
    pointwise
    rw [inf_bits]
  rw [e]
  refine fold_max_real _ i ?_ fun x => ?_
  · rw [hS_real 0 0 hq hk, if_pos le_rfl]; exact EReal.coe_ne_bot _
  · rw [hS_real 0 0 hq hk]; split_ifs; exacts [EReal.coe_lt_top _, bot_lt_top]

variable {top : FVec Ideal S4x8x2064x1 .f32} {M : Fin 2064 → ℝ} (hM : ∀ i, top (ix4 b h i 0) = (M i : EReal))
include hM

theorem expS_real (i j : Fin 2064) : expS q k top (ix4 b h i j) = (E (Rof q k v o b h) M i j : EReal) := by
  have e : expS q k top (ix4 b h i j) = Ideal.exp (hS q k (ix4 b h i j) - top (ix4 b h i 0)) := by
    unfold expS
    pointwise
  rw [e, hS_real v o hq hk, hM, E]
  split_ifs
  · rw [← EReal.coe_sub, Ideal.exp_coe]
  · rw [EReal.bot_sub]; rfl

theorem totS_real (i : Fin 2064) : totS q k top (ix4 b h i 0) = (AttnReal.T (Rof q k v o b h) M i : EReal) := by
  have e : totS q k top (ix4 b h i 0) = ∑ x : Fin 2064, expS q k top (ix4 b h i x) := by
    unfold totS
    pointwise
  rw [e, AttnReal.T, coe_sum]
  exact Finset.sum_congr rfl fun j _ => expS_real v o hq hk b h hM i j
end

theorem lse_apply (A B : FVec Ideal S4x8x2064x1 .f32) (L : FVec Ideal S4x8x2064 .f32) (i : Fin 2064) :
    Host.divf (shapeCast S4x8x2064 (addf A (Host.log B)) shapeCasts_S4x8x2064x1_S4x8x2064) L (ix3 b h i) =
      Ideal.div (A (ix4 b h i 0) + Ideal.log (B (ix4 b h i 0))) (L (ix3 b h i)) := by
  pointwise

theorem log_two (i : Fin 2064) : broadcastInDim S4x8x2064 ![] bcast_S_S4x8x2064 (Host.log (constant (F := Ideal) S_ .f32 0x40000000#32)) (ix3 b h i) = ((Real.log 2 : ℝ) : EReal) := by
  have e : broadcastInDim S4x8x2064 ![] bcast_S_S4x8x2064 (Host.log (constant (F := Ideal) S_ .f32 0x40000000#32)) (ix3 b h i) = Ideal.log (Ideal.ofBits .f32 0x40000000#32) := rfl
  rw [e, two_bits, Ideal.log_coe, if_neg (by norm_num)]

include hq hk in
theorem hLse_real {M : Fin 2064 → ℝ} (hM : ∀ i, hTop q k (ix4 b h i 0) = (M i : EReal)) (i : Fin 2064) :
    hLse q k (ix3 b h i) = (((M i + Real.log (AttnReal.T (Rof q k v o b h) M i)) * (1 / Real.log 2) : ℝ) : EReal) := by
  have e : hLse q k (ix3 b h i) = _ := lse_apply b h (hTop q k) (totS q k (hTop q k)) _ i
  rw [e, totS_real v o hq hk b h hM, hM, Ideal.log_coe, if_neg (T_pos _ _ _).not_ge, log_two,
    Ideal.div_coe (Real.log_pos (by norm_num)).ne', EReal.coe_mul, EReal.coe_add]

include hq hk in
theorem hDelta_real (hv : Fin' v) (ho : Fin' o) (i : Fin 2064) : hDelta q k v o (ix3 b h i) = (Del (Rof q k v o b h) i : EReal) := by
  have hM : ∀ i, hTop q k (ix4 b h i 0) = _ := hTop_real hq hk b h
  have e : hDelta q k v o (ix3 b h i) = ∑ x : Fin 128, o (ix4 b i h x) *
      ∑ y : Fin 2064, v (ix4 b y h x) * Ideal.div (expS q k (hTop q k) (ix4 b h i y)) (totS q k (hTop q k) (ix4 b h i 0)) := by
    unfold hDelta
    pointwise
  rw [e, ← ker_del _ (fun i => EReal.toReal (hTop q k (ix4 b h i 0))), coe_sum]
  refine Finset.sum_congr rfl fun x _ => ?_
  rw [EReal.coe_mul, coe_sum, totS_real v o hq hk b h hM, ho]
  refine congrArg (_ * ·) (Finset.sum_congr rfl fun y _ => ?_)
  rw [EReal.coe_mul, expS_real v o hq hk b h hM, Ideal.div_coe (T_pos _ _ _).ne', hv, ← EReal.coe_mul]
  rfl

end Cert.AttnIdeal.Proof

end

end
-- ==== Proof.Tile.lean ====
/- The block sums of the kernel on real operands: each is the real gradient's row. -/
module

public import proofs.«01_k».proof.Proof.Points
public import proofs.«01_k».proof.Proof.SoftmaxAt

@[expose] public section

noncomputable section

namespace Cert.AttnIdeal.Proof

open Idealize.ShloMosaic Cert.AttnReal

/-- A sum over blocks of 256 is a sum over rows. -/
theorem sum_blocks (F : ℕ → EReal) (b N : ℕ) : ∑ n ∈ Finset.range N, ∑ s : Fin 256, F (256 * (b + n) + s) = ∑ x ∈ Finset.range (256 * N), F (256 * b + x) := by
  induction N with
  | zero => simp
  | succ N ih =>
    rw [Finset.sum_range_succ, ih, Nat.mul_succ, Finset.sum_range_add, Finset.sum_range (n := 256)]
    refine congrArg₂ _ rfl (Finset.sum_congr rfl fun s _ => ?_)
    rw [Nat.mul_add, Nat.add_assoc]

/-- A sum over all rows whose padding rows are zero is a sum over the tokens. -/
theorem sum_tokens (F : ℕ → EReal) (h0 : ∀ x < 240, F x = 0) : ∑ x ∈ Finset.range 2304, F x = ∑ i : Fin 2064, F (240 + i) := by
  rw [show 2304 = 240 + 2064 from rfl, Finset.sum_range_add, Finset.sum_eq_zero fun x hx => h0 x (Finset.mem_range.mp hx), zero_add, Finset.sum_range]

/-- A sum over a head's 256 columns whose last 64 are zero. -/
theorem sum_cols (F : ℕ → EReal) (h0 : ∀ x, 192 ≤ x → x < 256 → F x = 0) : ∑ d : Fin 256, F d = ∑ d : Fin 192, F d := by
  rw [← Finset.sum_range (n := 256), ← Finset.sum_range (n := 192), show 256 = 192 + 64 from rfl, Finset.sum_range_add,
    Finset.sum_eq_zero (s := Finset.range 64) fun x hx => h0 _ (by omega) (by have := Finset.mem_range.mp hx; omega), add_zero]

/-- The operands of head `h` are the reals of `R` behind 240 rows of zeros, the row statistics those of `R` under a shift `M`. -/
structure Holds (I : In) (h : ℕ) (R : Rin) (M : Fin 2064 → ℝ) : Prop where
  q : ∀ (i : Fin 2064) (d : Fin 192), I.q (240 + i) (256 * h + d) = (R.Q i d : EReal)
  k : ∀ (i : Fin 2064) (d : Fin 192), I.k (240 + i) (256 * h + d) = (R.K i d : EReal)
  v : ∀ (i : Fin 2064) (e : Fin 128), I.v (240 + i) (128 * h + e) = (R.V i e : EReal)
  o : ∀ (i : Fin 2064) (e : Fin 128), I.o (240 + i) (128 * h + e) = (R.O i e : EReal)
  l : ∀ i : Fin 2064, I.l h (240 + i) = (((M i + Real.log (T R M i)) * (1 / Real.log 2) : ℝ) : EReal)
  d : ∀ i : Fin 2064, I.d h (240 + i) = (Del R i : EReal)
  qc : ∀ (i : Fin 2064) (x : ℕ), 192 ≤ x → x < 256 → I.q (240 + i) (256 * h + x) = 0
  qr : ∀ (i x : ℕ), i < 240 → x < 256 → I.q i (256 * h + x) = 0
  kr : ∀ (i x : ℕ), i < 240 → x < 256 → I.k i (256 * h + x) = 0
  or : ∀ (i x : ℕ), i < 240 → x < 128 → I.o i (128 * h + x) = 0

variable {I : In} {h : ℕ} {R : Rin} {M : Fin 2064 → ℝ} (H : Holds I h R M)
include H

theorem sc_real (i j : Fin 2064) : sc I h (240 + i) (240 + j) = ((∑ d, R.K j d * R.Q i d : ℝ) : EReal) := by
  unfold sc
  rw [sum_cols (fun d => I.k (240 + j) (256 * h + d) * I.q (240 + i) (256 * h + d)) fun x h1 h2 => by rw [H.qc i x h1 h2, mul_zero], coe_sum]
  exact Finset.sum_congr rfl fun d _ => by rw [H.q, H.k, EReal.coe_mul]

theorem pS_real (i j : Fin 2064) : pS I h (240 + i) (240 + j) = (Pr R i j : EReal) := by
  unfold pS
  by_cases hij : j ≤ i
  · have : j.val ≤ i.val := hij
    rw [if_pos (show ok (240 + i) (240 + j) from ⟨by omega, Or.inl (by omega)⟩), sc_real H, H.l, cL, ← EReal.coe_mul, ← EReal.coe_sub, Ideal.exp2_coe, ker_p R M i j hij]
  · have : ¬ j.val ≤ i.val := hij
    rw [if_neg (show ¬ ok (240 + i) (240 + j) from fun hk => by have := hk.1; omega), Pr_zero R hij, EReal.coe_zero]

theorem dsS_real (i j : Fin 2064) : dsS I h (240 + i) (240 + j) = (Ds R i j : EReal) := by
  unfold dsS
  rw [pS_real H, H.d, Finset.sum_congr rfl fun (e : Fin 128) _ => show _ = ((R.O i e * R.V j e : ℝ) : EReal) by rw [H.v, H.o, mul_comm, EReal.coe_mul],
    ← coe_sum, cS, ← EReal.coe_sub, ← EReal.coe_mul, ← EReal.coe_mul]
  rfl

omit H in
theorem pS_zero {i c : ℕ} (hc : ¬ ok i c) : pS I h i c = 0 := by unfold pS; rw [if_neg hc]
omit H in
theorem dsS_zero {i c : ℕ} (hc : ¬ ok i c) : dsS I h i c = 0 := by unfold dsS; rw [pS_zero hc, zero_mul, zero_mul]

omit H in
/-- The rows from block `b` on are all the rows where the earlier ones are zero. -/
theorem from_block (F : ℕ → EReal) {b : ℕ} (hb : b < 9) (h0 : ∀ x < 256 * b, F x = 0) :
    ∑ n ∈ Finset.range (9 - b), ∑ s : Fin 256, F (256 * (b + n) + s) = ∑ x ∈ Finset.range 2304, F x := by
  rw [sum_blocks, show 2304 = 256 * b + 256 * (9 - b) by omega, Finset.sum_range_add, Finset.sum_eq_zero fun x hx => h0 x (Finset.mem_range.mp hx), zero_add]

omit H in
/-- The rows of the first `n` blocks are all the rows where the later ones are zero. -/
theorem to_block (F : ℕ → EReal) {n : ℕ} (hn : n ≤ 9) (h0 : ∀ x, 256 * n ≤ x → F x = 0) :
    ∑ j ∈ Finset.range n, ∑ s : Fin 256, F (256 * j + s) = ∑ x ∈ Finset.range 2304, F x := by
  have := sum_blocks F 0 n
  simp only [Nat.zero_add, Nat.mul_zero] at this
  rw [this, show 2304 = 256 * n + 256 * (9 - n) by omega, Finset.sum_range_add,
    Finset.sum_eq_zero (s := Finset.range (256 * (9 - n))) fun x _ => h0 _ (by omega), add_zero]

/-- The key gradient. -/
theorem finDk_real {b r : ℕ} (hb : b < 9) (j : Fin 2064) (hj : 256 * b + r = 240 + j) (d : Fin 192) (hr : r < 256) :
    finDk I b r (256 * h + d) = (dK R j d : EReal) := by
  unfold finDk dkS
  rw [show (256 * h + d.val) / 256 = h by omega, show (256 * h + d.val) % 256 = d by omega, hj,
    from_block (fun x => dsS I h x (240 + j) * I.q x (256 * h + d)) hb fun x hx => by
      show dsS I h x (240 + j) * _ = 0
      rw [dsS_zero fun hk => by have := hk.1; omega, zero_mul],
    sum_tokens _ fun x hx => by
      show _ * I.q x (256 * h + d) = 0
      rw [H.qr x d hx (by omega), mul_zero], dK, coe_sum]
  exact Finset.sum_congr rfl fun i _ => by rw [dsS_real H, H.q, EReal.coe_mul]

/-- The value gradient. -/
theorem finDv_real {b r : ℕ} (hb : b < 9) (j : Fin 2064) (hj : 256 * b + r = 240 + j) (e : Fin 128) (hr : r < 256) :
    finDv I b r (128 * h + e) = (dV R j e : EReal) := by
  unfold finDv dvS
  rw [show (128 * h + e.val) / 128 = h by omega, show (128 * h + e.val) % 128 = e by omega, hj,
    from_block (fun x => pS I h x (240 + j) * I.o x (128 * h + e)) hb fun x hx => by
      show pS I h x (240 + j) * _ = 0
      rw [pS_zero fun hk => by have := hk.1; omega, zero_mul],
    sum_tokens _ fun x hx => by
      show _ * I.o x (128 * h + e) = 0
      rw [H.or x e hx (by omega), mul_zero], dV, coe_sum]
  exact Finset.sum_congr rfl fun i _ => by rw [pS_real H, H.o, EReal.coe_mul]

/-- The query gradient. -/
theorem accDq_real (i : Fin 2064) (d : Fin 192) : accDq I 9 (240 + i) (256 * h + d) = (dQ R i d : EReal) := by
  unfold accDq dqS
  rw [show (256 * h + d.val) / 256 = h by omega, show (256 * h + d.val) % 256 = d by omega,
    to_block (fun x => dsS I h (240 + i) x * I.k x (256 * h + d)) (by omega) fun x hx => by
      show dsS I h (240 + i) x * _ = 0
      rw [dsS_zero fun hk => by have := hk.1; omega, zero_mul],
    sum_tokens _ fun x hx => by
      show _ * I.k x (256 * h + d) = 0
      rw [H.kr x d hx (by omega), mul_zero], dQ, coe_sum]
  exact Finset.sum_congr rfl fun j _ => by rw [dsS_real H, H.k, EReal.coe_mul]

end Cert.AttnIdeal.Proof

end

end
-- ==== Proof.Arrays.lean ====
/- The three arrays the region leaves, and the results the host lines after it cut out of them. -/
module

public import proofs.«01_k».proof.Proof.Points
public import proofs.«01_k».proof.Proof.RunExact
public import Idealize.ShloMosaic.Lib.StableHlo.RunRead

@[expose] public section

set_option maxRecDepth 16384

noncomputable section

namespace Cert.AttnIdeal.Proof

open Idealize.ShloMosaic Idealize.ShloMosaic.TcCoe Idealize.ShloMosaic.Tactic Cert.AttnIdeal Cert.AttnIdeal.Gen
open Idealize.ShloMosaic.Pipeline (Dat Cfg Window)

set_option maxHeartbeats 400000

variable (m : (ℓ : Loc nD τ sig) → Buf (Elt Ideal) ℓ)

/-- The launch's data at the values of every point. -/
abbrev datv := dats m (carried m) (out6 m) (out7 m) (out8 m)

theorem idx6 : ∀ t : Fin cfg0.N, win0_6.index t = ![t.val / 9, 0] := by decide +kernel
theorem idx7 : ∀ t : Fin cfg0.N, win0_7.index t = ![t.val, 0] := by decide +kernel
theorem idx8 : ∀ t : Fin cfg0.N, win0_8.index t = ![t.val, 0] := by decide +kernel

/-- The query gradient of every row. -/
def arr6 (c : Dev nD) (x : S9216x2048.Idx) : Elt Ideal .bf16 := accDq (inOf m c ((x 0).val / 2304)) 9 ((x 0).val % 2304) (x 1).val
/-- The key gradient of every row. -/
def arr7 (c : Dev nD) (x : S9216x2048.Idx) : Elt Ideal .bf16 := finDk (inOf m c ((x 0).val / 2304)) ((x 0).val % 2304 / 256) ((x 0).val % 256) (x 1).val
/-- The value gradient of every row. -/
def arr8 (c : Dev nD) (x : S9216x1024.Idx) : Elt Ideal .bf16 := finDv (inOf m c ((x 0).val / 2304)) ((x 0).val % 2304 / 256) ((x 0).val % 256) (x 1).val

theorem arrAt6 (c : Dev nD) : (datv m 0 c).arrAt 6 (cfgs 0).N = arr6 m c := by
  refine (datv m 0 c).arrAt_eq_of_covers 6 _ (by decide +kernel) fun t hf y => ?_
  have h : ∀ t, (datv m 0 c).after 6 t = out6 m c t := fun t => by unfold datv; dsimp only [dats]
  have ht : t.val < 36 := N36 ▸ t.isLt
  have hy : (y 0).val < 2304 := (y 0).isLt
  blk_simp
  rw [h]
  show out6 m c t y = arr6 m c _
  unfold out6 arr6
  blk_simp [idx6 t]
  rw [show (t.val / 9 * 2304 + (y 0).val) / 2304 = t.val / 9 by omega, show (t.val / 9 * 2304 + (y 0).val) % 2304 = (y 0).val by omega]
theorem arrAt7 (c : Dev nD) : (datv m 0 c).arrAt 7 (cfgs 0).N = arr7 m c := by
  refine (datv m 0 c).arrAt_eq_of_covers 7 _ (by decide +kernel) fun t hf y => ?_
  have h : ∀ t, (datv m 0 c).after 7 t = out7 m c t := fun t => by unfold datv; dsimp only [dats]
  have ht : t.val < 36 := N36 ▸ t.isLt
  have hy : (y 0).val < 256 := (y 0).isLt
  blk_simp
  rw [h]
  show out7 m c t y = arr7 m c _
  unfold out7 arr7
  blk_simp [idx7 t]
  rw [show (t.val * 256 + (y 0).val) / 2304 = t.val / 9 by omega, show (t.val * 256 + (y 0).val) % 2304 / 256 = t.val % 9 by omega,
    show (t.val * 256 + (y 0).val) % 256 = (y 0).val by omega]
theorem arrAt8 (c : Dev nD) : (datv m 0 c).arrAt 8 (cfgs 0).N = arr8 m c := by
  refine (datv m 0 c).arrAt_eq_of_covers 8 _ (by decide +kernel) fun t hf y => ?_
  have h : ∀ t, (datv m 0 c).after 8 t = out8 m c t := fun t => by unfold datv; dsimp only [dats]
  have ht : t.val < 36 := N36 ▸ t.isLt
  have hy : (y 0).val < 256 := (y 0).isLt
  blk_simp
  rw [h]
  show out8 m c t y = arr8 m c _
  unfold out8 arr8
  blk_simp [idx8 t]
  rw [show (t.val * 256 + (y 0).val) / 2304 = t.val / 9 by omega, show (t.val * 256 + (y 0).val) % 2304 / 256 = t.val % 9 by omega,
    show (t.val * 256 + (y 0).val) % 256 = (y 0).val by omega]

/-- What the host lines after the region cut out of a gradient array of queries or keys. -/
def cutK (x : FVec Ideal S9216x2048 .bf16) : FVec Ideal S4x2064x8x192 .f32 :=
  extractStridedSlice S4x2064x8x192 ![0, 0, 0, 0] (extf .f32 (shapeCast S4x2064x8x256 (extractStridedSlice S4x2064x2048 ![0, 240, 0]
    (shapeCast S4x2304x2048 x shapeCasts_S9216x2048_S4x2304x2048) slices_S4x2304x2048_S4x2064x2048_0_240_0) shapeCasts_S4x2064x2048_S4x2064x8x256) bitsLt_bf16_f32)
    slices_S4x2064x8x256_S4x2064x8x192_0_0_0_0
/-- And of the array of values. -/
def cutV (x : FVec Ideal S9216x1024 .bf16) : FVec Ideal S4x2064x8x128 .f32 :=
  extf .f32 (shapeCast S4x2064x8x128 (extractStridedSlice S4x2064x1024 ![0, 240, 0]
    (shapeCast S4x2304x1024 x shapeCasts_S9216x1024_S4x2304x1024) slices_S4x2304x1024_S4x2064x1024_0_240_0) shapeCasts_S4x2064x1024_S4x2064x8x128) bitsLt_bf16_f32

theorem cutK_apply (x : FVec Ideal S9216x2048 .bf16) (b : Fin 4) (i : Fin 2064) (h : Fin 8) (d : Fin 192) :
    cutK x (ix4 b i h d) = x (ix2 ⟨2304 * b + (240 + i), by omega⟩ ⟨256 * h + d, by omega⟩) := by
  unfold cutK
  pointwise
  refine congrArg x ?_
  congr 1 <;> (ext; show _ = _; simp only []; omega)
theorem cutV_apply (x : FVec Ideal S9216x1024 .bf16) (b : Fin 4) (i : Fin 2064) (h : Fin 8) (d : Fin 128) :
    cutV x (ix4 b i h d) = x (ix2 ⟨2304 * b + (240 + i), by omega⟩ ⟨128 * h + d, by omega⟩) := by
  unfold cutV
  pointwise
  refine congrArg x ?_
  congr 1 <;> (ext; show _ = _; simp only []; omega)

theorem spec0_inj : Function.Injective (Pipeline.arrRef spec0) := by decide +kernel

section
attribute [local irreducible] extf shapeCast extractStridedSlice
theorem tail_q (c : Dev nD) : Pipeline.afterTail₀ cfgs (datv m) 0 (V0 m) [hostOps1] c main_v58 = cutK (arr6 m c) := by
  rw [← arrAt6, ← Pipeline.withArrays_arr spec0 spec0_inj c (V0 m c) (fun w => (datv m 0 c).arrAt w (cfgs 0).N) 6]
  unfold Pipeline.afterTail₀
  unfold_abbrev_sides
  after_reads_simp
  rfl
theorem tail_k (c : Dev nD) : Pipeline.afterTail₀ cfgs (datv m) 0 (V0 m) [hostOps1] c main_v63 = cutK (arr7 m c) := by
  rw [← arrAt7, ← Pipeline.withArrays_arr spec0 spec0_inj c (V0 m c) (fun w => (datv m 0 c).arrAt w (cfgs 0).N) 7]
  unfold Pipeline.afterTail₀
  unfold_abbrev_sides
  after_reads_simp
  rfl
theorem tail_v (c : Dev nD) : Pipeline.afterTail₀ cfgs (datv m) 0 (V0 m) [hostOps1] c main_v67 = cutV (arr8 m c) := by
  rw [← arrAt8, ← Pipeline.withArrays_arr spec0 spec0_inj c (V0 m c) (fun w => (datv m 0 c).arrAt w (cfgs 0).N) 8]
  unfold Pipeline.afterTail₀
  unfold_abbrev_sides
  after_reads_simp
  rfl
end

end Cert.AttnIdeal.Proof

end

end
-- ==== Proof.Args.lean ====
/- The arrays the region reads, on real arguments, and with them the kernel's three results. -/
module

public import proofs.«01_k».proof.Proof.HostAt
public import proofs.«01_k».proof.Proof.HostStats
public import proofs.«01_k».proof.Proof.Tile
public import proofs.«01_k».proof.Proof.Arrays

@[expose] public section

set_option maxRecDepth 16384

noncomputable section

namespace Cert.AttnIdeal.Proof

open Idealize.ShloMosaic Idealize.ShloMosaic.TcCoe Cert.AttnIdeal Cert.AttnIdeal.Gen Cert.AttnReal

variable (m : (ℓ : Loc nD τ sig) → Buf (Elt Ideal) ℓ) (c : Dev nD)

/-- The four arguments. -/
abbrev argQ : FVec Ideal S4x2064x8x192 .f32 := m ((c : Thread nD τ).loc main_arg0)
abbrev argK : FVec Ideal S4x2064x8x192 .f32 := m ((c : Thread nD τ).loc main_arg1)
abbrev argV : FVec Ideal S4x2064x8x128 .f32 := m ((c : Thread nD τ).loc main_arg2)
abbrev argO : FVec Ideal S4x2064x8x128 .f32 := m ((c : Thread nD τ).loc main_arg3)

/-- The real operands of a head of a sequence. -/
abbrev Rm (b : Fin 4) (h : Fin 8) : Rin := Rof (argQ m c) (argK m c) (argV m c) (argO m c) b h

/-- Equal coordinates, equal entries. -/
theorem at4 {A B C D : ℕ} (x : (⟨4, ![A, B, C, D]⟩ : Shape).Idx → EReal) {a a' : Fin A} {b b' : Fin B} {e e' : Fin C} {d d' : Fin D}
    (ha : a.val = a'.val) (hb : b.val = b'.val) (he : e.val = e'.val) (hd : d.val = d'.val) : x (ix4 a b e d) = x (ix4 a' b' e' d') := by
  obtain rfl := Fin.ext ha; obtain rfl := Fin.ext hb; obtain rfl := Fin.ext he; obtain rfl := Fin.ext hd; rfl
theorem at3 {A B C : ℕ} (x : (⟨3, ![A, B, C]⟩ : Shape).Idx → EReal) {a a' : Fin A} {b b' : Fin B} {e e' : Fin C}
    (ha : a.val = a'.val) (hb : b.val = b'.val) (he : e.val = e'.val) : x (ix3 a b e) = x (ix3 a' b' e') := by
  obtain rfl := Fin.ext ha; obtain rfl := Fin.ext hb; obtain rfl := Fin.ext he; rfl

/-- A padded row of statistics, past the padding. -/
theorem natRow_pad (x : FVec Ideal S4x8x2064 .f32) (b : Fin 4) (h : Fin 8) (i : Fin 2064) : natRow (padL x) b h (240 + i) = x (ix3 b h i) := by
  rw [natRow_eq _ b.isLt h.isLt (by omega), padL_apply, dif_pos (by show 240 ≤ 256 * ((240 + i.val) / 256) + (240 + i.val) % 256; omega)]
  exact at3 x rfl rfl (by show 256 * ((240 + i.val) / 256) + (240 + i.val) % 256 - 240 = i.val; omega)

variable (hq : Fin' (argQ m c)) (hk : Fin' (argK m c)) (hv : Fin' (argV m c)) (ho : Fin' (argO m c)) (b : Fin 4) (h : Fin 8)
include hq hk hv ho

/-- What the region reads of a head, on reals. -/
theorem holds : Holds (inOf m c b) h (Rm m c b h) (fun i => EReal.toReal (hTop (argQ m c) (argK m c) (ix4 b h i 0))) where
  q i d := by
    show nat2 (m := 9216) (n := 2048) _ _ _ = _
    rw [nat2_eq _ (by omega) (by omega), V_q, dif_pos ⟨by show 240 ≤ (2304 * b.val + (240 + i.val)) % 2304; omega, by show (256 * h.val + d.val) % 256 < 192; omega⟩]
    refine Eq.trans (at4 (argQ m c) (b' := i) (a' := b) (e' := h) (d' := d) ?_ ?_ ?_ ?_) (hq _) <;> simp only [] <;> omega
  k i d := by
    show nat2 (m := 9216) (n := 2048) _ _ _ = _
    rw [nat2_eq _ (by omega) (by omega), V_k, dif_pos ⟨by show 240 ≤ (2304 * b.val + (240 + i.val)) % 2304; omega, by show (256 * h.val + d.val) % 256 < 192; omega⟩]
    refine Eq.trans (at4 (argK m c) (b' := i) (a' := b) (e' := h) (d' := d) ?_ ?_ ?_ ?_) (hk _) <;> simp only [] <;> omega
  v i d := by
    show nat2 (m := 9216) (n := 1024) _ _ _ = _
    rw [nat2_eq _ (by omega) (by omega), V_v, dif_pos (by show 240 ≤ (2304 * b.val + (240 + i.val)) % 2304; omega)]
    refine Eq.trans (at4 (argV m c) (b' := i) (a' := b) (e' := h) (d' := d) ?_ ?_ ?_ ?_) (hv _) <;> simp only [] <;> omega
  o i d := by
    show nat2 (m := 9216) (n := 1024) _ _ _ = _
    rw [nat2_eq _ (by omega) (by omega), V_o, dif_pos (by show 240 ≤ (2304 * b.val + (240 + i.val)) % 2304; omega)]
    refine Eq.trans (at4 (argO m c) (b' := i) (a' := b) (e' := h) (d' := d) ?_ ?_ ?_ ?_) (ho _) <;> simp only [] <;> omega
  l i := by
    show natRow _ _ _ _ = _
    rw [V_l, natRow_pad, hLse_real (argV m c) (argO m c) hq hk b h (hTop_real hq hk b h)]
  d i := by
    show natRow _ _ _ _ = _
    rw [V_d, natRow_pad, hDelta_real (argV m c) (argO m c) hq hk b h hv ho]
  qc i x hx hx' := by
    show nat2 (m := 9216) (n := 2048) _ _ _ = _
    rw [nat2_eq _ (by omega) (by omega), V_q, dif_neg (by show ¬(_ ∧ (256 * h.val + x) % 256 < 192); omega)]
  qr i x hi hx := by
    show nat2 (m := 9216) (n := 2048) _ _ _ = _
    rw [nat2_eq _ (by omega) (by omega), V_q, dif_neg (by show ¬(240 ≤ (2304 * b.val + i) % 2304 ∧ _); omega)]
  kr i x hi hx := by
    show nat2 (m := 9216) (n := 2048) _ _ _ = _
    rw [nat2_eq _ (by omega) (by omega), V_k, dif_neg (by show ¬(240 ≤ (2304 * b.val + i) % 2304 ∧ _); omega)]
  or i x hi hx := by
    show nat2 (m := 9216) (n := 1024) _ _ _ = _
    rw [nat2_eq _ (by omega) (by omega), V_o, dif_neg (by show ¬(240 ≤ (2304 * b.val + i) % 2304); omega)]

/-- The query gradient. -/
theorem ker_q (i : Fin 2064) (d : Fin 192) : cutK (arr6 m c) (ix4 b i h d) = (dQ (Rm m c b h) i d : EReal) := by
  rw [cutK_apply]
  show accDq (inOf m c ((2304 * b.val + (240 + i.val)) / 2304)) 9 ((2304 * b.val + (240 + i.val)) % 2304) (256 * h.val + d.val) = _
  rw [show (2304 * b.val + (240 + i.val)) / 2304 = b.val by omega, show (2304 * b.val + (240 + i.val)) % 2304 = 240 + i.val by omega]
  exact accDq_real (holds m c hq hk hv ho b h) i d
/-- The key gradient. -/
theorem ker_k (i : Fin 2064) (d : Fin 192) : cutK (arr7 m c) (ix4 b i h d) = (dK (Rm m c b h) i d : EReal) := by
  rw [cutK_apply]
  show finDk (inOf m c ((2304 * b.val + (240 + i.val)) / 2304)) ((2304 * b.val + (240 + i.val)) % 2304 / 256) ((2304 * b.val + (240 + i.val)) % 256) (256 * h.val + d.val) = _
  rw [show (2304 * b.val + (240 + i.val)) / 2304 = b.val by omega]
  exact finDk_real (holds m c hq hk hv ho b h) (by omega) i (by omega) d (by omega)
/-- The value gradient. -/
theorem ker_v (i : Fin 2064) (d : Fin 128) : cutV (arr8 m c) (ix4 b i h d) = (dV (Rm m c b h) i d : EReal) := by
  rw [cutV_apply]
  show finDv (inOf m c ((2304 * b.val + (240 + i.val)) / 2304)) ((2304 * b.val + (240 + i.val)) % 2304 / 256) ((2304 * b.val + (240 + i.val)) % 256) (128 * h.val + d.val) = _
  rw [show (2304 * b.val + (240 + i.val)) / 2304 = b.val by omega]
  exact finDv_real (holds m c hq hk hv ho b h) (by omega) i (by omega) d (by omega)

end Cert.AttnIdeal.Proof

end

end
-- ==== Proof.RefHost.lean ====
/- The reference's lines after the softmax, each a function of the stage before it, and its three results through them. -/
module

public import proofs.«01_k».proof.Proof.Gen.AttnRefIdeal.Run
public import proofs.«01_k».proof.Proof.SoftmaxAt

@[expose] public section

set_option maxRecDepth 16384

noncomputable section

namespace Cert.AttnRefIdeal.Proof

open Idealize.ShloMosaic Idealize.ShloMosaic.TcCoe Idealize.ShloMosaic.Tactic Cert.AttnRefIdeal Cert.AttnRefIdeal.Gen Cert.AttnIdeal.Proof

/-- The reference's own shift of each row. -/
def rTop (q k : FVec Ideal S4x2064x8x192 .f32) : FVec Ideal S4x8x2064x1 .f32 :=
  broadcastInDim S4x8x2064x1 ![0, 1, 2] bcast_S4x8x2064_S4x8x2064x1_0_1_2
    (maximumf (broadcastInDim S4x8x2064 ![] bcast_S_S4x8x2064 (constant S_ .f32 0xFF800000#32))
      (Host.reduce FloatOps.maximumf (hS q k) (constant S_ .f32 0xFF800000#32) reducesTo_S4x8x2064x2064_S4x8x2064_d3 h_S_))
/-- The output's gradient, rows last. -/
def rCt (o : FVec Ideal S4x2064x8x128 .f32) : FVec Ideal S4x8x128x2064 .f32 :=
  transpose S4x8x128x2064 [0, 2, 3, 1] o transposes_S4x2064x8x128_S4x8x128x2064_0_2_3_1
/-- The gradient of the probabilities. -/
def rdP (v o : FVec Ideal S4x2064x8x128 .f32) : FVec Ideal S4x8x2064x2064 .f32 :=
  Host.dotGeneral dot_S4x8x128x2064_S4x2064x8x128_S4x8x2064x2064_2_3_3_1_01_02 none (rCt o) v
/-- The gradient of each row's total. -/
def rdT (p e : FVec Ideal S4x8x2064x2064 .f32) (t : FVec Ideal S4x8x2064x1 .f32) : FVec Ideal S4x8x2064 .f32 :=
  Host.reduceAdd (Host.negf (shapeCast S4x8x2064x1 (Host.reduceAdd (mulf (mulf p
    (broadcastInDim S4x8x2064x2064 ![0, 1, 2, 3] bcast_S4x8x2064x1_S4x8x2064x2064_0_1_2_3
      (Host.divf (broadcastInDim S4x8x2064x1 ![] bcast_S_S4x8x2064x1 (constant S_ .f32 0x3F800000#32)) (mulf t t)))) e)
    (constant S_ .f32 0x00000000#32) reducesTo_S4x8x2064x2064_S4x8x2064_d3 h_S_) shapeCasts_S4x8x2064_S4x8x2064x1))
    (constant S_ .f32 0x00000000#32) reducesTo_S4x8x2064x1_S4x8x2064_d3 h_S_
/-- The gradient of the products of queries with keys. -/
def rdS (p e : FVec Ideal S4x8x2064x2064 .f32) (t : FVec Ideal S4x8x2064x1 .f32) (d : FVec Ideal S4x8x2064 .f32) : FVec Ideal S4x8x2064x2064 .f32 :=
  Host.divf (select (broadcastInDim S4x8x2064x2064 ![2, 3] bcast_S2064x2064_S4x8x2064x2064_2_3
      (cmpi .sle (broadcastInDim S2064x2064 ![0, 1] bcast_S1x2064_S2064x2064_0_1 (broadcastInDim S1x2064 ![1] bcast_S2064_S1x2064_1 (iotaInDim S2064 32 0)))
        (broadcastInDim S2064x2064 ![0, 1] bcast_S2064x1_S2064x2064_0_1 (broadcastInDim S2064x1 ![0] bcast_S2064_S2064x1_0 (iotaInDim S2064 32 0)))))
      (mulf (addf (Host.divf p (broadcastInDim S4x8x2064x2064 ![0, 1, 2, 3] bcast_S4x8x2064x1_S4x8x2064x2064_0_1_2_3 t))
        (broadcastInDim S4x8x2064x2064 ![0, 1, 2] bcast_S4x8x2064_S4x8x2064x2064_0_1_2 d)) e)
      (broadcastInDim S4x8x2064x2064 ![] bcast_S_S4x8x2064x2064 (constant S_ .f32 0x00000000#32)))
    (broadcastInDim S4x8x2064x2064 ![] bcast_S_S4x8x2064x2064 (Host.sqrt (constant S_ .f32 0x43400000#32)))
/-- The three gradients. -/
def rdQ (s : FVec Ideal S4x8x2064x2064 .f32) (k : FVec Ideal S4x2064x8x192 .f32) : FVec Ideal S4x2064x8x192 .f32 :=
  transpose S4x2064x8x192 [0, 2, 1, 3] (Host.dotGeneral dot_S4x8x2064x2064_S4x2064x8x192_S4x8x2064x192_3_1_2_3_01_02 none s k) transposes_S4x8x2064x192_S4x2064x8x192_0_2_1_3
def rdK (s : FVec Ideal S4x8x2064x2064 .f32) (q : FVec Ideal S4x2064x8x192 .f32) : FVec Ideal S4x2064x8x192 .f32 :=
  transpose S4x2064x8x192 [0, 2, 1, 3] (Host.dotGeneral dot_S4x8x2064x2064_S4x2064x8x192_S4x8x2064x192_2_1_3_3_01_02 none s q) transposes_S4x8x2064x192_S4x2064x8x192_0_2_1_3
def rdV (o : FVec Ideal S4x2064x8x128 .f32) (e : FVec Ideal S4x8x2064x2064 .f32) (t : FVec Ideal S4x8x2064x1 .f32) : FVec Ideal S4x2064x8x128 .f32 :=
  transpose S4x2064x8x128 [0, 3, 1, 2] (Host.dotGeneral dot_S4x8x128x2064_S4x8x2064x2064_S4x8x128x2064_3_2_2_3_01_01 none (rCt o)
    (Host.divf e (broadcastInDim S4x8x2064x2064 ![0, 1, 2, 3] bcast_S4x8x2064x1_S4x8x2064x2064_0_1_2_3 t))) transposes_S4x8x128x2064_S4x2064x8x128_0_3_1_2

/-- The stages composed on four arguments. -/
def rE (q k : FVec Ideal S4x2064x8x192 .f32) : FVec Ideal S4x8x2064x2064 .f32 := expS q k (rTop q k)
def rT (q k : FVec Ideal S4x2064x8x192 .f32) : FVec Ideal S4x8x2064x1 .f32 := totS q k (rTop q k)
def rG (q k : FVec Ideal S4x2064x8x192 .f32) (v o : FVec Ideal S4x2064x8x128 .f32) : FVec Ideal S4x8x2064x2064 .f32 :=
  rdS (rdP v o) (rE q k) (rT q k) (rdT (rdP v o) (rE q k) (rT q k))

variable (m : (ℓ : Loc nD τ sig) → Buf (Elt Ideal) ℓ) (c : Dev nD)

section
attribute [local irreducible] addf subf mulf maximumf select shapeCast broadcastInDim constant transpose Host.divf Host.exp Host.sqrt Host.negf Host.reduceAdd Host.reduce cmpi iotaInDim
/-- The value gradient. -/
theorem res_v : Value.res_main_v44 m c = rdV (m ((c : Thread nD τ).loc main_arg3)) (rE (m ((c : Thread nD τ).loc main_arg0)) (m ((c : Thread nD τ).loc main_arg1)))
    (rT (m ((c : Thread nD τ).loc main_arg0)) (m ((c : Thread nD τ).loc main_arg1))) := by
  unfold Value.res_main_v44
  rfl
/-- The key gradient. -/
theorem res_k : Value.res_main_v61 m c = rdK (rG (m ((c : Thread nD τ).loc main_arg0)) (m ((c : Thread nD τ).loc main_arg1)) (m ((c : Thread nD τ).loc main_arg2))
    (m ((c : Thread nD τ).loc main_arg3))) (m ((c : Thread nD τ).loc main_arg0)) := by
  unfold Value.res_main_v61
  rfl
/-- The query gradient. -/
theorem res_q : Value.res_main_v63 m c = rdQ (rG (m ((c : Thread nD τ).loc main_arg0)) (m ((c : Thread nD τ).loc main_arg1)) (m ((c : Thread nD τ).loc main_arg2))
    (m ((c : Thread nD τ).loc main_arg3))) (m ((c : Thread nD τ).loc main_arg1)) := by
  unfold Value.res_main_v63
  rfl
end

end Cert.AttnRefIdeal.Proof

end

end
-- ==== Proof.RefAt.lean ====
/- The reference's three results on real arguments. -/
module

public import proofs.«01_k».proof.Proof.RefHost

@[expose] public section

set_option maxRecDepth 16384

noncomputable section

namespace Cert.AttnRefIdeal.Proof

open Idealize.ShloMosaic Idealize.ShloMosaic.TcCoe Idealize.ShloMosaic.Tactic Cert.AttnRefIdeal Cert.AttnRefIdeal.Gen Cert.AttnIdeal.Proof Cert.AttnReal

variable {q k : FVec Ideal S4x2064x8x192 .f32} {v o : FVec Ideal S4x2064x8x128 .f32} (hq : Fin' q) (hk : Fin' k) (hv : Fin' v) (ho : Fin' o) (b : Fin 4) (h : Fin 8)

theorem max_at (A B : FVec Ideal S4x8x2064 .f32) (i : Fin 2064) :
    broadcastInDim S4x8x2064x1 ![0, 1, 2] bcast_S4x8x2064_S4x8x2064x1_0_1_2 (maximumf A B) (ix4 b h i 0) =
      max (A (ix3 b h i)) (broadcastInDim S4x8x2064x1 ![0, 1, 2] bcast_S4x8x2064_S4x8x2064x1_0_1_2 B (ix4 b h i 0)) := by
  pointwise

/-- The reference shifts a row by its greatest score too. -/
theorem rTop_at (i : Fin 2064) : rTop q k (ix4 b h i 0) = hTop q k (ix4 b h i 0) := by
  have e : rTop q k (ix4 b h i 0) = max (Ideal.ofBits .f32 0xFF800000#32) (hTop q k (ix4 b h i 0)) := max_at b h _ _ i
  rw [e, inf_bits, max_eq_right bot_le]

/-- The row shifts, as reals. -/
abbrev sh (q k : FVec Ideal S4x2064x8x192 .f32) (b : Fin 4) (h : Fin 8) (i : Fin 2064) : ℝ := EReal.toReal (hTop q k (ix4 b h i 0))

include hq hk in
theorem rTop_real (i : Fin 2064) : rTop q k (ix4 b h i 0) = (sh q k b h i : EReal) := by
  rw [rTop_at]; exact hTop_real hq hk b h i

include hv ho in
theorem rdP_real (i j : Fin 2064) : rdP v o (ix4 b h i j) = (dP (Rof q k v o b h) i j : EReal) := by
  unfold rdP rCt
  pointwise
  rw [dP, coe_sum]
  exact Finset.sum_congr rfl fun x _ => by rw [EReal.coe_mul, ho, hv]; rfl

section
include hq hk

theorem rE_real (i j : Fin 2064) : rE q k (ix4 b h i j) = (E (Rof q k v o b h) (sh q k b h) i j : EReal) :=
  expS_real v o hq hk b h (rTop_real hq hk b h) i j
theorem rT_real (i : Fin 2064) : rT q k (ix4 b h i 0) = (AttnReal.T (Rof q k v o b h) (sh q k b h) i : EReal) :=
  totS_real v o hq hk b h (rTop_real hq hk b h) i

include hv ho

theorem rdT_real (i : Fin 2064) : rdT (rdP v o) (rE q k) (rT q k) (ix3 b h i) =
    ((-(∑ l, dP (Rof q k v o b h) i l * (1 / (AttnReal.T (Rof q k v o b h) (sh q k b h) i * AttnReal.T (Rof q k v o b h) (sh q k b h) i)) *
      E (Rof q k v o b h) (sh q k b h) i l) : ℝ) : EReal) := by
  have g : ∀ (p e : FVec Ideal S4x8x2064x2064 .f32) (t : FVec Ideal S4x8x2064x1 .f32), rdT p e t (ix3 b h i) =
      ∑ _ : Fin 1, -∑ x : Fin 2064, p (ix4 b h i x) * Ideal.div 1 (t (ix4 b h i 0) * t (ix4 b h i 0)) * e (ix4 b h i x) := fun p e t => by
    unfold rdT
    pointwise
  have hT := (T_pos (Rof q k v o b h) (sh q k b h) i).ne'
  rw [g, Fin.sum_univ_one, rT_real (v := v) (o := o) hq hk, ← EReal.coe_mul, Ideal.div_coe (mul_ne_zero hT hT), one_mul, EReal.coe_neg, coe_sum]
  refine congrArg _ (Finset.sum_congr rfl fun x _ => ?_)
  rw [EReal.coe_mul, EReal.coe_mul, rdP_real (q := q) (k := k) hv ho, rE_real (v := v) (o := o) hq hk]

/-- The gradient of the scores. -/
theorem rG_real (i j : Fin 2064) : rG q k v o (ix4 b h i j) = (Ds (Rof q k v o b h) i j : EReal) := by
  have g : ∀ (p e : FVec Ideal S4x8x2064x2064 .f32) (t : FVec Ideal S4x8x2064x1 .f32) (d : FVec Ideal S4x8x2064 .f32), rdS p e t d (ix4 b h i j) =
      Ideal.div (Scalar.select (IntOp.cmpi CmpIPredicate.sle (BitVec.ofNat 32 j) (BitVec.ofNat 32 i))
        ((Ideal.div (p (ix4 b h i j)) (t (ix4 b h i 0)) + d (ix3 b h i)) * e (ix4 b h i j)) 0) (Ideal.sqrt (Ideal.ofBits .f32 0x43400000#32)) := fun p e t d => by
    unfold rdS
    pointwise
  have hT := (T_pos (Rof q k v o b h) (sh q k b h) i).ne'
  unfold rG
  rw [g, select_causal, div_scale, rT_real (v := v) (o := o) hq hk, rdP_real (q := q) (k := k) hv ho, rE_real (v := v) (o := o) hq hk, rdT_real hq hk hv ho,
    Ideal.div_coe hT, ← EReal.coe_mul, ← EReal.coe_add, ← EReal.coe_mul, ← ref_ds _ (sh q k b h), EReal.coe_mul]
  split_ifs <;> rfl

/-- The reference's query gradient. -/
theorem ref_q (i : Fin 2064) (x : Fin 192) : rdQ (rG q k v o) k (ix4 b i h x) = (dQ (Rof q k v o b h) i x : EReal) := by
  have g : ∀ s : FVec Ideal S4x8x2064x2064 .f32, rdQ s k (ix4 b i h x) = ∑ j : Fin 2064, s (ix4 b h i j) * k (ix4 b j h x) := fun s => by
    unfold rdQ
    pointwise
  rw [g, dQ, coe_sum]
  exact Finset.sum_congr rfl fun j _ => by rw [EReal.coe_mul, rG_real hq hk hv ho, hk]; rfl
/-- The reference's key gradient. -/
theorem ref_k (i : Fin 2064) (x : Fin 192) : rdK (rG q k v o) q (ix4 b i h x) = (dK (Rof q k v o b h) i x : EReal) := by
  have g : ∀ s : FVec Ideal S4x8x2064x2064 .f32, rdK s q (ix4 b i h x) = ∑ j : Fin 2064, s (ix4 b h j i) * q (ix4 b j h x) := fun s => by
    unfold rdK
    pointwise
  rw [g, dK, coe_sum]
  exact Finset.sum_congr rfl fun j _ => by rw [EReal.coe_mul, rG_real hq hk hv ho, hq]; rfl
/-- The reference's value gradient. -/
theorem ref_v (i : Fin 2064) (x : Fin 128) : rdV o (rE q k) (rT q k) (ix4 b i h x) = (dV (Rof q k v o b h) i x : EReal) := by
  have g : ∀ (e : FVec Ideal S4x8x2064x2064 .f32) (t : FVec Ideal S4x8x2064x1 .f32), rdV o e t (ix4 b i h x) =
      ∑ j : Fin 2064, o (ix4 b j h x) * Ideal.div (e (ix4 b h j i)) (t (ix4 b h j 0)) := fun e t => by
    unfold rdV rCt
    pointwise
  rw [g, dV, coe_sum]
  refine Finset.sum_congr rfl fun j _ => ?_
  rw [EReal.coe_mul, rE_real (v := v) (o := o) hq hk, rT_real (v := v) (o := o) hq hk, Ideal.div_coe (T_pos _ _ _).ne', ho, ← EReal.coe_mul,
    mul_one_div, E_div, mul_comm]
  rfl
end

end Cert.AttnRefIdeal.Proof

end

end
-- ==== Proof.Equation.lean ====
/- The value equation: on finite arguments the kernel's three results are the reference's. -/
module

public import proofs.«01_k».proof.Defs
public import proofs.«01_k».proof.Proof.Gen.Pre_finite
public import proofs.«01_k».proof.Proof.Frames
public import proofs.«01_k».proof.Proof.RunExact
public import proofs.«01_k».proof.Proof.Args
public import proofs.«01_k».proof.Proof.RefAt

@[expose] public section

set_option maxRecDepth 16384

noncomputable section

namespace Cert.AttnIdeal.Proof

open Idealize.ShloMosaic Idealize.ShloMosaic.TcCoe Idealize.SL.Sem Cert.AttnIdeal Cert.AttnIdeal.Gen Cert.AttnReal

/-- An array above −∞ and below +∞ everywhere is real everywhere. -/
theorem fin_of {s : Shape} (x l u : FVec Ideal s .f32) (hl : ∀ i, l i = Ideal.ofBits .f32 0xFF800000#32) (hu : ∀ i, u i = Ideal.ofBits .f32 0x7F800000#32)
    (h1 : cmpf .ogt x l = fun _ => 1#1) (h2 : cmpf .olt x u = fun _ => 1#1) : Fin' x := fun i => by
  have e1 : BitVec.ofBool (decide (l i < x i)) = 1#1 := congrFun h1 i
  have e2 : BitVec.ofBool (decide (x i < u i)) = 1#1 := congrFun h2 i
  rw [hl, inf_bits] at e1
  rw [hu, top_bits] at e2
  refine (EReal.coe_toReal (fun e => ?_) (fun e => ?_)).symm
  · rw [e] at e2; simp at e2
  · rw [e] at e1; simp at e1

variable (m : (ℓ : Loc nD τ sig) → Buf (Elt Ideal) ℓ) (g : Dev nD → PrngReg)

/-- The kernel's run, its three results and its arguments. -/
theorem ker_run : θ_run defs (onTc (τ := τ) (main (F := Ideal))) ⟨m, fun _ => 0, g⟩ (fun r => ∀ c : Dev nD,
    r.2.mem ((c.tc : Thread nD τ).loc main_v58) = cutK (arr6 m c)
    ∧ r.2.mem ((c.tc : Thread nD τ).loc main_v63) = cutK (arr7 m c)
    ∧ r.2.mem ((c.tc : Thread nD τ).loc main_v67) = cutV (arr8 m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) := by
  refine (θ_run defs _ _).mono (fun r h c => ?_) (θ_run_and (run_exact m g (outcome m) fun c X h => absurd rfl h) (frame_any (F := Ideal) m g))
  obtain ⟨h, f⟩ := h
  exact ⟨((h c).2 main_v58 (by decide)).trans (tail_q m c), ((h c).2 main_v63 (by decide)).trans (tail_k m c), ((h c).2 main_v67 (by decide)).trans (tail_v m c), f.1 c⟩

/-- Over the reals the kernel's gradients are the reference's, on finite arguments. -/
theorem algebraic : Cert.algebraic_AttnIdeal_AttnRefIdeal_pre_finite := by
  intro m g m' g' hpre hargs
  refine ⟨_, _, _, ker_run m g, ?_⟩
  refine (θ_run _ _ _).mono (fun r h c => ?_) (Cert.AttnRefIdeal.Value.run m' g')
  obtain ⟨hq0, hk0, hv0, ho0⟩ := hargs c
  obtain ⟨l0, l1, l2, l3, u0, u1, u2, u3⟩ := hpre c
  have hq : Fin' (argQ m c) := fin_of _ _ _ (fun _ => rfl) (fun _ => rfl) l0 u0
  have hk : Fin' (argK m c) := fin_of _ _ _ (fun _ => rfl) (fun _ => rfl) l1 u1
  have hv : Fin' (argV m c) := fin_of _ _ _ (fun _ => rfl) (fun _ => rfl) l2 u2
  have ho : Fin' (argO m c) := fin_of _ _ _ (fun _ => rfl) (fun _ => rfl) l3 u3
  obtain ⟨r0, r1, r2, ra⟩ := h c
  refine ⟨r0.trans ?_, r1.trans ?_, r2.trans ?_, ra⟩
  · rw [Cert.AttnRefIdeal.Proof.res_q, hq0, hk0, hv0, ho0]
    funext x; rw [eq_ix4 x]
    exact (Cert.AttnRefIdeal.Proof.ref_q hq hk hv ho _ _ _ _).trans (ker_q m c hq hk hv ho _ _ _ _).symm
  · rw [Cert.AttnRefIdeal.Proof.res_k, hq0, hk0, hv0, ho0]
    funext x; rw [eq_ix4 x]
    exact (Cert.AttnRefIdeal.Proof.ref_k hq hk hv ho _ _ _ _).trans (ker_k m c hq hk hv ho _ _ _ _).symm
  · rw [Cert.AttnRefIdeal.Proof.res_v, hq0, hk0, ho0]
    funext x; rw [eq_ix4 x]
    exact (Cert.AttnRefIdeal.Proof.ref_v (v := argV m c) hq hk hv ho _ _ _ _).trans (ker_v m c hq hk hv ho _ _ _ _).symm

end Cert.AttnIdeal.Proof

end
-- ==== Proof.InFrames.lean ====
/- The input projection's frames. -/
module

public import proofs.«01_k».proof.Defs
public import proofs.«01_k».proof.Proof.Gen.InProj.Frame
public import proofs.«01_k».proof.Proof.Gen.InProjIdeal.Frame
public import proofs.«01_k».proof.Proof.Gen.InProjRefIdeal.Run

@[expose] public section

noncomputable section

namespace Cert.InProof

open Idealize.ShloMosaic

theorem frame_in : Cert.quiescent_InProj := fun m ρ _ => Cert.InProj.Gen.frame m ρ
theorem frame_inIdeal : Cert.quiescent_InProjIdeal := fun m ρ _ => Cert.InProjIdeal.Gen.frame m ρ
theorem frame_inRef : Cert.quiescent_InProjRefIdeal := by
  intro m ρ _
  hlo_run
  · exact fun _ => ⟨trivial, trivial⟩
  · funext g; obtain ⟨_, g⟩ := g; rcases g with g | g <;> exact g.elim0

end Cert.InProof

end
-- ==== Proof.InHost.lean ====
/- What the host lines before the input projection leave: the padded rows, and the wide columns of the weights side by side. -/
module

public import proofs.«01_k».proof.Proof.Gen.InProjIdeal.Frame
public import Idealize.ShloMosaic.Lib.Pipeline.ValueKit
public import Idealize.ShloMosaic.Lib.StableHlo.ReadAt

@[expose] public section

set_option maxRecDepth 16384

noncomputable section

namespace Cert.InProof

open Idealize.ShloMosaic Idealize.ShloMosaic.TcCoe Idealize.ShloMosaic.Tactic Cert.InProjIdeal Cert.InProjIdeal.Gen

set_option maxHeartbeats 400000

variable (m : (ℓ : Loc nD τ sig) → Buf (Elt Ideal) ℓ) (c : Dev nD)

/-- The rows: 240 rows of zeros, then the argument's, for each part of the batch. -/
theorem V_u (b : Fin 4) (l : Fin 2064) (k : Fin 1024) :
    V m c main_v11 (ix2 ⟨2304 * b.val + (240 + l.val), by omega⟩ k) = m ((c : Thread nD τ).loc main_arg0) (ix3 b l k) := by
  unfold_abbrev_sides
  after_reads_at
  rw [dif_pos ⟨by omega, by omega, by omega⟩]
  exact congrArg (m ((c : Thread nD τ).loc main_arg0)) (by congr 1 <;> apply Fin.ext <;> simp <;> omega)

/-- The column of the weights that stands at column `j` of the array handed to the kernel. -/
def col (j : ℕ) : ℕ := if j < 1024 then j + 1024 else if j < 2048 then j + 1040 else if j < 5120 then j + 1488 else j - 5120
theorem col_lt (j : Fin 6144) : col j < 6608 := by unfold col; split_ifs <;> omega

/-- The weights handed to the kernel. -/
theorem V_w (k : Fin 1024) (j : Fin 6144) :
    V m c main_v8 (ix2 k j) = m ((c : Thread nD τ).loc main_arg1) (ix2 k ⟨col j, col_lt j⟩) := by
  unfold_abbrev_sides
  after_reads_at
  have e : ∀ a (h : a < 6608), a = col j →
      m ((c : Thread nD τ).loc main_arg1) (ix2 k ⟨a, h⟩) = m ((c : Thread nD τ).loc main_arg1) (ix2 k ⟨col j, col_lt j⟩) := by
    intro a h e; subst e; rfl
  split_ifs <;> after_reads_at <;> refine e _ _ ?_ <;> unfold col <;> split_ifs <;> omega

end Cert.InProof

end

end
-- ==== Proof.InBlocks.lean ====
/- The array the input projection computes, block by block, and what the host lines after it cut out. -/
module

public import proofs.«01_k».proof.Proof.Gen.InProjIdeal.Frame
public import Idealize.ShloMosaic.Lib.Pipeline.ValueKit
public import Idealize.ShloMosaic.Lib.StableHlo.ReadAt

@[expose] public section

set_option maxRecDepth 16384

noncomputable section

namespace Cert.InProof

open Idealize.ShloMosaic Idealize.ShloMosaic.TcCoe Idealize.ShloMosaic.Tactic Cert.InProjIdeal Cert.InProjIdeal.Gen

set_option maxHeartbeats 400000

variable (m : (ℓ : Loc nD τ sig) → Buf (Elt Ideal) ℓ) (c : Dev nD)

/-- One block: the product of a block of rows and a block of columns. -/
theorem block (x0 : Vec Ideal S2304x1024 .bf16) (x1 : Vec Ideal S1024x1024 .bf16) (i : Fin 2304) (j : Fin 1024) :
    out0_2 x0 x1 (ix2 i j) = ∑ k : Fin 1024, x0 (ix2 i k) * x1 (ix2 k j) := by
  unfold out0_2 r0_0 r0_1
  rw [View.canon_cons_unit_zero (by decide), View.ld_unit_zero (by decide), View.ld_unit_zero (by decide)]
  unfold k0_pay1
  pointwise

theorem idx0 : ∀ t : Fin cfg0.N, win0_0.index t = ![t.val / 6, 0] := by decide +kernel
theorem idx1 : ∀ t : Fin cfg0.N, win0_1.index t = ![0, t.val % 6] := by decide +kernel
theorem idx2 : ∀ t : Fin cfg0.N, win0_2.index t = ![t.val / 6, t.val % 6] := by decide +kernel
theorem N24 : cfg0.N = 24 := by decide +kernel

/-- The result: every row against every column. -/
def prod (x : FVec Ideal S9216x1024 .bf16) (w : FVec Ideal S1024x6144 .bf16) : FVec Ideal S9216x6144 .bf16 :=
  fun y => ∑ k : Fin 1024, x (ix2 (y 0) k) * w (ix2 k (y 1))

theorem blk0 (t : Fin cfg0.N) (i : Fin 2304) (k : Fin 1024) (h : t.val / 6 * 2304 + i.val < 9216) :
    iblk m c 0 t (ix2 i k) = V m c main_v11 (ix2 ⟨t.val / 6 * 2304 + i.val, h⟩ k) := by
  blk_ext [iblk, idx0 t]
theorem blk1 (t : Fin cfg0.N) (k : Fin 1024) (j : Fin 1024) (h : t.val % 6 * 1024 + j.val < 6144) :
    iblk m c 1 t (ix2 k j) = V m c main_v8 (ix2 k ⟨t.val % 6 * 1024 + j.val, h⟩) := by
  blk_ext [iblk, idx1 t]

theorem arrAt2 : (dats m 0 c).arrAt 2 (cfgs 0).N = prod (V m c main_v11) (V m c main_v8) := by
  refine (dats m 0 c).arrAt_eq_of_covers 2 _ (by decide +kernel) fun t hf y => ?_
  have ht : t.val < 24 := N24 ▸ t.isLt
  have hy0 : (y 0).val < 2304 := (y 0).isLt
  have hy1 : (y 1).val < 1024 := (y 1).isLt
  blk_simp
  rw [after0_2]
  show out0_2 (iblk m c 0 t) (iblk m c 1 t) y = prod (V m c main_v11) (V m c main_v8) _
  rw [show (y : S2304x1024.Idx) = ix2 ⟨y 0, hy0⟩ ⟨y 1, hy1⟩ from eq_ix2 (n0 := 2304) (n1 := 1024) y]
  refine (block _ _ _ _).trans (Finset.sum_congr rfl fun k _ => congrArg₂ (· * ·) ((blk0 m c t _ _ (by simp only []; omega)).trans ?_) ((blk1 m c t _ _ (by simp only []; omega)).trans ?_))
  · blk_ext [idx2 t]
  · blk_ext [idx2 t]

/-- What the host lines after the region make of the array, before cutting it into columns. -/
def wide (x : FVec Ideal S9216x6144 .bf16) : FVec Ideal S4x2064x6144 .f32 :=
  extf .f32 (extractStridedSlice S4x2064x6144 ![0, 240, 0] (shapeCast S4x2304x6144 x shapeCasts_S9216x6144_S4x2304x6144)
    slices_S4x2304x6144_S4x2064x6144_0_240_0) bitsLt_bf16_f32
theorem wide_apply (x : FVec Ideal S9216x6144 .bf16) (b : Fin 4) (l : Fin 2064) (j : Fin 6144) :
    wide x (ix3 b l j) = x (ix2 ⟨2304 * b.val + (240 + l.val), by omega⟩ j) := by
  unfold wide
  pointwise
  refine congrArg x ?_
  congr 1 <;> (ext; show _ = _; simp only []; omega)

theorem spec0_inj : Function.Injective (Pipeline.arrRef spec0) := by decide +kernel

section
attribute [local irreducible] extf shapeCast extractStridedSlice
/-- The seven results are columns of the array. -/
theorem tails :
    Pipeline.afterTail₀ cfgs (dats m) 0 (V0 m) [hostOps1] c main_v16 = extractStridedSlice S4x2064x1024 ![0, 0, 0] (wide (prod (V m c main_v11) (V m c main_v8))) slices_S4x2064x6144_S4x2064x1024_0_0_0 ∧
    Pipeline.afterTail₀ cfgs (dats m) 0 (V0 m) [hostOps1] c main_v17 = extractStridedSlice S4x2064x1024 ![0, 0, 1024] (wide (prod (V m c main_v11) (V m c main_v8))) slices_S4x2064x6144_S4x2064x1024_0_0_1024 ∧
    Pipeline.afterTail₀ cfgs (dats m) 0 (V0 m) [hostOps1] c main_v18 = extractStridedSlice S4x2064x1024 ![0, 0, 2048] (wide (prod (V m c main_v11) (V m c main_v8))) slices_S4x2064x6144_S4x2064x1024_0_0_2048 ∧
    Pipeline.afterTail₀ cfgs (dats m) 0 (V0 m) [hostOps1] c main_v19 = extractStridedSlice S4x2064x1024 ![0, 0, 3072] (wide (prod (V m c main_v11) (V m c main_v8))) slices_S4x2064x6144_S4x2064x1024_0_0_3072 ∧
    Pipeline.afterTail₀ cfgs (dats m) 0 (V0 m) [hostOps1] c main_v20 = extractStridedSlice S4x2064x1024 ![0, 0, 4096] (wide (prod (V m c main_v11) (V m c main_v8))) slices_S4x2064x6144_S4x2064x1024_0_0_4096 ∧
    Pipeline.afterTail₀ cfgs (dats m) 0 (V0 m) [hostOps1] c main_v21 = extractStridedSlice S4x2064x512 ![0, 0, 5120] (wide (prod (V m c main_v11) (V m c main_v8))) slices_S4x2064x6144_S4x2064x512_0_0_5120 ∧
    Pipeline.afterTail₀ cfgs (dats m) 0 (V0 m) [hostOps1] c main_v22 = extractStridedSlice S4x2064x512 ![0, 0, 5632] (wide (prod (V m c main_v11) (V m c main_v8))) slices_S4x2064x6144_S4x2064x512_0_0_5632 := by
  rw [← arrAt2, ← Pipeline.withArrays_arr spec0 spec0_inj c (V0 m c) (fun w => (dats m 0 c).arrAt w (cfgs 0).N) 2]
  unfold Pipeline.afterTail₀
  refine ⟨?_, ?_, ?_, ?_, ?_, ?_, ?_⟩ <;> (unfold_abbrev_sides; after_reads_simp; rfl)
end

end Cert.InProof

end

end
-- ==== Proof.InEquation.lean ====
/- The input projection: the kernel's columns are the reference's, over the reals. -/
module

public import proofs.«01_k».proof.Defs
public import proofs.«01_k».proof.Proof.Gen.InProjRefIdeal.Run
public import proofs.«01_k».proof.Proof.InFrames
public import proofs.«01_k».proof.Proof.InHost
public import proofs.«01_k».proof.Proof.InBlocks

@[expose] public section

set_option maxRecDepth 16384

noncomputable section

namespace Cert.InProof

open Idealize.ShloMosaic Idealize.ShloMosaic.TcCoe Idealize.ShloMosaic.Tactic Idealize.SL.Sem

/-- Column `j` of the reference's projection. -/
def dotAt (u : FVec Ideal Cert.InProjRefIdeal.S4x2064x1024 .f32) (w : FVec Ideal Cert.InProjRefIdeal.S1024x6608 .f32)
    (b : Fin 4) (l : Fin 2064) (j : Fin 6608) : EReal := ∑ k : Fin 1024, u (ix3 b l k) * w (ix2 k j)

section
open Cert.InProjRefIdeal Cert.InProjRefIdeal.Gen
theorem ref_apply (u : FVec Ideal S4x2064x1024 .f32) (w : FVec Ideal S1024x6608 .f32) (b : Fin 4) (l : Fin 2064) (j : Fin 6608) :
    Host.dotGeneral (F := Ideal) dot_S4x2064x1024_S1024x6608_S4x2064x6608_2_0_01_1_n_n none u w (ix3 b l j) = dotAt u w b l j := by
  unfold dotAt
  pointwise
end

section
open Cert.InProjIdeal Cert.InProjIdeal.Gen
variable (m : (ℓ : Loc nD τ sig) → Buf (Elt Ideal) ℓ) (c : Dev nD)

/-- Column `j` of the kernel's array is column `col j` of the projection. -/
theorem ker_apply (b : Fin 4) (l : Fin 2064) (j : Fin 6144) : wide (prod (V m c main_v11) (V m c main_v8)) (ix3 b l j)
    = dotAt (m ((c : Thread nD τ).loc main_arg0)) (m ((c : Thread nD τ).loc main_arg1)) b l ⟨col j, col_lt j⟩ := by
  rw [wide_apply]
  exact Finset.sum_congr rfl fun k _ => congrArg₂ (· * ·) (V_u m c b l k) (V_w m c k j)
end

/-- A cut of the reference's array against a cut of the kernel's, of the same width. -/
theorem cut_eq {n : ℕ} {X : Shape.Idx ⟨3, ![4, 2064, 6608]⟩ → EReal} {Y : Shape.Idx ⟨3, ![4, 2064, 6144]⟩ → EReal}
    (e : ∀ b l (j : Fin 6144), X (ix3 b l ⟨col j, col_lt j⟩) = Y (ix3 b l j)) (o' o : ℕ)
    (h' : Shape.Slices ⟨3, ![4, 2064, 6608]⟩ ![0, 0, o'] ⟨3, ![4, 2064, n]⟩) (h : Shape.Slices ⟨3, ![4, 2064, 6144]⟩ ![0, 0, o] ⟨3, ![4, 2064, n]⟩)
    (hc : ∀ i < n, col (o + i) = o' + i) :
    extractStridedSlice ⟨3, ![4, 2064, n]⟩ ![0, 0, o'] X h' = extractStridedSlice ⟨3, ![4, 2064, n]⟩ ![0, 0, o] Y h := by
  funext x
  rw [eq_ix3 x]
  have hn : o + n ≤ 6144 := h.2 2
  have h2 : (x 2).val < n := (x 2).isLt
  have hcol := hc _ h2
  refine (extractStridedSlice_apply _ X h' _ (ix3 (x 0) (x 1) ⟨col (o + (x 2).val), col_lt ⟨o + (x 2).val, by omega⟩⟩) ?_).trans
    ((e (x 0) (x 1) ⟨o + (x 2).val, by omega⟩).trans (extractStridedSlice_apply _ Y h _ (ix3 (x 0) (x 1) ⟨o + (x 2).val, by omega⟩) ?_).symm)
  · intro a
    fin_cases a
    · simp
    · simp
    · simpa using hcol
  · intro a
    fin_cases a <;> simp

section
open Cert.InProjIdeal Cert.InProjIdeal.Gen
/-- The kernel's run, its seven results and its arguments. -/
theorem ker_run (m : (ℓ : Loc nD τ sig) → Buf (Elt Ideal) ℓ) (g : Dev nD → PrngReg) :
    θ_run defs (onTc (τ := τ) (main (F := Ideal))) ⟨m, fun _ => 0, g⟩ (fun r => ∀ c : Dev nD,
    r.2.mem (c.tc.loc main_v16) = extractStridedSlice S4x2064x1024 ![0, 0, 0] (wide (prod (V m c main_v11) (V m c main_v8))) slices_S4x2064x6144_S4x2064x1024_0_0_0
    ∧ r.2.mem (c.tc.loc main_v17) = extractStridedSlice S4x2064x1024 ![0, 0, 1024] (wide (prod (V m c main_v11) (V m c main_v8))) slices_S4x2064x6144_S4x2064x1024_0_0_1024
    ∧ r.2.mem (c.tc.loc main_v18) = extractStridedSlice S4x2064x1024 ![0, 0, 2048] (wide (prod (V m c main_v11) (V m c main_v8))) slices_S4x2064x6144_S4x2064x1024_0_0_2048
    ∧ r.2.mem (c.tc.loc main_v19) = extractStridedSlice S4x2064x1024 ![0, 0, 3072] (wide (prod (V m c main_v11) (V m c main_v8))) slices_S4x2064x6144_S4x2064x1024_0_0_3072
    ∧ r.2.mem (c.tc.loc main_v20) = extractStridedSlice S4x2064x1024 ![0, 0, 4096] (wide (prod (V m c main_v11) (V m c main_v8))) slices_S4x2064x6144_S4x2064x1024_0_0_4096
    ∧ r.2.mem (c.tc.loc main_v21) = extractStridedSlice S4x2064x512 ![0, 0, 5120] (wide (prod (V m c main_v11) (V m c main_v8))) slices_S4x2064x6144_S4x2064x512_0_0_5120
    ∧ r.2.mem (c.tc.loc main_v22) = extractStridedSlice S4x2064x512 ![0, 0, 5632] (wide (prod (V m c main_v11) (V m c main_v8))) slices_S4x2064x6144_S4x2064x512_0_0_5632
    ∧ r.2.mem (c.tc.loc main_arg0) = m (c.tc.loc main_arg0)
    ∧ r.2.mem (c.tc.loc main_arg1) = m (c.tc.loc main_arg1)) := by
  refine (θ_run defs _ _).mono (fun r h c => ?_) (θ_run_and (run_main m g) (unchanged m g))
  obtain ⟨h, f⟩ := h
  obtain ⟨t0, t1, t2, t3, t4, t5, t6⟩ := tails m c
  exact ⟨((h c).2 main_v16 (by decide)).trans t0, ((h c).2 main_v17 (by decide)).trans t1, ((h c).2 main_v18 (by decide)).trans t2,
    ((h c).2 main_v19 (by decide)).trans t3, ((h c).2 main_v20 (by decide)).trans t4, ((h c).2 main_v21 (by decide)).trans t5,
    ((h c).2 main_v22 (by decide)).trans t6, f c⟩
end

/-- Over the reals the seven results of the kernel are the reference's. -/
theorem algebraic : Cert.algebraic_InProjIdeal_InProjRefIdeal := by
  intro m g m' g' _ hargs
  refine ⟨_, _, _, _, _, _, _, ker_run m g, ?_⟩
  refine (θ_run _ _ _).mono (fun r h c => ?_) (Cert.InProjRefIdeal.Value.run m' g')
  obtain ⟨h0, h1⟩ := hargs c
  obtain ⟨r0, r1, r2, r3, r4, r5, r6, ra⟩ := h c
  have e := fun b l (j : Fin 6144) => (ref_apply (m (c.tc.loc Cert.InProjIdeal.main_arg0)) (m (c.tc.loc Cert.InProjIdeal.main_arg1))
    b l ⟨col j, col_lt j⟩).trans (ker_apply m c b l j).symm
  rw [h0, h1] at r0 r1 r2 r3 r4 r5 r6
  refine ⟨r0.trans (cut_eq e 1024 0 _ _ ?_), r1.trans (cut_eq e 2064 1024 _ _ ?_), r2.trans (cut_eq e 3536 2048 _ _ ?_),
    r3.trans (cut_eq e 4560 3072 _ _ ?_), r4.trans (cut_eq e 5584 4096 _ _ ?_), r5.trans (cut_eq e 0 5120 _ _ ?_),
    r6.trans (cut_eq e 512 5632 _ _ ?_), ra⟩
  all_goals (intro i hi; unfold col; split_ifs <;> omega)

end Cert.InProof

end
-- ==== Proof.DwFrames.lean ====
/- The frames of the input weights' gradient. -/
module

public import proofs.«01_k».proof.Defs
public import proofs.«01_k».proof.Proof.Gen.DwSq.Frame
public import proofs.«01_k».proof.Proof.Gen.DwSqIdeal.Frame
public import proofs.«01_k».proof.Proof.Gen.DwSqRefIdeal.Run
public import proofs.«01_k».proof.Proof.Gen.DwGates.Frame
public import proofs.«01_k».proof.Proof.Gen.DwGatesIdeal.Frame
public import proofs.«01_k».proof.Proof.Gen.DwGatesRefIdeal.Run
public import proofs.«01_k».proof.Proof.Gen.DwGla.Frame
public import proofs.«01_k».proof.Proof.Gen.DwGlaIdeal.Frame
public import proofs.«01_k».proof.Proof.Gen.DwGlaRefIdeal.Run

@[expose] public section

noncomputable section

namespace Cert.DwProof

open Idealize.ShloMosaic Idealize.ShloMosaic.Tactic

/-- The frame of the square weight gradient. -/
theorem frame_Sq : Cert.quiescent_DwSq := fun m ρ _ => Cert.DwSq.Gen.frame m ρ
/-- The same, over the reals. -/
theorem frame_SqIdeal : Cert.quiescent_DwSqIdeal := fun m ρ _ => Cert.DwSqIdeal.Gen.frame m ρ
/-- The reference's frame. -/
theorem frame_SqRef : Cert.quiescent_DwSqRefIdeal := by
  intro m ρ _
  hlo_run
  · exact fun _ => ⟨trivial, trivial⟩
  · funext g
    obtain ⟨_, g⟩ := g
    rcases g with g | g <;> exact g.elim0

/-- The frame of the gates' weight gradient. -/
theorem frame_Gates : Cert.quiescent_DwGates := fun m ρ _ => Cert.DwGates.Gen.frame m ρ
/-- The same, over the reals. -/
theorem frame_GatesIdeal : Cert.quiescent_DwGatesIdeal := fun m ρ _ => Cert.DwGatesIdeal.Gen.frame m ρ
/-- The reference's frame. -/
theorem frame_GatesRef : Cert.quiescent_DwGatesRefIdeal := by
  intro m ρ _
  hlo_run
  · exact fun _ => ⟨trivial, trivial⟩
  · funext g
    obtain ⟨_, g⟩ := g
    rcases g with g | g <;> exact g.elim0

/-- The frame of the recurrent layer's input weight gradient. -/
theorem frame_Gla : Cert.quiescent_DwGla := fun m ρ _ => Cert.DwGla.Gen.frame m ρ
/-- The same, over the reals. -/
theorem frame_GlaIdeal : Cert.quiescent_DwGlaIdeal := fun m ρ _ => Cert.DwGlaIdeal.Gen.frame m ρ
/-- The reference's frame. -/
theorem frame_GlaRef : Cert.quiescent_DwGlaRefIdeal := by
  intro m ρ _
  hlo_run
  · exact fun _ => ⟨trivial, trivial⟩
  · funext g
    obtain ⟨_, g⟩ := g
    rcases g with g | g <;> exact g.elim0

end Cert.DwProof

end
-- ==== Proof.DwSum.lean ====
/- Rows behind zeros: a sum over the padded rows of a product is the sum over the real rows. -/
module

public import Idealize.ShloMosaic.Lib.Pipeline.ValueKit

@[expose] public section

noncomputable section

namespace Cert.DwProof

open Idealize.ShloMosaic

/-- The number laid in front of the rows is zero. -/
theorem zero_val : FloatOps.sitofp (F := Ideal) FTy.f32 0#32 = (0 : EReal) := by
  show ((((0#32 : BitVec 32).toInt : ℤ) : ℝ) : EReal) = 0
  simp

/-- Row `i` of an array of four times 2064 rows, laid out behind 240 rows of zeros for each part of the batch. -/
def padRow {n : ℕ} (a : Shape.Idx ⟨3, ![4, 2064, n]⟩ → EReal) (i : ℕ) (j : Fin n) : EReal :=
  if H : i / 2304 < 4 ∧ 240 ≤ i % 2304 then a (ix3 ⟨i / 2304, H.1⟩ ⟨i % 2304 - 240, by omega⟩ j) else 0

theorem padRow_zero {n : ℕ} (a : Shape.Idx ⟨3, ![4, 2064, n]⟩ → EReal) (s : Fin 4) (k : Fin 240) (j : Fin n) : padRow a (2304 * s.val + k.val) j = 0 := by
  unfold padRow
  rw [dif_neg (by omega)]

theorem padRow_real {n : ℕ} (a : Shape.Idx ⟨3, ![4, 2064, n]⟩ → EReal) (s : Fin 4) (l : Fin 2064) (j : Fin n) :
    padRow a (2304 * s.val + (240 + l.val)) j = a (ix3 s l j) := by
  unfold padRow
  rw [dif_pos (by omega)]
  have hs : (2304 * s.val + (240 + l.val)) / 2304 = s.val := by omega
  have hl : (2304 * s.val + (240 + l.val)) % 2304 - 240 = l.val := by omega
  congr 2 <;> exact Fin.ext (by assumption)

/-- The gradient's entry: columns `p` and `q` multiplied over every row of every part of the batch. -/
def gradAt {n n' : ℕ} (a : Shape.Idx ⟨3, ![4, 2064, n]⟩ → EReal) (b : Shape.Idx ⟨3, ![4, 2064, n']⟩ → EReal) (p : Fin n) (q : Fin n') : EReal :=
  ∑ s : Fin 4, ∑ l : Fin 2064, a (ix3 s l p) * b (ix3 s l q)

/-- The products of the padded rows, block by block, sum to the products of the real rows. -/
theorem sum_pad {n n' : ℕ} (a : Shape.Idx ⟨3, ![4, 2064, n]⟩ → EReal) (b : Shape.Idx ⟨3, ![4, 2064, n']⟩ → EReal) (p : Fin n) (q : Fin n') :
    ∑ s : Fin 4, ∑ k : Fin 2304, padRow a (2304 * s.val + k.val) p * padRow b (2304 * s.val + k.val) q = gradAt a b p q := by
  refine Finset.sum_congr rfl fun s _ => ?_
  refine (Fin.sum_univ_add (a := 240) (b := 2064) fun k : Fin (240 + 2064) =>
    padRow a (2304 * s.val + k.val) p * padRow b (2304 * s.val + k.val) q).trans ?_
  rw [Finset.sum_eq_zero fun k _ => ?_, zero_add]
  · refine Finset.sum_congr rfl fun l _ => ?_
    simp only [Fin.val_natAdd, padRow_real]
  · simp only [Fin.val_castAdd, padRow_zero, zero_mul]

/-- The product of the columns `i` and `j` over one of the four blocks of rows. -/
def term {n n' : ℕ} (x : Shape.Idx ⟨2, ![9216, n]⟩ → EReal) (y : Shape.Idx ⟨2, ![9216, n']⟩ → EReal) (i : Fin n) (j : Fin n') (s : Fin 4) : EReal :=
  ∑ k : Fin 2304, x (ix2 ⟨2304 * s.val + k.val, by omega⟩ i) * y (ix2 ⟨2304 * s.val + k.val, by omega⟩ j)

/-- The products of the four blocks of rows, summed. -/
def prod {n n' : ℕ} (x : Shape.Idx ⟨2, ![9216, n]⟩ → EReal) (y : Shape.Idx ⟨2, ![9216, n']⟩ → EReal) : Shape.Idx ⟨2, ![n, n']⟩ → EReal :=
  fun z => ∑ s : Fin 4, term x y (z 0) (z 1) s

/-- On padded rows the sum is the gradient's entry. -/
theorem prod_pad {n n' n'' : ℕ} {x : Shape.Idx ⟨2, ![9216, n]⟩ → EReal} {y : Shape.Idx ⟨2, ![9216, n'']⟩ → EReal}
    {a : Shape.Idx ⟨3, ![4, 2064, n]⟩ → EReal} {b : Shape.Idx ⟨3, ![4, 2064, n']⟩ → EReal} (p : Fin n) (q : Fin n') (q' : Fin n'')
    (hx : ∀ i, x (ix2 i p) = padRow a i.val p) (hy : ∀ i, y (ix2 i q') = padRow b i.val q) : prod x y (ix2 p q') = gradAt a b p q := by
  refine Eq.trans ?_ (sum_pad a b p q)
  exact Finset.sum_congr rfl fun s _ => Finset.sum_congr rfl fun k _ => congrArg₂ (· * ·) (hx _) (hy _)

/-- A running sum begun anew at every fourth point holds, at the point before the next beginning, the sum of the last four. -/
theorem fold_four {N : ℕ} (f : (n : ℕ) → n < N → EReal) (p : Fin N → EReal) (first : ∀ t : Fin N, t.val % 4 = 0 → f t.val t.isLt = p t)
    (next : ∀ t : Fin N, ¬t.val % 4 = 0 → f t.val t.isLt = f (t.val - 1) (Nat.lt_of_le_of_lt (Nat.sub_le _ _) t.isLt) + p t)
    (t : Fin N) (h : t.val % 4 = 3) (q : Fin 4 → EReal) (hp : ∀ (u : Fin N) (s : Fin 4), u.val / 4 = t.val / 4 → u.val % 4 = s.val → p u = q s) :
    f t.val t.isLt = ∑ s : Fin 4, q s := by
  have hN := t.isLt
  rw [next t (by omega), next ⟨t.val - 1, by omega⟩ (by simp only []; omega), next ⟨t.val - 1 - 1, by omega⟩ (by simp only []; omega),
    first ⟨t.val - 1 - 1 - 1, by omega⟩ (by simp only []; omega), hp t 3 rfl h,
    hp ⟨t.val - 1, by omega⟩ 2 (by simp only []; omega) (by show (t.val - 1) % 4 = 2; omega),
    hp ⟨t.val - 1 - 1, by omega⟩ 1 (by simp only []; omega) (by show (t.val - 1 - 1) % 4 = 1; omega),
    hp ⟨t.val - 1 - 1 - 1, by omega⟩ 0 (by simp only []; omega) (by show (t.val - 1 - 1 - 1) % 4 = 0; omega)]
  exact (Fin.sum_univ_four q).symm

end Cert.DwProof

end
-- ==== Proof.DwSqHost.lean ====
/- What the host lines before the square weight gradient's call leave: both arguments' rows behind zeros. -/
module

public import proofs.«01_k».proof.Proof.Gen.DwSqIdeal.Frame
public import proofs.«01_k».proof.Proof.DwSum
public import Idealize.ShloMosaic.Lib.StableHlo.ReadAt

@[expose] public section

set_option maxRecDepth 16384

noncomputable section

namespace Cert.DwProof.Sq

open Idealize.ShloMosaic Idealize.ShloMosaic.TcCoe Idealize.ShloMosaic.Tactic Cert.DwSqIdeal Cert.DwSqIdeal.Gen

set_option maxHeartbeats 400000

variable (m : (ℓ : Loc nD τ sig) → Buf (Elt Ideal) ℓ) (c : Dev nD)

/-- The rows of the layer's input. -/
theorem V_a (i : Fin 9216) (j : Fin 1024) : V m c main_v2 (ix2 i j) = padRow (m ((c : Thread nD τ).loc main_arg0)) i.val j := by
  unfold padRow
  unfold_abbrev_sides
  after_reads_at
  split_ifs
  · rfl
  · exfalso; omega
  · exfalso; omega
  · exact zero_val

/-- The rows of the cotangent. -/
theorem V_ct (i : Fin 9216) (j : Fin 1024) : V m c main_v5 (ix2 i j) = padRow (m ((c : Thread nD τ).loc main_arg1)) i.val j := by
  unfold padRow
  unfold_abbrev_sides
  after_reads_at
  split_ifs
  · rfl
  · exfalso; omega
  · exfalso; omega
  · exact zero_val

end Cert.DwProof.Sq

end
-- ==== Proof.DwSqBlocks.lean ====
/- The array the square weight gradient's call computes: four blocks of rows, one product added after another. -/
module

public import proofs.«01_k».proof.Proof.Gen.DwSqIdeal.Frame
public import proofs.«01_k».proof.Proof.DwSum
public import Idealize.ShloMosaic.Lib.StableHlo.ReadAt

@[expose] public section

set_option maxRecDepth 16384

noncomputable section

namespace Cert.DwProof.Sq

open Idealize.ShloMosaic Idealize.ShloMosaic.TcCoe Idealize.ShloMosaic.Tactic Cert.DwSqIdeal Cert.DwSqIdeal.Gen

set_option maxHeartbeats 400000

variable (m : (ℓ : Loc nD τ sig) → Buf (Elt Ideal) ℓ) (c : Dev nD)

/-- One block: the columns of one block of rows against the columns of the other. -/
theorem pay1 (x0 x1 : Vec Ideal S2304x1024 .bf16) (i j : Fin 1024) :
    k0_pay1 x0 x1 (ix2 i j) = ∑ k : Fin 2304, x0 (ix2 k i) * x1 (ix2 k j) := by
  unfold k0_pay1
  pointwise

/-- The first point of a result block stores its product. -/
theorem first (t : Fin cfg0.N) (h : t.val % 4 = 0) (i j : Fin 1024) :
    (outsAt0 m c t.val t.isLt).2 (ix2 i j) = k0_pay1 (iblk m c 0 t) (iblk m c 1 t) (ix2 i j) := by
  have hN : t.val < 4 := lt_of_lt_of_eq t.isLt N_0
  rw [outsAt0_A m c t h (by omega) (by omega)]
  frame_out
  unfold k0_pay2
  pointwise

/-- A later point adds its product to what the point before left. -/
theorem next (t : Fin cfg0.N) (h : ¬t.val % 4 = 0) (i j : Fin 1024) :
    (outsAt0 m c t.val t.isLt).2 (ix2 i j)
      = (outsAt0 m c (t.val - 1) (Nat.lt_of_le_of_lt (Nat.sub_le _ _) t.isLt)).2 (ix2 i j) + k0_pay1 (iblk m c 0 t) (iblk m c 1 t) (ix2 i j) := by
  by_cases h2 : t.val % 4 = 3
  · rw [outsAt0_C m c t h (by omega) h2]
    frame_out
    unfold k0_pay3
    pointwise
    rw [(Memref.isWhole_whole cc0_scratch0).read_unread]
  · rw [outsAt0_B m c t h (by omega) h2]
    frame_out
    unfold k0_pay3
    pointwise
    rw [(Memref.isWhole_whole cc0_scratch0).read_unread]

/-- The last point writes the sum out. -/
theorem last (t : Fin cfg0.N) (h : t.val % 4 = 3) (i j : Fin 1024) :
    (outsAt0 m c t.val t.isLt).1 (ix2 i j) = (outsAt0 m c t.val t.isLt).2 (ix2 i j) := by
  rw [outsAt0_C m c t (by omega) (by omega) h]
  frame_out
  unfold k0_pay4
  pointwise

theorem idx0 : ∀ t : Fin cfg0.N, win0_0.index t = ![t.val % 4, 0] := by decide +kernel
theorem idx1 : ∀ t : Fin cfg0.N, win0_1.index t = ![t.val % 4, 0] := by decide +kernel
theorem idx2 : ∀ t : Fin cfg0.N, win0_2.index t = ![0, 0] := by decide +kernel

theorem blk0 (t : Fin cfg0.N) (k : Fin 2304) (i : Fin 1024) :
    iblk m c 0 t (ix2 k i) = V m c main_v2 (ix2 ⟨2304 * (t.val % 4) + k.val, by omega⟩ i) := by
  blk_ext [iblk, idx0 t]
theorem blk1 (t : Fin cfg0.N) (k : Fin 2304) (j : Fin 1024) :
    iblk m c 1 t (ix2 k j) = V m c main_v5 (ix2 ⟨2304 * (t.val % 4) + k.val, by omega⟩ j) := by
  blk_ext [iblk, idx1 t]

/-- One point's product, as rows of the two arrays. -/
theorem part (t : Fin cfg0.N) (s : Fin 4) (h : t.val % 4 = s.val) (i j : Fin 1024) : k0_pay1 (iblk m c 0 t) (iblk m c 1 t) (ix2 i j)
    = term (V m c main_v2) (V m c main_v5) i j s := by
  refine (pay1 _ _ _ _).trans (Finset.sum_congr rfl fun k _ => ?_)
  rw [blk0, blk1]
  simp only [h]

/-- What the last point writes out. -/
theorem total (t : Fin cfg0.N) (h : t.val % 4 = 3) (i j : Fin 1024) :
    (outsAt0 m c t.val t.isLt).1 (ix2 i j) = prod (V m c main_v2) (V m c main_v5) (ix2 i j) := by
  rw [last m c t h]
  exact fold_four (fun n hn => (outsAt0 m c n hn).2 (ix2 i j)) (fun u => k0_pay1 (iblk m c 0 u) (iblk m c 1 u) (ix2 i j))
    (fun u hu => first m c u hu i j) (fun u hu => next m c u hu i j) t h (term (V m c main_v2) (V m c main_v5) i j)
    fun u s _ hs => part m c u s hs i j

theorem arrAt2 : (dats m 0 c).arrAt 2 (cfgs 0).N = prod (V m c main_v2) (V m c main_v5) := by
  refine (dats m 0 c).arrAt_eq_of_covers 2 _ (by decide +kernel) fun t hf y => ?_
  have hy0 : (y 0).val < 1024 := (y 0).isLt
  have hy1 : (y 1).val < 1024 := (y 1).isLt
  blk_simp
  rw [after0_2]
  show (outsAt0 m c t.val t.isLt).1 y = prod (V m c main_v2) (V m c main_v5) _
  rw [show (y : S1024x1024.Idx) = ix2 ⟨y 0, hy0⟩ ⟨y 1, hy1⟩ from eq_ix2 (n0 := 1024) (n1 := 1024) y]
  refine (total m c t ((flush0_2 t).mp hf) _ _).trans (congrArg (prod (V m c main_v2) (V m c main_v5)) ?_)
  blk_ext [idx2 t]

theorem spec0_inj : Function.Injective (Pipeline.arrRef spec0) := by decide +kernel

section
attribute [local irreducible] extf
/-- The result is the array. -/
theorem tail : Pipeline.afterTail₀ cfgs (dats m) 0 (V0 m) [hostOps1] c main_v7
    = extf (F := Ideal) (φ := .bf16) .f32 (prod (V m c main_v2) (V m c main_v5)) bitsLt_bf16_f32 := by
  rw [← arrAt2, ← Pipeline.withArrays_arr spec0 spec0_inj c (V0 m c) (fun w => (dats m 0 c).arrAt w (cfgs 0).N) 2]
  unfold Pipeline.afterTail₀
  unfold_abbrev_sides
  after_reads_simp
end

end Cert.DwProof.Sq

end
-- ==== Proof.DwSqEquation.lean ====
/- The square weight gradient: the kernel's array is the reference's, over the reals. -/
module

public import proofs.«01_k».proof.Defs
public import proofs.«01_k».proof.Proof.Gen.DwSqRefIdeal.Run
public import proofs.«01_k».proof.Proof.DwSqHost
public import proofs.«01_k».proof.Proof.DwSqBlocks

@[expose] public section

set_option maxRecDepth 16384

noncomputable section

namespace Cert.DwProof.Sq

open Idealize.ShloMosaic Idealize.ShloMosaic.TcCoe Idealize.ShloMosaic.Tactic Idealize.SL.Sem

section
open Cert.DwSqRefIdeal Cert.DwSqRefIdeal.Gen
/-- An entry of the reference's gradient: the sum over every row of every part of the batch. -/
theorem ref_apply (a ct : FVec Ideal S4x2064x1024 .f32) (i j : Fin 1024) :
    transpose S1024x1024 [1, 0] (Host.dotGeneral (F := Ideal) dot_S4x2064x1024_S4x2064x1024_S1024x1024_01_01_2_2_n_n none ct a)
      transposes_S1024x1024_S1024x1024_1_0 (ix2 i j) = gradAt a ct i j := by
  pointwise
  exact Finset.sum_congr rfl fun s _ => Finset.sum_congr rfl fun l _ => mul_comm _ _
end

section
open Cert.DwSqIdeal Cert.DwSqIdeal.Gen
variable (m : (ℓ : Loc nD τ sig) → Buf (Elt Ideal) ℓ) (c : Dev nD)

/-- The same entry of the kernel's array. -/
theorem ker_apply (i j : Fin 1024) : extf (F := Ideal) (φ := .bf16) .f32 (prod (V m c main_v2) (V m c main_v5)) bitsLt_bf16_f32 (ix2 i j)
    = gradAt (m ((c : Thread nD τ).loc main_arg0)) (m ((c : Thread nD τ).loc main_arg1)) i j := by
  refine Eq.trans ?_ (prod_pad i j j (fun r => V_a m c r i) fun r => V_ct m c r j)
  pointwise

/-- The kernel's run, its result and its arguments. -/
theorem ker_run (g : Dev nD → PrngReg) :
    θ_run defs (onTc (τ := τ) (main (F := Ideal))) ⟨m, fun _ => 0, g⟩ (fun r => ∀ c : Dev nD,
    r.2.mem (c.tc.loc main_v7) = extf (F := Ideal) (φ := .bf16) .f32 (prod (V m c main_v2) (V m c main_v5)) bitsLt_bf16_f32
    ∧ r.2.mem (c.tc.loc main_arg0) = m (c.tc.loc main_arg0)
    ∧ r.2.mem (c.tc.loc main_arg1) = m (c.tc.loc main_arg1)) := by
  refine (θ_run defs _ _).mono (fun r h c => ?_) (θ_run_and (run_main m g) (unchanged m g))
  obtain ⟨h, f⟩ := h
  exact ⟨((h c).2 main_v7 (by decide)).trans (tail m c), f c⟩
end

/-- Over the reals the kernel's gradient is the reference's. -/
theorem algebraic : Cert.algebraic_DwSqIdeal_DwSqRefIdeal := by
  intro m g m' g' _ hargs
  refine ⟨_, ker_run m g, ?_⟩
  refine (θ_run _ _ _).mono (fun r h c => ?_) (Cert.DwSqRefIdeal.Value.run m' g')
  obtain ⟨h0, h1⟩ := hargs c
  obtain ⟨r0, ra⟩ := h c
  rw [h0, h1] at r0
  refine ⟨r0.trans ?_, ra⟩
  funext x
  rw [show x = ix2 (x 0) (x 1) from eq_ix2 (n0 := 1024) (n1 := 1024) x]
  exact (ref_apply _ _ (x 0) (x 1)).trans (ker_apply m c (x 0) (x 1)).symm

end Cert.DwProof.Sq

end
-- ==== Proof.DwGatesHost.lean ====
/- What the host lines before the gates' weight gradient's call leave: both arguments' rows behind zeros. -/
module

public import proofs.«01_k».proof.Proof.Gen.DwGatesIdeal.Frame
public import proofs.«01_k».proof.Proof.DwSum
public import Idealize.ShloMosaic.Lib.StableHlo.ReadAt

@[expose] public section

set_option maxRecDepth 16384

noncomputable section

namespace Cert.DwProof.Gates

open Idealize.ShloMosaic Idealize.ShloMosaic.TcCoe Idealize.ShloMosaic.Tactic Cert.DwGatesIdeal Cert.DwGatesIdeal.Gen

set_option maxHeartbeats 400000

variable (m : (ℓ : Loc nD τ sig) → Buf (Elt Ideal) ℓ) (c : Dev nD)

/-- The rows of the layer's input. -/
theorem V_a (i : Fin 9216) (j : Fin 1024) : V m c main_v2 (ix2 i j) = padRow (m ((c : Thread nD τ).loc main_arg0)) i.val j := by
  unfold padRow
  unfold_abbrev_sides
  after_reads_at
  split_ifs
  · rfl
  · exfalso; omega
  · exfalso; omega
  · exact zero_val

/-- The rows of the cotangent. -/
theorem V_ct (i : Fin 9216) (j : Fin 2048) : V m c main_v5 (ix2 i j) = padRow (m ((c : Thread nD τ).loc main_arg1)) i.val j := by
  unfold padRow
  unfold_abbrev_sides
  after_reads_at
  split_ifs
  · rfl
  · exfalso; omega
  · exfalso; omega
  · exact zero_val

end Cert.DwProof.Gates

end
-- ==== Proof.DwGatesBlocks.lean ====
/- The array the gates' weight gradient's call computes: four blocks of rows, one product added after another. -/
module

public import proofs.«01_k».proof.Proof.Gen.DwGatesIdeal.Frame
public import proofs.«01_k».proof.Proof.DwSum
public import Idealize.ShloMosaic.Lib.StableHlo.ReadAt

@[expose] public section

set_option maxRecDepth 16384

noncomputable section

namespace Cert.DwProof.Gates

open Idealize.ShloMosaic Idealize.ShloMosaic.TcCoe Idealize.ShloMosaic.Tactic Cert.DwGatesIdeal Cert.DwGatesIdeal.Gen

set_option maxHeartbeats 400000

variable (m : (ℓ : Loc nD τ sig) → Buf (Elt Ideal) ℓ) (c : Dev nD)

/-- One block: the columns of one block of rows against the columns of the other. -/
theorem pay1 (x0 x1 : Vec Ideal S2304x1024 .bf16) (i j : Fin 1024) :
    k0_pay1 x0 x1 (ix2 i j) = ∑ k : Fin 2304, x0 (ix2 k i) * x1 (ix2 k j) := by
  unfold k0_pay1
  pointwise

/-- The first point of a result block stores its product. -/
theorem first (t : Fin cfg0.N) (h : t.val % 4 = 0) (i j : Fin 1024) :
    (outsAt0 m c t.val t.isLt).2 (ix2 i j) = k0_pay1 (iblk m c 0 t) (iblk m c 1 t) (ix2 i j) := by
  rw [outsAt0_A m c t h (by omega) (by omega)]
  frame_out
  unfold k0_pay2
  pointwise

/-- A later point adds its product to what the point before left. -/
theorem next (t : Fin cfg0.N) (h : ¬t.val % 4 = 0) (i j : Fin 1024) :
    (outsAt0 m c t.val t.isLt).2 (ix2 i j)
      = (outsAt0 m c (t.val - 1) (Nat.lt_of_le_of_lt (Nat.sub_le _ _) t.isLt)).2 (ix2 i j) + k0_pay1 (iblk m c 0 t) (iblk m c 1 t) (ix2 i j) := by
  by_cases h2 : t.val % 4 = 3
  · rw [outsAt0_C m c t h (by omega) h2]
    frame_out
    unfold k0_pay3
    pointwise
    rw [(Memref.isWhole_whole cc0_scratch0).read_unread]
  · rw [outsAt0_B m c t h (by omega) h2]
    frame_out
    unfold k0_pay3
    pointwise
    rw [(Memref.isWhole_whole cc0_scratch0).read_unread]

/-- The last point writes the sum out. -/
theorem last (t : Fin cfg0.N) (h : t.val % 4 = 3) (i j : Fin 1024) :
    (outsAt0 m c t.val t.isLt).1 (ix2 i j) = (outsAt0 m c t.val t.isLt).2 (ix2 i j) := by
  rw [outsAt0_C m c t (by omega) (by omega) h]
  frame_out
  unfold k0_pay4
  pointwise

theorem idx0 : ∀ t : Fin cfg0.N, win0_0.index t = ![t.val % 4, 0] := by decide +kernel
theorem idx1 : ∀ t : Fin cfg0.N, win0_1.index t = ![t.val % 4, t.val / 4] := by decide +kernel
theorem idx2 : ∀ t : Fin cfg0.N, win0_2.index t = ![0, t.val / 4] := by decide +kernel

theorem blk0 (t : Fin cfg0.N) (k : Fin 2304) (i : Fin 1024) :
    iblk m c 0 t (ix2 k i) = V m c main_v2 (ix2 ⟨2304 * (t.val % 4) + k.val, by omega⟩ i) := by
  blk_ext [iblk, idx0 t]
theorem blk1 (t : Fin cfg0.N) (k : Fin 2304) (j : Fin 1024) (h : 1024 * (t.val / 4) + j.val < 2048) :
    iblk m c 1 t (ix2 k j) = V m c main_v5 (ix2 ⟨2304 * (t.val % 4) + k.val, by omega⟩ ⟨1024 * (t.val / 4) + j.val, h⟩) := by
  blk_ext [iblk, idx1 t]

/-- One point's product, as rows of the two arrays. -/
theorem part (t : Fin cfg0.N) (s : Fin 4) (h : t.val % 4 = s.val) (i j : Fin 1024) (hj : 1024 * (t.val / 4) + j.val < 2048) : k0_pay1 (iblk m c 0 t) (iblk m c 1 t) (ix2 i j)
    = term (V m c main_v2) (V m c main_v5) i ⟨1024 * (t.val / 4) + j.val, hj⟩ s := by
  refine (pay1 _ _ _ _).trans (Finset.sum_congr rfl fun k _ => ?_)
  rw [blk0, blk1 m c t k j hj]
  simp only [h]

/-- What the last point writes out. -/
theorem total (t : Fin cfg0.N) (h : t.val % 4 = 3) (i j : Fin 1024) (hj : 1024 * (t.val / 4) + j.val < 2048) :
    (outsAt0 m c t.val t.isLt).1 (ix2 i j) = prod (V m c main_v2) (V m c main_v5) (ix2 i ⟨1024 * (t.val / 4) + j.val, hj⟩) := by
  rw [last m c t h]
  exact fold_four (fun n hn => (outsAt0 m c n hn).2 (ix2 i j)) (fun u => k0_pay1 (iblk m c 0 u) (iblk m c 1 u) (ix2 i j))
    (fun u hu => first m c u hu i j) (fun u hu => next m c u hu i j) t h (term (V m c main_v2) (V m c main_v5) i ⟨1024 * (t.val / 4) + j.val, hj⟩)
    fun u s hu hs => (part m c u s hs i j (by rw [hu]; exact hj)).trans (by simp only [hu])

theorem arrAt2 : (dats m 0 c).arrAt 2 (cfgs 0).N = prod (V m c main_v2) (V m c main_v5) := by
  refine (dats m 0 c).arrAt_eq_of_covers 2 _ (by decide +kernel) fun t hf y => ?_
  have hN : t.val < 8 := lt_of_lt_of_eq t.isLt N_0
  have hy0 : (y 0).val < 1024 := (y 0).isLt
  have hy1 : (y 1).val < 1024 := (y 1).isLt
  blk_simp
  rw [after0_2]
  show (outsAt0 m c t.val t.isLt).1 y = prod (V m c main_v2) (V m c main_v5) _
  rw [show (y : S1024x1024.Idx) = ix2 ⟨y 0, hy0⟩ ⟨y 1, hy1⟩ from eq_ix2 (n0 := 1024) (n1 := 1024) y]
  refine (total m c t ((flush0_2 t).mp hf) _ _ (by simp only []; omega)).trans (congrArg (prod (V m c main_v2) (V m c main_v5)) ?_)
  blk_ext [idx2 t]

theorem spec0_inj : Function.Injective (Pipeline.arrRef spec0) := by decide +kernel

section
attribute [local irreducible] extf
/-- The result is the array. -/
theorem tail : Pipeline.afterTail₀ cfgs (dats m) 0 (V0 m) [hostOps1] c main_v7
    = extf (F := Ideal) (φ := .bf16) .f32 (prod (V m c main_v2) (V m c main_v5)) bitsLt_bf16_f32 := by
  rw [← arrAt2, ← Pipeline.withArrays_arr spec0 spec0_inj c (V0 m c) (fun w => (dats m 0 c).arrAt w (cfgs 0).N) 2]
  unfold Pipeline.afterTail₀
  unfold_abbrev_sides
  after_reads_simp
end

end Cert.DwProof.Gates

end
-- ==== Proof.DwGatesEquation.lean ====
/- The gates' weight gradient: the kernel's array is the reference's, over the reals. -/
module

public import proofs.«01_k».proof.Defs
public import proofs.«01_k».proof.Proof.Gen.DwGatesRefIdeal.Run
public import proofs.«01_k».proof.Proof.DwGatesHost
public import proofs.«01_k».proof.Proof.DwGatesBlocks

@[expose] public section

set_option maxRecDepth 16384

noncomputable section

namespace Cert.DwProof.Gates

open Idealize.ShloMosaic Idealize.ShloMosaic.TcCoe Idealize.ShloMosaic.Tactic Idealize.SL.Sem

section
open Cert.DwGatesRefIdeal Cert.DwGatesRefIdeal.Gen
/-- An entry of the reference's gradient: the sum over every row of every part of the batch. -/
theorem ref_apply (a : FVec Ideal S4x2064x1024 .f32) (ct : FVec Ideal S4x2064x2048 .f32) (i : Fin 1024) (j : Fin 2048) :
    transpose S1024x2048 [1, 0] (Host.dotGeneral (F := Ideal) dot_S4x2064x2048_S4x2064x1024_S2048x1024_01_01_2_2_n_n none ct a)
      transposes_S2048x1024_S1024x2048_1_0 (ix2 i j) = gradAt a ct i j := by
  pointwise
  exact Finset.sum_congr rfl fun s _ => Finset.sum_congr rfl fun l _ => mul_comm _ _
end

section
open Cert.DwGatesIdeal Cert.DwGatesIdeal.Gen
variable (m : (ℓ : Loc nD τ sig) → Buf (Elt Ideal) ℓ) (c : Dev nD)

/-- The same entry of the kernel's array. -/
theorem ker_apply (i : Fin 1024) (j : Fin 2048) : extf (F := Ideal) (φ := .bf16) .f32 (prod (V m c main_v2) (V m c main_v5)) bitsLt_bf16_f32 (ix2 i j)
    = gradAt (m ((c : Thread nD τ).loc main_arg0)) (m ((c : Thread nD τ).loc main_arg1)) i j := by
  refine Eq.trans ?_ (prod_pad i j j (fun r => V_a m c r i) fun r => V_ct m c r j)
  pointwise

/-- The kernel's run, its result and its arguments. -/
theorem ker_run (g : Dev nD → PrngReg) :
    θ_run defs (onTc (τ := τ) (main (F := Ideal))) ⟨m, fun _ => 0, g⟩ (fun r => ∀ c : Dev nD,
    r.2.mem (c.tc.loc main_v7) = extf (F := Ideal) (φ := .bf16) .f32 (prod (V m c main_v2) (V m c main_v5)) bitsLt_bf16_f32
    ∧ r.2.mem (c.tc.loc main_arg0) = m (c.tc.loc main_arg0)
    ∧ r.2.mem (c.tc.loc main_arg1) = m (c.tc.loc main_arg1)) := by
  refine (θ_run defs _ _).mono (fun r h c => ?_) (θ_run_and (run_main m g) (unchanged m g))
  obtain ⟨h, f⟩ := h
  exact ⟨((h c).2 main_v7 (by decide)).trans (tail m c), f c⟩
end

/-- Over the reals the kernel's gradient is the reference's. -/
theorem algebraic : Cert.algebraic_DwGatesIdeal_DwGatesRefIdeal := by
  intro m g m' g' _ hargs
  refine ⟨_, ker_run m g, ?_⟩
  refine (θ_run _ _ _).mono (fun r h c => ?_) (Cert.DwGatesRefIdeal.Value.run m' g')
  obtain ⟨h0, h1⟩ := hargs c
  obtain ⟨r0, ra⟩ := h c
  rw [h0, h1] at r0
  refine ⟨r0.trans ?_, ra⟩
  funext x
  rw [show x = ix2 (x 0) (x 1) from eq_ix2 (n0 := 1024) (n1 := 2048) x]
  exact (ref_apply _ _ (x 0) (x 1)).trans (ker_apply m c (x 0) (x 1)).symm

end Cert.DwProof.Gates

end
-- ==== Proof.DwGlaHost.lean ====
/- What the host lines before the recurrent layer's input weight gradient's call leave: both arguments' rows behind zeros. -/
module

public import proofs.«01_k».proof.Proof.Gen.DwGlaIdeal.Frame
public import proofs.«01_k».proof.Proof.DwSum
public import Idealize.ShloMosaic.Lib.StableHlo.ReadAt

@[expose] public section

set_option maxRecDepth 16384

noncomputable section

namespace Cert.DwProof.Gla

open Idealize.ShloMosaic Idealize.ShloMosaic.TcCoe Idealize.ShloMosaic.Tactic Cert.DwGlaIdeal Cert.DwGlaIdeal.Gen

set_option maxHeartbeats 400000

variable (m : (ℓ : Loc nD τ sig) → Buf (Elt Ideal) ℓ) (c : Dev nD)

/-- The rows of the layer's input. -/
theorem V_a (i : Fin 9216) (j : Fin 1024) : V m c main_v3 (ix2 i j) = padRow (m ((c : Thread nD τ).loc main_arg0)) i.val j := by
  unfold padRow
  unfold_abbrev_sides
  after_reads_at
  split_ifs
  · rfl
  · exfalso; omega
  · exfalso; omega
  · exact zero_val

/-- The rows of the cotangent, in the columns before the padding. -/
theorem V_ct (i : Fin 9216) (j : Fin 2064) : V m c main_v6 (ix2 i ⟨j.val, by omega⟩) = padRow (m ((c : Thread nD τ).loc main_arg1)) i.val j := by
  unfold padRow
  unfold_abbrev_sides
  after_reads_at
  split_ifs <;> (try after_reads_at) <;> (try split_ifs) <;> first | (exfalso; omega) | exact zero_val | rfl

end Cert.DwProof.Gla

end
-- ==== Proof.DwGlaBlocks.lean ====
/- The array the recurrent layer's input weight gradient's call computes: four blocks of rows, one product added after another. -/
module

public import proofs.«01_k».proof.Proof.Gen.DwGlaIdeal.Frame
public import proofs.«01_k».proof.Proof.DwSum
public import Idealize.ShloMosaic.Lib.StableHlo.ReadAt

@[expose] public section

set_option maxRecDepth 16384

noncomputable section

namespace Cert.DwProof.Gla

open Idealize.ShloMosaic Idealize.ShloMosaic.TcCoe Idealize.ShloMosaic.Tactic Cert.DwGlaIdeal Cert.DwGlaIdeal.Gen

set_option maxHeartbeats 400000

variable (m : (ℓ : Loc nD τ sig) → Buf (Elt Ideal) ℓ) (c : Dev nD)

/-- One block: the columns of one block of rows against the columns of the other. -/
theorem pay1 (x0 : Vec Ideal S2304x1024 .bf16) (x1 : Vec Ideal S2304x768 .bf16) (i : Fin 1024) (j : Fin 768) :
    k0_pay1 x0 x1 (ix2 i j) = ∑ k : Fin 2304, x0 (ix2 k i) * x1 (ix2 k j) := by
  unfold k0_pay1
  pointwise

/-- The first point of a result block stores its product. -/
theorem first (t : Fin cfg0.N) (h : t.val % 4 = 0) (i : Fin 1024) (j : Fin 768) :
    (outsAt0 m c t.val t.isLt).2 (ix2 i j) = k0_pay1 (iblk m c 0 t) (iblk m c 1 t) (ix2 i j) := by
  rw [outsAt0_A m c t h (by omega) (by omega)]
  frame_out
  unfold k0_pay2
  pointwise

/-- A later point adds its product to what the point before left. -/
theorem next (t : Fin cfg0.N) (h : ¬t.val % 4 = 0) (i : Fin 1024) (j : Fin 768) :
    (outsAt0 m c t.val t.isLt).2 (ix2 i j)
      = (outsAt0 m c (t.val - 1) (Nat.lt_of_le_of_lt (Nat.sub_le _ _) t.isLt)).2 (ix2 i j) + k0_pay1 (iblk m c 0 t) (iblk m c 1 t) (ix2 i j) := by
  by_cases h2 : t.val % 4 = 3
  · rw [outsAt0_C m c t h (by omega) h2]
    frame_out
    unfold k0_pay3
    pointwise
    rw [(Memref.isWhole_whole cc0_scratch0).read_unread]
  · rw [outsAt0_B m c t h (by omega) h2]
    frame_out
    unfold k0_pay3
    pointwise
    rw [(Memref.isWhole_whole cc0_scratch0).read_unread]

/-- The last point writes the sum out. -/
theorem last (t : Fin cfg0.N) (h : t.val % 4 = 3) (i : Fin 1024) (j : Fin 768) :
    (outsAt0 m c t.val t.isLt).1 (ix2 i j) = (outsAt0 m c t.val t.isLt).2 (ix2 i j) := by
  rw [outsAt0_C m c t (by omega) (by omega) h]
  frame_out
  unfold k0_pay4
  pointwise

theorem idx0 : ∀ t : Fin cfg0.N, win0_0.index t = ![t.val % 4, 0] := by decide +kernel
theorem idx1 : ∀ t : Fin cfg0.N, win0_1.index t = ![t.val % 4, t.val / 4] := by decide +kernel
theorem idx2 : ∀ t : Fin cfg0.N, win0_2.index t = ![0, t.val / 4] := by decide +kernel

theorem blk0 (t : Fin cfg0.N) (k : Fin 2304) (i : Fin 1024) :
    iblk m c 0 t (ix2 k i) = V m c main_v3 (ix2 ⟨2304 * (t.val % 4) + k.val, by omega⟩ i) := by
  blk_ext [iblk, idx0 t]
theorem blk1 (t : Fin cfg0.N) (k : Fin 2304) (j : Fin 768) (h : 768 * (t.val / 4) + j.val < 2304) :
    iblk m c 1 t (ix2 k j) = V m c main_v6 (ix2 ⟨2304 * (t.val % 4) + k.val, by omega⟩ ⟨768 * (t.val / 4) + j.val, h⟩) := by
  blk_ext [iblk, idx1 t]

/-- One point's product, as rows of the two arrays. -/
theorem part (t : Fin cfg0.N) (s : Fin 4) (h : t.val % 4 = s.val) (i : Fin 1024) (j : Fin 768) (hj : 768 * (t.val / 4) + j.val < 2304) : k0_pay1 (iblk m c 0 t) (iblk m c 1 t) (ix2 i j)
    = term (V m c main_v3) (V m c main_v6) i ⟨768 * (t.val / 4) + j.val, hj⟩ s := by
  refine (pay1 _ _ _ _).trans (Finset.sum_congr rfl fun k _ => ?_)
  rw [blk0, blk1 m c t k j hj]
  simp only [h]

/-- What the last point writes out. -/
theorem total (t : Fin cfg0.N) (h : t.val % 4 = 3) (i : Fin 1024) (j : Fin 768) (hj : 768 * (t.val / 4) + j.val < 2304) :
    (outsAt0 m c t.val t.isLt).1 (ix2 i j) = prod (V m c main_v3) (V m c main_v6) (ix2 i ⟨768 * (t.val / 4) + j.val, hj⟩) := by
  rw [last m c t h]
  exact fold_four (fun n hn => (outsAt0 m c n hn).2 (ix2 i j)) (fun u => k0_pay1 (iblk m c 0 u) (iblk m c 1 u) (ix2 i j))
    (fun u hu => first m c u hu i j) (fun u hu => next m c u hu i j) t h (term (V m c main_v3) (V m c main_v6) i ⟨768 * (t.val / 4) + j.val, hj⟩)
    fun u s hu hs => (part m c u s hs i j (by rw [hu]; exact hj)).trans (by simp only [hu])

theorem arrAt2 : (dats m 0 c).arrAt 2 (cfgs 0).N = prod (V m c main_v3) (V m c main_v6) := by
  refine (dats m 0 c).arrAt_eq_of_covers 2 _ (by decide +kernel) fun t hf y => ?_
  have hN : t.val < 12 := lt_of_lt_of_eq t.isLt N_0
  have hy0 : (y 0).val < 1024 := (y 0).isLt
  have hy1 : (y 1).val < 768 := (y 1).isLt
  blk_simp
  rw [after0_2]
  show (outsAt0 m c t.val t.isLt).1 y = prod (V m c main_v3) (V m c main_v6) _
  rw [show (y : S1024x768.Idx) = ix2 ⟨y 0, hy0⟩ ⟨y 1, hy1⟩ from eq_ix2 (n0 := 1024) (n1 := 768) y]
  refine (total m c t ((flush0_2 t).mp hf) _ _ (by simp only []; omega)).trans (congrArg (prod (V m c main_v3) (V m c main_v6)) ?_)
  blk_ext [idx2 t]

theorem spec0_inj : Function.Injective (Pipeline.arrRef spec0) := by decide +kernel

section
attribute [local irreducible] extf extractStridedSlice
/-- The result is the array's first 2064 columns. -/
theorem tail : Pipeline.afterTail₀ cfgs (dats m) 0 (V0 m) [hostOps1] c main_v9
    = extractStridedSlice S1024x2064 ![0, 0] (extf (F := Ideal) (φ := .bf16) .f32 (prod (V m c main_v3) (V m c main_v6)) bitsLt_bf16_f32)
      slices_S1024x2304_S1024x2064_0_0 := by
  rw [← arrAt2, ← Pipeline.withArrays_arr spec0 spec0_inj c (V0 m c) (fun w => (dats m 0 c).arrAt w (cfgs 0).N) 2]
  unfold Pipeline.afterTail₀
  unfold_abbrev_sides
  after_reads_simp
end

end Cert.DwProof.Gla

end
-- ==== Proof.DwGlaEquation.lean ====
/- The recurrent layer's input weight gradient: the kernel's array is the reference's, over the reals. -/
module

public import proofs.«01_k».proof.Defs
public import proofs.«01_k».proof.Proof.Gen.DwGlaRefIdeal.Run
public import proofs.«01_k».proof.Proof.DwGlaHost
public import proofs.«01_k».proof.Proof.DwGlaBlocks

@[expose] public section

set_option maxRecDepth 16384

noncomputable section

namespace Cert.DwProof.Gla

open Idealize.ShloMosaic Idealize.ShloMosaic.TcCoe Idealize.ShloMosaic.Tactic Idealize.SL.Sem

section
open Cert.DwGlaRefIdeal Cert.DwGlaRefIdeal.Gen
/-- An entry of the reference's gradient: the sum over every row of every part of the batch. -/
theorem ref_apply (a : FVec Ideal S4x2064x1024 .f32) (ct : FVec Ideal S4x2064x2064 .f32) (i : Fin 1024) (j : Fin 2064) :
    transpose S1024x2064 [1, 0] (Host.dotGeneral (F := Ideal) dot_S4x2064x2064_S4x2064x1024_S2064x1024_01_01_2_2_n_n none ct a)
      transposes_S2064x1024_S1024x2064_1_0 (ix2 i j) = gradAt a ct i j := by
  pointwise
  exact Finset.sum_congr rfl fun s _ => Finset.sum_congr rfl fun l _ => mul_comm _ _
end

section
open Cert.DwGlaIdeal Cert.DwGlaIdeal.Gen
variable (m : (ℓ : Loc nD τ sig) → Buf (Elt Ideal) ℓ) (c : Dev nD)

/-- The same entry of the kernel's array. -/
theorem ker_apply (i : Fin 1024) (j : Fin 2064) : extractStridedSlice S1024x2064 ![0, 0] (extf (F := Ideal) (φ := .bf16) .f32 (prod (V m c main_v3) (V m c main_v6)) bitsLt_bf16_f32)
      slices_S1024x2304_S1024x2064_0_0 (ix2 i j)
    = gradAt (m ((c : Thread nD τ).loc main_arg0)) (m ((c : Thread nD τ).loc main_arg1)) i j := by
  refine Eq.trans ?_ (prod_pad i j ⟨j.val, by omega⟩ (fun r => V_a m c r i) fun r => V_ct m c r j)
  pointwise

/-- The kernel's run, its result and its arguments. -/
theorem ker_run (g : Dev nD → PrngReg) :
    θ_run defs (onTc (τ := τ) (main (F := Ideal))) ⟨m, fun _ => 0, g⟩ (fun r => ∀ c : Dev nD,
    r.2.mem (c.tc.loc main_v9) = extractStridedSlice S1024x2064 ![0, 0] (extf (F := Ideal) (φ := .bf16) .f32 (prod (V m c main_v3) (V m c main_v6)) bitsLt_bf16_f32)
      slices_S1024x2304_S1024x2064_0_0
    ∧ r.2.mem (c.tc.loc main_arg0) = m (c.tc.loc main_arg0)
    ∧ r.2.mem (c.tc.loc main_arg1) = m (c.tc.loc main_arg1)) := by
  refine (θ_run defs _ _).mono (fun r h c => ?_) (θ_run_and (run_main m g) (unchanged m g))
  obtain ⟨h, f⟩ := h
  exact ⟨((h c).2 main_v9 (by decide)).trans (tail m c), f c⟩
end

/-- Over the reals the kernel's gradient is the reference's. -/
theorem algebraic : Cert.algebraic_DwGlaIdeal_DwGlaRefIdeal := by
  intro m g m' g' _ hargs
  refine ⟨_, ker_run m g, ?_⟩
  refine (θ_run _ _ _).mono (fun r h c => ?_) (Cert.DwGlaRefIdeal.Value.run m' g')
  obtain ⟨h0, h1⟩ := hargs c
  obtain ⟨r0, ra⟩ := h c
  rw [h0, h1] at r0
  refine ⟨r0.trans ?_, ra⟩
  funext x
  rw [show x = ix2 (x 0) (x 1) from eq_ix2 (n0 := 1024) (n1 := 2064) x]
  exact (ref_apply _ _ (x 0) (x 1)).trans (ker_apply m c (x 0) (x 1)).symm

end Cert.DwProof.Gla

end
-- ==== Proof.lean ====
module

public import proofs.«01_k».proof.Defs
public import proofs.«01_k».proof.Proof.Gen.Attn
public import proofs.«01_k».proof.Proof.Gen.AttnRefIdeal
public import proofs.«01_k».proof.Proof.Gen.Pre_finite
public import proofs.«01_k».proof.Proof.Frames
public import proofs.«01_k».proof.Proof.Equation
public import proofs.«01_k».proof.Proof.InEquation
public import proofs.«01_k».proof.Proof.DwFrames
public import proofs.«01_k».proof.Proof.DwSqEquation
public import proofs.«01_k».proof.Proof.DwGatesEquation
public import proofs.«01_k».proof.Proof.DwGlaEquation
public import Idealize.ShloMosaic.Adequacy
public import Idealize.ShloMosaic.Init

@[expose] public section

noncomputable section

namespace Cert.Proof

open Idealize.ShloMosaic Idealize.SL.Sem Cert.Attn

theorem claim : Cert.Claim := ⟨Cert.Attn.Gen.facts, Cert.AttnIdeal.Gen.facts, Cert.AttnRefIdeal.Gen.facts, Cert.InProj.Gen.facts,
  Cert.InProjIdeal.Gen.facts, Cert.InProjRefIdeal.Gen.facts,
  Cert.DwSq.Gen.facts, Cert.DwSqIdeal.Gen.facts, Cert.DwSqRefIdeal.Gen.facts,
  Cert.DwGates.Gen.facts, Cert.DwGatesIdeal.Gen.facts, Cert.DwGatesRefIdeal.Gen.facts,
  Cert.DwGla.Gen.facts, Cert.DwGlaIdeal.Gen.facts, Cert.DwGlaRefIdeal.Gen.facts, Cert.Pre_finite.Gen.facts,
  Cert.AttnIdeal.Proof.frame_attn, Cert.AttnIdeal.Proof.frame_attnIdeal, fun m g _ => Cert.AttnIdeal.Proof.frame_any (F := Ideal) m g,
  Cert.AttnIdeal.Proof.frame_ref, fun m g _ => Cert.AttnIdeal.Proof.frame_ref m g trivial,
  Cert.InProof.frame_in, Cert.InProof.frame_inIdeal, Cert.InProof.frame_inRef,
  Cert.DwProof.frame_Sq, Cert.DwProof.frame_SqIdeal, Cert.DwProof.frame_SqRef,
  Cert.DwProof.frame_Gates, Cert.DwProof.frame_GatesIdeal, Cert.DwProof.frame_GatesRef,
  Cert.DwProof.frame_Gla, Cert.DwProof.frame_GlaIdeal, Cert.DwProof.frame_GlaRef,
  Cert.AttnIdeal.Proof.preserves, Cert.AttnIdeal.Proof.algebraic, trivial, Cert.InProof.algebraic,
  trivial, Cert.DwProof.Sq.algebraic, trivial, Cert.DwProof.Gates.algebraic, trivial, Cert.DwProof.Gla.algebraic⟩

end Cert.Proof

end
